-- ==== Defs.lean ====
def Pre_Gru1 (m : (ℓ : Loc Cert.Gru1.nD Cert.Gru1.τ Cert.Gru1.sig) → Buf (Elt Bits) ℓ) : Prop :=
  True

def Pre_Gru1Ideal (m : (ℓ : Loc Cert.Gru1Ideal.nD Cert.Gru1Ideal.τ Cert.Gru1Ideal.sig) → Buf (Elt Ideal) ℓ) : Prop :=
  True

def Pre_Gru1Ideal_text_bn_finite [hPre_text_bn_finite : Cert.Pre_text_bn_finite.Facts] (m : (ℓ : Loc Cert.Gru1Ideal.nD Cert.Gru1Ideal.τ Cert.Gru1Ideal.sig) → Buf (Elt Ideal) ℓ) : Prop :=
  ∀ c : Dev Cert.Gru1Ideal.nD,
    (Cert.Pre_text_bn_finite.fn (F := Ideal) (m ((c.tc : Thread Cert.Gru1Ideal.nD Cert.Gru1Ideal.τ).loc Cert.Gru1Ideal.main_arg0)) (m ((c.tc : Thread Cert.Gru1Ideal.nD Cert.Gru1Ideal.τ).loc Cert.Gru1Ideal.main_arg1)) (m ((c.tc : Thread Cert.Gru1Ideal.nD Cert.Gru1Ideal.τ).loc Cert.Gru1Ideal.main_arg2)) (m ((c.tc : Thread Cert.Gru1Ideal.nD Cert.Gru1Ideal.τ).loc Cert.Gru1Ideal.main_arg3)) (m ((c.tc : Thread Cert.Gru1Ideal.nD Cert.Gru1Ideal.τ).loc Cert.Gru1Ideal.main_arg4)) (m ((c.tc : Thread Cert.Gru1Ideal.nD Cert.Gru1Ideal.τ).loc Cert.Gru1Ideal.main_arg5)) (m ((c.tc : Thread Cert.Gru1Ideal.nD Cert.Gru1Ideal.τ).loc Cert.Gru1Ideal.main_arg6)) (m ((c.tc : Thread Cert.Gru1Ideal.nD Cert.Gru1Ideal.τ).loc Cert.Gru1Ideal.main_arg7)) (m ((c.tc : Thread Cert.Gru1Ideal.nD Cert.Gru1Ideal.τ).loc Cert.Gru1Ideal.main_arg8)) (m ((c.tc : Thread Cert.Gru1Ideal.nD Cert.Gru1Ideal.τ).loc Cert.Gru1Ideal.main_arg9)) (m ((c.tc : Thread Cert.Gru1Ideal.nD Cert.Gru1Ideal.τ).loc Cert.Gru1Ideal.main_arg10))) = (fun _ => 1#1)

def Pre_TextRefIdeal (m : (ℓ : Loc Cert.TextRefIdeal.nD Cert.TextRefIdeal.τ Cert.TextRefIdeal.sig) → Buf (Elt Ideal) ℓ) : Prop :=
  True

def Pre_TextRefIdeal_text_bn_finite [hPre_text_bn_finite : Cert.Pre_text_bn_finite.Facts] (m : (ℓ : Loc Cert.TextRefIdeal.nD Cert.TextRefIdeal.τ Cert.TextRefIdeal.sig) → Buf (Elt Ideal) ℓ) : Prop :=
  ∀ c : Dev Cert.TextRefIdeal.nD,
    (Cert.Pre_text_bn_finite.fn (F := Ideal) (m ((c.tc : Thread Cert.TextRefIdeal.nD Cert.TextRefIdeal.τ).loc Cert.TextRefIdeal.main_arg0)) (m ((c.tc : Thread Cert.TextRefIdeal.nD Cert.TextRefIdeal.τ).loc Cert.TextRefIdeal.main_arg1)) (m ((c.tc : Thread Cert.TextRefIdeal.nD Cert.TextRefIdeal.τ).loc Cert.TextRefIdeal.main_arg2)) (m ((c.tc : Thread Cert.TextRefIdeal.nD Cert.TextRefIdeal.τ).loc Cert.TextRefIdeal.main_arg3)) (m ((c.tc : Thread Cert.TextRefIdeal.nD Cert.TextRefIdeal.τ).loc Cert.TextRefIdeal.main_arg4)) (m ((c.tc : Thread Cert.TextRefIdeal.nD Cert.TextRefIdeal.τ).loc Cert.TextRefIdeal.main_arg5)) (m ((c.tc : Thread Cert.TextRefIdeal.nD Cert.TextRefIdeal.τ).loc Cert.TextRefIdeal.main_arg6)) (m ((c.tc : Thread Cert.TextRefIdeal.nD Cert.TextRefIdeal.τ).loc Cert.TextRefIdeal.main_arg7)) (m ((c.tc : Thread Cert.TextRefIdeal.nD Cert.TextRefIdeal.τ).loc Cert.TextRefIdeal.main_arg8)) (m ((c.tc : Thread Cert.TextRefIdeal.nD Cert.TextRefIdeal.τ).loc Cert.TextRefIdeal.main_arg9)) (m ((c.tc : Thread Cert.TextRefIdeal.nD Cert.TextRefIdeal.τ).loc Cert.TextRefIdeal.main_arg10))) = (fun _ => 1#1)

def Pre_Gru2 (m : (ℓ : Loc Cert.Gru2.nD Cert.Gru2.τ Cert.Gru2.sig) → Buf (Elt Bits) ℓ) : Prop :=
  True

def Pre_Gru2Ideal (m : (ℓ : Loc Cert.Gru2Ideal.nD Cert.Gru2Ideal.τ Cert.Gru2Ideal.sig) → Buf (Elt Ideal) ℓ) : Prop :=
  True

def Pre_Gru2Ideal_contrast_finite [hPre_contrast_finite : Cert.Pre_contrast_finite.Facts] (m : (ℓ : Loc Cert.Gru2Ideal.nD Cert.Gru2Ideal.τ Cert.Gru2Ideal.sig) → Buf (Elt Ideal) ℓ) : Prop :=
  ∀ c : Dev Cert.Gru2Ideal.nD,
    (Cert.Pre_contrast_finite.fn (F := Ideal) (m ((c.tc : Thread Cert.Gru2Ideal.nD Cert.Gru2Ideal.τ).loc Cert.Gru2Ideal.main_arg0)) (m ((c.tc : Thread Cert.Gru2Ideal.nD Cert.Gru2Ideal.τ).loc Cert.Gru2Ideal.main_arg1)) (m ((c.tc : Thread Cert.Gru2Ideal.nD Cert.Gru2Ideal.τ).loc Cert.Gru2Ideal.main_arg2)) (m ((c.tc : Thread Cert.Gru2Ideal.nD Cert.Gru2Ideal.τ).loc Cert.Gru2Ideal.main_arg3)) (m ((c.tc : Thread Cert.Gru2Ideal.nD Cert.Gru2Ideal.τ).loc Cert.Gru2Ideal.main_arg4)) (m ((c.tc : Thread Cert.Gru2Ideal.nD Cert.Gru2Ideal.τ).loc Cert.Gru2Ideal.main_arg5)) (m ((c.tc : Thread Cert.Gru2Ideal.nD Cert.Gru2Ideal.τ).loc Cert.Gru2Ideal.main_arg6)) (m ((c.tc : Thread Cert.Gru2Ideal.nD Cert.Gru2Ideal.τ).loc Cert.Gru2Ideal.main_arg7)) (m ((c.tc : Thread Cert.Gru2Ideal.nD Cert.Gru2Ideal.τ).loc Cert.Gru2Ideal.main_arg8)) (m ((c.tc : Thread Cert.Gru2Ideal.nD Cert.Gru2Ideal.τ).loc Cert.Gru2Ideal.main_arg9)) (m ((c.tc : Thread Cert.Gru2Ideal.nD Cert.Gru2Ideal.τ).loc Cert.Gru2Ideal.main_arg10)) (m ((c.tc : Thread Cert.Gru2Ideal.nD Cert.Gru2Ideal.τ).loc Cert.Gru2Ideal.main_arg11)) (m ((c.tc : Thread Cert.Gru2Ideal.nD Cert.Gru2Ideal.τ).loc Cert.Gru2Ideal.main_arg12))).1 = (fun _ => 1#1)
    ∧ (Cert.Pre_contrast_finite.fn (F := Ideal) (m ((c.tc : Thread Cert.Gru2Ideal.nD Cert.Gru2Ideal.τ).loc Cert.Gru2Ideal.main_arg0)) (m ((c.tc : Thread Cert.Gru2Ideal.nD Cert.Gru2Ideal.τ).loc Cert.Gru2Ideal.main_arg1)) (m ((c.tc : Thread Cert.Gru2Ideal.nD Cert.Gru2Ideal.τ).loc Cert.Gru2Ideal.main_arg2)) (m ((c.tc : Thread Cert.Gru2Ideal.nD Cert.Gru2Ideal.τ).loc Cert.Gru2Ideal.main_arg3)) (m ((c.tc : Thread Cert.Gru2Ideal.nD Cert.Gru2Ideal.τ).loc Cert.Gru2Ideal.main_arg4)) (m ((c.tc : Thread Cert.Gru2Ideal.nD Cert.Gru2Ideal.τ).loc Cert.Gru2Ideal.main_arg5)) (m ((c.tc : Thread Cert.Gru2Ideal.nD Cert.Gru2Ideal.τ).loc Cert.Gru2Ideal.main_arg6)) (m ((c.tc : Thread Cert.Gru2Ideal.nD Cert.Gru2Ideal.τ).loc Cert.Gru2Ideal.main_arg7)) (m ((c.tc : Thread Cert.Gru2Ideal.nD Cert.Gru2Ideal.τ).loc Cert.Gru2Ideal.main_arg8)) (m ((c.tc : Thread Cert.Gru2Ideal.nD Cert.Gru2Ideal.τ).loc Cert.Gru2Ideal.main_arg9)) (m ((c.tc : Thread Cert.Gru2Ideal.nD Cert.Gru2Ideal.τ).loc Cert.Gru2Ideal.main_arg10)) (m ((c.tc : Thread Cert.Gru2Ideal.nD Cert.Gru2Ideal.τ).loc Cert.Gru2Ideal.main_arg11)) (m ((c.tc : Thread Cert.Gru2Ideal.nD Cert.Gru2Ideal.τ).loc Cert.Gru2Ideal.main_arg12))).2.1 = (fun _ => 1#1)
    ∧ (Cert.Pre_contrast_finite.fn (F := Ideal) (m ((c.tc : Thread Cert.Gru2Ideal.nD Cert.Gru2Ideal.τ).loc Cert.Gru2Ideal.main_arg0)) (m ((c.tc : Thread Cert.Gru2Ideal.nD Cert.Gru2Ideal.τ).loc Cert.Gru2Ideal.main_arg1)) (m ((c.tc : Thread Cert.Gru2Ideal.nD Cert.Gru2Ideal.τ).loc Cert.Gru2Ideal.main_arg2)) (m ((c.tc : Thread Cert.Gru2Ideal.nD Cert.Gru2Ideal.τ).loc Cert.Gru2Ideal.main_arg3)) (m ((c.tc : Thread Cert.Gru2Ideal.nD Cert.Gru2Ideal.τ).loc Cert.Gru2Ideal.main_arg4)) (m ((c.tc : Thread Cert.Gru2Ideal.nD Cert.Gru2Ideal.τ).loc Cert.Gru2Ideal.main_arg5)) (m ((c.tc : Thread Cert.Gru2Ideal.nD Cert.Gru2Ideal.τ).loc Cert.Gru2Ideal.main_arg6)) (m ((c.tc : Thread Cert.Gru2Ideal.nD Cert.Gru2Ideal.τ).loc Cert.Gru2Ideal.main_arg7)) (m ((c.tc : Thread Cert.Gru2Ideal.nD Cert.Gru2Ideal.τ).loc Cert.Gru2Ideal.main_arg8)) (m ((c.tc : Thread Cert.Gru2Ideal.nD Cert.Gru2Ideal.τ).loc Cert.Gru2Ideal.main_arg9)) (m ((c.tc : Thread Cert.Gru2Ideal.nD Cert.Gru2Ideal.τ).loc Cert.Gru2Ideal.main_arg10)) (m ((c.tc : Thread Cert.Gru2Ideal.nD Cert.Gru2Ideal.τ).loc Cert.Gru2Ideal.main_arg11)) (m ((c.tc : Thread Cert.Gru2Ideal.nD Cert.Gru2Ideal.τ).loc Cert.Gru2Ideal.main_arg12))).2.2 = (fun _ => 1#1)

def Pre_ContrastRefIdeal (m : (ℓ : Loc Cert.ContrastRefIdeal.nD Cert.ContrastRefIdeal.τ Cert.ContrastRefIdeal.sig) → Buf (Elt Ideal) ℓ) : Prop :=
  True

def Pre_ContrastRefIdeal_contrast_finite [hPre_contrast_finite : Cert.Pre_contrast_finite.Facts] (m : (ℓ : Loc Cert.ContrastRefIdeal.nD Cert.ContrastRefIdeal.τ Cert.ContrastRefIdeal.sig) → Buf (Elt Ideal) ℓ) : Prop :=
  ∀ c : Dev Cert.ContrastRefIdeal.nD,
    (Cert.Pre_contrast_finite.fn (F := Ideal) (m ((c.tc : Thread Cert.ContrastRefIdeal.nD Cert.ContrastRefIdeal.τ).loc Cert.ContrastRefIdeal.main_arg0)) (m ((c.tc : Thread Cert.ContrastRefIdeal.nD Cert.ContrastRefIdeal.τ).loc Cert.ContrastRefIdeal.main_arg1)) (m ((c.tc : Thread Cert.ContrastRefIdeal.nD Cert.ContrastRefIdeal.τ).loc Cert.ContrastRefIdeal.main_arg2)) (m ((c.tc : Thread Cert.ContrastRefIdeal.nD Cert.ContrastRefIdeal.τ).loc Cert.ContrastRefIdeal.main_arg3)) (m ((c.tc : Thread Cert.ContrastRefIdeal.nD Cert.ContrastRefIdeal.τ).loc Cert.ContrastRefIdeal.main_arg4)) (m ((c.tc : Thread Cert.ContrastRefIdeal.nD Cert.ContrastRefIdeal.τ).loc Cert.ContrastRefIdeal.main_arg5)) (m ((c.tc : Thread Cert.ContrastRefIdeal.nD Cert.ContrastRefIdeal.τ).loc Cert.ContrastRefIdeal.main_arg6)) (m ((c.tc : Thread Cert.ContrastRefIdeal.nD Cert.ContrastRefIdeal.τ).loc Cert.ContrastRefIdeal.main_arg7)) (m ((c.tc : Thread Cert.ContrastRefIdeal.nD Cert.ContrastRefIdeal.τ).loc Cert.ContrastRefIdeal.main_arg8)) (m ((c.tc : Thread Cert.ContrastRefIdeal.nD Cert.ContrastRefIdeal.τ).loc Cert.ContrastRefIdeal.main_arg9)) (m ((c.tc : Thread Cert.ContrastRefIdeal.nD Cert.ContrastRefIdeal.τ).loc Cert.ContrastRefIdeal.main_arg10)) (m ((c.tc : Thread Cert.ContrastRefIdeal.nD Cert.ContrastRefIdeal.τ).loc Cert.ContrastRefIdeal.main_arg11)) (m ((c.tc : Thread Cert.ContrastRefIdeal.nD Cert.ContrastRefIdeal.τ).loc Cert.ContrastRefIdeal.main_arg12))).1 = (fun _ => 1#1)
    ∧ (Cert.Pre_contrast_finite.fn (F := Ideal) (m ((c.tc : Thread Cert.ContrastRefIdeal.nD Cert.ContrastRefIdeal.τ).loc Cert.ContrastRefIdeal.main_arg0)) (m ((c.tc : Thread Cert.ContrastRefIdeal.nD Cert.ContrastRefIdeal.τ).loc Cert.ContrastRefIdeal.main_arg1)) (m ((c.tc : Thread Cert.ContrastRefIdeal.nD Cert.ContrastRefIdeal.τ).loc Cert.ContrastRefIdeal.main_arg2)) (m ((c.tc : Thread Cert.ContrastRefIdeal.nD Cert.ContrastRefIdeal.τ).loc Cert.ContrastRefIdeal.main_arg3)) (m ((c.tc : Thread Cert.ContrastRefIdeal.nD Cert.ContrastRefIdeal.τ).loc Cert.ContrastRefIdeal.main_arg4)) (m ((c.tc : Thread Cert.ContrastRefIdeal.nD Cert.ContrastRefIdeal.τ).loc Cert.ContrastRefIdeal.main_arg5)) (m ((c.tc : Thread Cert.ContrastRefIdeal.nD Cert.ContrastRefIdeal.τ).loc Cert.ContrastRefIdeal.main_arg6)) (m ((c.tc : Thread Cert.ContrastRefIdeal.nD Cert.ContrastRefIdeal.τ).loc Cert.ContrastRefIdeal.main_arg7)) (m ((c.tc : Thread Cert.ContrastRefIdeal.nD Cert.ContrastRefIdeal.τ).loc Cert.ContrastRefIdeal.main_arg8)) (m ((c.tc : Thread Cert.ContrastRefIdeal.nD Cert.ContrastRefIdeal.τ).loc Cert.ContrastRefIdeal.main_arg9)) (m ((c.tc : Thread Cert.ContrastRefIdeal.nD Cert.ContrastRefIdeal.τ).loc Cert.ContrastRefIdeal.main_arg10)) (m ((c.tc : Thread Cert.ContrastRefIdeal.nD Cert.ContrastRefIdeal.τ).loc Cert.ContrastRefIdeal.main_arg11)) (m ((c.tc : Thread Cert.ContrastRefIdeal.nD Cert.ContrastRefIdeal.τ).loc Cert.ContrastRefIdeal.main_arg12))).2.1 = (fun _ => 1#1)
    ∧ (Cert.Pre_contrast_finite.fn (F := Ideal) (m ((c.tc : Thread Cert.ContrastRefIdeal.nD Cert.ContrastRefIdeal.τ).loc Cert.ContrastRefIdeal.main_arg0)) (m ((c.tc : Thread Cert.ContrastRefIdeal.nD Cert.ContrastRefIdeal.τ).loc Cert.ContrastRefIdeal.main_arg1)) (m ((c.tc : Thread Cert.ContrastRefIdeal.nD Cert.ContrastRefIdeal.τ).loc Cert.ContrastRefIdeal.main_arg2)) (m ((c.tc : Thread Cert.ContrastRefIdeal.nD Cert.ContrastRefIdeal.τ).loc Cert.ContrastRefIdeal.main_arg3)) (m ((c.tc : Thread Cert.ContrastRefIdeal.nD Cert.ContrastRefIdeal.τ).loc Cert.ContrastRefIdeal.main_arg4)) (m ((c.tc : Thread Cert.ContrastRefIdeal.nD Cert.ContrastRefIdeal.τ).loc Cert.ContrastRefIdeal.main_arg5)) (m ((c.tc : Thread Cert.ContrastRefIdeal.nD Cert.ContrastRefIdeal.τ).loc Cert.ContrastRefIdeal.main_arg6)) (m ((c.tc : Thread Cert.ContrastRefIdeal.nD Cert.ContrastRefIdeal.τ).loc Cert.ContrastRefIdeal.main_arg7)) (m ((c.tc : Thread Cert.ContrastRefIdeal.nD Cert.ContrastRefIdeal.τ).loc Cert.ContrastRefIdeal.main_arg8)) (m ((c.tc : Thread Cert.ContrastRefIdeal.nD Cert.ContrastRefIdeal.τ).loc Cert.ContrastRefIdeal.main_arg9)) (m ((c.tc : Thread Cert.ContrastRefIdeal.nD Cert.ContrastRefIdeal.τ).loc Cert.ContrastRefIdeal.main_arg10)) (m ((c.tc : Thread Cert.ContrastRefIdeal.nD Cert.ContrastRefIdeal.τ).loc Cert.ContrastRefIdeal.main_arg11)) (m ((c.tc : Thread Cert.ContrastRefIdeal.nD Cert.ContrastRefIdeal.τ).loc Cert.ContrastRefIdeal.main_arg12))).2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_loss_inputs [hPre_loss_inputs : Cert.Pre_loss_inputs.Facts] (m : (ℓ : Loc Cert.AttnIdeal.nD Cert.AttnIdeal.τ Cert.AttnIdeal.sig) → Buf (Elt Ideal) ℓ) : Prop :=
  ∀ c : Dev Cert.AttnIdeal.nD,
    (Cert.Pre_loss_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10)) (m ((c.tc : Thread Cert.AttnIdeal.nD Cert.AttnIdeal.τ).loc Cert.AttnIdeal.main_arg11)) (m ((c.tc : Thread Cert.AttnIdeal.nD Cert.AttnIdeal.τ).loc Cert.AttnIdeal.main_arg12))).1 = (fun _ => 1#1)
    ∧ (Cert.Pre_loss_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10)) (m ((c.tc : Thread Cert.AttnIdeal.nD Cert.AttnIdeal.τ).loc Cert.AttnIdeal.main_arg11)) (m ((c.tc : Thread Cert.AttnIdeal.nD Cert.AttnIdeal.τ).loc Cert.AttnIdeal.main_arg12))).2.1 = (fun _ => 1#1)
    ∧ (Cert.Pre_loss_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10)) (m ((c.tc : Thread Cert.AttnIdeal.nD Cert.AttnIdeal.τ).loc Cert.AttnIdeal.main_arg11)) (m ((c.tc : Thread Cert.AttnIdeal.nD Cert.AttnIdeal.τ).loc Cert.AttnIdeal.main_arg12))).2.2.1 = (fun _ => 1#1)
    ∧ (Cert.Pre_loss_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10)) (m ((c.tc : Thread Cert.AttnIdeal.nD Cert.AttnIdeal.τ).loc Cert.AttnIdeal.main_arg11)) (m ((c.tc : Thread Cert.AttnIdeal.nD Cert.AttnIdeal.τ).loc Cert.AttnIdeal.main_arg12))).2.2.2.1 = (fun _ => 1#1)
    ∧ (Cert.Pre_loss_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10)) (m ((c.tc : Thread Cert.AttnIdeal.nD Cert.AttnIdeal.τ).loc Cert.AttnIdeal.main_arg11)) (m ((c.tc : Thread Cert.AttnIdeal.nD Cert.AttnIdeal.τ).loc Cert.AttnIdeal.main_arg12))).2.2.2.2.1 = (fun _ => 1#1)
    ∧ (Cert.Pre_loss_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10)) (m ((c.tc : Thread Cert.AttnIdeal.nD Cert.AttnIdeal.τ).loc Cert.AttnIdeal.main_arg11)) (m ((c.tc : Thread Cert.AttnIdeal.nD Cert.AttnIdeal.τ).loc Cert.AttnIdeal.main_arg12))).2.2.2.2.2.1 = (fun _ => 1#1)
    ∧ (Cert.Pre_loss_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10)) (m ((c.tc : Thread Cert.AttnIdeal.nD Cert.AttnIdeal.τ).loc Cert.AttnIdeal.main_arg11)) (m ((c.tc : Thread Cert.AttnIdeal.nD Cert.AttnIdeal.τ).loc Cert.AttnIdeal.main_arg12))).2.2.2.2.2.2.1 = (fun _ => 1#1)
    ∧ (Cert.Pre_loss_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10)) (m ((c.tc : Thread Cert.AttnIdeal.nD Cert.AttnIdeal.τ).loc Cert.AttnIdeal.main_arg11)) (m ((c.tc : Thread Cert.AttnIdeal.nD Cert.AttnIdeal.τ).loc Cert.AttnIdeal.main_arg12))).2.2.2.2.2.2.2.1 = (fun _ => 1#1)
    ∧ (Cert.Pre_loss_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10)) (m ((c.tc : Thread Cert.AttnIdeal.nD Cert.AttnIdeal.τ).loc Cert.AttnIdeal.main_arg11)) (m ((c.tc : Thread Cert.AttnIdeal.nD Cert.AttnIdeal.τ).loc Cert.AttnIdeal.main_arg12))).2.2.2.2.2.2.2.2.1 = (fun _ => 1#1)
    ∧ (Cert.Pre_loss_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10)) (m ((c.tc : Thread Cert.AttnIdeal.nD Cert.AttnIdeal.τ).loc Cert.AttnIdeal.main_arg11)) (m ((c.tc : Thread Cert.AttnIdeal.nD Cert.AttnIdeal.τ).loc Cert.AttnIdeal.main_arg12))).2.2.2.2.2.2.2.2.2.1 = (fun _ => 1#1)
    ∧ (Cert.Pre_loss_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10)) (m ((c.tc : Thread Cert.AttnIdeal.nD Cert.AttnIdeal.τ).loc Cert.AttnIdeal.main_arg11)) (m ((c.tc : Thread Cert.AttnIdeal.nD Cert.AttnIdeal.τ).loc Cert.AttnIdeal.main_arg12))).2.2.2.2.2.2.2.2.2.2.1 = (fun _ => 1#1)
    ∧ (Cert.Pre_loss_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10)) (m ((c.tc : Thread Cert.AttnIdeal.nD Cert.AttnIdeal.τ).loc Cert.AttnIdeal.main_arg11)) (m ((c.tc : Thread Cert.AttnIdeal.nD Cert.AttnIdeal.τ).loc Cert.AttnIdeal.main_arg12))).2.2.2.2.2.2.2.2.2.2.2.1 = (fun _ => 1#1)
    ∧ (Cert.Pre_loss_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10)) (m ((c.tc : Thread Cert.AttnIdeal.nD Cert.AttnIdeal.τ).loc Cert.AttnIdeal.main_arg11)) (m ((c.tc : Thread Cert.AttnIdeal.nD Cert.AttnIdeal.τ).loc Cert.AttnIdeal.main_arg12))).2.2.2.2.2.2.2.2.2.2.2.2.1 = (fun _ => 1#1)
    ∧ (Cert.Pre_loss_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10)) (m ((c.tc : Thread Cert.AttnIdeal.nD Cert.AttnIdeal.τ).loc Cert.AttnIdeal.main_arg11)) (m ((c.tc : Thread Cert.AttnIdeal.nD Cert.AttnIdeal.τ).loc Cert.AttnIdeal.main_arg12))).2.2.2.2.2.2.2.2.2.2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_inputs [hPre_loss_inputs : Cert.Pre_loss_inputs.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_inputs.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7)) (m ((c.tc : Thread Cert.LossRefIdeal.nD Cert.LossRefIdeal.τ).loc Cert.LossRefIdeal.main_arg8)) (m ((c.tc : Thread Cert.LossRefIdeal.nD Cert.LossRefIdeal.τ).loc Cert.LossRefIdeal.main_arg9)) (m ((c.tc : Thread Cert.LossRefIdeal.nD Cert.LossRefIdeal.τ).loc Cert.LossRefIdeal.main_arg10)) (m ((c.tc : Thread Cert.LossRefIdeal.nD Cert.LossRefIdeal.τ).loc Cert.LossRefIdeal.main_arg11)) (m ((c.tc : Thread Cert.LossRefIdeal.nD Cert.LossRefIdeal.τ).loc Cert.LossRefIdeal.main_arg12))).1 = (fun _ => 1#1)
    ∧ (Cert.Pre_loss_inputs.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7)) (m ((c.tc : Thread Cert.LossRefIdeal.nD Cert.LossRefIdeal.τ).loc Cert.LossRefIdeal.main_arg8)) (m ((c.tc : Thread Cert.LossRefIdeal.nD Cert.LossRefIdeal.τ).loc Cert.LossRefIdeal.main_arg9)) (m ((c.tc : Thread Cert.LossRefIdeal.nD Cert.LossRefIdeal.τ).loc Cert.LossRefIdeal.main_arg10)) (m ((c.tc : Thread Cert.LossRefIdeal.nD Cert.LossRefIdeal.τ).loc Cert.LossRefIdeal.main_arg11)) (m ((c.tc : Thread Cert.LossRefIdeal.nD Cert.LossRefIdeal.τ).loc Cert.LossRefIdeal.main_arg12))).2.1 = (fun _ => 1#1)
    ∧ (Cert.Pre_loss_inputs.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7)) (m ((c.tc : Thread Cert.LossRefIdeal.nD Cert.LossRefIdeal.τ).loc Cert.LossRefIdeal.main_arg8)) (m ((c.tc : Thread Cert.LossRefIdeal.nD Cert.LossRefIdeal.τ).loc Cert.LossRefIdeal.main_arg9)) (m ((c.tc : Thread Cert.LossRefIdeal.nD Cert.LossRefIdeal.τ).loc Cert.LossRefIdeal.main_arg10)) (m ((c.tc : Thread Cert.LossRefIdeal.nD Cert.LossRefIdeal.τ).loc Cert.LossRefIdeal.main_arg11)) (m ((c.tc : Thread Cert.LossRefIdeal.nD Cert.LossRefIdeal.τ).loc Cert.LossRefIdeal.main_arg12))).2.2.1 = (fun _ => 1#1)
    ∧ (Cert.Pre_loss_inputs.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7)) (m ((c.tc : Thread Cert.LossRefIdeal.nD Cert.LossRefIdeal.τ).loc Cert.LossRefIdeal.main_arg8)) (m ((c.tc : Thread Cert.LossRefIdeal.nD Cert.LossRefIdeal.τ).loc Cert.LossRefIdeal.main_arg9)) (m ((c.tc : Thread Cert.LossRefIdeal.nD Cert.LossRefIdeal.τ).loc Cert.LossRefIdeal.main_arg10)) (m ((c.tc : Thread Cert.LossRefIdeal.nD Cert.LossRefIdeal.τ).loc Cert.LossRefIdeal.main_arg11)) (m ((c.tc : Thread Cert.LossRefIdeal.nD Cert.LossRefIdeal.τ).loc Cert.LossRefIdeal.main_arg12))).2.2.2.1 = (fun _ => 1#1)
    ∧ (Cert.Pre_loss_inputs.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7)) (m ((c.tc : Thread Cert.LossRefIdeal.nD Cert.LossRefIdeal.τ).loc Cert.LossRefIdeal.main_arg8)) (m ((c.tc : Thread Cert.LossRefIdeal.nD Cert.LossRefIdeal.τ).loc Cert.LossRefIdeal.main_arg9)) (m ((c.tc : Thread Cert.LossRefIdeal.nD Cert.LossRefIdeal.τ).loc Cert.LossRefIdeal.main_arg10)) (m ((c.tc : Thread Cert.LossRefIdeal.nD Cert.LossRefIdeal.τ).loc Cert.LossRefIdeal.main_arg11)) (m ((c.tc : Thread Cert.LossRefIdeal.nD Cert.LossRefIdeal.τ).loc Cert.LossRefIdeal.main_arg12))).2.2.2.2.1 = (fun _ => 1#1)
    ∧ (Cert.Pre_loss_inputs.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7)) (m ((c.tc : Thread Cert.LossRefIdeal.nD Cert.LossRefIdeal.τ).loc Cert.LossRefIdeal.main_arg8)) (m ((c.tc : Thread Cert.LossRefIdeal.nD Cert.LossRefIdeal.τ).loc Cert.LossRefIdeal.main_arg9)) (m ((c.tc : Thread Cert.LossRefIdeal.nD Cert.LossRefIdeal.τ).loc Cert.LossRefIdeal.main_arg10)) (m ((c.tc : Thread Cert.LossRefIdeal.nD Cert.LossRefIdeal.τ).loc Cert.LossRefIdeal.main_arg11)) (m ((c.tc : Thread Cert.LossRefIdeal.nD Cert.LossRefIdeal.τ).loc Cert.LossRefIdeal.main_arg12))).2.2.2.2.2.1 = (fun _ => 1#1)
    ∧ (Cert.Pre_loss_inputs.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7)) (m ((c.tc : Thread Cert.LossRefIdeal.nD Cert.LossRefIdeal.τ).loc Cert.LossRefIdeal.main_arg8)) (m ((c.tc : Thread Cert.LossRefIdeal.nD Cert.LossRefIdeal.τ).loc Cert.LossRefIdeal.main_arg9)) (m ((c.tc : Thread Cert.LossRefIdeal.nD Cert.LossRefIdeal.τ).loc Cert.LossRefIdeal.main_arg10)) (m ((c.tc : Thread Cert.LossRefIdeal.nD Cert.LossRefIdeal.τ).loc Cert.LossRefIdeal.main_arg11)) (m ((c.tc : Thread Cert.LossRefIdeal.nD Cert.LossRefIdeal.τ).loc Cert.LossRefIdeal.main_arg12))).2.2.2.2.2.2.1 = (fun _ => 1#1)
    ∧ (Cert.Pre_loss_inputs.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7)) (m ((c.tc : Thread Cert.LossRefIdeal.nD Cert.LossRefIdeal.τ).loc Cert.LossRefIdeal.main_arg8)) (m ((c.tc : Thread Cert.LossRefIdeal.nD Cert.LossRefIdeal.τ).loc Cert.LossRefIdeal.main_arg9)) (m ((c.tc : Thread Cert.LossRefIdeal.nD Cert.LossRefIdeal.τ).loc Cert.LossRefIdeal.main_arg10)) (m ((c.tc : Thread Cert.LossRefIdeal.nD Cert.LossRefIdeal.τ).loc Cert.LossRefIdeal.main_arg11)) (m ((c.tc : Thread Cert.LossRefIdeal.nD Cert.LossRefIdeal.τ).loc Cert.LossRefIdeal.main_arg12))).2.2.2.2.2.2.2.1 = (fun _ => 1#1)
    ∧ (Cert.Pre_loss_inputs.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7)) (m ((c.tc : Thread Cert.LossRefIdeal.nD Cert.LossRefIdeal.τ).loc Cert.LossRefIdeal.main_arg8)) (m ((c.tc : Thread Cert.LossRefIdeal.nD Cert.LossRefIdeal.τ).loc Cert.LossRefIdeal.main_arg9)) (m ((c.tc : Thread Cert.LossRefIdeal.nD Cert.LossRefIdeal.τ).loc Cert.LossRefIdeal.main_arg10)) (m ((c.tc : Thread Cert.LossRefIdeal.nD Cert.LossRefIdeal.τ).loc Cert.LossRefIdeal.main_arg11)) (m ((c.tc : Thread Cert.LossRefIdeal.nD Cert.LossRefIdeal.τ).loc Cert.LossRefIdeal.main_arg12))).2.2.2.2.2.2.2.2.1 = (fun _ => 1#1)
    ∧ (Cert.Pre_loss_inputs.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7)) (m ((c.tc : Thread Cert.LossRefIdeal.nD Cert.LossRefIdeal.τ).loc Cert.LossRefIdeal.main_arg8)) (m ((c.tc : Thread Cert.LossRefIdeal.nD Cert.LossRefIdeal.τ).loc Cert.LossRefIdeal.main_arg9)) (m ((c.tc : Thread Cert.LossRefIdeal.nD Cert.LossRefIdeal.τ).loc Cert.LossRefIdeal.main_arg10)) (m ((c.tc : Thread Cert.LossRefIdeal.nD Cert.LossRefIdeal.τ).loc Cert.LossRefIdeal.main_arg11)) (m ((c.tc : Thread Cert.LossRefIdeal.nD Cert.LossRefIdeal.τ).loc Cert.LossRefIdeal.main_arg12))).2.2.2.2.2.2.2.2.2.1 = (fun _ => 1#1)
    ∧ (Cert.Pre_loss_inputs.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7)) (m ((c.tc : Thread Cert.LossRefIdeal.nD Cert.LossRefIdeal.τ).loc Cert.LossRefIdeal.main_arg8)) (m ((c.tc : Thread Cert.LossRefIdeal.nD Cert.LossRefIdeal.τ).loc Cert.LossRefIdeal.main_arg9)) (m ((c.tc : Thread Cert.LossRefIdeal.nD Cert.LossRefIdeal.τ).loc Cert.LossRefIdeal.main_arg10)) (m ((c.tc : Thread Cert.LossRefIdeal.nD Cert.LossRefIdeal.τ).loc Cert.LossRefIdeal.main_arg11)) (m ((c.tc : Thread Cert.LossRefIdeal.nD Cert.LossRefIdeal.τ).loc Cert.LossRefIdeal.main_arg12))).2.2.2.2.2.2.2.2.2.2.1 = (fun _ => 1#1)
    ∧ (Cert.Pre_loss_inputs.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7)) (m ((c.tc : Thread Cert.LossRefIdeal.nD Cert.LossRefIdeal.τ).loc Cert.LossRefIdeal.main_arg8)) (m ((c.tc : Thread Cert.LossRefIdeal.nD Cert.LossRefIdeal.τ).loc Cert.LossRefIdeal.main_arg9)) (m ((c.tc : Thread Cert.LossRefIdeal.nD Cert.LossRefIdeal.τ).loc Cert.LossRefIdeal.main_arg10)) (m ((c.tc : Thread Cert.LossRefIdeal.nD Cert.LossRefIdeal.τ).loc Cert.LossRefIdeal.main_arg11)) (m ((c.tc : Thread Cert.LossRefIdeal.nD Cert.LossRefIdeal.τ).loc Cert.LossRefIdeal.main_arg12))).2.2.2.2.2.2.2.2.2.2.2.1 = (fun _ => 1#1)
    ∧ (Cert.Pre_loss_inputs.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7)) (m ((c.tc : Thread Cert.LossRefIdeal.nD Cert.LossRefIdeal.τ).loc Cert.LossRefIdeal.main_arg8)) (m ((c.tc : Thread Cert.LossRefIdeal.nD Cert.LossRefIdeal.τ).loc Cert.LossRefIdeal.main_arg9)) (m ((c.tc : Thread Cert.LossRefIdeal.nD Cert.LossRefIdeal.τ).loc Cert.LossRefIdeal.main_arg10)) (m ((c.tc : Thread Cert.LossRefIdeal.nD Cert.LossRefIdeal.τ).loc Cert.LossRefIdeal.main_arg11)) (m ((c.tc : Thread Cert.LossRefIdeal.nD Cert.LossRefIdeal.τ).loc Cert.LossRefIdeal.main_arg12))).2.2.2.2.2.2.2.2.2.2.2.2.1 = (fun _ => 1#1)
    ∧ (Cert.Pre_loss_inputs.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7)) (m ((c.tc : Thread Cert.LossRefIdeal.nD Cert.LossRefIdeal.τ).loc Cert.LossRefIdeal.main_arg8)) (m ((c.tc : Thread Cert.LossRefIdeal.nD Cert.LossRefIdeal.τ).loc Cert.LossRefIdeal.main_arg9)) (m ((c.tc : Thread Cert.LossRefIdeal.nD Cert.LossRefIdeal.τ).loc Cert.LossRefIdeal.main_arg10)) (m ((c.tc : Thread Cert.LossRefIdeal.nD Cert.LossRefIdeal.τ).loc Cert.LossRefIdeal.main_arg11)) (m ((c.tc : Thread Cert.LossRefIdeal.nD Cert.LossRefIdeal.τ).loc Cert.LossRefIdeal.main_arg12))).2.2.2.2.2.2.2.2.2.2.2.2.2 = (fun _ => 1#1)

def Pre_Img (m : (ℓ : Loc Cert.Img.nD Cert.Img.τ Cert.Img.sig) → Buf (Elt Bits) ℓ) : Prop :=
  True

def Pre_ImgIdeal (m : (ℓ : Loc Cert.ImgIdeal.nD Cert.ImgIdeal.τ Cert.ImgIdeal.sig) → Buf (Elt Ideal) ℓ) : Prop :=
  True

def Pre_ImgIdeal_img_bn_finite [hPre_img_bn_finite : Cert.Pre_img_bn_finite.Facts] (m : (ℓ : Loc Cert.ImgIdeal.nD Cert.ImgIdeal.τ Cert.ImgIdeal.sig) → Buf (Elt Ideal) ℓ) : Prop :=
  ∀ c : Dev Cert.ImgIdeal.nD,
    (Cert.Pre_img_bn_finite.fn (F := Ideal) (m ((c.tc : Thread Cert.ImgIdeal.nD Cert.ImgIdeal.τ).loc Cert.ImgIdeal.main_arg0)) (m ((c.tc : Thread Cert.ImgIdeal.nD Cert.ImgIdeal.τ).loc Cert.ImgIdeal.main_arg1)) (m ((c.tc : Thread Cert.ImgIdeal.nD Cert.ImgIdeal.τ).loc Cert.ImgIdeal.main_arg2)) (m ((c.tc : Thread Cert.ImgIdeal.nD Cert.ImgIdeal.τ).loc Cert.ImgIdeal.main_arg3)) (m ((c.tc : Thread Cert.ImgIdeal.nD Cert.ImgIdeal.τ).loc Cert.ImgIdeal.main_arg4)) (m ((c.tc : Thread Cert.ImgIdeal.nD Cert.ImgIdeal.τ).loc Cert.ImgIdeal.main_arg5)) (m ((c.tc : Thread Cert.ImgIdeal.nD Cert.ImgIdeal.τ).loc Cert.ImgIdeal.main_arg6)) (m ((c.tc : Thread Cert.ImgIdeal.nD Cert.ImgIdeal.τ).loc Cert.ImgIdeal.main_arg7)) (m ((c.tc : Thread Cert.ImgIdeal.nD Cert.ImgIdeal.τ).loc Cert.ImgIdeal.main_arg8))).1 = (fun _ => 1#1)
    ∧ (Cert.Pre_img_bn_finite.fn (F := Ideal) (m ((c.tc : Thread Cert.ImgIdeal.nD Cert.ImgIdeal.τ).loc Cert.ImgIdeal.main_arg0)) (m ((c.tc : Thread Cert.ImgIdeal.nD Cert.ImgIdeal.τ).loc Cert.ImgIdeal.main_arg1)) (m ((c.tc : Thread Cert.ImgIdeal.nD Cert.ImgIdeal.τ).loc Cert.ImgIdeal.main_arg2)) (m ((c.tc : Thread Cert.ImgIdeal.nD Cert.ImgIdeal.τ).loc Cert.ImgIdeal.main_arg3)) (m ((c.tc : Thread Cert.ImgIdeal.nD Cert.ImgIdeal.τ).loc Cert.ImgIdeal.main_arg4)) (m ((c.tc : Thread Cert.ImgIdeal.nD Cert.ImgIdeal.τ).loc Cert.ImgIdeal.main_arg5)) (m ((c.tc : Thread Cert.ImgIdeal.nD Cert.ImgIdeal.τ).loc Cert.ImgIdeal.main_arg6)) (m ((c.tc : Thread Cert.ImgIdeal.nD Cert.ImgIdeal.τ).loc Cert.ImgIdeal.main_arg7)) (m ((c.tc : Thread Cert.ImgIdeal.nD Cert.ImgIdeal.τ).loc Cert.ImgIdeal.main_arg8))).2.1 = (fun _ => 1#1)
    ∧ (Cert.Pre_img_bn_finite.fn (F := Ideal) (m ((c.tc : Thread Cert.ImgIdeal.nD Cert.ImgIdeal.τ).loc Cert.ImgIdeal.main_arg0)) (m ((c.tc : Thread Cert.ImgIdeal.nD Cert.ImgIdeal.τ).loc Cert.ImgIdeal.main_arg1)) (m ((c.tc : Thread Cert.ImgIdeal.nD Cert.ImgIdeal.τ).loc Cert.ImgIdeal.main_arg2)) (m ((c.tc : Thread Cert.ImgIdeal.nD Cert.ImgIdeal.τ).loc Cert.ImgIdeal.main_arg3)) (m ((c.tc : Thread Cert.ImgIdeal.nD Cert.ImgIdeal.τ).loc Cert.ImgIdeal.main_arg4)) (m ((c.tc : Thread Cert.ImgIdeal.nD Cert.ImgIdeal.τ).loc Cert.ImgIdeal.main_arg5)) (m ((c.tc : Thread Cert.ImgIdeal.nD Cert.ImgIdeal.τ).loc Cert.ImgIdeal.main_arg6)) (m ((c.tc : Thread Cert.ImgIdeal.nD Cert.ImgIdeal.τ).loc Cert.ImgIdeal.main_arg7)) (m ((c.tc : Thread Cert.ImgIdeal.nD Cert.ImgIdeal.τ).loc Cert.ImgIdeal.main_arg8))).2.2.1 = (fun _ => 1#1)
    ∧ (Cert.Pre_img_bn_finite.fn (F := Ideal) (m ((c.tc : Thread Cert.ImgIdeal.nD Cert.ImgIdeal.τ).loc Cert.ImgIdeal.main_arg0)) (m ((c.tc : Thread Cert.ImgIdeal.nD Cert.ImgIdeal.τ).loc Cert.ImgIdeal.main_arg1)) (m ((c.tc : Thread Cert.ImgIdeal.nD Cert.ImgIdeal.τ).loc Cert.ImgIdeal.main_arg2)) (m ((c.tc : Thread Cert.ImgIdeal.nD Cert.ImgIdeal.τ).loc Cert.ImgIdeal.main_arg3)) (m ((c.tc : Thread Cert.ImgIdeal.nD Cert.ImgIdeal.τ).loc Cert.ImgIdeal.main_arg4)) (m ((c.tc : Thread Cert.ImgIdeal.nD Cert.ImgIdeal.τ).loc Cert.ImgIdeal.main_arg5)) (m ((c.tc : Thread Cert.ImgIdeal.nD Cert.ImgIdeal.τ).loc Cert.ImgIdeal.main_arg6)) (m ((c.tc : Thread Cert.ImgIdeal.nD Cert.ImgIdeal.τ).loc Cert.ImgIdeal.main_arg7)) (m ((c.tc : Thread Cert.ImgIdeal.nD Cert.ImgIdeal.τ).loc Cert.ImgIdeal.main_arg8))).2.2.2.1 = (fun _ => 1#1)
    ∧ (Cert.Pre_img_bn_finite.fn (F := Ideal) (m ((c.tc : Thread Cert.ImgIdeal.nD Cert.ImgIdeal.τ).loc Cert.ImgIdeal.main_arg0)) (m ((c.tc : Thread Cert.ImgIdeal.nD Cert.ImgIdeal.τ).loc Cert.ImgIdeal.main_arg1)) (m ((c.tc : Thread Cert.ImgIdeal.nD Cert.ImgIdeal.τ).loc Cert.ImgIdeal.main_arg2)) (m ((c.tc : Thread Cert.ImgIdeal.nD Cert.ImgIdeal.τ).loc Cert.ImgIdeal.main_arg3)) (m ((c.tc : Thread Cert.ImgIdeal.nD Cert.ImgIdeal.τ).loc Cert.ImgIdeal.main_arg4)) (m ((c.tc : Thread Cert.ImgIdeal.nD Cert.ImgIdeal.τ).loc Cert.ImgIdeal.main_arg5)) (m ((c.tc : Thread Cert.ImgIdeal.nD Cert.ImgIdeal.τ).loc Cert.ImgIdeal.main_arg6)) (m ((c.tc : Thread Cert.ImgIdeal.nD Cert.ImgIdeal.τ).loc Cert.ImgIdeal.main_arg7)) (m ((c.tc : Thread Cert.ImgIdeal.nD Cert.ImgIdeal.τ).loc Cert.ImgIdeal.main_arg8))).2.2.2.2 = (fun _ => 1#1)

def Pre_ImgRefIdeal (m : (ℓ : Loc Cert.ImgRefIdeal.nD Cert.ImgRefIdeal.τ Cert.ImgRefIdeal.sig) → Buf (Elt Ideal) ℓ) : Prop :=
  True

def Pre_ImgRefIdeal_img_bn_finite [hPre_img_bn_finite : Cert.Pre_img_bn_finite.Facts] (m : (ℓ : Loc Cert.ImgRefIdeal.nD Cert.ImgRefIdeal.τ Cert.ImgRefIdeal.sig) → Buf (Elt Ideal) ℓ) : Prop :=
  ∀ c : Dev Cert.ImgRefIdeal.nD,
    (Cert.Pre_img_bn_finite.fn (F := Ideal) (m ((c.tc : Thread Cert.ImgRefIdeal.nD Cert.ImgRefIdeal.τ).loc Cert.ImgRefIdeal.main_arg0)) (m ((c.tc : Thread Cert.ImgRefIdeal.nD Cert.ImgRefIdeal.τ).loc Cert.ImgRefIdeal.main_arg1)) (m ((c.tc : Thread Cert.ImgRefIdeal.nD Cert.ImgRefIdeal.τ).loc Cert.ImgRefIdeal.main_arg2)) (m ((c.tc : Thread Cert.ImgRefIdeal.nD Cert.ImgRefIdeal.τ).loc Cert.ImgRefIdeal.main_arg3)) (m ((c.tc : Thread Cert.ImgRefIdeal.nD Cert.ImgRefIdeal.τ).loc Cert.ImgRefIdeal.main_arg4)) (m ((c.tc : Thread Cert.ImgRefIdeal.nD Cert.ImgRefIdeal.τ).loc Cert.ImgRefIdeal.main_arg5)) (m ((c.tc : Thread Cert.ImgRefIdeal.nD Cert.ImgRefIdeal.τ).loc Cert.ImgRefIdeal.main_arg6)) (m ((c.tc : Thread Cert.ImgRefIdeal.nD Cert.ImgRefIdeal.τ).loc Cert.ImgRefIdeal.main_arg7)) (m ((c.tc : Thread Cert.ImgRefIdeal.nD Cert.ImgRefIdeal.τ).loc Cert.ImgRefIdeal.main_arg8))).1 = (fun _ => 1#1)
    ∧ (Cert.Pre_img_bn_finite.fn (F := Ideal) (m ((c.tc : Thread Cert.ImgRefIdeal.nD Cert.ImgRefIdeal.τ).loc Cert.ImgRefIdeal.main_arg0)) (m ((c.tc : Thread Cert.ImgRefIdeal.nD Cert.ImgRefIdeal.τ).loc Cert.ImgRefIdeal.main_arg1)) (m ((c.tc : Thread Cert.ImgRefIdeal.nD Cert.ImgRefIdeal.τ).loc Cert.ImgRefIdeal.main_arg2)) (m ((c.tc : Thread Cert.ImgRefIdeal.nD Cert.ImgRefIdeal.τ).loc Cert.ImgRefIdeal.main_arg3)) (m ((c.tc : Thread Cert.ImgRefIdeal.nD Cert.ImgRefIdeal.τ).loc Cert.ImgRefIdeal.main_arg4)) (m ((c.tc : Thread Cert.ImgRefIdeal.nD Cert.ImgRefIdeal.τ).loc Cert.ImgRefIdeal.main_arg5)) (m ((c.tc : Thread Cert.ImgRefIdeal.nD Cert.ImgRefIdeal.τ).loc Cert.ImgRefIdeal.main_arg6)) (m ((c.tc : Thread Cert.ImgRefIdeal.nD Cert.ImgRefIdeal.τ).loc Cert.ImgRefIdeal.main_arg7)) (m ((c.tc : Thread Cert.ImgRefIdeal.nD Cert.ImgRefIdeal.τ).loc Cert.ImgRefIdeal.main_arg8))).2.1 = (fun _ => 1#1)
    ∧ (Cert.Pre_img_bn_finite.fn (F := Ideal) (m ((c.tc : Thread Cert.ImgRefIdeal.nD Cert.ImgRefIdeal.τ).loc Cert.ImgRefIdeal.main_arg0)) (m ((c.tc : Thread Cert.ImgRefIdeal.nD Cert.ImgRefIdeal.τ).loc Cert.ImgRefIdeal.main_arg1)) (m ((c.tc : Thread Cert.ImgRefIdeal.nD Cert.ImgRefIdeal.τ).loc Cert.ImgRefIdeal.main_arg2)) (m ((c.tc : Thread Cert.ImgRefIdeal.nD Cert.ImgRefIdeal.τ).loc Cert.ImgRefIdeal.main_arg3)) (m ((c.tc : Thread Cert.ImgRefIdeal.nD Cert.ImgRefIdeal.τ).loc Cert.ImgRefIdeal.main_arg4)) (m ((c.tc : Thread Cert.ImgRefIdeal.nD Cert.ImgRefIdeal.τ).loc Cert.ImgRefIdeal.main_arg5)) (m ((c.tc : Thread Cert.ImgRefIdeal.nD Cert.ImgRefIdeal.τ).loc Cert.ImgRefIdeal.main_arg6)) (m ((c.tc : Thread Cert.ImgRefIdeal.nD Cert.ImgRefIdeal.τ).loc Cert.ImgRefIdeal.main_arg7)) (m ((c.tc : Thread Cert.ImgRefIdeal.nD Cert.ImgRefIdeal.τ).loc Cert.ImgRefIdeal.main_arg8))).2.2.1 = (fun _ => 1#1)
    ∧ (Cert.Pre_img_bn_finite.fn (F := Ideal) (m ((c.tc : Thread Cert.ImgRefIdeal.nD Cert.ImgRefIdeal.τ).loc Cert.ImgRefIdeal.main_arg0)) (m ((c.tc : Thread Cert.ImgRefIdeal.nD Cert.ImgRefIdeal.τ).loc Cert.ImgRefIdeal.main_arg1)) (m ((c.tc : Thread Cert.ImgRefIdeal.nD Cert.ImgRefIdeal.τ).loc Cert.ImgRefIdeal.main_arg2)) (m ((c.tc : Thread Cert.ImgRefIdeal.nD Cert.ImgRefIdeal.τ).loc Cert.ImgRefIdeal.main_arg3)) (m ((c.tc : Thread Cert.ImgRefIdeal.nD Cert.ImgRefIdeal.τ).loc Cert.ImgRefIdeal.main_arg4)) (m ((c.tc : Thread Cert.ImgRefIdeal.nD Cert.ImgRefIdeal.τ).loc Cert.ImgRefIdeal.main_arg5)) (m ((c.tc : Thread Cert.ImgRefIdeal.nD Cert.ImgRefIdeal.τ).loc Cert.ImgRefIdeal.main_arg6)) (m ((c.tc : Thread Cert.ImgRefIdeal.nD Cert.ImgRefIdeal.τ).loc Cert.ImgRefIdeal.main_arg7)) (m ((c.tc : Thread Cert.ImgRefIdeal.nD Cert.ImgRefIdeal.τ).loc Cert.ImgRefIdeal.main_arg8))).2.2.2.1 = (fun _ => 1#1)
    ∧ (Cert.Pre_img_bn_finite.fn (F := Ideal) (m ((c.tc : Thread Cert.ImgRefIdeal.nD Cert.ImgRefIdeal.τ).loc Cert.ImgRefIdeal.main_arg0)) (m ((c.tc : Thread Cert.ImgRefIdeal.nD Cert.ImgRefIdeal.τ).loc Cert.ImgRefIdeal.main_arg1)) (m ((c.tc : Thread Cert.ImgRefIdeal.nD Cert.ImgRefIdeal.τ).loc Cert.ImgRefIdeal.main_arg2)) (m ((c.tc : Thread Cert.ImgRefIdeal.nD Cert.ImgRefIdeal.τ).loc Cert.ImgRefIdeal.main_arg3)) (m ((c.tc : Thread Cert.ImgRefIdeal.nD Cert.ImgRefIdeal.τ).loc Cert.ImgRefIdeal.main_arg4)) (m ((c.tc : Thread Cert.ImgRefIdeal.nD Cert.ImgRefIdeal.τ).loc Cert.ImgRefIdeal.main_arg5)) (m ((c.tc : Thread Cert.ImgRefIdeal.nD Cert.ImgRefIdeal.τ).loc Cert.ImgRefIdeal.main_arg6)) (m ((c.tc : Thread Cert.ImgRefIdeal.nD Cert.ImgRefIdeal.τ).loc Cert.ImgRefIdeal.main_arg7)) (m ((c.tc : Thread Cert.ImgRefIdeal.nD Cert.ImgRefIdeal.τ).loc Cert.ImgRefIdeal.main_arg8))).2.2.2.2 = (fun _ => 1#1)

def quiescent_Gru1 [hGru1 : Cert.Gru1.Facts] : Prop :=
  ∀ (m : (ℓ : Loc Cert.Gru1.nD Cert.Gru1.τ Cert.Gru1.sig) → Buf (Elt Bits) ℓ) (g : Dev Cert.Gru1.nD → PrngReg), Pre_Gru1 m →
    θ_run (Cert.Gru1.defs (F := Bits)) (onTc (τ := Cert.Gru1.τ) (Cert.Gru1.main (F := Bits))) ⟨m, fun _ => 0, g⟩ (fun r => (∀ c : Dev Cert.Gru1.nD,
      r.2.mem ((c.tc : Thread Cert.Gru1.nD Cert.Gru1.τ).loc Cert.Gru1.main_arg0) = m ((c.tc : Thread Cert.Gru1.nD Cert.Gru1.τ).loc Cert.Gru1.main_arg0)
      ∧ r.2.mem ((c.tc : Thread Cert.Gru1.nD Cert.Gru1.τ).loc Cert.Gru1.main_arg1) = m ((c.tc : Thread Cert.Gru1.nD Cert.Gru1.τ).loc Cert.Gru1.main_arg1)
      ∧ r.2.mem ((c.tc : Thread Cert.Gru1.nD Cert.Gru1.τ).loc Cert.Gru1.main_arg2) = m ((c.tc : Thread Cert.Gru1.nD Cert.Gru1.τ).loc Cert.Gru1.main_arg2)
      ∧ r.2.mem ((c.tc : Thread Cert.Gru1.nD Cert.Gru1.τ).loc Cert.Gru1.main_arg3) = m ((c.tc : Thread Cert.Gru1.nD Cert.Gru1.τ).loc Cert.Gru1.main_arg3)
      ∧ r.2.mem ((c.tc : Thread Cert.Gru1.nD Cert.Gru1.τ).loc Cert.Gru1.main_arg4) = m ((c.tc : Thread Cert.Gru1.nD Cert.Gru1.τ).loc Cert.Gru1.main_arg4)
      ∧ r.2.mem ((c.tc : Thread Cert.Gru1.nD Cert.Gru1.τ).loc Cert.Gru1.main_arg5) = m ((c.tc : Thread Cert.Gru1.nD Cert.Gru1.τ).loc Cert.Gru1.main_arg5)
      ∧ r.2.mem ((c.tc : Thread Cert.Gru1.nD Cert.Gru1.τ).loc Cert.Gru1.main_arg6) = m ((c.tc : Thread Cert.Gru1.nD Cert.Gru1.τ).loc Cert.Gru1.main_arg6)
      ∧ r.2.mem ((c.tc : Thread Cert.Gru1.nD Cert.Gru1.τ).loc Cert.Gru1.main_arg7) = m ((c.tc : Thread Cert.Gru1.nD Cert.Gru1.τ).loc Cert.Gru1.main_arg7)
      ∧ r.2.mem ((c.tc : Thread Cert.Gru1.nD Cert.Gru1.τ).loc Cert.Gru1.main_arg8) = m ((c.tc : Thread Cert.Gru1.nD Cert.Gru1.τ).loc Cert.Gru1.main_arg8)
      ∧ r.2.mem ((c.tc : Thread Cert.Gru1.nD Cert.Gru1.τ).loc Cert.Gru1.main_arg9) = m ((c.tc : Thread Cert.Gru1.nD Cert.Gru1.τ).loc Cert.Gru1.main_arg9)
      ∧ r.2.mem ((c.tc : Thread Cert.Gru1.nD Cert.Gru1.τ).loc Cert.Gru1.main_arg10) = m ((c.tc : Thread Cert.Gru1.nD Cert.Gru1.τ).loc Cert.Gru1.main_arg10))
      ∧ r.2.sem = fun _ => 0)

def quiescent_Gru1Ideal [hGru1Ideal : Cert.Gru1Ideal.Facts] : Prop :=
  ∀ (m : (ℓ : Loc Cert.Gru1Ideal.nD Cert.Gru1Ideal.τ Cert.Gru1Ideal.sig) → Buf (Elt Ideal) ℓ) (g : Dev Cert.Gru1Ideal.nD → PrngReg), Pre_Gru1Ideal m →
    θ_run (Cert.Gru1Ideal.defs (F := Ideal)) (onTc (τ := Cert.Gru1Ideal.τ) (Cert.Gru1Ideal.main (F := Ideal))) ⟨m, fun _ => 0, g⟩ (fun r => (∀ c : Dev Cert.Gru1Ideal.nD,
      r.2.mem ((c.tc : Thread Cert.Gru1Ideal.nD Cert.Gru1Ideal.τ).loc Cert.Gru1Ideal.main_arg0) = m ((c.tc : Thread Cert.Gru1Ideal.nD Cert.Gru1Ideal.τ).loc Cert.Gru1Ideal.main_arg0)
      ∧ r.2.mem ((c.tc : Thread Cert.Gru1Ideal.nD Cert.Gru1Ideal.τ).loc Cert.Gru1Ideal.main_arg1) = m ((c.tc : Thread Cert.Gru1Ideal.nD Cert.Gru1Ideal.τ).loc Cert.Gru1Ideal.main_arg1)
      ∧ r.2.mem ((c.tc : Thread Cert.Gru1Ideal.nD Cert.Gru1Ideal.τ).loc Cert.Gru1Ideal.main_arg2) = m ((c.tc : Thread Cert.Gru1Ideal.nD Cert.Gru1Ideal.τ).loc Cert.Gru1Ideal.main_arg2)
      ∧ r.2.mem ((c.tc : Thread Cert.Gru1Ideal.nD Cert.Gru1Ideal.τ).loc Cert.Gru1Ideal.main_arg3) = m ((c.tc : Thread Cert.Gru1Ideal.nD Cert.Gru1Ideal.τ).loc Cert.Gru1Ideal.main_arg3)
      ∧ r.2.mem ((c.tc : Thread Cert.Gru1Ideal.nD Cert.Gru1Ideal.τ).loc Cert.Gru1Ideal.main_arg4) = m ((c.tc : Thread Cert.Gru1Ideal.nD Cert.Gru1Ideal.τ).loc Cert.Gru1Ideal.main_arg4)
      ∧ r.2.mem ((c.tc : Thread Cert.Gru1Ideal.nD Cert.Gru1Ideal.τ).loc Cert.Gru1Ideal.main_arg5) = m ((c.tc : Thread Cert.Gru1Ideal.nD Cert.Gru1Ideal.τ).loc Cert.Gru1Ideal.main_arg5)
      ∧ r.2.mem ((c.tc : Thread Cert.Gru1Ideal.nD Cert.Gru1Ideal.τ).loc Cert.Gru1Ideal.main_arg6) = m ((c.tc : Thread Cert.Gru1Ideal.nD Cert.Gru1Ideal.τ).loc Cert.Gru1Ideal.main_arg6)
      ∧ r.2.mem ((c.tc : Thread Cert.Gru1Ideal.nD Cert.Gru1Ideal.τ).loc Cert.Gru1Ideal.main_arg7) = m ((c.tc : Thread Cert.Gru1Ideal.nD Cert.Gru1Ideal.τ).loc Cert.Gru1Ideal.main_arg7)
      ∧ r.2.mem ((c.tc : Thread Cert.Gru1Ideal.nD Cert.Gru1Ideal.τ).loc Cert.Gru1Ideal.main_arg8) = m ((c.tc : Thread Cert.Gru1Ideal.nD Cert.Gru1Ideal.τ).loc Cert.Gru1Ideal.main_arg8)
      ∧ r.2.mem ((c.tc : Thread Cert.Gru1Ideal.nD Cert.Gru1Ideal.τ).loc Cert.Gru1Ideal.main_arg9) = m ((c.tc : Thread Cert.Gru1Ideal.nD Cert.Gru1Ideal.τ).loc Cert.Gru1Ideal.main_arg9)
      ∧ r.2.mem ((c.tc : Thread Cert.Gru1Ideal.nD Cert.Gru1Ideal.τ).loc Cert.Gru1Ideal.main_arg10) = m ((c.tc : Thread Cert.Gru1Ideal.nD Cert.Gru1Ideal.τ).loc Cert.Gru1Ideal.main_arg10))
      ∧ r.2.sem = fun _ => 0)

def quiescent_Gru1Ideal_pre_text_bn_finite [hGru1Ideal : Cert.Gru1Ideal.Facts] [hPre_text_bn_finite : Cert.Pre_text_bn_finite.Facts] : Prop :=
  ∀ (m : (ℓ : Loc Cert.Gru1Ideal.nD Cert.Gru1Ideal.τ Cert.Gru1Ideal.sig) → Buf (Elt Ideal) ℓ) (g : Dev Cert.Gru1Ideal.nD → PrngReg), Pre_Gru1Ideal_text_bn_finite m →
    θ_run (Cert.Gru1Ideal.defs (F := Ideal)) (onTc (τ := Cert.Gru1Ideal.τ) (Cert.Gru1Ideal.main (F := Ideal))) ⟨m, fun _ => 0, g⟩ (fun r => (∀ c : Dev Cert.Gru1Ideal.nD,
      r.2.mem ((c.tc : Thread Cert.Gru1Ideal.nD Cert.Gru1Ideal.τ).loc Cert.Gru1Ideal.main_arg0) = m ((c.tc : Thread Cert.Gru1Ideal.nD Cert.Gru1Ideal.τ).loc Cert.Gru1Ideal.main_arg0)
      ∧ r.2.mem ((c.tc : Thread Cert.Gru1Ideal.nD Cert.Gru1Ideal.τ).loc Cert.Gru1Ideal.main_arg1) = m ((c.tc : Thread Cert.Gru1Ideal.nD Cert.Gru1Ideal.τ).loc Cert.Gru1Ideal.main_arg1)
      ∧ r.2.mem ((c.tc : Thread Cert.Gru1Ideal.nD Cert.Gru1Ideal.τ).loc Cert.Gru1Ideal.main_arg2) = m ((c.tc : Thread Cert.Gru1Ideal.nD Cert.Gru1Ideal.τ).loc Cert.Gru1Ideal.main_arg2)
      ∧ r.2.mem ((c.tc : Thread Cert.Gru1Ideal.nD Cert.Gru1Ideal.τ).loc Cert.Gru1Ideal.main_arg3) = m ((c.tc : Thread Cert.Gru1Ideal.nD Cert.Gru1Ideal.τ).loc Cert.Gru1Ideal.main_arg3)
      ∧ r.2.mem ((c.tc : Thread Cert.Gru1Ideal.nD Cert.Gru1Ideal.τ).loc Cert.Gru1Ideal.main_arg4) = m ((c.tc : Thread Cert.Gru1Ideal.nD Cert.Gru1Ideal.τ).loc Cert.Gru1Ideal.main_arg4)
      ∧ r.2.mem ((c.tc : Thread Cert.Gru1Ideal.nD Cert.Gru1Ideal.τ).loc Cert.Gru1Ideal.main_arg5) = m ((c.tc : Thread Cert.Gru1Ideal.nD Cert.Gru1Ideal.τ).loc Cert.Gru1Ideal.main_arg5)
      ∧ r.2.mem ((c.tc : Thread Cert.Gru1Ideal.nD Cert.Gru1Ideal.τ).loc Cert.Gru1Ideal.main_arg6) = m ((c.tc : Thread Cert.Gru1Ideal.nD Cert.Gru1Ideal.τ).loc Cert.Gru1Ideal.main_arg6)
      ∧ r.2.mem ((c.tc : Thread Cert.Gru1Ideal.nD Cert.Gru1Ideal.τ).loc Cert.Gru1Ideal.main_arg7) = m ((c.tc : Thread Cert.Gru1Ideal.nD Cert.Gru1Ideal.τ).loc Cert.Gru1Ideal.main_arg7)
      ∧ r.2.mem ((c.tc : Thread Cert.Gru1Ideal.nD Cert.Gru1Ideal.τ).loc Cert.Gru1Ideal.main_arg8) = m ((c.tc : Thread Cert.Gru1Ideal.nD Cert.Gru1Ideal.τ).loc Cert.Gru1Ideal.main_arg8)
      ∧ r.2.mem ((c.tc : Thread Cert.Gru1Ideal.nD Cert.Gru1Ideal.τ).loc Cert.Gru1Ideal.main_arg9) = m ((c.tc : Thread Cert.Gru1Ideal.nD Cert.Gru1Ideal.τ).loc Cert.Gru1Ideal.main_arg9)
      ∧ r.2.mem ((c.tc : Thread Cert.Gru1Ideal.nD Cert.Gru1Ideal.τ).loc Cert.Gru1Ideal.main_arg10) = m ((c.tc : Thread Cert.Gru1Ideal.nD Cert.Gru1Ideal.τ).loc Cert.Gru1Ideal.main_arg10))
      ∧ r.2.sem = fun _ => 0)

def quiescent_TextRefIdeal [hTextRefIdeal : Cert.TextRefIdeal.Facts] : Prop :=
  ∀ (m : (ℓ : Loc Cert.TextRefIdeal.nD Cert.TextRefIdeal.τ Cert.TextRefIdeal.sig) → Buf (Elt Ideal) ℓ) (g : Dev Cert.TextRefIdeal.nD → PrngReg), Pre_TextRefIdeal m →
    θ_run (Cert.TextRefIdeal.defs (F := Ideal)) (onTc (τ := Cert.TextRefIdeal.τ) (Cert.TextRefIdeal.main (F := Ideal))) ⟨m, fun _ => 0, g⟩ (fun r => (∀ c : Dev Cert.TextRefIdeal.nD,
      r.2.mem ((c.tc : Thread Cert.TextRefIdeal.nD Cert.TextRefIdeal.τ).loc Cert.TextRefIdeal.main_arg0) = m ((c.tc : Thread Cert.TextRefIdeal.nD Cert.TextRefIdeal.τ).loc Cert.TextRefIdeal.main_arg0)
      ∧ r.2.mem ((c.tc : Thread Cert.TextRefIdeal.nD Cert.TextRefIdeal.τ).loc Cert.TextRefIdeal.main_arg1) = m ((c.tc : Thread Cert.TextRefIdeal.nD Cert.TextRefIdeal.τ).loc Cert.TextRefIdeal.main_arg1)
      ∧ r.2.mem ((c.tc : Thread Cert.TextRefIdeal.nD Cert.TextRefIdeal.τ).loc Cert.TextRefIdeal.main_arg2) = m ((c.tc : Thread Cert.TextRefIdeal.nD Cert.TextRefIdeal.τ).loc Cert.TextRefIdeal.main_arg2)
      ∧ r.2.mem ((c.tc : Thread Cert.TextRefIdeal.nD Cert.TextRefIdeal.τ).loc Cert.TextRefIdeal.main_arg3) = m ((c.tc : Thread Cert.TextRefIdeal.nD Cert.TextRefIdeal.τ).loc Cert.TextRefIdeal.main_arg3)
      ∧ r.2.mem ((c.tc : Thread Cert.TextRefIdeal.nD Cert.TextRefIdeal.τ).loc Cert.TextRefIdeal.main_arg4) = m ((c.tc : Thread Cert.TextRefIdeal.nD Cert.TextRefIdeal.τ).loc Cert.TextRefIdeal.main_arg4)
      ∧ r.2.mem ((c.tc : Thread Cert.TextRefIdeal.nD Cert.TextRefIdeal.τ).loc Cert.TextRefIdeal.main_arg5) = m ((c.tc : Thread Cert.TextRefIdeal.nD Cert.TextRefIdeal.τ).loc Cert.TextRefIdeal.main_arg5)
      ∧ r.2.mem ((c.tc : Thread Cert.TextRefIdeal.nD Cert.TextRefIdeal.τ).loc Cert.TextRefIdeal.main_arg6) = m ((c.tc : Thread Cert.TextRefIdeal.nD Cert.TextRefIdeal.τ).loc Cert.TextRefIdeal.main_arg6)
      ∧ r.2.mem ((c.tc : Thread Cert.TextRefIdeal.nD Cert.TextRefIdeal.τ).loc Cert.TextRefIdeal.main_arg7) = m ((c.tc : Thread Cert.TextRefIdeal.nD Cert.TextRefIdeal.τ).loc Cert.TextRefIdeal.main_arg7)
      ∧ r.2.mem ((c.tc : Thread Cert.TextRefIdeal.nD Cert.TextRefIdeal.τ).loc Cert.TextRefIdeal.main_arg8) = m ((c.tc : Thread Cert.TextRefIdeal.nD Cert.TextRefIdeal.τ).loc Cert.TextRefIdeal.main_arg8)
      ∧ r.2.mem ((c.tc : Thread Cert.TextRefIdeal.nD Cert.TextRefIdeal.τ).loc Cert.TextRefIdeal.main_arg9) = m ((c.tc : Thread Cert.TextRefIdeal.nD Cert.TextRefIdeal.τ).loc Cert.TextRefIdeal.main_arg9)
      ∧ r.2.mem ((c.tc : Thread Cert.TextRefIdeal.nD Cert.TextRefIdeal.τ).loc Cert.TextRefIdeal.main_arg10) = m ((c.tc : Thread Cert.TextRefIdeal.nD Cert.TextRefIdeal.τ).loc Cert.TextRefIdeal.main_arg10))
      ∧ r.2.sem = fun _ => 0)

def quiescent_TextRefIdeal_pre_text_bn_finite [hTextRefIdeal : Cert.TextRefIdeal.Facts] [hPre_text_bn_finite : Cert.Pre_text_bn_finite.Facts] : Prop :=
  ∀ (m : (ℓ : Loc Cert.TextRefIdeal.nD Cert.TextRefIdeal.τ Cert.TextRefIdeal.sig) → Buf (Elt Ideal) ℓ) (g : Dev Cert.TextRefIdeal.nD → PrngReg), Pre_TextRefIdeal_text_bn_finite m →
    θ_run (Cert.TextRefIdeal.defs (F := Ideal)) (onTc (τ := Cert.TextRefIdeal.τ) (Cert.TextRefIdeal.main (F := Ideal))) ⟨m, fun _ => 0, g⟩ (fun r => (∀ c : Dev Cert.TextRefIdeal.nD,
      r.2.mem ((c.tc : Thread Cert.TextRefIdeal.nD Cert.TextRefIdeal.τ).loc Cert.TextRefIdeal.main_arg0) = m ((c.tc : Thread Cert.TextRefIdeal.nD Cert.TextRefIdeal.τ).loc Cert.TextRefIdeal.main_arg0)
      ∧ r.2.mem ((c.tc : Thread Cert.TextRefIdeal.nD Cert.TextRefIdeal.τ).loc Cert.TextRefIdeal.main_arg1) = m ((c.tc : Thread Cert.TextRefIdeal.nD Cert.TextRefIdeal.τ).loc Cert.TextRefIdeal.main_arg1)
      ∧ r.2.mem ((c.tc : Thread Cert.TextRefIdeal.nD Cert.TextRefIdeal.τ).loc Cert.TextRefIdeal.main_arg2) = m ((c.tc : Thread Cert.TextRefIdeal.nD Cert.TextRefIdeal.τ).loc Cert.TextRefIdeal.main_arg2)
      ∧ r.2.mem ((c.tc : Thread Cert.TextRefIdeal.nD Cert.TextRefIdeal.τ).loc Cert.TextRefIdeal.main_arg3) = m ((c.tc : Thread Cert.TextRefIdeal.nD Cert.TextRefIdeal.τ).loc Cert.TextRefIdeal.main_arg3)
      ∧ r.2.mem ((c.tc : Thread Cert.TextRefIdeal.nD Cert.TextRefIdeal.τ).loc Cert.TextRefIdeal.main_arg4) = m ((c.tc : Thread Cert.TextRefIdeal.nD Cert.TextRefIdeal.τ).loc Cert.TextRefIdeal.main_arg4)
      ∧ r.2.mem ((c.tc : Thread Cert.TextRefIdeal.nD Cert.TextRefIdeal.τ).loc Cert.TextRefIdeal.main_arg5) = m ((c.tc : Thread Cert.TextRefIdeal.nD Cert.TextRefIdeal.τ).loc Cert.TextRefIdeal.main_arg5)
      ∧ r.2.mem ((c.tc : Thread Cert.TextRefIdeal.nD Cert.TextRefIdeal.τ).loc Cert.TextRefIdeal.main_arg6) = m ((c.tc : Thread Cert.TextRefIdeal.nD Cert.TextRefIdeal.τ).loc Cert.TextRefIdeal.main_arg6)
      ∧ r.2.mem ((c.tc : Thread Cert.TextRefIdeal.nD Cert.TextRefIdeal.τ).loc Cert.TextRefIdeal.main_arg7) = m ((c.tc : Thread Cert.TextRefIdeal.nD Cert.TextRefIdeal.τ).loc Cert.TextRefIdeal.main_arg7)
      ∧ r.2.mem ((c.tc : Thread Cert.TextRefIdeal.nD Cert.TextRefIdeal.τ).loc Cert.TextRefIdeal.main_arg8) = m ((c.tc : Thread Cert.TextRefIdeal.nD Cert.TextRefIdeal.τ).loc Cert.TextRefIdeal.main_arg8)
      ∧ r.2.mem ((c.tc : Thread Cert.TextRefIdeal.nD Cert.TextRefIdeal.τ).loc Cert.TextRefIdeal.main_arg9) = m ((c.tc : Thread Cert.TextRefIdeal.nD Cert.TextRefIdeal.τ).loc Cert.TextRefIdeal.main_arg9)
      ∧ r.2.mem ((c.tc : Thread Cert.TextRefIdeal.nD Cert.TextRefIdeal.τ).loc Cert.TextRefIdeal.main_arg10) = m ((c.tc : Thread Cert.TextRefIdeal.nD Cert.TextRefIdeal.τ).loc Cert.TextRefIdeal.main_arg10))
      ∧ r.2.sem = fun _ => 0)

def quiescent_Gru2 [hGru2 : Cert.Gru2.Facts] : Prop :=
  ∀ (m : (ℓ : Loc Cert.Gru2.nD Cert.Gru2.τ Cert.Gru2.sig) → Buf (Elt Bits) ℓ) (g : Dev Cert.Gru2.nD → PrngReg), Pre_Gru2 m →
    θ_run (Cert.Gru2.defs (F := Bits)) (onTc (τ := Cert.Gru2.τ) (Cert.Gru2.main (F := Bits))) ⟨m, fun _ => 0, g⟩ (fun r => (∀ c : Dev Cert.Gru2.nD,
      r.2.mem ((c.tc : Thread Cert.Gru2.nD Cert.Gru2.τ).loc Cert.Gru2.main_arg0) = m ((c.tc : Thread Cert.Gru2.nD Cert.Gru2.τ).loc Cert.Gru2.main_arg0)
      ∧ r.2.mem ((c.tc : Thread Cert.Gru2.nD Cert.Gru2.τ).loc Cert.Gru2.main_arg1) = m ((c.tc : Thread Cert.Gru2.nD Cert.Gru2.τ).loc Cert.Gru2.main_arg1)
      ∧ r.2.mem ((c.tc : Thread Cert.Gru2.nD Cert.Gru2.τ).loc Cert.Gru2.main_arg2) = m ((c.tc : Thread Cert.Gru2.nD Cert.Gru2.τ).loc Cert.Gru2.main_arg2)
      ∧ r.2.mem ((c.tc : Thread Cert.Gru2.nD Cert.Gru2.τ).loc Cert.Gru2.main_arg3) = m ((c.tc : Thread Cert.Gru2.nD Cert.Gru2.τ).loc Cert.Gru2.main_arg3)
      ∧ r.2.mem ((c.tc : Thread Cert.Gru2.nD Cert.Gru2.τ).loc Cert.Gru2.main_arg4) = m ((c.tc : Thread Cert.Gru2.nD Cert.Gru2.τ).loc Cert.Gru2.main_arg4)
      ∧ r.2.mem ((c.tc : Thread Cert.Gru2.nD Cert.Gru2.τ).loc Cert.Gru2.main_arg5) = m ((c.tc : Thread Cert.Gru2.nD Cert.Gru2.τ).loc Cert.Gru2.main_arg5)
      ∧ r.2.mem ((c.tc : Thread Cert.Gru2.nD Cert.Gru2.τ).loc Cert.Gru2.main_arg6) = m ((c.tc : Thread Cert.Gru2.nD Cert.Gru2.τ).loc Cert.Gru2.main_arg6)
      ∧ r.2.mem ((c.tc : Thread Cert.Gru2.nD Cert.Gru2.τ).loc Cert.Gru2.main_arg7) = m ((c.tc : Thread Cert.Gru2.nD Cert.Gru2.τ).loc Cert.Gru2.main_arg7)
      ∧ r.2.mem ((c.tc : Thread Cert.Gru2.nD Cert.Gru2.τ).loc Cert.Gru2.main_arg8) = m ((c.tc : Thread Cert.Gru2.nD Cert.Gru2.τ).loc Cert.Gru2.main_arg8)
      ∧ r.2.mem ((c.tc : Thread Cert.Gru2.nD Cert.Gru2.τ).loc Cert.Gru2.main_arg9) = m ((c.tc : Thread Cert.Gru2.nD Cert.Gru2.τ).loc Cert.Gru2.main_arg9)
      ∧ r.2.mem ((c.tc : Thread Cert.Gru2.nD Cert.Gru2.τ).loc Cert.Gru2.main_arg10) = m ((c.tc : Thread Cert.Gru2.nD Cert.Gru2.τ).loc Cert.Gru2.main_arg10)
      ∧ r.2.mem ((c.tc : Thread Cert.Gru2.nD Cert.Gru2.τ).loc Cert.Gru2.main_arg11) = m ((c.tc : Thread Cert.Gru2.nD Cert.Gru2.τ).loc Cert.Gru2.main_arg11)
      ∧ r.2.mem ((c.tc : Thread Cert.Gru2.nD Cert.Gru2.τ).loc Cert.Gru2.main_arg12) = m ((c.tc : Thread Cert.Gru2.nD Cert.Gru2.τ).loc Cert.Gru2.main_arg12))
      ∧ r.2.sem = fun _ => 0)

def quiescent_Gru2Ideal [hGru2Ideal : Cert.Gru2Ideal.Facts] : Prop :=
  ∀ (m : (ℓ : Loc Cert.Gru2Ideal.nD Cert.Gru2Ideal.τ Cert.Gru2Ideal.sig) → Buf (Elt Ideal) ℓ) (g : Dev Cert.Gru2Ideal.nD → PrngReg), Pre_Gru2Ideal m →
    θ_run (Cert.Gru2Ideal.defs (F := Ideal)) (onTc (τ := Cert.Gru2Ideal.τ) (Cert.Gru2Ideal.main (F := Ideal))) ⟨m, fun _ => 0, g⟩ (fun r => (∀ c : Dev Cert.Gru2Ideal.nD,
      r.2.mem ((c.tc : Thread Cert.Gru2Ideal.nD Cert.Gru2Ideal.τ).loc Cert.Gru2Ideal.main_arg0) = m ((c.tc : Thread Cert.Gru2Ideal.nD Cert.Gru2Ideal.τ).loc Cert.Gru2Ideal.main_arg0)
      ∧ r.2.mem ((c.tc : Thread Cert.Gru2Ideal.nD Cert.Gru2Ideal.τ).loc Cert.Gru2Ideal.main_arg1) = m ((c.tc : Thread Cert.Gru2Ideal.nD Cert.Gru2Ideal.τ).loc Cert.Gru2Ideal.main_arg1)
      ∧ r.2.mem ((c.tc : Thread Cert.Gru2Ideal.nD Cert.Gru2Ideal.τ).loc Cert.Gru2Ideal.main_arg2) = m ((c.tc : Thread Cert.Gru2Ideal.nD Cert.Gru2Ideal.τ).loc Cert.Gru2Ideal.main_arg2)
      ∧ r.2.mem ((c.tc : Thread Cert.Gru2Ideal.nD Cert.Gru2Ideal.τ).loc Cert.Gru2Ideal.main_arg3) = m ((c.tc : Thread Cert.Gru2Ideal.nD Cert.Gru2Ideal.τ).loc Cert.Gru2Ideal.main_arg3)
      ∧ r.2.mem ((c.tc : Thread Cert.Gru2Ideal.nD Cert.Gru2Ideal.τ).loc Cert.Gru2Ideal.main_arg4) = m ((c.tc : Thread Cert.Gru2Ideal.nD Cert.Gru2Ideal.τ).loc Cert.Gru2Ideal.main_arg4)
      ∧ r.2.mem ((c.tc : Thread Cert.Gru2Ideal.nD Cert.Gru2Ideal.τ).loc Cert.Gru2Ideal.main_arg5) = m ((c.tc : Thread Cert.Gru2Ideal.nD Cert.Gru2Ideal.τ).loc Cert.Gru2Ideal.main_arg5)
      ∧ r.2.mem ((c.tc : Thread Cert.Gru2Ideal.nD Cert.Gru2Ideal.τ).loc Cert.Gru2Ideal.main_arg6) = m ((c.tc : Thread Cert.Gru2Ideal.nD Cert.Gru2Ideal.τ).loc Cert.Gru2Ideal.main_arg6)
      ∧ r.2.mem ((c.tc : Thread Cert.Gru2Ideal.nD Cert.Gru2Ideal.τ).loc Cert.Gru2Ideal.main_arg7) = m ((c.tc : Thread Cert.Gru2Ideal.nD Cert.Gru2Ideal.τ).loc Cert.Gru2Ideal.main_arg7)
      ∧ r.2.mem ((c.tc : Thread Cert.Gru2Ideal.nD Cert.Gru2Ideal.τ).loc Cert.Gru2Ideal.main_arg8) = m ((c.tc : Thread Cert.Gru2Ideal.nD Cert.Gru2Ideal.τ).loc Cert.Gru2Ideal.main_arg8)
      ∧ r.2.mem ((c.tc : Thread Cert.Gru2Ideal.nD Cert.Gru2Ideal.τ).loc Cert.Gru2Ideal.main_arg9) = m ((c.tc : Thread Cert.Gru2Ideal.nD Cert.Gru2Ideal.τ).loc Cert.Gru2Ideal.main_arg9)
      ∧ r.2.mem ((c.tc : Thread Cert.Gru2Ideal.nD Cert.Gru2Ideal.τ).loc Cert.Gru2Ideal.main_arg10) = m ((c.tc : Thread Cert.Gru2Ideal.nD Cert.Gru2Ideal.τ).loc Cert.Gru2Ideal.main_arg10)
      ∧ r.2.mem ((c.tc : Thread Cert.Gru2Ideal.nD Cert.Gru2Ideal.τ).loc Cert.Gru2Ideal.main_arg11) = m ((c.tc : Thread Cert.Gru2Ideal.nD Cert.Gru2Ideal.τ).loc Cert.Gru2Ideal.main_arg11)
      ∧ r.2.mem ((c.tc : Thread Cert.Gru2Ideal.nD Cert.Gru2Ideal.τ).loc Cert.Gru2Ideal.main_arg12) = m ((c.tc : Thread Cert.Gru2Ideal.nD Cert.Gru2Ideal.τ).loc Cert.Gru2Ideal.main_arg12))
      ∧ r.2.sem = fun _ => 0)

def quiescent_Gru2Ideal_pre_contrast_finite [hGru2Ideal : Cert.Gru2Ideal.Facts] [hPre_contrast_finite : Cert.Pre_contrast_finite.Facts] : Prop :=
  ∀ (m : (ℓ : Loc Cert.Gru2Ideal.nD Cert.Gru2Ideal.τ Cert.Gru2Ideal.sig) → Buf (Elt Ideal) ℓ) (g : Dev Cert.Gru2Ideal.nD → PrngReg), Pre_Gru2Ideal_contrast_finite m →
    θ_run (Cert.Gru2Ideal.defs (F := Ideal)) (onTc (τ := Cert.Gru2Ideal.τ) (Cert.Gru2Ideal.main (F := Ideal))) ⟨m, fun _ => 0, g⟩ (fun r => (∀ c : Dev Cert.Gru2Ideal.nD,
      r.2.mem ((c.tc : Thread Cert.Gru2Ideal.nD Cert.Gru2Ideal.τ).loc Cert.Gru2Ideal.main_arg0) = m ((c.tc : Thread Cert.Gru2Ideal.nD Cert.Gru2Ideal.τ).loc Cert.Gru2Ideal.main_arg0)
      ∧ r.2.mem ((c.tc : Thread Cert.Gru2Ideal.nD Cert.Gru2Ideal.τ).loc Cert.Gru2Ideal.main_arg1) = m ((c.tc : Thread Cert.Gru2Ideal.nD Cert.Gru2Ideal.τ).loc Cert.Gru2Ideal.main_arg1)
      ∧ r.2.mem ((c.tc : Thread Cert.Gru2Ideal.nD Cert.Gru2Ideal.τ).loc Cert.Gru2Ideal.main_arg2) = m ((c.tc : Thread Cert.Gru2Ideal.nD Cert.Gru2Ideal.τ).loc Cert.Gru2Ideal.main_arg2)
      ∧ r.2.mem ((c.tc : Thread Cert.Gru2Ideal.nD Cert.Gru2Ideal.τ).loc Cert.Gru2Ideal.main_arg3) = m ((c.tc : Thread Cert.Gru2Ideal.nD Cert.Gru2Ideal.τ).loc Cert.Gru2Ideal.main_arg3)
      ∧ r.2.mem ((c.tc : Thread Cert.Gru2Ideal.nD Cert.Gru2Ideal.τ).loc Cert.Gru2Ideal.main_arg4) = m ((c.tc : Thread Cert.Gru2Ideal.nD Cert.Gru2Ideal.τ).loc Cert.Gru2Ideal.main_arg4)
      ∧ r.2.mem ((c.tc : Thread Cert.Gru2Ideal.nD Cert.Gru2Ideal.τ).loc Cert.Gru2Ideal.main_arg5) = m ((c.tc : Thread Cert.Gru2Ideal.nD Cert.Gru2Ideal.τ).loc Cert.Gru2Ideal.main_arg5)
      ∧ r.2.mem ((c.tc : Thread Cert.Gru2Ideal.nD Cert.Gru2Ideal.τ).loc Cert.Gru2Ideal.main_arg6) = m ((c.tc : Thread Cert.Gru2Ideal.nD Cert.Gru2Ideal.τ).loc Cert.Gru2Ideal.main_arg6)
      ∧ r.2.mem ((c.tc : Thread Cert.Gru2Ideal.nD Cert.Gru2Ideal.τ).loc Cert.Gru2Ideal.main_arg7) = m ((c.tc : Thread Cert.Gru2Ideal.nD Cert.Gru2Ideal.τ).loc Cert.Gru2Ideal.main_arg7)
      ∧ r.2.mem ((c.tc : Thread Cert.Gru2Ideal.nD Cert.Gru2Ideal.τ).loc Cert.Gru2Ideal.main_arg8) = m ((c.tc : Thread Cert.Gru2Ideal.nD Cert.Gru2Ideal.τ).loc Cert.Gru2Ideal.main_arg8)
      ∧ r.2.mem ((c.tc : Thread Cert.Gru2Ideal.nD Cert.Gru2Ideal.τ).loc Cert.Gru2Ideal.main_arg9) = m ((c.tc : Thread Cert.Gru2Ideal.nD Cert.Gru2Ideal.τ).loc Cert.Gru2Ideal.main_arg9)
      ∧ r.2.mem ((c.tc : Thread Cert.Gru2Ideal.nD Cert.Gru2Ideal.τ).loc Cert.Gru2Ideal.main_arg10) = m ((c.tc : Thread Cert.Gru2Ideal.nD Cert.Gru2Ideal.τ).loc Cert.Gru2Ideal.main_arg10)
      ∧ r.2.mem ((c.tc : Thread Cert.Gru2Ideal.nD Cert.Gru2Ideal.τ).loc Cert.Gru2Ideal.main_arg11) = m ((c.tc : Thread Cert.Gru2Ideal.nD Cert.Gru2Ideal.τ).loc Cert.Gru2Ideal.main_arg11)
      ∧ r.2.mem ((c.tc : Thread Cert.Gru2Ideal.nD Cert.Gru2Ideal.τ).loc Cert.Gru2Ideal.main_arg12) = m ((c.tc : Thread Cert.Gru2Ideal.nD Cert.Gru2Ideal.τ).loc Cert.Gru2Ideal.main_arg12))
      ∧ r.2.sem = fun _ => 0)

def quiescent_ContrastRefIdeal [hContrastRefIdeal : Cert.ContrastRefIdeal.Facts] : Prop :=
  ∀ (m : (ℓ : Loc Cert.ContrastRefIdeal.nD Cert.ContrastRefIdeal.τ Cert.ContrastRefIdeal.sig) → Buf (Elt Ideal) ℓ) (g : Dev Cert.ContrastRefIdeal.nD → PrngReg), Pre_ContrastRefIdeal m →
    θ_run (Cert.ContrastRefIdeal.defs (F := Ideal)) (onTc (τ := Cert.ContrastRefIdeal.τ) (Cert.ContrastRefIdeal.main (F := Ideal))) ⟨m, fun _ => 0, g⟩ (fun r => (∀ c : Dev Cert.ContrastRefIdeal.nD,
      r.2.mem ((c.tc : Thread Cert.ContrastRefIdeal.nD Cert.ContrastRefIdeal.τ).loc Cert.ContrastRefIdeal.main_arg0) = m ((c.tc : Thread Cert.ContrastRefIdeal.nD Cert.ContrastRefIdeal.τ).loc Cert.ContrastRefIdeal.main_arg0)
      ∧ r.2.mem ((c.tc : Thread Cert.ContrastRefIdeal.nD Cert.ContrastRefIdeal.τ).loc Cert.ContrastRefIdeal.main_arg1) = m ((c.tc : Thread Cert.ContrastRefIdeal.nD Cert.ContrastRefIdeal.τ).loc Cert.ContrastRefIdeal.main_arg1)
      ∧ r.2.mem ((c.tc : Thread Cert.ContrastRefIdeal.nD Cert.ContrastRefIdeal.τ).loc Cert.ContrastRefIdeal.main_arg2) = m ((c.tc : Thread Cert.ContrastRefIdeal.nD Cert.ContrastRefIdeal.τ).loc Cert.ContrastRefIdeal.main_arg2)
      ∧ r.2.mem ((c.tc : Thread Cert.ContrastRefIdeal.nD Cert.ContrastRefIdeal.τ).loc Cert.ContrastRefIdeal.main_arg3) = m ((c.tc : Thread Cert.ContrastRefIdeal.nD Cert.ContrastRefIdeal.τ).loc Cert.ContrastRefIdeal.main_arg3)
      ∧ r.2.mem ((c.tc : Thread Cert.ContrastRefIdeal.nD Cert.ContrastRefIdeal.τ).loc Cert.ContrastRefIdeal.main_arg4) = m ((c.tc : Thread Cert.ContrastRefIdeal.nD Cert.ContrastRefIdeal.τ).loc Cert.ContrastRefIdeal.main_arg4)
      ∧ r.2.mem ((c.tc : Thread Cert.ContrastRefIdeal.nD Cert.ContrastRefIdeal.τ).loc Cert.ContrastRefIdeal.main_arg5) = m ((c.tc : Thread Cert.ContrastRefIdeal.nD Cert.ContrastRefIdeal.τ).loc Cert.ContrastRefIdeal.main_arg5)
      ∧ r.2.mem ((c.tc : Thread Cert.ContrastRefIdeal.nD Cert.ContrastRefIdeal.τ).loc Cert.ContrastRefIdeal.main_arg6) = m ((c.tc : Thread Cert.ContrastRefIdeal.nD Cert.ContrastRefIdeal.τ).loc Cert.ContrastRefIdeal.main_arg6)
      ∧ r.2.mem ((c.tc : Thread Cert.ContrastRefIdeal.nD Cert.ContrastRefIdeal.τ).loc Cert.ContrastRefIdeal.main_arg7) = m ((c.tc : Thread Cert.ContrastRefIdeal.nD Cert.ContrastRefIdeal.τ).loc Cert.ContrastRefIdeal.main_arg7)
      ∧ r.2.mem ((c.tc : Thread Cert.ContrastRefIdeal.nD Cert.ContrastRefIdeal.τ).loc Cert.ContrastRefIdeal.main_arg8) = m ((c.tc : Thread Cert.ContrastRefIdeal.nD Cert.ContrastRefIdeal.τ).loc Cert.ContrastRefIdeal.main_arg8)
      ∧ r.2.mem ((c.tc : Thread Cert.ContrastRefIdeal.nD Cert.ContrastRefIdeal.τ).loc Cert.ContrastRefIdeal.main_arg9) = m ((c.tc : Thread Cert.ContrastRefIdeal.nD Cert.ContrastRefIdeal.τ).loc Cert.ContrastRefIdeal.main_arg9)
      ∧ r.2.mem ((c.tc : Thread Cert.ContrastRefIdeal.nD Cert.ContrastRefIdeal.τ).loc Cert.ContrastRefIdeal.main_arg10) = m ((c.tc : Thread Cert.ContrastRefIdeal.nD Cert.ContrastRefIdeal.τ).loc Cert.ContrastRefIdeal.main_arg10)
      ∧ r.2.mem ((c.tc : Thread Cert.ContrastRefIdeal.nD Cert.ContrastRefIdeal.τ).loc Cert.ContrastRefIdeal.main_arg11) = m ((c.tc : Thread Cert.ContrastRefIdeal.nD Cert.ContrastRefIdeal.τ).loc Cert.ContrastRefIdeal.main_arg11)
      ∧ r.2.mem ((c.tc : Thread Cert.ContrastRefIdeal.nD Cert.ContrastRefIdeal.τ).loc Cert.ContrastRefIdeal.main_arg12) = m ((c.tc : Thread Cert.ContrastRefIdeal.nD Cert.ContrastRefIdeal.τ).loc Cert.ContrastRefIdeal.main_arg12))
      ∧ r.2.sem = fun _ => 0)

def quiescent_ContrastRefIdeal_pre_contrast_finite [hContrastRefIdeal : Cert.ContrastRefIdeal.Facts] [hPre_contrast_finite : Cert.Pre_contrast_finite.Facts] : Prop :=
  ∀ (m : (ℓ : Loc Cert.ContrastRefIdeal.nD Cert.ContrastRefIdeal.τ Cert.ContrastRefIdeal.sig) → Buf (Elt Ideal) ℓ) (g : Dev Cert.ContrastRefIdeal.nD → PrngReg), Pre_ContrastRefIdeal_contrast_finite m →
    θ_run (Cert.ContrastRefIdeal.defs (F := Ideal)) (onTc (τ := Cert.ContrastRefIdeal.τ) (Cert.ContrastRefIdeal.main (F := Ideal))) ⟨m, fun _ => 0, g⟩ (fun r => (∀ c : Dev Cert.ContrastRefIdeal.nD,
      r.2.mem ((c.tc : Thread Cert.ContrastRefIdeal.nD Cert.ContrastRefIdeal.τ).loc Cert.ContrastRefIdeal.main_arg0) = m ((c.tc : Thread Cert.ContrastRefIdeal.nD Cert.ContrastRefIdeal.τ).loc Cert.ContrastRefIdeal.main_arg0)
      ∧ r.2.mem ((c.tc : Thread Cert.ContrastRefIdeal.nD Cert.ContrastRefIdeal.τ).loc Cert.ContrastRefIdeal.main_arg1) = m ((c.tc : Thread Cert.ContrastRefIdeal.nD Cert.ContrastRefIdeal.τ).loc Cert.ContrastRefIdeal.main_arg1)
      ∧ r.2.mem ((c.tc : Thread Cert.ContrastRefIdeal.nD Cert.ContrastRefIdeal.τ).loc Cert.ContrastRefIdeal.main_arg2) = m ((c.tc : Thread Cert.ContrastRefIdeal.nD Cert.ContrastRefIdeal.τ).loc Cert.ContrastRefIdeal.main_arg2)
      ∧ r.2.mem ((c.tc : Thread Cert.ContrastRefIdeal.nD Cert.ContrastRefIdeal.τ).loc Cert.ContrastRefIdeal.main_arg3) = m ((c.tc : Thread Cert.ContrastRefIdeal.nD Cert.ContrastRefIdeal.τ).loc Cert.ContrastRefIdeal.main_arg3)
      ∧ r.2.mem ((c.tc : Thread Cert.ContrastRefIdeal.nD Cert.ContrastRefIdeal.τ).loc Cert.ContrastRefIdeal.main_arg4) = m ((c.tc : Thread Cert.ContrastRefIdeal.nD Cert.ContrastRefIdeal.τ).loc Cert.ContrastRefIdeal.main_arg4)
      ∧ r.2.mem ((c.tc : Thread Cert.ContrastRefIdeal.nD Cert.ContrastRefIdeal.τ).loc Cert.ContrastRefIdeal.main_arg5) = m ((c.tc : Thread Cert.ContrastRefIdeal.nD Cert.ContrastRefIdeal.τ).loc Cert.ContrastRefIdeal.main_arg5)
      ∧ r.2.mem ((c.tc : Thread Cert.ContrastRefIdeal.nD Cert.ContrastRefIdeal.τ).loc Cert.ContrastRefIdeal.main_arg6) = m ((c.tc : Thread Cert.ContrastRefIdeal.nD Cert.ContrastRefIdeal.τ).loc Cert.ContrastRefIdeal.main_arg6)
      ∧ r.2.mem ((c.tc : Thread Cert.ContrastRefIdeal.nD Cert.ContrastRefIdeal.τ).loc Cert.ContrastRefIdeal.main_arg7) = m ((c.tc : Thread Cert.ContrastRefIdeal.nD Cert.ContrastRefIdeal.τ).loc Cert.ContrastRefIdeal.main_arg7)
      ∧ r.2.mem ((c.tc : Thread Cert.ContrastRefIdeal.nD Cert.ContrastRefIdeal.τ).loc Cert.ContrastRefIdeal.main_arg8) = m ((c.tc : Thread Cert.ContrastRefIdeal.nD Cert.ContrastRefIdeal.τ).loc Cert.ContrastRefIdeal.main_arg8)
      ∧ r.2.mem ((c.tc : Thread Cert.ContrastRefIdeal.nD Cert.ContrastRefIdeal.τ).loc Cert.ContrastRefIdeal.main_arg9) = m ((c.tc : Thread Cert.ContrastRefIdeal.nD Cert.ContrastRefIdeal.τ).loc Cert.ContrastRefIdeal.main_arg9)
      ∧ r.2.mem ((c.tc : Thread Cert.ContrastRefIdeal.nD Cert.ContrastRefIdeal.τ).loc Cert.ContrastRefIdeal.main_arg10) = m ((c.tc : Thread Cert.ContrastRefIdeal.nD Cert.ContrastRefIdeal.τ).loc Cert.ContrastRefIdeal.main_arg10)
      ∧ r.2.mem ((c.tc : Thread Cert.ContrastRefIdeal.nD Cert.ContrastRefIdeal.τ).loc Cert.ContrastRefIdeal.main_arg11) = m ((c.tc : Thread Cert.ContrastRefIdeal.nD Cert.ContrastRefIdeal.τ).loc Cert.ContrastRefIdeal.main_arg11)
      ∧ r.2.mem ((c.tc : Thread Cert.ContrastRefIdeal.nD Cert.ContrastRefIdeal.τ).loc Cert.ContrastRefIdeal.main_arg12) = m ((c.tc : Thread Cert.ContrastRefIdeal.nD Cert.ContrastRefIdeal.τ).loc Cert.ContrastRefIdeal.main_arg12))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8)
      ∧ r.2.mem ((c.tc : Thread Cert.Attn.nD Cert.Attn.τ).loc Cert.Attn.main_arg9) = m ((c.tc : Thread Cert.Attn.nD Cert.Attn.τ).loc Cert.Attn.main_arg9)
      ∧ r.2.mem ((c.tc : Thread Cert.Attn.nD Cert.Attn.τ).loc Cert.Attn.main_arg10) = m ((c.tc : Thread Cert.Attn.nD Cert.Attn.τ).loc Cert.Attn.main_arg10)
      ∧ r.2.mem ((c.tc : Thread Cert.Attn.nD Cert.Attn.τ).loc Cert.Attn.main_arg11) = m ((c.tc : Thread Cert.Attn.nD Cert.Attn.τ).loc Cert.Attn.main_arg11)
      ∧ r.2.mem ((c.tc : Thread Cert.Attn.nD Cert.Attn.τ).loc Cert.Attn.main_arg12) = m ((c.tc : Thread Cert.Attn.nD Cert.Attn.τ).loc Cert.Attn.main_arg12))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
      ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10)
      ∧ r.2.mem ((c.tc : Thread Cert.AttnIdeal.nD Cert.AttnIdeal.τ).loc Cert.AttnIdeal.main_arg11) = m ((c.tc : Thread Cert.AttnIdeal.nD Cert.AttnIdeal.τ).loc Cert.AttnIdeal.main_arg11)
      ∧ r.2.mem ((c.tc : Thread Cert.AttnIdeal.nD Cert.AttnIdeal.τ).loc Cert.AttnIdeal.main_arg12) = m ((c.tc : Thread Cert.AttnIdeal.nD Cert.AttnIdeal.τ).loc Cert.AttnIdeal.main_arg12))
      ∧ r.2.sem = fun _ => 0)

def quiescent_AttnIdeal_pre_loss_inputs [hAttnIdeal : Cert.AttnIdeal.Facts] [hPre_loss_inputs : Cert.Pre_loss_inputs.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_loss_inputs m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
      ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10)
      ∧ r.2.mem ((c.tc : Thread Cert.AttnIdeal.nD Cert.AttnIdeal.τ).loc Cert.AttnIdeal.main_arg11) = m ((c.tc : Thread Cert.AttnIdeal.nD Cert.AttnIdeal.τ).loc Cert.AttnIdeal.main_arg11)
      ∧ r.2.mem ((c.tc : Thread Cert.AttnIdeal.nD Cert.AttnIdeal.τ).loc Cert.AttnIdeal.main_arg12) = m ((c.tc : Thread Cert.AttnIdeal.nD Cert.AttnIdeal.τ).loc Cert.AttnIdeal.main_arg12))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7)
      ∧ r.2.mem ((c.tc : Thread Cert.LossRefIdeal.nD Cert.LossRefIdeal.τ).loc Cert.LossRefIdeal.main_arg8) = m ((c.tc : Thread Cert.LossRefIdeal.nD Cert.LossRefIdeal.τ).loc Cert.LossRefIdeal.main_arg8)
      ∧ r.2.mem ((c.tc : Thread Cert.LossRefIdeal.nD Cert.LossRefIdeal.τ).loc Cert.LossRefIdeal.main_arg9) = m ((c.tc : Thread Cert.LossRefIdeal.nD Cert.LossRefIdeal.τ).loc Cert.LossRefIdeal.main_arg9)
      ∧ r.2.mem ((c.tc : Thread Cert.LossRefIdeal.nD Cert.LossRefIdeal.τ).loc Cert.LossRefIdeal.main_arg10) = m ((c.tc : Thread Cert.LossRefIdeal.nD Cert.LossRefIdeal.τ).loc Cert.LossRefIdeal.main_arg10)
      ∧ r.2.mem ((c.tc : Thread Cert.LossRefIdeal.nD Cert.LossRefIdeal.τ).loc Cert.LossRefIdeal.main_arg11) = m ((c.tc : Thread Cert.LossRefIdeal.nD Cert.LossRefIdeal.τ).loc Cert.LossRefIdeal.main_arg11)
      ∧ r.2.mem ((c.tc : Thread Cert.LossRefIdeal.nD Cert.LossRefIdeal.τ).loc Cert.LossRefIdeal.main_arg12) = m ((c.tc : Thread Cert.LossRefIdeal.nD Cert.LossRefIdeal.τ).loc Cert.LossRefIdeal.main_arg12))
      ∧ r.2.sem = fun _ => 0)

def quiescent_LossRefIdeal_pre_loss_inputs [hLossRefIdeal : Cert.LossRefIdeal.Facts] [hPre_loss_inputs : Cert.Pre_loss_inputs.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_inputs m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7)
      ∧ r.2.mem ((c.tc : Thread Cert.LossRefIdeal.nD Cert.LossRefIdeal.τ).loc Cert.LossRefIdeal.main_arg8) = m ((c.tc : Thread Cert.LossRefIdeal.nD Cert.LossRefIdeal.τ).loc Cert.LossRefIdeal.main_arg8)
      ∧ r.2.mem ((c.tc : Thread Cert.LossRefIdeal.nD Cert.LossRefIdeal.τ).loc Cert.LossRefIdeal.main_arg9) = m ((c.tc : Thread Cert.LossRefIdeal.nD Cert.LossRefIdeal.τ).loc Cert.LossRefIdeal.main_arg9)
      ∧ r.2.mem ((c.tc : Thread Cert.LossRefIdeal.nD Cert.LossRefIdeal.τ).loc Cert.LossRefIdeal.main_arg10) = m ((c.tc : Thread Cert.LossRefIdeal.nD Cert.LossRefIdeal.τ).loc Cert.LossRefIdeal.main_arg10)
      ∧ r.2.mem ((c.tc : Thread Cert.LossRefIdeal.nD Cert.LossRefIdeal.τ).loc Cert.LossRefIdeal.main_arg11) = m ((c.tc : Thread Cert.LossRefIdeal.nD Cert.LossRefIdeal.τ).loc Cert.LossRefIdeal.main_arg11)
      ∧ r.2.mem ((c.tc : Thread Cert.LossRefIdeal.nD Cert.LossRefIdeal.τ).loc Cert.LossRefIdeal.main_arg12) = m ((c.tc : Thread Cert.LossRefIdeal.nD Cert.LossRefIdeal.τ).loc Cert.LossRefIdeal.main_arg12))
      ∧ r.2.sem = fun _ => 0)

def quiescent_Img [hImg : Cert.Img.Facts] : Prop :=
  ∀ (m : (ℓ : Loc Cert.Img.nD Cert.Img.τ Cert.Img.sig) → Buf (Elt Bits) ℓ) (g : Dev Cert.Img.nD → PrngReg), Pre_Img m →
    θ_run (Cert.Img.defs (F := Bits)) (onTc (τ := Cert.Img.τ) (Cert.Img.main (F := Bits))) ⟨m, fun _ => 0, g⟩ (fun r => (∀ c : Dev Cert.Img.nD,
      r.2.mem ((c.tc : Thread Cert.Img.nD Cert.Img.τ).loc Cert.Img.main_arg0) = m ((c.tc : Thread Cert.Img.nD Cert.Img.τ).loc Cert.Img.main_arg0)
      ∧ r.2.mem ((c.tc : Thread Cert.Img.nD Cert.Img.τ).loc Cert.Img.main_arg1) = m ((c.tc : Thread Cert.Img.nD Cert.Img.τ).loc Cert.Img.main_arg1)
      ∧ r.2.mem ((c.tc : Thread Cert.Img.nD Cert.Img.τ).loc Cert.Img.main_arg2) = m ((c.tc : Thread Cert.Img.nD Cert.Img.τ).loc Cert.Img.main_arg2)
      ∧ r.2.mem ((c.tc : Thread Cert.Img.nD Cert.Img.τ).loc Cert.Img.main_arg3) = m ((c.tc : Thread Cert.Img.nD Cert.Img.τ).loc Cert.Img.main_arg3)
      ∧ r.2.mem ((c.tc : Thread Cert.Img.nD Cert.Img.τ).loc Cert.Img.main_arg4) = m ((c.tc : Thread Cert.Img.nD Cert.Img.τ).loc Cert.Img.main_arg4)
      ∧ r.2.mem ((c.tc : Thread Cert.Img.nD Cert.Img.τ).loc Cert.Img.main_arg5) = m ((c.tc : Thread Cert.Img.nD Cert.Img.τ).loc Cert.Img.main_arg5)
      ∧ r.2.mem ((c.tc : Thread Cert.Img.nD Cert.Img.τ).loc Cert.Img.main_arg6) = m ((c.tc : Thread Cert.Img.nD Cert.Img.τ).loc Cert.Img.main_arg6)
      ∧ r.2.mem ((c.tc : Thread Cert.Img.nD Cert.Img.τ).loc Cert.Img.main_arg7) = m ((c.tc : Thread Cert.Img.nD Cert.Img.τ).loc Cert.Img.main_arg7)
      ∧ r.2.mem ((c.tc : Thread Cert.Img.nD Cert.Img.τ).loc Cert.Img.main_arg8) = m ((c.tc : Thread Cert.Img.nD Cert.Img.τ).loc Cert.Img.main_arg8))
      ∧ r.2.sem = fun _ => 0)

def quiescent_ImgIdeal [hImgIdeal : Cert.ImgIdeal.Facts] : Prop :=
  ∀ (m : (ℓ : Loc Cert.ImgIdeal.nD Cert.ImgIdeal.τ Cert.ImgIdeal.sig) → Buf (Elt Ideal) ℓ) (g : Dev Cert.ImgIdeal.nD → PrngReg), Pre_ImgIdeal m →
    θ_run (Cert.ImgIdeal.defs (F := Ideal)) (onTc (τ := Cert.ImgIdeal.τ) (Cert.ImgIdeal.main (F := Ideal))) ⟨m, fun _ => 0, g⟩ (fun r => (∀ c : Dev Cert.ImgIdeal.nD,
      r.2.mem ((c.tc : Thread Cert.ImgIdeal.nD Cert.ImgIdeal.τ).loc Cert.ImgIdeal.main_arg0) = m ((c.tc : Thread Cert.ImgIdeal.nD Cert.ImgIdeal.τ).loc Cert.ImgIdeal.main_arg0)
      ∧ r.2.mem ((c.tc : Thread Cert.ImgIdeal.nD Cert.ImgIdeal.τ).loc Cert.ImgIdeal.main_arg1) = m ((c.tc : Thread Cert.ImgIdeal.nD Cert.ImgIdeal.τ).loc Cert.ImgIdeal.main_arg1)
      ∧ r.2.mem ((c.tc : Thread Cert.ImgIdeal.nD Cert.ImgIdeal.τ).loc Cert.ImgIdeal.main_arg2) = m ((c.tc : Thread Cert.ImgIdeal.nD Cert.ImgIdeal.τ).loc Cert.ImgIdeal.main_arg2)
      ∧ r.2.mem ((c.tc : Thread Cert.ImgIdeal.nD Cert.ImgIdeal.τ).loc Cert.ImgIdeal.main_arg3) = m ((c.tc : Thread Cert.ImgIdeal.nD Cert.ImgIdeal.τ).loc Cert.ImgIdeal.main_arg3)
      ∧ r.2.mem ((c.tc : Thread Cert.ImgIdeal.nD Cert.ImgIdeal.τ).loc Cert.ImgIdeal.main_arg4) = m ((c.tc : Thread Cert.ImgIdeal.nD Cert.ImgIdeal.τ).loc Cert.ImgIdeal.main_arg4)
      ∧ r.2.mem ((c.tc : Thread Cert.ImgIdeal.nD Cert.ImgIdeal.τ).loc Cert.ImgIdeal.main_arg5) = m ((c.tc : Thread Cert.ImgIdeal.nD Cert.ImgIdeal.τ).loc Cert.ImgIdeal.main_arg5)
      ∧ r.2.mem ((c.tc : Thread Cert.ImgIdeal.nD Cert.ImgIdeal.τ).loc Cert.ImgIdeal.main_arg6) = m ((c.tc : Thread Cert.ImgIdeal.nD Cert.ImgIdeal.τ).loc Cert.ImgIdeal.main_arg6)
      ∧ r.2.mem ((c.tc : Thread Cert.ImgIdeal.nD Cert.ImgIdeal.τ).loc Cert.ImgIdeal.main_arg7) = m ((c.tc : Thread Cert.ImgIdeal.nD Cert.ImgIdeal.τ).loc Cert.ImgIdeal.main_arg7)
      ∧ r.2.mem ((c.tc : Thread Cert.ImgIdeal.nD Cert.ImgIdeal.τ).loc Cert.ImgIdeal.main_arg8) = m ((c.tc : Thread Cert.ImgIdeal.nD Cert.ImgIdeal.τ).loc Cert.ImgIdeal.main_arg8))
      ∧ r.2.sem = fun _ => 0)

def quiescent_ImgIdeal_pre_img_bn_finite [hImgIdeal : Cert.ImgIdeal.Facts] [hPre_img_bn_finite : Cert.Pre_img_bn_finite.Facts] : Prop :=
  ∀ (m : (ℓ : Loc Cert.ImgIdeal.nD Cert.ImgIdeal.τ Cert.ImgIdeal.sig) → Buf (Elt Ideal) ℓ) (g : Dev Cert.ImgIdeal.nD → PrngReg), Pre_ImgIdeal_img_bn_finite m →
    θ_run (Cert.ImgIdeal.defs (F := Ideal)) (onTc (τ := Cert.ImgIdeal.τ) (Cert.ImgIdeal.main (F := Ideal))) ⟨m, fun _ => 0, g⟩ (fun r => (∀ c : Dev Cert.ImgIdeal.nD,
      r.2.mem ((c.tc : Thread Cert.ImgIdeal.nD Cert.ImgIdeal.τ).loc Cert.ImgIdeal.main_arg0) = m ((c.tc : Thread Cert.ImgIdeal.nD Cert.ImgIdeal.τ).loc Cert.ImgIdeal.main_arg0)
      ∧ r.2.mem ((c.tc : Thread Cert.ImgIdeal.nD Cert.ImgIdeal.τ).loc Cert.ImgIdeal.main_arg1) = m ((c.tc : Thread Cert.ImgIdeal.nD Cert.ImgIdeal.τ).loc Cert.ImgIdeal.main_arg1)
      ∧ r.2.mem ((c.tc : Thread Cert.ImgIdeal.nD Cert.ImgIdeal.τ).loc Cert.ImgIdeal.main_arg2) = m ((c.tc : Thread Cert.ImgIdeal.nD Cert.ImgIdeal.τ).loc Cert.ImgIdeal.main_arg2)
      ∧ r.2.mem ((c.tc : Thread Cert.ImgIdeal.nD Cert.ImgIdeal.τ).loc Cert.ImgIdeal.main_arg3) = m ((c.tc : Thread Cert.ImgIdeal.nD Cert.ImgIdeal.τ).loc Cert.ImgIdeal.main_arg3)
      ∧ r.2.mem ((c.tc : Thread Cert.ImgIdeal.nD Cert.ImgIdeal.τ).loc Cert.ImgIdeal.main_arg4) = m ((c.tc : Thread Cert.ImgIdeal.nD Cert.ImgIdeal.τ).loc Cert.ImgIdeal.main_arg4)
      ∧ r.2.mem ((c.tc : Thread Cert.ImgIdeal.nD Cert.ImgIdeal.τ).loc Cert.ImgIdeal.main_arg5) = m ((c.tc : Thread Cert.ImgIdeal.nD Cert.ImgIdeal.τ).loc Cert.ImgIdeal.main_arg5)
      ∧ r.2.mem ((c.tc : Thread Cert.ImgIdeal.nD Cert.ImgIdeal.τ).loc Cert.ImgIdeal.main_arg6) = m ((c.tc : Thread Cert.ImgIdeal.nD Cert.ImgIdeal.τ).loc Cert.ImgIdeal.main_arg6)
      ∧ r.2.mem ((c.tc : Thread Cert.ImgIdeal.nD Cert.ImgIdeal.τ).loc Cert.ImgIdeal.main_arg7) = m ((c.tc : Thread Cert.ImgIdeal.nD Cert.ImgIdeal.τ).loc Cert.ImgIdeal.main_arg7)
      ∧ r.2.mem ((c.tc : Thread Cert.ImgIdeal.nD Cert.ImgIdeal.τ).loc Cert.ImgIdeal.main_arg8) = m ((c.tc : Thread Cert.ImgIdeal.nD Cert.ImgIdeal.τ).loc Cert.ImgIdeal.main_arg8))
      ∧ r.2.sem = fun _ => 0)

def quiescent_ImgRefIdeal [hImgRefIdeal : Cert.ImgRefIdeal.Facts] : Prop :=
  ∀ (m : (ℓ : Loc Cert.ImgRefIdeal.nD Cert.ImgRefIdeal.τ Cert.ImgRefIdeal.sig) → Buf (Elt Ideal) ℓ) (g : Dev Cert.ImgRefIdeal.nD → PrngReg), Pre_ImgRefIdeal m →
    θ_run (Cert.ImgRefIdeal.defs (F := Ideal)) (onTc (τ := Cert.ImgRefIdeal.τ) (Cert.ImgRefIdeal.main (F := Ideal))) ⟨m, fun _ => 0, g⟩ (fun r => (∀ c : Dev Cert.ImgRefIdeal.nD,
      r.2.mem ((c.tc : Thread Cert.ImgRefIdeal.nD Cert.ImgRefIdeal.τ).loc Cert.ImgRefIdeal.main_arg0) = m ((c.tc : Thread Cert.ImgRefIdeal.nD Cert.ImgRefIdeal.τ).loc Cert.ImgRefIdeal.main_arg0)
      ∧ r.2.mem ((c.tc : Thread Cert.ImgRefIdeal.nD Cert.ImgRefIdeal.τ).loc Cert.ImgRefIdeal.main_arg1) = m ((c.tc : Thread Cert.ImgRefIdeal.nD Cert.ImgRefIdeal.τ).loc Cert.ImgRefIdeal.main_arg1)
      ∧ r.2.mem ((c.tc : Thread Cert.ImgRefIdeal.nD Cert.ImgRefIdeal.τ).loc Cert.ImgRefIdeal.main_arg2) = m ((c.tc : Thread Cert.ImgRefIdeal.nD Cert.ImgRefIdeal.τ).loc Cert.ImgRefIdeal.main_arg2)
      ∧ r.2.mem ((c.tc : Thread Cert.ImgRefIdeal.nD Cert.ImgRefIdeal.τ).loc Cert.ImgRefIdeal.main_arg3) = m ((c.tc : Thread Cert.ImgRefIdeal.nD Cert.ImgRefIdeal.τ).loc Cert.ImgRefIdeal.main_arg3)
      ∧ r.2.mem ((c.tc : Thread Cert.ImgRefIdeal.nD Cert.ImgRefIdeal.τ).loc Cert.ImgRefIdeal.main_arg4) = m ((c.tc : Thread Cert.ImgRefIdeal.nD Cert.ImgRefIdeal.τ).loc Cert.ImgRefIdeal.main_arg4)
      ∧ r.2.mem ((c.tc : Thread Cert.ImgRefIdeal.nD Cert.ImgRefIdeal.τ).loc Cert.ImgRefIdeal.main_arg5) = m ((c.tc : Thread Cert.ImgRefIdeal.nD Cert.ImgRefIdeal.τ).loc Cert.ImgRefIdeal.main_arg5)
      ∧ r.2.mem ((c.tc : Thread Cert.ImgRefIdeal.nD Cert.ImgRefIdeal.τ).loc Cert.ImgRefIdeal.main_arg6) = m ((c.tc : Thread Cert.ImgRefIdeal.nD Cert.ImgRefIdeal.τ).loc Cert.ImgRefIdeal.main_arg6)
      ∧ r.2.mem ((c.tc : Thread Cert.ImgRefIdeal.nD Cert.ImgRefIdeal.τ).loc Cert.ImgRefIdeal.main_arg7) = m ((c.tc : Thread Cert.ImgRefIdeal.nD Cert.ImgRefIdeal.τ).loc Cert.ImgRefIdeal.main_arg7)
      ∧ r.2.mem ((c.tc : Thread Cert.ImgRefIdeal.nD Cert.ImgRefIdeal.τ).loc Cert.ImgRefIdeal.main_arg8) = m ((c.tc : Thread Cert.ImgRefIdeal.nD Cert.ImgRefIdeal.τ).loc Cert.ImgRefIdeal.main_arg8))
      ∧ r.2.sem = fun _ => 0)

def quiescent_ImgRefIdeal_pre_img_bn_finite [hImgRefIdeal : Cert.ImgRefIdeal.Facts] [hPre_img_bn_finite : Cert.Pre_img_bn_finite.Facts] : Prop :=
  ∀ (m : (ℓ : Loc Cert.ImgRefIdeal.nD Cert.ImgRefIdeal.τ Cert.ImgRefIdeal.sig) → Buf (Elt Ideal) ℓ) (g : Dev Cert.ImgRefIdeal.nD → PrngReg), Pre_ImgRefIdeal_img_bn_finite m →
    θ_run (Cert.ImgRefIdeal.defs (F := Ideal)) (onTc (τ := Cert.ImgRefIdeal.τ) (Cert.ImgRefIdeal.main (F := Ideal))) ⟨m, fun _ => 0, g⟩ (fun r => (∀ c : Dev Cert.ImgRefIdeal.nD,
      r.2.mem ((c.tc : Thread Cert.ImgRefIdeal.nD Cert.ImgRefIdeal.τ).loc Cert.ImgRefIdeal.main_arg0) = m ((c.tc : Thread Cert.ImgRefIdeal.nD Cert.ImgRefIdeal.τ).loc Cert.ImgRefIdeal.main_arg0)
      ∧ r.2.mem ((c.tc : Thread Cert.ImgRefIdeal.nD Cert.ImgRefIdeal.τ).loc Cert.ImgRefIdeal.main_arg1) = m ((c.tc : Thread Cert.ImgRefIdeal.nD Cert.ImgRefIdeal.τ).loc Cert.ImgRefIdeal.main_arg1)
      ∧ r.2.mem ((c.tc : Thread Cert.ImgRefIdeal.nD Cert.ImgRefIdeal.τ).loc Cert.ImgRefIdeal.main_arg2) = m ((c.tc : Thread Cert.ImgRefIdeal.nD Cert.ImgRefIdeal.τ).loc Cert.ImgRefIdeal.main_arg2)
      ∧ r.2.mem ((c.tc : Thread Cert.ImgRefIdeal.nD Cert.ImgRefIdeal.τ).loc Cert.ImgRefIdeal.main_arg3) = m ((c.tc : Thread Cert.ImgRefIdeal.nD Cert.ImgRefIdeal.τ).loc Cert.ImgRefIdeal.main_arg3)
      ∧ r.2.mem ((c.tc : Thread Cert.ImgRefIdeal.nD Cert.ImgRefIdeal.τ).loc Cert.ImgRefIdeal.main_arg4) = m ((c.tc : Thread Cert.ImgRefIdeal.nD Cert.ImgRefIdeal.τ).loc Cert.ImgRefIdeal.main_arg4)
      ∧ r.2.mem ((c.tc : Thread Cert.ImgRefIdeal.nD Cert.ImgRefIdeal.τ).loc Cert.ImgRefIdeal.main_arg5) = m ((c.tc : Thread Cert.ImgRefIdeal.nD Cert.ImgRefIdeal.τ).loc Cert.ImgRefIdeal.main_arg5)
      ∧ r.2.mem ((c.tc : Thread Cert.ImgRefIdeal.nD Cert.ImgRefIdeal.τ).loc Cert.ImgRefIdeal.main_arg6) = m ((c.tc : Thread Cert.ImgRefIdeal.nD Cert.ImgRefIdeal.τ).loc Cert.ImgRefIdeal.main_arg6)
      ∧ r.2.mem ((c.tc : Thread Cert.ImgRefIdeal.nD Cert.ImgRefIdeal.τ).loc Cert.ImgRefIdeal.main_arg7) = m ((c.tc : Thread Cert.ImgRefIdeal.nD Cert.ImgRefIdeal.τ).loc Cert.ImgRefIdeal.main_arg7)
      ∧ r.2.mem ((c.tc : Thread Cert.ImgRefIdeal.nD Cert.ImgRefIdeal.τ).loc Cert.ImgRefIdeal.main_arg8) = m ((c.tc : Thread Cert.ImgRefIdeal.nD Cert.ImgRefIdeal.τ).loc Cert.ImgRefIdeal.main_arg8))
      ∧ r.2.sem = fun _ => 0)

def preserves_Gru1_Gru1Ideal : Prop :=
  True

def algebraic_Gru1Ideal_TextRefIdeal_pre_text_bn_finite [hGru1Ideal : Cert.Gru1Ideal.Facts] [hTextRefIdeal : Cert.TextRefIdeal.Facts] [hPre_text_bn_finite : Cert.Pre_text_bn_finite.Facts] : Prop :=
  ∀ (m : (ℓ : Loc Cert.Gru1Ideal.nD Cert.Gru1Ideal.τ Cert.Gru1Ideal.sig) → Buf (Elt Ideal) ℓ) (g : Dev Cert.Gru1Ideal.nD → PrngReg)
    (m' : (ℓ : Loc Cert.TextRefIdeal.nD Cert.TextRefIdeal.τ Cert.TextRefIdeal.sig) → Buf (Elt Ideal) ℓ) (g' : Dev Cert.TextRefIdeal.nD → PrngReg), Pre_Gru1Ideal_text_bn_finite m →
    (∀ c : Dev Cert.Gru1Ideal.nD,
      m' ((c.tc : Thread Cert.TextRefIdeal.nD Cert.TextRefIdeal.τ).loc Cert.TextRefIdeal.main_arg0) = m ((c.tc : Thread Cert.Gru1Ideal.nD Cert.Gru1Ideal.τ).loc Cert.Gru1Ideal.main_arg0)
      ∧ m' ((c.tc : Thread Cert.TextRefIdeal.nD Cert.TextRefIdeal.τ).loc Cert.TextRefIdeal.main_arg1) = m ((c.tc : Thread Cert.Gru1Ideal.nD Cert.Gru1Ideal.τ).loc Cert.Gru1Ideal.main_arg1)
      ∧ m' ((c.tc : Thread Cert.TextRefIdeal.nD Cert.TextRefIdeal.τ).loc Cert.TextRefIdeal.main_arg2) = m ((c.tc : Thread Cert.Gru1Ideal.nD Cert.Gru1Ideal.τ).loc Cert.Gru1Ideal.main_arg2)
      ∧ m' ((c.tc : Thread Cert.TextRefIdeal.nD Cert.TextRefIdeal.τ).loc Cert.TextRefIdeal.main_arg3) = m ((c.tc : Thread Cert.Gru1Ideal.nD Cert.Gru1Ideal.τ).loc Cert.Gru1Ideal.main_arg3)
      ∧ m' ((c.tc : Thread Cert.TextRefIdeal.nD Cert.TextRefIdeal.τ).loc Cert.TextRefIdeal.main_arg4) = m ((c.tc : Thread Cert.Gru1Ideal.nD Cert.Gru1Ideal.τ).loc Cert.Gru1Ideal.main_arg4)
      ∧ m' ((c.tc : Thread Cert.TextRefIdeal.nD Cert.TextRefIdeal.τ).loc Cert.TextRefIdeal.main_arg5) = m ((c.tc : Thread Cert.Gru1Ideal.nD Cert.Gru1Ideal.τ).loc Cert.Gru1Ideal.main_arg5)
      ∧ m' ((c.tc : Thread Cert.TextRefIdeal.nD Cert.TextRefIdeal.τ).loc Cert.TextRefIdeal.main_arg6) = m ((c.tc : Thread Cert.Gru1Ideal.nD Cert.Gru1Ideal.τ).loc Cert.Gru1Ideal.main_arg6)
      ∧ m' ((c.tc : Thread Cert.TextRefIdeal.nD Cert.TextRefIdeal.τ).loc Cert.TextRefIdeal.main_arg7) = m ((c.tc : Thread Cert.Gru1Ideal.nD Cert.Gru1Ideal.τ).loc Cert.Gru1Ideal.main_arg7)
      ∧ m' ((c.tc : Thread Cert.TextRefIdeal.nD Cert.TextRefIdeal.τ).loc Cert.TextRefIdeal.main_arg8) = m ((c.tc : Thread Cert.Gru1Ideal.nD Cert.Gru1Ideal.τ).loc Cert.Gru1Ideal.main_arg8)
      ∧ m' ((c.tc : Thread Cert.TextRefIdeal.nD Cert.TextRefIdeal.τ).loc Cert.TextRefIdeal.main_arg9) = m ((c.tc : Thread Cert.Gru1Ideal.nD Cert.Gru1Ideal.τ).loc Cert.Gru1Ideal.main_arg9)
      ∧ m' ((c.tc : Thread Cert.TextRefIdeal.nD Cert.TextRefIdeal.τ).loc Cert.TextRefIdeal.main_arg10) = m ((c.tc : Thread Cert.Gru1Ideal.nD Cert.Gru1Ideal.τ).loc Cert.Gru1Ideal.main_arg10)) →
    ∃ (v0 : (c : Dev Cert.Gru1Ideal.nD) → Buf (Elt Ideal) ((c.tc : Thread Cert.Gru1Ideal.nD Cert.Gru1Ideal.τ).loc Cert.Gru1Ideal.main_v0_0)) (v1 : (c : Dev Cert.Gru1Ideal.nD) → Buf (Elt Ideal) ((c.tc : Thread Cert.Gru1Ideal.nD Cert.Gru1Ideal.τ).loc Cert.Gru1Ideal.main_v0_1)),
      θ_run (Cert.Gru1Ideal.defs (F := Ideal)) (onTc (τ := Cert.Gru1Ideal.τ) (Cert.Gru1Ideal.main (F := Ideal))) ⟨m, fun _ => 0, g⟩ (fun r => ∀ c : Dev Cert.Gru1Ideal.nD,
          r.2.mem ((c.tc : Thread Cert.Gru1Ideal.nD Cert.Gru1Ideal.τ).loc Cert.Gru1Ideal.main_v0_0) = v0 c
          ∧ r.2.mem ((c.tc : Thread Cert.Gru1Ideal.nD Cert.Gru1Ideal.τ).loc Cert.Gru1Ideal.main_v0_1) = v1 c
          ∧ r.2.mem ((c.tc : Thread Cert.Gru1Ideal.nD Cert.Gru1Ideal.τ).loc Cert.Gru1Ideal.main_arg0) = m ((c.tc : Thread Cert.Gru1Ideal.nD Cert.Gru1Ideal.τ).loc Cert.Gru1Ideal.main_arg0)
          ∧ r.2.mem ((c.tc : Thread Cert.Gru1Ideal.nD Cert.Gru1Ideal.τ).loc Cert.Gru1Ideal.main_arg1) = m ((c.tc : Thread Cert.Gru1Ideal.nD Cert.Gru1Ideal.τ).loc Cert.Gru1Ideal.main_arg1)
          ∧ r.2.mem ((c.tc : Thread Cert.Gru1Ideal.nD Cert.Gru1Ideal.τ).loc Cert.Gru1Ideal.main_arg2) = m ((c.tc : Thread Cert.Gru1Ideal.nD Cert.Gru1Ideal.τ).loc Cert.Gru1Ideal.main_arg2)
          ∧ r.2.mem ((c.tc : Thread Cert.Gru1Ideal.nD Cert.Gru1Ideal.τ).loc Cert.Gru1Ideal.main_arg3) = m ((c.tc : Thread Cert.Gru1Ideal.nD Cert.Gru1Ideal.τ).loc Cert.Gru1Ideal.main_arg3)
          ∧ r.2.mem ((c.tc : Thread Cert.Gru1Ideal.nD Cert.Gru1Ideal.τ).loc Cert.Gru1Ideal.main_arg4) = m ((c.tc : Thread Cert.Gru1Ideal.nD Cert.Gru1Ideal.τ).loc Cert.Gru1Ideal.main_arg4)
          ∧ r.2.mem ((c.tc : Thread Cert.Gru1Ideal.nD Cert.Gru1Ideal.τ).loc Cert.Gru1Ideal.main_arg5) = m ((c.tc : Thread Cert.Gru1Ideal.nD Cert.Gru1Ideal.τ).loc Cert.Gru1Ideal.main_arg5)
          ∧ r.2.mem ((c.tc : Thread Cert.Gru1Ideal.nD Cert.Gru1Ideal.τ).loc Cert.Gru1Ideal.main_arg6) = m ((c.tc : Thread Cert.Gru1Ideal.nD Cert.Gru1Ideal.τ).loc Cert.Gru1Ideal.main_arg6)
          ∧ r.2.mem ((c.tc : Thread Cert.Gru1Ideal.nD Cert.Gru1Ideal.τ).loc Cert.Gru1Ideal.main_arg7) = m ((c.tc : Thread Cert.Gru1Ideal.nD Cert.Gru1Ideal.τ).loc Cert.Gru1Ideal.main_arg7)
          ∧ r.2.mem ((c.tc : Thread Cert.Gru1Ideal.nD Cert.Gru1Ideal.τ).loc Cert.Gru1Ideal.main_arg8) = m ((c.tc : Thread Cert.Gru1Ideal.nD Cert.Gru1Ideal.τ).loc Cert.Gru1Ideal.main_arg8)
          ∧ r.2.mem ((c.tc : Thread Cert.Gru1Ideal.nD Cert.Gru1Ideal.τ).loc Cert.Gru1Ideal.main_arg9) = m ((c.tc : Thread Cert.Gru1Ideal.nD Cert.Gru1Ideal.τ).loc Cert.Gru1Ideal.main_arg9)
          ∧ r.2.mem ((c.tc : Thread Cert.Gru1Ideal.nD Cert.Gru1Ideal.τ).loc Cert.Gru1Ideal.main_arg10) = m ((c.tc : Thread Cert.Gru1Ideal.nD Cert.Gru1Ideal.τ).loc Cert.Gru1Ideal.main_arg10))
      ∧ θ_run (Cert.TextRefIdeal.defs (F := Ideal)) (onTc (τ := Cert.TextRefIdeal.τ) (Cert.TextRefIdeal.main (F := Ideal))) ⟨m', fun _ => 0, g'⟩ (fun r => ∀ c : Dev Cert.TextRefIdeal.nD,
          r.2.mem ((c.tc : Thread Cert.TextRefIdeal.nD Cert.TextRefIdeal.τ).loc Cert.TextRefIdeal.main_v29) = v0 c
          ∧ r.2.mem ((c.tc : Thread Cert.TextRefIdeal.nD Cert.TextRefIdeal.τ).loc Cert.TextRefIdeal.main_v30) = v1 c
          ∧ r.2.mem ((c.tc : Thread Cert.TextRefIdeal.nD Cert.TextRefIdeal.τ).loc Cert.TextRefIdeal.main_arg0) = m' ((c.tc : Thread Cert.TextRefIdeal.nD Cert.TextRefIdeal.τ).loc Cert.TextRefIdeal.main_arg0)
          ∧ r.2.mem ((c.tc : Thread Cert.TextRefIdeal.nD Cert.TextRefIdeal.τ).loc Cert.TextRefIdeal.main_arg1) = m' ((c.tc : Thread Cert.TextRefIdeal.nD Cert.TextRefIdeal.τ).loc Cert.TextRefIdeal.main_arg1)
          ∧ r.2.mem ((c.tc : Thread Cert.TextRefIdeal.nD Cert.TextRefIdeal.τ).loc Cert.TextRefIdeal.main_arg2) = m' ((c.tc : Thread Cert.TextRefIdeal.nD Cert.TextRefIdeal.τ).loc Cert.TextRefIdeal.main_arg2)
          ∧ r.2.mem ((c.tc : Thread Cert.TextRefIdeal.nD Cert.TextRefIdeal.τ).loc Cert.TextRefIdeal.main_arg3) = m' ((c.tc : Thread Cert.TextRefIdeal.nD Cert.TextRefIdeal.τ).loc Cert.TextRefIdeal.main_arg3)
          ∧ r.2.mem ((c.tc : Thread Cert.TextRefIdeal.nD Cert.TextRefIdeal.τ).loc Cert.TextRefIdeal.main_arg4) = m' ((c.tc : Thread Cert.TextRefIdeal.nD Cert.TextRefIdeal.τ).loc Cert.TextRefIdeal.main_arg4)
          ∧ r.2.mem ((c.tc : Thread Cert.TextRefIdeal.nD Cert.TextRefIdeal.τ).loc Cert.TextRefIdeal.main_arg5) = m' ((c.tc : Thread Cert.TextRefIdeal.nD Cert.TextRefIdeal.τ).loc Cert.TextRefIdeal.main_arg5)
          ∧ r.2.mem ((c.tc : Thread Cert.TextRefIdeal.nD Cert.TextRefIdeal.τ).loc Cert.TextRefIdeal.main_arg6) = m' ((c.tc : Thread Cert.TextRefIdeal.nD Cert.TextRefIdeal.τ).loc Cert.TextRefIdeal.main_arg6)
          ∧ r.2.mem ((c.tc : Thread Cert.TextRefIdeal.nD Cert.TextRefIdeal.τ).loc Cert.TextRefIdeal.main_arg7) = m' ((c.tc : Thread Cert.TextRefIdeal.nD Cert.TextRefIdeal.τ).loc Cert.TextRefIdeal.main_arg7)
          ∧ r.2.mem ((c.tc : Thread Cert.TextRefIdeal.nD Cert.TextRefIdeal.τ).loc Cert.TextRefIdeal.main_arg8) = m' ((c.tc : Thread Cert.TextRefIdeal.nD Cert.TextRefIdeal.τ).loc Cert.TextRefIdeal.main_arg8)
          ∧ r.2.mem ((c.tc : Thread Cert.TextRefIdeal.nD Cert.TextRefIdeal.τ).loc Cert.TextRefIdeal.main_arg9) = m' ((c.tc : Thread Cert.TextRefIdeal.nD Cert.TextRefIdeal.τ).loc Cert.TextRefIdeal.main_arg9)
          ∧ r.2.mem ((c.tc : Thread Cert.TextRefIdeal.nD Cert.TextRefIdeal.τ).loc Cert.TextRefIdeal.main_arg10) = m' ((c.tc : Thread Cert.TextRefIdeal.nD Cert.TextRefIdeal.τ).loc Cert.TextRefIdeal.main_arg10))

def preserves_Gru2_Gru2Ideal : Prop :=
  True

def algebraic_Gru2Ideal_ContrastRefIdeal_pre_contrast_finite [hGru2Ideal : Cert.Gru2Ideal.Facts] [hContrastRefIdeal : Cert.ContrastRefIdeal.Facts] [hPre_contrast_finite : Cert.Pre_contrast_finite.Facts] : Prop :=
  ∀ (m : (ℓ : Loc Cert.Gru2Ideal.nD Cert.Gru2Ideal.τ Cert.Gru2Ideal.sig) → Buf (Elt Ideal) ℓ) (g : Dev Cert.Gru2Ideal.nD → PrngReg)
    (m' : (ℓ : Loc Cert.ContrastRefIdeal.nD Cert.ContrastRefIdeal.τ Cert.ContrastRefIdeal.sig) → Buf (Elt Ideal) ℓ) (g' : Dev Cert.ContrastRefIdeal.nD → PrngReg), Pre_Gru2Ideal_contrast_finite m →
    (∀ c : Dev Cert.Gru2Ideal.nD,
      m' ((c.tc : Thread Cert.ContrastRefIdeal.nD Cert.ContrastRefIdeal.τ).loc Cert.ContrastRefIdeal.main_arg0) = m ((c.tc : Thread Cert.Gru2Ideal.nD Cert.Gru2Ideal.τ).loc Cert.Gru2Ideal.main_arg0)
      ∧ m' ((c.tc : Thread Cert.ContrastRefIdeal.nD Cert.ContrastRefIdeal.τ).loc Cert.ContrastRefIdeal.main_arg1) = m ((c.tc : Thread Cert.Gru2Ideal.nD Cert.Gru2Ideal.τ).loc Cert.Gru2Ideal.main_arg1)
      ∧ m' ((c.tc : Thread Cert.ContrastRefIdeal.nD Cert.ContrastRefIdeal.τ).loc Cert.ContrastRefIdeal.main_arg2) = m ((c.tc : Thread Cert.Gru2Ideal.nD Cert.Gru2Ideal.τ).loc Cert.Gru2Ideal.main_arg2)
      ∧ m' ((c.tc : Thread Cert.ContrastRefIdeal.nD Cert.ContrastRefIdeal.τ).loc Cert.ContrastRefIdeal.main_arg3) = m ((c.tc : Thread Cert.Gru2Ideal.nD Cert.Gru2Ideal.τ).loc Cert.Gru2Ideal.main_arg3)
      ∧ m' ((c.tc : Thread Cert.ContrastRefIdeal.nD Cert.ContrastRefIdeal.τ).loc Cert.ContrastRefIdeal.main_arg4) = m ((c.tc : Thread Cert.Gru2Ideal.nD Cert.Gru2Ideal.τ).loc Cert.Gru2Ideal.main_arg4)
      ∧ m' ((c.tc : Thread Cert.ContrastRefIdeal.nD Cert.ContrastRefIdeal.τ).loc Cert.ContrastRefIdeal.main_arg5) = m ((c.tc : Thread Cert.Gru2Ideal.nD Cert.Gru2Ideal.τ).loc Cert.Gru2Ideal.main_arg5)
      ∧ m' ((c.tc : Thread Cert.ContrastRefIdeal.nD Cert.ContrastRefIdeal.τ).loc Cert.ContrastRefIdeal.main_arg6) = m ((c.tc : Thread Cert.Gru2Ideal.nD Cert.Gru2Ideal.τ).loc Cert.Gru2Ideal.main_arg6)
      ∧ m' ((c.tc : Thread Cert.ContrastRefIdeal.nD Cert.ContrastRefIdeal.τ).loc Cert.ContrastRefIdeal.main_arg7) = m ((c.tc : Thread Cert.Gru2Ideal.nD Cert.Gru2Ideal.τ).loc Cert.Gru2Ideal.main_arg7)
      ∧ m' ((c.tc : Thread Cert.ContrastRefIdeal.nD Cert.ContrastRefIdeal.τ).loc Cert.ContrastRefIdeal.main_arg8) = m ((c.tc : Thread Cert.Gru2Ideal.nD Cert.Gru2Ideal.τ).loc Cert.Gru2Ideal.main_arg8)
      ∧ m' ((c.tc : Thread Cert.ContrastRefIdeal.nD Cert.ContrastRefIdeal.τ).loc Cert.ContrastRefIdeal.main_arg9) = m ((c.tc : Thread Cert.Gru2Ideal.nD Cert.Gru2Ideal.τ).loc Cert.Gru2Ideal.main_arg9)
      ∧ m' ((c.tc : Thread Cert.ContrastRefIdeal.nD Cert.ContrastRefIdeal.τ).loc Cert.ContrastRefIdeal.main_arg10) = m ((c.tc : Thread Cert.Gru2Ideal.nD Cert.Gru2Ideal.τ).loc Cert.Gru2Ideal.main_arg10)
      ∧ m' ((c.tc : Thread Cert.ContrastRefIdeal.nD Cert.ContrastRefIdeal.τ).loc Cert.ContrastRefIdeal.main_arg11) = m ((c.tc : Thread Cert.Gru2Ideal.nD Cert.Gru2Ideal.τ).loc Cert.Gru2Ideal.main_arg11)
      ∧ m' ((c.tc : Thread Cert.ContrastRefIdeal.nD Cert.ContrastRefIdeal.τ).loc Cert.ContrastRefIdeal.main_arg12) = m ((c.tc : Thread Cert.Gru2Ideal.nD Cert.Gru2Ideal.τ).loc Cert.Gru2Ideal.main_arg12)) →
    ∃ (v0 : (c : Dev Cert.Gru2Ideal.nD) → Buf (Elt Ideal) ((c.tc : Thread Cert.Gru2Ideal.nD Cert.Gru2Ideal.τ).loc Cert.Gru2Ideal.main_v0)),
      θ_run (Cert.Gru2Ideal.defs (F := Ideal)) (onTc (τ := Cert.Gru2Ideal.τ) (Cert.Gru2Ideal.main (F := Ideal))) ⟨m, fun _ => 0, g⟩ (fun r => ∀ c : Dev Cert.Gru2Ideal.nD,
          r.2.mem ((c.tc : Thread Cert.Gru2Ideal.nD Cert.Gru2Ideal.τ).loc Cert.Gru2Ideal.main_v0) = v0 c
          ∧ r.2.mem ((c.tc : Thread Cert.Gru2Ideal.nD Cert.Gru2Ideal.τ).loc Cert.Gru2Ideal.main_arg0) = m ((c.tc : Thread Cert.Gru2Ideal.nD Cert.Gru2Ideal.τ).loc Cert.Gru2Ideal.main_arg0)
          ∧ r.2.mem ((c.tc : Thread Cert.Gru2Ideal.nD Cert.Gru2Ideal.τ).loc Cert.Gru2Ideal.main_arg1) = m ((c.tc : Thread Cert.Gru2Ideal.nD Cert.Gru2Ideal.τ).loc Cert.Gru2Ideal.main_arg1)
          ∧ r.2.mem ((c.tc : Thread Cert.Gru2Ideal.nD Cert.Gru2Ideal.τ).loc Cert.Gru2Ideal.main_arg2) = m ((c.tc : Thread Cert.Gru2Ideal.nD Cert.Gru2Ideal.τ).loc Cert.Gru2Ideal.main_arg2)
          ∧ r.2.mem ((c.tc : Thread Cert.Gru2Ideal.nD Cert.Gru2Ideal.τ).loc Cert.Gru2Ideal.main_arg3) = m ((c.tc : Thread Cert.Gru2Ideal.nD Cert.Gru2Ideal.τ).loc Cert.Gru2Ideal.main_arg3)
          ∧ r.2.mem ((c.tc : Thread Cert.Gru2Ideal.nD Cert.Gru2Ideal.τ).loc Cert.Gru2Ideal.main_arg4) = m ((c.tc : Thread Cert.Gru2Ideal.nD Cert.Gru2Ideal.τ).loc Cert.Gru2Ideal.main_arg4)
          ∧ r.2.mem ((c.tc : Thread Cert.Gru2Ideal.nD Cert.Gru2Ideal.τ).loc Cert.Gru2Ideal.main_arg5) = m ((c.tc : Thread Cert.Gru2Ideal.nD Cert.Gru2Ideal.τ).loc Cert.Gru2Ideal.main_arg5)
          ∧ r.2.mem ((c.tc : Thread Cert.Gru2Ideal.nD Cert.Gru2Ideal.τ).loc Cert.Gru2Ideal.main_arg6) = m ((c.tc : Thread Cert.Gru2Ideal.nD Cert.Gru2Ideal.τ).loc Cert.Gru2Ideal.main_arg6)
          ∧ r.2.mem ((c.tc : Thread Cert.Gru2Ideal.nD Cert.Gru2Ideal.τ).loc Cert.Gru2Ideal.main_arg7) = m ((c.tc : Thread Cert.Gru2Ideal.nD Cert.Gru2Ideal.τ).loc Cert.Gru2Ideal.main_arg7)
          ∧ r.2.mem ((c.tc : Thread Cert.Gru2Ideal.nD Cert.Gru2Ideal.τ).loc Cert.Gru2Ideal.main_arg8) = m ((c.tc : Thread Cert.Gru2Ideal.nD Cert.Gru2Ideal.τ).loc Cert.Gru2Ideal.main_arg8)
          ∧ r.2.mem ((c.tc : Thread Cert.Gru2Ideal.nD Cert.Gru2Ideal.τ).loc Cert.Gru2Ideal.main_arg9) = m ((c.tc : Thread Cert.Gru2Ideal.nD Cert.Gru2Ideal.τ).loc Cert.Gru2Ideal.main_arg9)
          ∧ r.2.mem ((c.tc : Thread Cert.Gru2Ideal.nD Cert.Gru2Ideal.τ).loc Cert.Gru2Ideal.main_arg10) = m ((c.tc : Thread Cert.Gru2Ideal.nD Cert.Gru2Ideal.τ).loc Cert.Gru2Ideal.main_arg10)
          ∧ r.2.mem ((c.tc : Thread Cert.Gru2Ideal.nD Cert.Gru2Ideal.τ).loc Cert.Gru2Ideal.main_arg11) = m ((c.tc : Thread Cert.Gru2Ideal.nD Cert.Gru2Ideal.τ).loc Cert.Gru2Ideal.main_arg11)
          ∧ r.2.mem ((c.tc : Thread Cert.Gru2Ideal.nD Cert.Gru2Ideal.τ).loc Cert.Gru2Ideal.main_arg12) = m ((c.tc : Thread Cert.Gru2Ideal.nD Cert.Gru2Ideal.τ).loc Cert.Gru2Ideal.main_arg12))
      ∧ θ_run (Cert.ContrastRefIdeal.defs (F := Ideal)) (onTc (τ := Cert.ContrastRefIdeal.τ) (Cert.ContrastRefIdeal.main (F := Ideal))) ⟨m', fun _ => 0, g'⟩ (fun r => ∀ c : Dev Cert.ContrastRefIdeal.nD,
          r.2.mem ((c.tc : Thread Cert.ContrastRefIdeal.nD Cert.ContrastRefIdeal.τ).loc Cert.ContrastRefIdeal.main_v36) = v0 c
          ∧ r.2.mem ((c.tc : Thread Cert.ContrastRefIdeal.nD Cert.ContrastRefIdeal.τ).loc Cert.ContrastRefIdeal.main_arg0) = m' ((c.tc : Thread Cert.ContrastRefIdeal.nD Cert.ContrastRefIdeal.τ).loc Cert.ContrastRefIdeal.main_arg0)
          ∧ r.2.mem ((c.tc : Thread Cert.ContrastRefIdeal.nD Cert.ContrastRefIdeal.τ).loc Cert.ContrastRefIdeal.main_arg1) = m' ((c.tc : Thread Cert.ContrastRefIdeal.nD Cert.ContrastRefIdeal.τ).loc Cert.ContrastRefIdeal.main_arg1)
          ∧ r.2.mem ((c.tc : Thread Cert.ContrastRefIdeal.nD Cert.ContrastRefIdeal.τ).loc Cert.ContrastRefIdeal.main_arg2) = m' ((c.tc : Thread Cert.ContrastRefIdeal.nD Cert.ContrastRefIdeal.τ).loc Cert.ContrastRefIdeal.main_arg2)
          ∧ r.2.mem ((c.tc : Thread Cert.ContrastRefIdeal.nD Cert.ContrastRefIdeal.τ).loc Cert.ContrastRefIdeal.main_arg3) = m' ((c.tc : Thread Cert.ContrastRefIdeal.nD Cert.ContrastRefIdeal.τ).loc Cert.ContrastRefIdeal.main_arg3)
          ∧ r.2.mem ((c.tc : Thread Cert.ContrastRefIdeal.nD Cert.ContrastRefIdeal.τ).loc Cert.ContrastRefIdeal.main_arg4) = m' ((c.tc : Thread Cert.ContrastRefIdeal.nD Cert.ContrastRefIdeal.τ).loc Cert.ContrastRefIdeal.main_arg4)
          ∧ r.2.mem ((c.tc : Thread Cert.ContrastRefIdeal.nD Cert.ContrastRefIdeal.τ).loc Cert.ContrastRefIdeal.main_arg5) = m' ((c.tc : Thread Cert.ContrastRefIdeal.nD Cert.ContrastRefIdeal.τ).loc Cert.ContrastRefIdeal.main_arg5)
          ∧ r.2.mem ((c.tc : Thread Cert.ContrastRefIdeal.nD Cert.ContrastRefIdeal.τ).loc Cert.ContrastRefIdeal.main_arg6) = m' ((c.tc : Thread Cert.ContrastRefIdeal.nD Cert.ContrastRefIdeal.τ).loc Cert.ContrastRefIdeal.main_arg6)
          ∧ r.2.mem ((c.tc : Thread Cert.ContrastRefIdeal.nD Cert.ContrastRefIdeal.τ).loc Cert.ContrastRefIdeal.main_arg7) = m' ((c.tc : Thread Cert.ContrastRefIdeal.nD Cert.ContrastRefIdeal.τ).loc Cert.ContrastRefIdeal.main_arg7)
          ∧ r.2.mem ((c.tc : Thread Cert.ContrastRefIdeal.nD Cert.ContrastRefIdeal.τ).loc Cert.ContrastRefIdeal.main_arg8) = m' ((c.tc : Thread Cert.ContrastRefIdeal.nD Cert.ContrastRefIdeal.τ).loc Cert.ContrastRefIdeal.main_arg8)
          ∧ r.2.mem ((c.tc : Thread Cert.ContrastRefIdeal.nD Cert.ContrastRefIdeal.τ).loc Cert.ContrastRefIdeal.main_arg9) = m' ((c.tc : Thread Cert.ContrastRefIdeal.nD Cert.ContrastRefIdeal.τ).loc Cert.ContrastRefIdeal.main_arg9)
          ∧ r.2.mem ((c.tc : Thread Cert.ContrastRefIdeal.nD Cert.ContrastRefIdeal.τ).loc Cert.ContrastRefIdeal.main_arg10) = m' ((c.tc : Thread Cert.ContrastRefIdeal.nD Cert.ContrastRefIdeal.τ).loc Cert.ContrastRefIdeal.main_arg10)
          ∧ r.2.mem ((c.tc : Thread Cert.ContrastRefIdeal.nD Cert.ContrastRefIdeal.τ).loc Cert.ContrastRefIdeal.main_arg11) = m' ((c.tc : Thread Cert.ContrastRefIdeal.nD Cert.ContrastRefIdeal.τ).loc Cert.ContrastRefIdeal.main_arg11)
          ∧ r.2.mem ((c.tc : Thread Cert.ContrastRefIdeal.nD Cert.ContrastRefIdeal.τ).loc Cert.ContrastRefIdeal.main_arg12) = m' ((c.tc : Thread Cert.ContrastRefIdeal.nD Cert.ContrastRefIdeal.τ).loc Cert.ContrastRefIdeal.main_arg12))

def preserves_Attn_AttnIdeal : Prop :=
  IdealRules.named_const.Statement Cert.AttnIdeal.κ "mask" .f32 0xF149F2CA#32 ⊥
  ∧ IdealRules.named_const.Statement Cert.AttnIdeal.κ "third" .f32 0x3EAAAAAB#32 ((1 / 3 : ℝ) : EReal)

def algebraic_AttnIdeal_LossRefIdeal_pre_loss_inputs [hAttnIdeal : Cert.AttnIdeal.Facts] [hLossRefIdeal : Cert.LossRefIdeal.Facts] [hPre_loss_inputs : Cert.Pre_loss_inputs.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_AttnIdeal_loss_inputs m →
    (∀ c : Dev Cert.AttnIdeal.nD,
      m' ((c.tc : Thread Cert.LossRefIdeal.nD Cert.LossRefIdeal.τ).loc Cert.LossRefIdeal.main_arg0) = m ((c.tc : Thread Cert.AttnIdeal.nD Cert.AttnIdeal.τ).loc Cert.AttnIdeal.main_arg0)
      ∧ m' ((c.tc : Thread Cert.LossRefIdeal.nD Cert.LossRefIdeal.τ).loc Cert.LossRefIdeal.main_arg1) = m ((c.tc : Thread Cert.AttnIdeal.nD Cert.AttnIdeal.τ).loc Cert.AttnIdeal.main_arg1)
      ∧ m' ((c.tc : Thread Cert.LossRefIdeal.nD Cert.LossRefIdeal.τ).loc Cert.LossRefIdeal.main_arg2) = m ((c.tc : Thread Cert.AttnIdeal.nD Cert.AttnIdeal.τ).loc Cert.AttnIdeal.main_arg2)
      ∧ m' ((c.tc : Thread Cert.LossRefIdeal.nD Cert.LossRefIdeal.τ).loc Cert.LossRefIdeal.main_arg3) = m ((c.tc : Thread Cert.AttnIdeal.nD Cert.AttnIdeal.τ).loc Cert.AttnIdeal.main_arg3)
      ∧ m' ((c.tc : Thread Cert.LossRefIdeal.nD Cert.LossRefIdeal.τ).loc Cert.LossRefIdeal.main_arg4) = m ((c.tc : Thread Cert.AttnIdeal.nD Cert.AttnIdeal.τ).loc Cert.AttnIdeal.main_arg4)
      ∧ m' ((c.tc : Thread Cert.LossRefIdeal.nD Cert.LossRefIdeal.τ).loc Cert.LossRefIdeal.main_arg5) = m ((c.tc : Thread Cert.AttnIdeal.nD Cert.AttnIdeal.τ).loc Cert.AttnIdeal.main_arg5)
      ∧ m' ((c.tc : Thread Cert.LossRefIdeal.nD Cert.LossRefIdeal.τ).loc Cert.LossRefIdeal.main_arg6) = m ((c.tc : Thread Cert.AttnIdeal.nD Cert.AttnIdeal.τ).loc Cert.AttnIdeal.main_arg6)
      ∧ m' ((c.tc : Thread Cert.LossRefIdeal.nD Cert.LossRefIdeal.τ).loc Cert.LossRefIdeal.main_arg7) = m ((c.tc : Thread Cert.AttnIdeal.nD Cert.AttnIdeal.τ).loc Cert.AttnIdeal.main_arg7)
      ∧ m' ((c.tc : Thread Cert.LossRefIdeal.nD Cert.LossRefIdeal.τ).loc Cert.LossRefIdeal.main_arg8) = m ((c.tc : Thread Cert.AttnIdeal.nD Cert.AttnIdeal.τ).loc Cert.AttnIdeal.main_arg8)
      ∧ m' ((c.tc : Thread Cert.LossRefIdeal.nD Cert.LossRefIdeal.τ).loc Cert.LossRefIdeal.main_arg9) = m ((c.tc : Thread Cert.AttnIdeal.nD Cert.AttnIdeal.τ).loc Cert.AttnIdeal.main_arg9)
      ∧ m' ((c.tc : Thread Cert.LossRefIdeal.nD Cert.LossRefIdeal.τ).loc Cert.LossRefIdeal.main_arg10) = m ((c.tc : Thread Cert.AttnIdeal.nD Cert.AttnIdeal.τ).loc Cert.AttnIdeal.main_arg10)
      ∧ m' ((c.tc : Thread Cert.LossRefIdeal.nD Cert.LossRefIdeal.τ).loc Cert.LossRefIdeal.main_arg11) = m ((c.tc : Thread Cert.AttnIdeal.nD Cert.AttnIdeal.τ).loc Cert.AttnIdeal.main_arg11)
      ∧ m' ((c.tc : Thread Cert.LossRefIdeal.nD Cert.LossRefIdeal.τ).loc Cert.LossRefIdeal.main_arg12) = m ((c.tc : Thread Cert.AttnIdeal.nD Cert.AttnIdeal.τ).loc Cert.AttnIdeal.main_arg12)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
          ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
          ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10)
          ∧ r.2.mem ((c.tc : Thread Cert.AttnIdeal.nD Cert.AttnIdeal.τ).loc Cert.AttnIdeal.main_arg11) = m ((c.tc : Thread Cert.AttnIdeal.nD Cert.AttnIdeal.τ).loc Cert.AttnIdeal.main_arg11)
          ∧ r.2.mem ((c.tc : Thread Cert.AttnIdeal.nD Cert.AttnIdeal.τ).loc Cert.AttnIdeal.main_arg12) = m ((c.tc : Thread Cert.AttnIdeal.nD Cert.AttnIdeal.τ).loc Cert.AttnIdeal.main_arg12))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v94) = v0 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6)
          ∧ r.2.mem ((c.tc : Thread Cert.LossRefIdeal.nD Cert.LossRefIdeal.τ).loc Cert.LossRefIdeal.main_arg7) = m' ((c.tc : Thread Cert.LossRefIdeal.nD Cert.LossRefIdeal.τ).loc Cert.LossRefIdeal.main_arg7)
          ∧ r.2.mem ((c.tc : Thread Cert.LossRefIdeal.nD Cert.LossRefIdeal.τ).loc Cert.LossRefIdeal.main_arg8) = m' ((c.tc : Thread Cert.LossRefIdeal.nD Cert.LossRefIdeal.τ).loc Cert.LossRefIdeal.main_arg8)
          ∧ r.2.mem ((c.tc : Thread Cert.LossRefIdeal.nD Cert.LossRefIdeal.τ).loc Cert.LossRefIdeal.main_arg9) = m' ((c.tc : Thread Cert.LossRefIdeal.nD Cert.LossRefIdeal.τ).loc Cert.LossRefIdeal.main_arg9)
          ∧ r.2.mem ((c.tc : Thread Cert.LossRefIdeal.nD Cert.LossRefIdeal.τ).loc Cert.LossRefIdeal.main_arg10) = m' ((c.tc : Thread Cert.LossRefIdeal.nD Cert.LossRefIdeal.τ).loc Cert.LossRefIdeal.main_arg10)
          ∧ r.2.mem ((c.tc : Thread Cert.LossRefIdeal.nD Cert.LossRefIdeal.τ).loc Cert.LossRefIdeal.main_arg11) = m' ((c.tc : Thread Cert.LossRefIdeal.nD Cert.LossRefIdeal.τ).loc Cert.LossRefIdeal.main_arg11)
          ∧ r.2.mem ((c.tc : Thread Cert.LossRefIdeal.nD Cert.LossRefIdeal.τ).loc Cert.LossRefIdeal.main_arg12) = m' ((c.tc : Thread Cert.LossRefIdeal.nD Cert.LossRefIdeal.τ).loc Cert.LossRefIdeal.main_arg12))

def preserves_Img_ImgIdeal : Prop :=
  True

def algebraic_ImgIdeal_ImgRefIdeal_pre_img_bn_finite [hImgIdeal : Cert.ImgIdeal.Facts] [hImgRefIdeal : Cert.ImgRefIdeal.Facts] [hPre_img_bn_finite : Cert.Pre_img_bn_finite.Facts] : Prop :=
  ∀ (m : (ℓ : Loc Cert.ImgIdeal.nD Cert.ImgIdeal.τ Cert.ImgIdeal.sig) → Buf (Elt Ideal) ℓ) (g : Dev Cert.ImgIdeal.nD → PrngReg)
    (m' : (ℓ : Loc Cert.ImgRefIdeal.nD Cert.ImgRefIdeal.τ Cert.ImgRefIdeal.sig) → Buf (Elt Ideal) ℓ) (g' : Dev Cert.ImgRefIdeal.nD → PrngReg), Pre_ImgIdeal_img_bn_finite m →
    (∀ c : Dev Cert.ImgIdeal.nD,
      m' ((c.tc : Thread Cert.ImgRefIdeal.nD Cert.ImgRefIdeal.τ).loc Cert.ImgRefIdeal.main_arg0) = m ((c.tc : Thread Cert.ImgIdeal.nD Cert.ImgIdeal.τ).loc Cert.ImgIdeal.main_arg0)
      ∧ m' ((c.tc : Thread Cert.ImgRefIdeal.nD Cert.ImgRefIdeal.τ).loc Cert.ImgRefIdeal.main_arg1) = m ((c.tc : Thread Cert.ImgIdeal.nD Cert.ImgIdeal.τ).loc Cert.ImgIdeal.main_arg1)
      ∧ m' ((c.tc : Thread Cert.ImgRefIdeal.nD Cert.ImgRefIdeal.τ).loc Cert.ImgRefIdeal.main_arg2) = m ((c.tc : Thread Cert.ImgIdeal.nD Cert.ImgIdeal.τ).loc Cert.ImgIdeal.main_arg2)
      ∧ m' ((c.tc : Thread Cert.ImgRefIdeal.nD Cert.ImgRefIdeal.τ).loc Cert.ImgRefIdeal.main_arg3) = m ((c.tc : Thread Cert.ImgIdeal.nD Cert.ImgIdeal.τ).loc Cert.ImgIdeal.main_arg3)
      ∧ m' ((c.tc : Thread Cert.ImgRefIdeal.nD Cert.ImgRefIdeal.τ).loc Cert.ImgRefIdeal.main_arg4) = m ((c.tc : Thread Cert.ImgIdeal.nD Cert.ImgIdeal.τ).loc Cert.ImgIdeal.main_arg4)
      ∧ m' ((c.tc : Thread Cert.ImgRefIdeal.nD Cert.ImgRefIdeal.τ).loc Cert.ImgRefIdeal.main_arg5) = m ((c.tc : Thread Cert.ImgIdeal.nD Cert.ImgIdeal.τ).loc Cert.ImgIdeal.main_arg5)
      ∧ m' ((c.tc : Thread Cert.ImgRefIdeal.nD Cert.ImgRefIdeal.τ).loc Cert.ImgRefIdeal.main_arg6) = m ((c.tc : Thread Cert.ImgIdeal.nD Cert.ImgIdeal.τ).loc Cert.ImgIdeal.main_arg6)
      ∧ m' ((c.tc : Thread Cert.ImgRefIdeal.nD Cert.ImgRefIdeal.τ).loc Cert.ImgRefIdeal.main_arg7) = m ((c.tc : Thread Cert.ImgIdeal.nD Cert.ImgIdeal.τ).loc Cert.ImgIdeal.main_arg7)
      ∧ m' ((c.tc : Thread Cert.ImgRefIdeal.nD Cert.ImgRefIdeal.τ).loc Cert.ImgRefIdeal.main_arg8) = m ((c.tc : Thread Cert.ImgIdeal.nD Cert.ImgIdeal.τ).loc Cert.ImgIdeal.main_arg8)) →
    ∃ (v0 : (c : Dev Cert.ImgIdeal.nD) → Buf (Elt Ideal) ((c.tc : Thread Cert.ImgIdeal.nD Cert.ImgIdeal.τ).loc Cert.ImgIdeal.main_v0_0)) (v1 : (c : Dev Cert.ImgIdeal.nD) → Buf (Elt Ideal) ((c.tc : Thread Cert.ImgIdeal.nD Cert.ImgIdeal.τ).loc Cert.ImgIdeal.main_v0_1)) (v2 : (c : Dev Cert.ImgIdeal.nD) → Buf (Elt Ideal) ((c.tc : Thread Cert.ImgIdeal.nD Cert.ImgIdeal.τ).loc Cert.ImgIdeal.main_v0_2)),
      θ_run (Cert.ImgIdeal.defs (F := Ideal)) (onTc (τ := Cert.ImgIdeal.τ) (Cert.ImgIdeal.main (F := Ideal))) ⟨m, fun _ => 0, g⟩ (fun r => ∀ c : Dev Cert.ImgIdeal.nD,
          r.2.mem ((c.tc : Thread Cert.ImgIdeal.nD Cert.ImgIdeal.τ).loc Cert.ImgIdeal.main_v0_0) = v0 c
          ∧ r.2.mem ((c.tc : Thread Cert.ImgIdeal.nD Cert.ImgIdeal.τ).loc Cert.ImgIdeal.main_v0_1) = v1 c
          ∧ r.2.mem ((c.tc : Thread Cert.ImgIdeal.nD Cert.ImgIdeal.τ).loc Cert.ImgIdeal.main_v0_2) = v2 c
          ∧ r.2.mem ((c.tc : Thread Cert.ImgIdeal.nD Cert.ImgIdeal.τ).loc Cert.ImgIdeal.main_arg0) = m ((c.tc : Thread Cert.ImgIdeal.nD Cert.ImgIdeal.τ).loc Cert.ImgIdeal.main_arg0)
          ∧ r.2.mem ((c.tc : Thread Cert.ImgIdeal.nD Cert.ImgIdeal.τ).loc Cert.ImgIdeal.main_arg1) = m ((c.tc : Thread Cert.ImgIdeal.nD Cert.ImgIdeal.τ).loc Cert.ImgIdeal.main_arg1)
          ∧ r.2.mem ((c.tc : Thread Cert.ImgIdeal.nD Cert.ImgIdeal.τ).loc Cert.ImgIdeal.main_arg2) = m ((c.tc : Thread Cert.ImgIdeal.nD Cert.ImgIdeal.τ).loc Cert.ImgIdeal.main_arg2)
          ∧ r.2.mem ((c.tc : Thread Cert.ImgIdeal.nD Cert.ImgIdeal.τ).loc Cert.ImgIdeal.main_arg3) = m ((c.tc : Thread Cert.ImgIdeal.nD Cert.ImgIdeal.τ).loc Cert.ImgIdeal.main_arg3)
          ∧ r.2.mem ((c.tc : Thread Cert.ImgIdeal.nD Cert.ImgIdeal.τ).loc Cert.ImgIdeal.main_arg4) = m ((c.tc : Thread Cert.ImgIdeal.nD Cert.ImgIdeal.τ).loc Cert.ImgIdeal.main_arg4)
          ∧ r.2.mem ((c.tc : Thread Cert.ImgIdeal.nD Cert.ImgIdeal.τ).loc Cert.ImgIdeal.main_arg5) = m ((c.tc : Thread Cert.ImgIdeal.nD Cert.ImgIdeal.τ).loc Cert.ImgIdeal.main_arg5)
          ∧ r.2.mem ((c.tc : Thread Cert.ImgIdeal.nD Cert.ImgIdeal.τ).loc Cert.ImgIdeal.main_arg6) = m ((c.tc : Thread Cert.ImgIdeal.nD Cert.ImgIdeal.τ).loc Cert.ImgIdeal.main_arg6)
          ∧ r.2.mem ((c.tc : Thread Cert.ImgIdeal.nD Cert.ImgIdeal.τ).loc Cert.ImgIdeal.main_arg7) = m ((c.tc : Thread Cert.ImgIdeal.nD Cert.ImgIdeal.τ).loc Cert.ImgIdeal.main_arg7)
          ∧ r.2.mem ((c.tc : Thread Cert.ImgIdeal.nD Cert.ImgIdeal.τ).loc Cert.ImgIdeal.main_arg8) = m ((c.tc : Thread Cert.ImgIdeal.nD Cert.ImgIdeal.τ).loc Cert.ImgIdeal.main_arg8))
      ∧ θ_run (Cert.ImgRefIdeal.defs (F := Ideal)) (onTc (τ := Cert.ImgRefIdeal.τ) (Cert.ImgRefIdeal.main (F := Ideal))) ⟨m', fun _ => 0, g'⟩ (fun r => ∀ c : Dev Cert.ImgRefIdeal.nD,
          r.2.mem ((c.tc : Thread Cert.ImgRefIdeal.nD Cert.ImgRefIdeal.τ).loc Cert.ImgRefIdeal.main_v33) = v0 c
          ∧ r.2.mem ((c.tc : Thread Cert.ImgRefIdeal.nD Cert.ImgRefIdeal.τ).loc Cert.ImgRefIdeal.main_v38) = v1 c
          ∧ r.2.mem ((c.tc : Thread Cert.ImgRefIdeal.nD Cert.ImgRefIdeal.τ).loc Cert.ImgRefIdeal.main_v43) = v2 c
          ∧ r.2.mem ((c.tc : Thread Cert.ImgRefIdeal.nD Cert.ImgRefIdeal.τ).loc Cert.ImgRefIdeal.main_arg0) = m' ((c.tc : Thread Cert.ImgRefIdeal.nD Cert.ImgRefIdeal.τ).loc Cert.ImgRefIdeal.main_arg0)
          ∧ r.2.mem ((c.tc : Thread Cert.ImgRefIdeal.nD Cert.ImgRefIdeal.τ).loc Cert.ImgRefIdeal.main_arg1) = m' ((c.tc : Thread Cert.ImgRefIdeal.nD Cert.ImgRefIdeal.τ).loc Cert.ImgRefIdeal.main_arg1)
          ∧ r.2.mem ((c.tc : Thread Cert.ImgRefIdeal.nD Cert.ImgRefIdeal.τ).loc Cert.ImgRefIdeal.main_arg2) = m' ((c.tc : Thread Cert.ImgRefIdeal.nD Cert.ImgRefIdeal.τ).loc Cert.ImgRefIdeal.main_arg2)
          ∧ r.2.mem ((c.tc : Thread Cert.ImgRefIdeal.nD Cert.ImgRefIdeal.τ).loc Cert.ImgRefIdeal.main_arg3) = m' ((c.tc : Thread Cert.ImgRefIdeal.nD Cert.ImgRefIdeal.τ).loc Cert.ImgRefIdeal.main_arg3)
          ∧ r.2.mem ((c.tc : Thread Cert.ImgRefIdeal.nD Cert.ImgRefIdeal.τ).loc Cert.ImgRefIdeal.main_arg4) = m' ((c.tc : Thread Cert.ImgRefIdeal.nD Cert.ImgRefIdeal.τ).loc Cert.ImgRefIdeal.main_arg4)
          ∧ r.2.mem ((c.tc : Thread Cert.ImgRefIdeal.nD Cert.ImgRefIdeal.τ).loc Cert.ImgRefIdeal.main_arg5) = m' ((c.tc : Thread Cert.ImgRefIdeal.nD Cert.ImgRefIdeal.τ).loc Cert.ImgRefIdeal.main_arg5)
          ∧ r.2.mem ((c.tc : Thread Cert.ImgRefIdeal.nD Cert.ImgRefIdeal.τ).loc Cert.ImgRefIdeal.main_arg6) = m' ((c.tc : Thread Cert.ImgRefIdeal.nD Cert.ImgRefIdeal.τ).loc Cert.ImgRefIdeal.main_arg6)
          ∧ r.2.mem ((c.tc : Thread Cert.ImgRefIdeal.nD Cert.ImgRefIdeal.τ).loc Cert.ImgRefIdeal.main_arg7) = m' ((c.tc : Thread Cert.ImgRefIdeal.nD Cert.ImgRefIdeal.τ).loc Cert.ImgRefIdeal.main_arg7)
          ∧ r.2.mem ((c.tc : Thread Cert.ImgRefIdeal.nD Cert.ImgRefIdeal.τ).loc Cert.ImgRefIdeal.main_arg8) = m' ((c.tc : Thread Cert.ImgRefIdeal.nD Cert.ImgRefIdeal.τ).loc Cert.ImgRefIdeal.main_arg8))

def Claim : Prop :=
  ∃ (hGru1 : Cert.Gru1.Facts) (hGru1Ideal : Cert.Gru1Ideal.Facts) (hTextRefIdeal : Cert.TextRefIdeal.Facts) (hGru2 : Cert.Gru2.Facts) (hGru2Ideal : Cert.Gru2Ideal.Facts) (hContrastRefIdeal : Cert.ContrastRefIdeal.Facts) (hAttn : Cert.Attn.Facts) (hAttnIdeal : Cert.AttnIdeal.Facts) (hLossRefIdeal : Cert.LossRefIdeal.Facts) (hImg : Cert.Img.Facts) (hImgIdeal : Cert.ImgIdeal.Facts) (hImgRefIdeal : Cert.ImgRefIdeal.Facts) (hPre_text_bn_finite : Cert.Pre_text_bn_finite.Facts) (hPre_contrast_finite : Cert.Pre_contrast_finite.Facts) (hPre_loss_inputs : Cert.Pre_loss_inputs.Facts) (hPre_img_bn_finite : Cert.Pre_img_bn_finite.Facts),
    quiescent_Gru1 (hGru1 := hGru1)
    ∧ quiescent_Gru1Ideal (hGru1Ideal := hGru1Ideal)
    ∧ quiescent_Gru1Ideal_pre_text_bn_finite (hGru1Ideal := hGru1Ideal) (hPre_text_bn_finite := hPre_text_bn_finite)
    ∧ quiescent_TextRefIdeal (hTextRefIdeal := hTextRefIdeal)
    ∧ quiescent_TextRefIdeal_pre_text_bn_finite (hTextRefIdeal := hTextRefIdeal) (hPre_text_bn_finite := hPre_text_bn_finite)
    ∧ quiescent_Gru2 (hGru2 := hGru2)
    ∧ quiescent_Gru2Ideal (hGru2Ideal := hGru2Ideal)
    ∧ quiescent_Gru2Ideal_pre_contrast_finite (hGru2Ideal := hGru2Ideal) (hPre_contrast_finite := hPre_contrast_finite)
    ∧ quiescent_ContrastRefIdeal (hContrastRefIdeal := hContrastRefIdeal)
    ∧ quiescent_ContrastRefIdeal_pre_contrast_finite (hContrastRefIdeal := hContrastRefIdeal) (hPre_contrast_finite := hPre_contrast_finite)
    ∧ quiescent_Attn (hAttn := hAttn)
    ∧ quiescent_AttnIdeal (hAttnIdeal := hAttnIdeal)
    ∧ quiescent_AttnIdeal_pre_loss_inputs (hAttnIdeal := hAttnIdeal) (hPre_loss_inputs := hPre_loss_inputs)
    ∧ quiescent_LossRefIdeal (hLossRefIdeal := hLossRefIdeal)
    ∧ quiescent_LossRefIdeal_pre_loss_inputs (hLossRefIdeal := hLossRefIdeal) (hPre_loss_inputs := hPre_loss_inputs)
    ∧ quiescent_Img (hImg := hImg)
    ∧ quiescent_ImgIdeal (hImgIdeal := hImgIdeal)
    ∧ quiescent_ImgIdeal_pre_img_bn_finite (hImgIdeal := hImgIdeal) (hPre_img_bn_finite := hPre_img_bn_finite)
    ∧ quiescent_ImgRefIdeal (hImgRefIdeal := hImgRefIdeal)
    ∧ quiescent_ImgRefIdeal_pre_img_bn_finite (hImgRefIdeal := hImgRefIdeal) (hPre_img_bn_finite := hPre_img_bn_finite)
    ∧ preserves_Gru1_Gru1Ideal
    ∧ algebraic_Gru1Ideal_TextRefIdeal_pre_text_bn_finite (hGru1Ideal := hGru1Ideal) (hTextRefIdeal := hTextRefIdeal) (hPre_text_bn_finite := hPre_text_bn_finite)
    ∧ preserves_Gru2_Gru2Ideal
    ∧ algebraic_Gru2Ideal_ContrastRefIdeal_pre_contrast_finite (hGru2Ideal := hGru2Ideal) (hContrastRefIdeal := hContrastRefIdeal) (hPre_contrast_finite := hPre_contrast_finite)
    ∧ preserves_Attn_AttnIdeal
    ∧ algebraic_AttnIdeal_LossRefIdeal_pre_loss_inputs (hAttnIdeal := hAttnIdeal) (hLossRefIdeal := hLossRefIdeal) (hPre_loss_inputs := hPre_loss_inputs)
    ∧ preserves_Img_ImgIdeal
    ∧ algebraic_ImgIdeal_ImgRefIdeal_pre_img_bn_finite (hImgIdeal := hImgIdeal) (hImgRefIdeal := hImgRefIdeal) (hPre_img_bn_finite := hPre_img_bn_finite)
-- ==== Pre_contrast_finite.lean ====
abbrev S128x128x256 : Shape := ⟨3, ![128, 128, 256]⟩
abbrev S128x256 : Shape := ⟨2, ![128, 256]⟩
abbrev S128x128 : Shape := ⟨2, ![128, 128]⟩
abbrev S768x256 : Shape := ⟨2, ![768, 256]⟩
abbrev S768 : Shape := ⟨1, ![768]⟩
abbrev S256x256 : Shape := ⟨2, ![256, 256]⟩
abbrev S256 : Shape := ⟨1, ![256]⟩
abbrev S_ : Shape := ⟨0, ![]⟩
abbrev S128 : Shape := ⟨1, ![128]⟩
abbrev S256x1 : Shape := ⟨2, ![256, 1]⟩
abbrev S128x1 : Shape := ⟨2, ![128, 1]⟩

class Facts : Prop where
  bcast_S_S256 : S_.BroadcastsInDim S256 (![] : Fin 0 → Fin S256.rank)
  reducesTo_S128x128_S128_d1 : S128x128.ReducesTo [1] S128
  h_S_ : 0 < S_.numel
  bcast_S_S128 : S_.BroadcastsInDim S128 (![] : Fin 0 → Fin S128.rank)
  bcast_S_S256x256 : S_.BroadcastsInDim S256x256 (![] : Fin 0 → Fin S256x256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  bcast_S_S768x256 : S_.BroadcastsInDim S768x256 (![] : Fin 0 → Fin S768x256.rank)
  bcast_S_S128x256 : S_.BroadcastsInDim S128x256 (![] : Fin 0 → Fin S128x256.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)

variable [Facts]

def fn_part1 {F : FTy → Type} [FloatOps F] (main_arg1 : FVec F S128x256 .f32) (main_arg3 : FVec F S768x256 .f32) (main_arg7 : FVec F S256x256 .f32) (main_v14 : IVec S256 1) (main_v17 : FVec F S128 .f32) : IVec S256x256 1 × IVec S768x256 1 × IVec S128x256 1 :=
  let main_v18 : FVec F S128 .f32 := Host.absf main_v17
  let main_cst_5 : FVec F S_ .f32 := constant S_ .f32 0x7F800000#32
  let main_v19 : FVec F S128 .f32 := broadcastInDim S128 ![] bcast_S_S128 main_cst_5
  let main_v20 : IVec S128 1 := cmpf .olt main_v18 main_v19
  let main_v21 : FVec F S256x256 .f32 := Host.absf main_arg7
  let main_cst_6 : FVec F S_ .f32 := constant S_ .f32 0x7F800000#32
  let main_v22 : FVec F S256x256 .f32 := broadcastInDim S256x256 ![] bcast_S_S256x256 main_cst_6
  let main_v23 : IVec S256x256 1 := cmpf .olt main_v21 main_v22
  let main_v24 : IVec S256x1 1 := broadcastInDim S256x1 ![0] bcast_S256_S256x1_0 main_v14
  let main_v25 : IVec S256x256 1 := broadcastInDim S256x256 ![0, 1] bcast_S256x1_S256x256_0_1 main_v24
  let main_v26 : IVec S256x256 1 := andi main_v23 main_v25
  let main_v27 : FVec F S768x256 .f32 := Host.absf main_arg3
  let main_cst_7 : FVec F S_ .f32 := constant S_ .f32 0x7F800000#32
  let main_v28 : FVec F S768x256 .f32 := broadcastInDim S768x256 ![] bcast_S_S768x256 main_cst_7
  let main_v29 : IVec S768x256 1 := cmpf .olt main_v27 main_v28
  let main_v30 : FVec F S128x256 .f32 := Host.absf main_arg1
  let main_cst_8 : FVec F S_ .f32 := constant S_ .f32 0x7F800000#32
  let main_v31 : FVec F S128x256 .f32 := broadcastInDim S128x256 ![] bcast_S_S128x256 main_cst_8
  let main_v32 : IVec S128x256 1 := cmpf .olt main_v30 main_v31
  let main_v33 : IVec S128x1 1 := broadcastInDim S128x1 ![0] bcast_S128_S128x1_0 main_v20
  let main_v34 : IVec S128x256 1 := broadcastInDim S128x256 ![0, 1] bcast_S128x1_S128x256_0_1 main_v33
  let main_v35 : IVec S128x256 1 := andi main_v32 main_v34
  (main_v26, main_v29, main_v35)

def fn {F : FTy → Type} [FloatOps F] (main_arg0 : FVec F S128x128x256 .f32) (main_arg1 : FVec F S128x256 .f32) (main_arg2 : FVec F S128x128 .f32) (main_arg3 : FVec F S768x256 .f32) (main_arg4 : FVec F S768x256 .f32) (main_arg5 : FVec F S768 .f32) (main_arg6 : FVec F S768 .f32) (main_arg7 : FVec F S256x256 .f32) (main_arg8 : FVec F S256 .f32) (main_arg9 : FVec F S256 .f32) (main_arg10 : FVec F S256 .f32) (main_arg11 : FVec F S256 .f32) (main_arg12 : FVec F S256 .f32) : IVec S256x256 1 × IVec S768x256 1 × IVec S128x256 1 :=
  let main_cst : FVec F S_ .f32 := constant S_ .f32 0x3727C5AC#32
  let main_v0 : FVec F S256 .f32 := broadcastInDim S256 ![] bcast_S_S256 main_cst
  let main_v1 : FVec F S256 .f32 := addf main_arg12 main_v0
  let main_v2 : FVec F S256 .f32 := Host.rsqrt main_v1
  let main_v3 : FVec F S256 .f32 := mulf main_arg9 main_v2
  let main_v4 : FVec F S256 .f32 := Host.absf main_arg8
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_v7 : FVec F S256 .f32 := Host.absf main_arg11
  let main_cst_1 : FVec F S_ .f32 := constant S_ .f32 0x7F800000#32
  let main_v8 : FVec F S256 .f32 := broadcastInDim S256 ![] bcast_S_S256 main_cst_1
  let main_v9 : IVec S256 1 := cmpf .olt main_v7 main_v8
  let main_v10 : IVec S256 1 := andi main_v6 main_v9
  let main_v11 : FVec F S256 .f32 := Host.absf main_v3
  let main_cst_2 : FVec F S_ .f32 := constant S_ .f32 0x7F800000#32
  let main_v12 : FVec F S256 .f32 := broadcastInDim S256 ![] bcast_S_S256 main_cst_2
  let main_v13 : IVec S256 1 := cmpf .olt main_v11 main_v12
  let main_v14 : IVec S256 1 := andi main_v10 main_v13
  let main_cst_3 : FVec F S_ .f32 := constant S_ .f32 0x00000000#32
  let main_v15 : FVec F S128 .f32 := (fun x v => Host.reduceAdd x v reducesTo_S128x128_S128_d1 h_S_) main_arg2 main_cst_3
  let main_cst_4 : FVec F S_ .f32 := constant S_ .f32 0x3F800000#32
  let main_v16 : FVec F S128 .f32 := broadcastInDim S128 ![] bcast_S_S128 main_cst_4
  let main_v17 : FVec F S128 .f32 := Host.divf main_v16 main_v15
  fn_part1 (F := F) main_arg1 main_arg3 main_arg7 main_v14 main_v17
-- ==== Pre_img_bn_finite.lean ====
abbrev S128x2048 : Shape := ⟨2, ![128, 2048]⟩
abbrev S256x2048 : Shape := ⟨2, ![256, 2048]⟩
abbrev S256 : Shape := ⟨1, ![256]⟩
abbrev S768x256 : Shape := ⟨2, ![768, 256]⟩
abbrev S768 : Shape := ⟨1, ![768]⟩
abbrev S_ : Shape := ⟨0, ![]⟩

class Facts : Prop where
  bcast_S_S128x2048 : S_.BroadcastsInDim S128x2048 (![] : Fin 0 → Fin S128x2048.rank)
  bcast_S_S256x2048 : S_.BroadcastsInDim S256x2048 (![] : Fin 0 → Fin S256x2048.rank)
  bcast_S_S256 : S_.BroadcastsInDim S256 (![] : Fin 0 → Fin S256.rank)

variable [Facts]

def fn_part1 {F : FTy → Type} [FloatOps F] (main_v2 : IVec S128x2048 1) (main_v5 : IVec S256x2048 1) (main_v8 : IVec S256 1) (main_v11 : IVec S256 1) (main_v16 : FVec F S256 .f32) (main_v17 : FVec F S256 .f32) : IVec S128x2048 1 × IVec S256x2048 1 × IVec S256 1 × IVec S256 1 × IVec S256 1 :=
  let main_v18 : IVec S256 1 := cmpf .olt main_v16 main_v17
  (main_v2, main_v5, main_v8, main_v11, main_v18)

def fn {F : FTy → Type} [FloatOps F] (main_arg0 : FVec F S128x2048 .f32) (main_arg1 : FVec F S256x2048 .f32) (main_arg2 : FVec F S256 .f32) (main_arg3 : FVec F S256 .f32) (main_arg4 : FVec F S256 .f32) (main_arg5 : FVec F S256 .f32) (main_arg6 : FVec F S256 .f32) (main_arg7 : FVec F S768x256 .f32) (main_arg8 : FVec F S768 .f32) : IVec S128x2048 1 × IVec S256x2048 1 × IVec S256 1 × IVec S256 1 × IVec S256 1 :=
  let main_v0 : FVec F S128x2048 .f32 := Host.absf main_arg0
  let main_cst : FVec F S_ .f32 := constant S_ .f32 0x7F800000#32
  let main_v1 : FVec F S128x2048 .f32 := broadcastInDim S128x2048 ![] bcast_S_S128x2048 main_cst
  let main_v2 : IVec S128x2048 1 := cmpf .olt main_v0 main_v1
  let main_v3 : FVec F S256x2048 .f32 := Host.absf main_arg1
  let main_cst_0 : FVec F S_ .f32 := constant S_ .f32 0x7F800000#32
  let main_v4 : FVec F S256x2048 .f32 := broadcastInDim S256x2048 ![] bcast_S_S256x2048 main_cst_0
  let main_v5 : IVec S256x2048 1 := cmpf .olt main_v3 main_v4
  let main_v6 : FVec F S256 .f32 := Host.absf main_arg2
  let main_cst_1 : FVec F S_ .f32 := constant S_ .f32 0x7F800000#32
  let main_v7 : FVec F S256 .f32 := broadcastInDim S256 ![] bcast_S_S256 main_cst_1
  let main_v8 : IVec S256 1 := cmpf .olt main_v6 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_cst_3 : FVec F S_ .f32 := constant S_ .f32 0x3727C5AC#32
  let main_v12 : FVec F S256 .f32 := broadcastInDim S256 ![] bcast_S_S256 main_cst_3
  let main_v13 : FVec F S256 .f32 := addf main_arg6 main_v12
  let main_v14 : FVec F S256 .f32 := Host.rsqrt main_v13
  let main_v15 : FVec F S256 .f32 := mulf main_arg3 main_v14
  let main_v16 : FVec F S256 .f32 := Host.absf main_v15
  let main_cst_4 : FVec F S_ .f32 := constant S_ .f32 0x7F800000#32
  let main_v17 : FVec F S256 .f32 := broadcastInDim S256 ![] bcast_S_S256 main_cst_4
  fn_part1 (F := F) main_v2 main_v5 main_v8 main_v11 main_v16 main_v17
-- ==== Pre_loss_inputs.lean ====
abbrev S128x128x256 : Shape := ⟨3, ![128, 128, 256]⟩
abbrev S128x256 : Shape := ⟨2, ![128, 256]⟩
abbrev S128x128 : Shape := ⟨2, ![128, 128]⟩
abbrev S768x256 : Shape := ⟨2, ![768, 256]⟩
abbrev S768 : Shape := ⟨1, ![768]⟩
abbrev S256x256 : Shape := ⟨2, ![256, 256]⟩
abbrev S256 : Shape := ⟨1, ![256]⟩
abbrev S190x256 : Shape := ⟨2, ![190, 256]⟩
abbrev S190 : Shape := ⟨1, ![190]⟩
abbrev S_ : Shape := ⟨0, ![]⟩
abbrev S128 : Shape := ⟨1, ![128]⟩

class Facts : Prop where
  bcast_S_S128x128x256 : S_.BroadcastsInDim S128x128x256 (![] : Fin 0 → Fin S128x128x256.rank)
  bcast_S_S128x256 : S_.BroadcastsInDim S128x256 (![] : Fin 0 → Fin S128x256.rank)
  bcast_S_S128x128 : S_.BroadcastsInDim S128x128 (![] : Fin 0 → Fin S128x128.rank)
  reducesTo_S128x128_S128_d1 : S128x128.ReducesTo [1] S128
  h_S_ : 0 < S_.numel
  bcast_S_S128 : S_.BroadcastsInDim S128 (![] : Fin 0 → Fin S128.rank)
  bcast_S_S768x256 : S_.BroadcastsInDim S768x256 (![] : Fin 0 → Fin S768x256.rank)
  bcast_S_S768 : S_.BroadcastsInDim S768 (![] : Fin 0 → Fin S768.rank)
  bcast_S_S256x256 : S_.BroadcastsInDim S256x256 (![] : Fin 0 → Fin S256x256.rank)
  bcast_S_S256 : S_.BroadcastsInDim S256 (![] : Fin 0 → Fin S256.rank)
  bcast_S_S190x256 : S_.BroadcastsInDim S190x256 (![] : Fin 0 → Fin S190x256.rank)
  bcast_S_S190 : S_.BroadcastsInDim S190 (![] : Fin 0 → Fin S190.rank)

variable [Facts]

def fn_part2 {F : FTy → Type} [FloatOps F] (main_arg9 : FVec F S256x256 .f32) (main_arg10 : FVec F S256 .f32) (main_arg11 : FVec F S190x256 .f32) (main_arg12 : FVec F S190 .f32) (main_v2 : IVec S128x128x256 1) (main_v5 : IVec S128x128x256 1) (main_v8 : IVec S128x256 1) (main_v11 : IVec S128x256 1) (main_v14 : IVec S128x256 1) (main_v17 : IVec S128x128 1) (main_v23 : IVec S128 1) (main_v28 : IVec S128x128 1) (main_v31 : IVec S768x256 1) (main_v34 : IVec S768 1) : IVec S128x128x256 1 × IVec S128x128x256 1 × IVec S128x256 1 × IVec S128x256 1 × IVec S128x256 1 × IVec S128x128 1 × IVec S128 1 × IVec S128x128 1 × IVec S768x256 1 × IVec S768 1 × IVec S256x256 1 × IVec S256 1 × IVec S190x256 1 × IVec S190 1 :=
  let main_v35 : FVec F S256x256 .f32 := Host.absf main_arg9
  let main_cst_11 : FVec F S_ .f32 := constant S_ .f32 0x7F800000#32
  let main_v36 : FVec F S256x256 .f32 := broadcastInDim S256x256 ![] bcast_S_S256x256 main_cst_11
  let main_v37 : IVec S256x256 1 := cmpf .olt main_v35 main_v36
  let main_v38 : FVec F S256 .f32 := Host.absf main_arg10
  let main_cst_12 : FVec F S_ .f32 := constant S_ .f32 0x7F800000#32
  let main_v39 : FVec F S256 .f32 := broadcastInDim S256 ![] bcast_S_S256 main_cst_12
  let main_v40 : IVec S256 1 := cmpf .olt main_v38 main_v39
  let main_v41 : FVec F S190x256 .f32 := Host.absf main_arg11
  let main_cst_13 : FVec F S_ .f32 := constant S_ .f32 0x7F800000#32
  let main_v42 : FVec F S190x256 .f32 := broadcastInDim S190x256 ![] bcast_S_S190x256 main_cst_13
  let main_v43 : IVec S190x256 1 := cmpf .olt main_v41 main_v42
  let main_v44 : FVec F S190 .f32 := Host.absf main_arg12
  let main_cst_14 : FVec F S_ .f32 := constant S_ .f32 0x7F800000#32
  let main_v45 : FVec F S190 .f32 := broadcastInDim S190 ![] bcast_S_S190 main_cst_14
  let main_v46 : IVec S190 1 := cmpf .olt main_v44 main_v45
  (main_v2, main_v5, main_v8, main_v11, main_v14, main_v17, main_v23, main_v28, main_v31, main_v34, main_v37, main_v40, main_v43, main_v46)

def fn_part1 {F : FTy → Type} [FloatOps F] (main_arg5 : FVec F S128x128 .f32) (main_arg6 : IVec S128x128 32) (main_arg7 : FVec F S768x256 .f32) (main_arg8 : FVec F S768 .f32) (main_arg9 : FVec F S256x256 .f32) (main_arg10 : FVec F S256 .f32) (main_arg11 : FVec F S190x256 .f32) (main_arg12 : FVec F S190 .f32) (main_v2 : IVec S128x128x256 1) (main_v5 : IVec S128x128x256 1) (main_v8 : IVec S128x256 1) (main_v11 : IVec S128x256 1) (main_v14 : IVec S128x256 1) (main_v17 : IVec S128x128 1) : IVec S128x128x256 1 × IVec S128x128x256 1 × IVec S128x256 1 × IVec S128x256 1 × IVec S128x256 1 × IVec S128x128 1 × IVec S128 1 × IVec S128x128 1 × IVec S768x256 1 × IVec S768 1 × IVec S256x256 1 × IVec S256 1 × IVec S190x256 1 × IVec S190 1 :=
  let main_cst_5 : FVec F S_ .f32 := constant S_ .f32 0x00000000#32
  let main_v18 : FVec F S128 .f32 := (fun x v => Host.reduceAdd x v reducesTo_S128x128_S128_d1 h_S_) main_arg5 main_cst_5
  let main_cst_6 : FVec F S_ .f32 := constant S_ .f32 0x3F800000#32
  let main_v19 : FVec F S128 .f32 := broadcastInDim S128 ![] bcast_S_S128 main_cst_6
  let main_v20 : FVec F S128 .f32 := Host.divf main_v19 main_v18
  let main_v21 : FVec F S128 .f32 := Host.absf main_v20
  let main_cst_7 : FVec F S_ .f32 := constant S_ .f32 0x7F800000#32
  let main_v22 : FVec F S128 .f32 := broadcastInDim S128 ![] bcast_S_S128 main_cst_7
  let main_v23 : IVec S128 1 := cmpf .olt main_v21 main_v22
  let main_c : IVec S_ 32 := constantI S_ 32 0#32
  let main_v24 : IVec S128x128 32 := broadcastInDim S128x128 ![] bcast_S_S128x128 main_c
  let main_v25 : IVec S128x128 1 := cmpi .sge main_arg6 main_v24
  let main_c_8 : IVec S_ 32 := constantI S_ 32 190#32
  let main_v26 : IVec S128x128 32 := broadcastInDim S128x128 ![] bcast_S_S128x128 main_c_8
  let main_v27 : IVec S128x128 1 := cmpi .slt main_arg6 main_v26
  let main_v28 : IVec S128x128 1 := andi main_v25 main_v27
  let main_v29 : FVec F S768x256 .f32 := Host.absf main_arg7
  let main_cst_9 : FVec F S_ .f32 := constant S_ .f32 0x7F800000#32
  let main_v30 : FVec F S768x256 .f32 := broadcastInDim S768x256 ![] bcast_S_S768x256 main_cst_9
  let main_v31 : IVec S768x256 1 := cmpf .olt main_v29 main_v30
  let main_v32 : FVec F S768 .f32 := Host.absf main_arg8
  let main_cst_10 : FVec F S_ .f32 := constant S_ .f32 0x7F800000#32
  let main_v33 : FVec F S768 .f32 := broadcastInDim S768 ![] bcast_S_S768 main_cst_10
  let main_v34 : IVec S768 1 := cmpf .olt main_v32 main_v33
  fn_part2 (F := F) main_arg9 main_arg10 main_arg11 main_arg12 main_v2 main_v5 main_v8 main_v11 main_v14 main_v17 main_v23 main_v28 main_v31 main_v34

def fn {F : FTy → Type} [FloatOps F] (main_arg0 : FVec F S128x128x256 .f32) (main_arg1 : FVec F S128x128x256 .f32) (main_arg2 : FVec F S128x256 .f32) (main_arg3 : FVec F S128x256 .f32) (main_arg4 : FVec F S128x256 .f32) (main_arg5 : FVec F S128x128 .f32) (main_arg6 : IVec S128x128 32) (main_arg7 : FVec F S768x256 .f32) (main_arg8 : FVec F S768 .f32) (main_arg9 : FVec F S256x256 .f32) (main_arg10 : FVec F S256 .f32) (main_arg11 : FVec F S190x256 .f32) (main_arg12 : FVec F S190 .f32) : IVec S128x128x256 1 × IVec S128x128x256 1 × IVec S128x256 1 × IVec S128x256 1 × IVec S128x256 1 × IVec S128x128 1 × IVec S128 1 × IVec S128x128 1 × IVec S768x256 1 × IVec S768 1 × IVec S256x256 1 × IVec S256 1 × IVec S190x256 1 × IVec S190 1 :=
  let main_v0 : FVec F S128x128x256 .f32 := Host.absf main_arg0
  let main_cst : FVec F S_ .f32 := constant S_ .f32 0x7F800000#32
  let main_v1 : FVec F S128x128x256 .f32 := broadcastInDim S128x128x256 ![] bcast_S_S128x128x256 main_cst
  let main_v2 : IVec S128x128x256 1 := cmpf .olt main_v0 main_v1
  let main_v3 : FVec F S128x128x256 .f32 := Host.absf main_arg1
  let main_cst_0 : FVec F S_ .f32 := constant S_ .f32 0x7F800000#32
  let main_v4 : FVec F S128x128x256 .f32 := broadcastInDim S128x128x256 ![] bcast_S_S128x128x256 main_cst_0
  let main_v5 : IVec S128x128x256 1 := cmpf .olt main_v3 main_v4
  let main_v6 : FVec F S128x256 .f32 := Host.absf main_arg2
  let main_cst_1 : FVec F S_ .f32 := constant S_ .f32 0x7F800000#32
  let main_v7 : FVec F S128x256 .f32 := broadcastInDim S128x256 ![] bcast_S_S128x256 main_cst_1
  let main_v8 : IVec S128x256 1 := cmpf .olt main_v6 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_v12 : FVec F S128x256 .f32 := Host.absf main_arg4
  let main_cst_3 : FVec F S_ .f32 := constant S_ .f32 0x7F800000#32
  let main_v13 : FVec F S128x256 .f32 := broadcastInDim S128x256 ![] bcast_S_S128x256 main_cst_3
  let main_v14 : IVec S128x256 1 := cmpf .olt main_v12 main_v13
  let main_v15 : FVec F S128x128 .f32 := Host.absf main_arg5
  let main_cst_4 : FVec F S_ .f32 := constant S_ .f32 0x7F800000#32
  let main_v16 : FVec F S128x128 .f32 := broadcastInDim S128x128 ![] bcast_S_S128x128 main_cst_4
  let main_v17 : IVec S128x128 1 := cmpf .olt main_v15 main_v16
  fn_part1 (F := F) main_arg5 main_arg6 main_arg7 main_arg8 main_arg9 main_arg10 main_arg11 main_arg12 main_v2 main_v5 main_v8 main_v11 main_v14 main_v17
-- ==== Pre_text_bn_finite.lean ====
abbrev S128x128x2048 : Shape := ⟨3, ![128, 128, 2048]⟩
abbrev S384x2048 : Shape := ⟨2, ![384, 2048]⟩
abbrev S384x128 : Shape := ⟨2, ![384, 128]⟩
abbrev S384 : Shape := ⟨1, ![384]⟩
abbrev S256x128 : Shape := ⟨2, ![256, 128]⟩
abbrev S256 : Shape := ⟨1, ![256]⟩
abbrev S_ : Shape := ⟨0, ![]⟩
abbrev S256x1 : Shape := ⟨2, ![256, 1]⟩

class Facts : Prop where
  bcast_S_S256 : S_.BroadcastsInDim S256 (![] : Fin 0 → Fin S256.rank)
  bcast_S_S256x128 : S_.BroadcastsInDim S256x128 (![] : Fin 0 → Fin S256x128.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)

variable [Facts]

def fn_part1 {F : FTy → Type} [FloatOps F] (main_v17 : IVec S256x128 1) (main_v18 : IVec S256x1 1) : IVec S256x128 1 :=
  let main_v19 : IVec S256x128 1 := broadcastInDim S256x128 ![0, 1] bcast_S256x1_S256x128_0_1 main_v18
  let main_v20 : IVec S256x128 1 := andi main_v17 main_v19
  main_v20

def fn {F : FTy → Type} [FloatOps F] (main_arg0 : FVec F S128x128x2048 .f32) (main_arg1 : FVec F S384x2048 .f32) (main_arg2 : FVec F S384x128 .f32) (main_arg3 : FVec F S384 .f32) (main_arg4 : FVec F S384 .f32) (main_arg5 : FVec F S256x128 .f32) (main_arg6 : FVec F S256 .f32) (main_arg7 : FVec F S256 .f32) (main_arg8 : FVec F S256 .f32) (main_arg9 : FVec F S256 .f32) (main_arg10 : FVec F S256 .f32) : IVec S256x128 1 :=
  let main_cst : FVec F S_ .f32 := constant S_ .f32 0x3727C5AC#32
  let main_v0 : FVec F S256 .f32 := broadcastInDim S256 ![] bcast_S_S256 main_cst
  let main_v1 : FVec F S256 .f32 := addf main_arg10 main_v0
  let main_v2 : FVec F S256 .f32 := Host.rsqrt main_v1
  let main_v3 : FVec F S256 .f32 := mulf main_arg7 main_v2
  let main_v4 : FVec F S256 .f32 := Host.absf main_arg6
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_v7 : FVec F S256 .f32 := Host.absf main_arg9
  let main_cst_1 : FVec F S_ .f32 := constant S_ .f32 0x7F800000#32
  let main_v8 : FVec F S256 .f32 := broadcastInDim S256 ![] bcast_S_S256 main_cst_1
  let main_v9 : IVec S256 1 := cmpf .olt main_v7 main_v8
  let main_v10 : IVec S256 1 := andi main_v6 main_v9
  let main_v11 : FVec F S256 .f32 := Host.absf main_v3
  let main_cst_2 : FVec F S_ .f32 := constant S_ .f32 0x7F800000#32
  let main_v12 : FVec F S256 .f32 := broadcastInDim S256 ![] bcast_S_S256 main_cst_2
  let main_v13 : IVec S256 1 := cmpf .olt main_v11 main_v12
  let main_v14 : IVec S256 1 := andi main_v10 main_v13
  let main_v15 : FVec F S256x128 .f32 := Host.absf main_arg5
  let main_cst_3 : FVec F S_ .f32 := constant S_ .f32 0x7F800000#32
  let main_v16 : FVec F S256x128 .f32 := broadcastInDim S256x128 ![] bcast_S_S256x128 main_cst_3
  let main_v17 : IVec S256x128 1 := cmpf .olt main_v15 main_v16
  let main_v18 : IVec S256x1 1 := broadcastInDim S256x1 ![0] bcast_S256_S256x1_0 main_v14
  fn_part1 (F := F) main_v17 main_v18
-- ==== Gru1.lean ====
abbrev S128x128x2048 : Shape := ⟨3, ![128, 128, 2048]⟩
abbrev S384x2048 : Shape := ⟨2, ![384, 2048]⟩
abbrev S384x128 : Shape := ⟨2, ![384, 128]⟩
abbrev S384 : Shape := ⟨1, ![384]⟩
abbrev S256x128 : Shape := ⟨2, ![256, 128]⟩
abbrev S256 : Shape := ⟨1, ![256]⟩
abbrev S_ : Shape := ⟨0, ![]⟩
abbrev S128x256 : Shape := ⟨2, ![128, 256]⟩
abbrev S1x256 : Shape := ⟨2, ![1, 256]⟩
abbrev S2048x384 : Shape := ⟨2, ![2048, 384]⟩
abbrev S128x384 : Shape := ⟨2, ![128, 384]⟩
abbrev S1x384 : Shape := ⟨2, ![1, 384]⟩
abbrev S128x128x256 : Shape := ⟨3, ![128, 128, 256]⟩
abbrev S128x8x2048 : Shape := ⟨3, ![128, 8, 2048]⟩
abbrev S128x8x256 : Shape := ⟨3, ![128, 8, 256]⟩
abbrev S128x128 : Shape := ⟨2, ![128, 128]⟩
abbrev S128x1x2048 : Shape := ⟨3, ![128, 1, 2048]⟩
abbrev S128x2048 : Shape := ⟨2, ![128, 2048]⟩
abbrev S128x1x256 : Shape := ⟨3, ![128, 1, 256]⟩

abbrev nBuf : Space → Nat
  | .hbm => 30
  | .vmem => 12
  | .smem => 0
  | _ => 0

abbrev bufTy : (tb : Table) → Fin (tcTables nBuf tb) → BufTy
  | .hbm, ⟨0, _⟩ => ⟨S128x128x2048, .f32⟩
  | .hbm, ⟨1, _⟩ => ⟨S384x2048, .f32⟩
  | .hbm, ⟨2, _⟩ => ⟨S384x128, .f32⟩
  | .hbm, ⟨3, _⟩ => ⟨S384, .f32⟩
  | .hbm, ⟨4, _⟩ => ⟨S384, .f32⟩
  | .hbm, ⟨5, _⟩ => ⟨S256x128, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S_, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S128x256, .f32⟩
  | .hbm, ⟨17, _⟩ => ⟨S1x256, .f32⟩
  | .hbm, ⟨18, _⟩ => ⟨S128x256, .f32⟩
  | .hbm, ⟨19, _⟩ => ⟨S128x256, .f32⟩
  | .hbm, ⟨20, _⟩ => ⟨S256, .f32⟩
  | .hbm, ⟨21, _⟩ => ⟨S256, .f32⟩
  | .hbm, ⟨22, _⟩ => ⟨S256, .f32⟩
  | .hbm, ⟨23, _⟩ => ⟨S1x256, .f32⟩
  | .hbm, ⟨24, _⟩ => ⟨S2048x384, .f32⟩
  | .hbm, ⟨25, _⟩ => ⟨S128x384, .f32⟩
  | .hbm, ⟨26, _⟩ => ⟨S1x384, .f32⟩
  | .hbm, ⟨27, _⟩ => ⟨S1x384, .f32⟩
  | .hbm, ⟨28, _⟩ => ⟨S128x128x256, .f32⟩
  | .hbm, ⟨29, _⟩ => ⟨S128x256, .f32⟩
  | .local _ .vmem, ⟨0, _⟩ => ⟨S128x8x2048, .f32⟩
  | .local _ .vmem, ⟨1, _⟩ => ⟨S128x8x2048, .f32⟩
  | .local _ .vmem, ⟨2, _⟩ => ⟨S2048x384, .f32⟩
  | .local _ .vmem, ⟨3, _⟩ => ⟨S1x384, .f32⟩
  | .local _ .vmem, ⟨4, _⟩ => ⟨S128x384, .f32⟩
  | .local _ .vmem, ⟨5, _⟩ => ⟨S1x384, .f32⟩
  | .local _ .vmem, ⟨6, _⟩ => ⟨S128x256, .f32⟩
  | .local _ .vmem, ⟨7, _⟩ => ⟨S1x256, .f32⟩
  | .local _ .vmem, ⟨8, _⟩ => ⟨S128x8x256, .f32⟩
  | .local _ .vmem, ⟨9, _⟩ => ⟨S128x8x256, .f32⟩
  | .local _ .vmem, ⟨10, _⟩ => ⟨S128x256, .f32⟩
  | .local _ .vmem, ⟨11, _⟩ => ⟨S128x128, .f32⟩
  | _, _ => ⟨S128x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_v0_0 : Ref sig .tc := ⟨.hbm, 28, rfl⟩
abbrev main_v0_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== TextRefIdeal.lean ====
abbrev S128x128x2048 : Shape := ⟨3, ![128, 128, 2048]⟩
abbrev S384x2048 : Shape := ⟨2, ![384, 2048]⟩
abbrev S384x128 : Shape := ⟨2, ![384, 128]⟩
abbrev S384 : Shape := ⟨1, ![384]⟩
abbrev S256x128 : Shape := ⟨2, ![256, 128]⟩
abbrev S256 : Shape := ⟨1, ![256]⟩
abbrev S2048x384 : Shape := ⟨2, ![2048, 384]⟩
abbrev S128x128x384 : Shape := ⟨3, ![128, 128, 384]⟩
abbrev S1x1x384 : Shape := ⟨3, ![1, 1, 384]⟩
abbrev S_ : Shape := ⟨0, ![]⟩
abbrev S128x128 : Shape := ⟨2, ![128, 128]⟩
abbrev S128x128x128 : Shape := ⟨3, ![128, 128, 128]⟩
abbrev S1x128x384 : Shape := ⟨3, ![1, 128, 384]⟩
abbrev S128x384 : Shape := ⟨2, ![128, 384]⟩
abbrev S1x384 : Shape := ⟨2, ![1, 384]⟩
abbrev S1x128x128 : Shape := ⟨3, ![1, 128, 128]⟩
abbrev S128x256 : Shape := ⟨2, ![128, 256]⟩
abbrev S128x128x256 : Shape := ⟨3, ![128, 128, 256]⟩
abbrev S1x1x256 : Shape := ⟨3, ![1, 1, 256]⟩

abbrev nBuf : Space → Nat
  | .hbm => 106
  | .vmem => 0
  | .smem => 0
  | _ => 0

abbrev bufTy : (tb : Table) → Fin (tcTables nBuf tb) → BufTy
  | .hbm, ⟨0, _⟩ => ⟨S128x128x2048, .f32⟩
  | .hbm, ⟨1, _⟩ => ⟨S384x2048, .f32⟩
  | .hbm, ⟨2, _⟩ => ⟨S384x128, .f32⟩
  | .hbm, ⟨3, _⟩ => ⟨S384, .f32⟩
  | .hbm, ⟨4, _⟩ => ⟨S384, .f32⟩
  | .hbm, ⟨5, _⟩ => ⟨S256x128, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S2048x384, .f32⟩
  | .hbm, ⟨12, _⟩ => ⟨S128x128x384, .f32⟩
  | .hbm, ⟨13, _⟩ => ⟨S1x1x384, .f32⟩
  | .hbm, ⟨14, _⟩ => ⟨S128x128x384, .f32⟩
  | .hbm, ⟨15, _⟩ => ⟨S128x128x384, .f32⟩
  | .hbm, ⟨16, _⟩ => ⟨S_, .f32⟩
  | .hbm, ⟨17, _⟩ => ⟨S128x128, .f32⟩
  | .hbm, ⟨18, _⟩ => ⟨S128x128x384, .f32⟩
  | .hbm, ⟨19, _⟩ => ⟨S_, .f32⟩
  | .hbm, ⟨20, _⟩ => ⟨S128x128x128, .f32⟩
  | .hbm, ⟨21, _⟩ => ⟨S_, .i32⟩
  | .hbm, ⟨22, _⟩ => ⟨S128x128x384, .f32⟩
  | .hbm, ⟨23, _⟩ => ⟨S384x128, .f32⟩
  | .hbm, ⟨24, _⟩ => ⟨S384, .f32⟩
  | .hbm, ⟨25, _⟩ => ⟨S_, .i32⟩
  | .hbm, ⟨26, _⟩ => ⟨S128x128, .f32⟩
  | .hbm, ⟨27, _⟩ => ⟨S128x128x128, .f32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S1x128x384, .f32⟩
  | .hbm, ⟨33, _⟩ => ⟨S128x384, .f32⟩
  | .hbm, ⟨34, _⟩ => ⟨S128x384, .f32⟩
  | .hbm, ⟨35, _⟩ => ⟨S128x384, .f32⟩
  | .hbm, ⟨36, _⟩ => ⟨S1x384, .f32⟩
  | .hbm, ⟨37, _⟩ => ⟨S128x384, .f32⟩
  | .hbm, ⟨38, _⟩ => ⟨S128x384, .f32⟩
  | .hbm, ⟨39, _⟩ => ⟨S128x128, .f32⟩
  | .hbm, ⟨40, _⟩ => ⟨S128x128, .f32⟩
  | .hbm, ⟨41, _⟩ => ⟨S128x128, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S128x128, .f32⟩
  | .hbm, ⟨48, _⟩ => ⟨S_, .f32⟩
  | .hbm, ⟨49, _⟩ => ⟨S128x128, .f32⟩
  | .hbm, ⟨50, _⟩ => ⟨S128x128, .f32⟩
  | .hbm, ⟨51, _⟩ => ⟨S_, .f32⟩
  | .hbm, ⟨52, _⟩ => ⟨S128x128, .f32⟩
  | .hbm, ⟨53, _⟩ => ⟨S128x128, .f32⟩
  | .hbm, ⟨54, _⟩ => ⟨S128x128, .f32⟩
  | .hbm, ⟨55, _⟩ => ⟨S128x128, .f32⟩
  | .hbm, ⟨56, _⟩ => ⟨S128x128, .f32⟩
  | .hbm, ⟨57, _⟩ => ⟨S_, .f32⟩
  | .hbm, ⟨58, _⟩ => ⟨S128x128, .f32⟩
  | .hbm, ⟨59, _⟩ => ⟨S128x128, .f32⟩
  | .hbm, ⟨60, _⟩ => ⟨S_, .f32⟩
  | .hbm, ⟨61, _⟩ => ⟨S128x128, .f32⟩
  | .hbm, ⟨62, _⟩ => ⟨S128x128, .f32⟩
  | .hbm, ⟨63, _⟩ => ⟨S128x128, .f32⟩
  | .hbm, ⟨64, _⟩ => ⟨S128x128, .f32⟩
  | .hbm, ⟨65, _⟩ => ⟨S128x128, .f32⟩
  | .hbm, ⟨66, _⟩ => ⟨S_, .f32⟩
  | .hbm, ⟨67, _⟩ => ⟨S128x128, .f32⟩
  | .hbm, ⟨68, _⟩ => ⟨S128x128, .f32⟩
  | .hbm, ⟨69, _⟩ => ⟨S128x128, .f32⟩
  | .hbm, ⟨70, _⟩ => ⟨S128x128, .f32⟩
  | .hbm, ⟨71, _⟩ => ⟨S128x128, .f32⟩
  | .hbm, ⟨72, _⟩ => ⟨S1x128x128, .f32⟩
  | .hbm, ⟨73, _⟩ => ⟨S_, .i32⟩
  | .hbm, ⟨74, _⟩ => ⟨S_, .i32⟩
  | .hbm, ⟨75, _⟩ => ⟨S128x128x128, .f32⟩
  | .hbm, ⟨76, _⟩ => ⟨S_, .i32⟩
  | .hbm, ⟨77, _⟩ => ⟨S_, .i32⟩
  | .hbm, ⟨78, _⟩ => ⟨S128x128x128, .f32⟩
  | .hbm, ⟨79, _⟩ => ⟨S_, .f32⟩
  | .hbm, ⟨80, _⟩ => ⟨S128x128x128, .f32⟩
  | .hbm, ⟨81, _⟩ => ⟨S128x128x128, .f32⟩
  | .hbm, ⟨82, _⟩ => ⟨S128x256, .f32⟩
  | .hbm, ⟨83, _⟩ => ⟨S128x128x256, .f32⟩
  | .hbm, ⟨84, _⟩ => ⟨S1x1x256, .f32⟩
  | .hbm, ⟨85, _⟩ => ⟨S128x128x256, .f32⟩
  | .hbm, ⟨86, _⟩ => ⟨S128x128x256, .f32⟩
  | .hbm, ⟨87, _⟩ => ⟨S1x1x256, .f32⟩
  | .hbm, ⟨88, _⟩ => ⟨S128x128x256, .f32⟩
  | .hbm, ⟨89, _⟩ => ⟨S128x128x256, .f32⟩
  | .hbm, ⟨90, _⟩ => ⟨S_, .f32⟩
  | .hbm, ⟨91, _⟩ => ⟨S256, .f32⟩
  | .hbm, ⟨92, _⟩ => ⟨S256, .f32⟩
  | .hbm, ⟨93, _⟩ => ⟨S256, .f32⟩
  | .hbm, ⟨94, _⟩ => ⟨S256, .f32⟩
  | .hbm, ⟨95, _⟩ => ⟨S1x1x256, .f32⟩
  | .hbm, ⟨96, _⟩ => ⟨S128x128x256, .f32⟩
  | .hbm, ⟨97, _⟩ => ⟨S128x128x256, .f32⟩
  | .hbm, ⟨98, _⟩ => ⟨S1x1x256, .f32⟩
  | .hbm, ⟨99, _⟩ => ⟨S128x128x256, .f32⟩
  | .hbm, ⟨100, _⟩ => ⟨S128x128x256, .f32⟩
  | .hbm, ⟨101, _⟩ => ⟨S_, .f32⟩
  | .hbm, ⟨102, _⟩ => ⟨S128x128x256, .f32⟩
  | .hbm, ⟨103, _⟩ => ⟨S128x128x256, .f32⟩
  | .hbm, ⟨104, _⟩ => ⟨S_, .f32⟩
  | .hbm, ⟨105, _⟩ => ⟨S128x256, .f32⟩
  | _, _ => ⟨S128x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_c : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev main_v8_3 : Ref sig .tc := ⟨.hbm, 25, rfl⟩
abbrev main_v8_4 : Ref sig .tc := ⟨.hbm, 26, rfl⟩
abbrev main_v8_5 : Ref sig .tc := ⟨.hbm, 27, rfl⟩
abbrev main_while0c_c_8 : Ref sig .tc := ⟨.hbm, 28, rfl⟩
abbrev main_while0c_v31 : Ref sig .tc := ⟨.hbm, 29, rfl⟩
abbrev main_while0b_call0_c : Ref sig .tc := ⟨.hbm, 30, rfl⟩
abbrev main_while0b_call0_c_0 : Ref sig .tc := ⟨.hbm, 31, rfl⟩
abbrev main_while0b_call0_v0 : Ref sig .tc := ⟨.hbm, 32, rfl⟩
abbrev main_while0b_v31 : Ref sig .tc := ⟨.hbm, 33, rfl⟩
abbrev main_while0b_v32 : Ref sig .tc := ⟨.hbm, 34, rfl⟩
abbrev main_while0b_v33 : Ref sig .tc := ⟨.hbm, 35, rfl⟩
abbrev main_while0b_v34 : Ref sig .tc := ⟨.hbm, 36, rfl⟩
abbrev main_while0b_v35 : Ref sig .tc := ⟨.hbm, 37, rfl⟩
abbrev main_while0b_v36 : Ref sig .tc := ⟨.hbm, 38, rfl⟩
abbrev main_while0b_v37 : Ref sig .tc := ⟨.hbm, 39, rfl⟩
abbrev main_while0b_v38 : Ref sig .tc := ⟨.hbm, 40, rfl⟩
abbrev main_while0b_v39 : Ref sig .tc := ⟨.hbm, 41, rfl⟩
abbrev main_while0b_v40 : Ref sig .tc := ⟨.hbm, 42, rfl⟩
abbrev main_while0b_v41 : Ref sig .tc := ⟨.hbm, 43, rfl⟩
abbrev main_while0b_v42 : Ref sig .tc := ⟨.hbm, 44, rfl⟩
abbrev main_while0b_v43 : Ref sig .tc := ⟨.hbm, 45, rfl⟩
abbrev main_while0b_v44 : Ref sig .tc := ⟨.hbm, 46, rfl⟩
abbrev main_while0b_v45 : Ref sig .tc := ⟨.hbm, 47, rfl⟩
abbrev main_while0b_cst_8 : Ref sig .tc := ⟨.hbm, 48, rfl⟩
abbrev main_while0b_v46 : Ref sig .tc := ⟨.hbm, 49, rfl⟩
abbrev main_while0b_v47 : Ref sig .tc := ⟨.hbm, 50, rfl⟩
abbrev main_while0b_cst_9 : Ref sig .tc := ⟨.hbm, 51, rfl⟩
abbrev main_while0b_v48 : Ref sig .tc := ⟨.hbm, 52, rfl⟩
abbrev main_while0b_v49 : Ref sig .tc := ⟨.hbm, 53, rfl⟩
abbrev main_while0b_v50 : Ref sig .tc := ⟨.hbm, 54, rfl⟩
abbrev main_while0b_v51 : Ref sig .tc := ⟨.hbm, 55, rfl⟩
abbrev main_while0b_v52 : Ref sig .tc := ⟨.hbm, 56, rfl⟩
abbrev main_while0b_cst_10 : Ref sig .tc := ⟨.hbm, 57, rfl⟩
abbrev main_while0b_v53 : Ref sig .tc := ⟨.hbm, 58, rfl⟩
abbrev main_while0b_v54 : Ref sig .tc := ⟨.hbm, 59, rfl⟩
abbrev main_while0b_cst_11 : Ref sig .tc := ⟨.hbm, 60, rfl⟩
abbrev main_while0b_v55 : Ref sig .tc := ⟨.hbm, 61, rfl⟩
abbrev main_while0b_v56 : Ref sig .tc := ⟨.hbm, 62, rfl⟩
abbrev main_while0b_v57 : Ref sig .tc := ⟨.hbm, 63, rfl⟩
abbrev main_while0b_v58 : Ref sig .tc := ⟨.hbm, 64, rfl⟩
abbrev main_while0b_v59 : Ref sig .tc := ⟨.hbm, 65, rfl⟩
abbrev main_while0b_cst_12 : Ref sig .tc := ⟨.hbm, 66, rfl⟩
abbrev main_while0b_v60 : Ref sig .tc := ⟨.hbm, 67, rfl⟩
abbrev main_while0b_v61 : Ref sig .tc := ⟨.hbm, 68, rfl⟩
abbrev main_while0b_v62 : Ref sig .tc := ⟨.hbm, 69, rfl⟩
abbrev main_while0b_v63 : Ref sig .tc := ⟨.hbm, 70, rfl⟩
abbrev main_while0b_v64 : Ref sig .tc := ⟨.hbm, 71, rfl⟩
abbrev main_while0b_call1_v0 : Ref sig .tc := ⟨.hbm, 72, rfl⟩
abbrev main_while0b_call1_c : Ref sig .tc := ⟨.hbm, 73, rfl⟩
abbrev main_while0b_call1_c_0 : Ref sig .tc := ⟨.hbm, 74, rfl⟩
abbrev main_while0b_v65 : Ref sig .tc := ⟨.hbm, 75, rfl⟩
abbrev main_while0b_c_13 : Ref sig .tc := ⟨.hbm, 76, rfl⟩
abbrev main_while0b_v66 : Ref sig .tc := ⟨.hbm, 77, rfl⟩
abbrev main_v9 : Ref sig .tc := ⟨.hbm, 78, rfl⟩
abbrev main_call2_cst : Ref sig .tc := ⟨.hbm, 79, rfl⟩
abbrev main_call2_v0 : Ref sig .tc := ⟨.hbm, 80, rfl⟩
abbrev main_v10 : Ref sig .tc := ⟨.hbm, 81, rfl⟩
abbrev main_v11 : Ref sig .tc := ⟨.hbm, 82, rfl⟩
abbrev main_v12 : Ref sig .tc := ⟨.hbm, 83, rfl⟩
abbrev main_v13 : Ref sig .tc := ⟨.hbm, 84, rfl⟩
abbrev main_v14 : Ref sig .tc := ⟨.hbm, 85, rfl⟩
abbrev main_v15 : Ref sig .tc := ⟨.hbm, 86, rfl⟩
abbrev main_v16 : Ref sig .tc := ⟨.hbm, 87, rfl⟩
abbrev main_v17 : Ref sig .tc := ⟨.hbm, 88, rfl⟩
abbrev main_v18 : Ref sig .tc := ⟨.hbm, 89, rfl⟩
abbrev main_cst_1 : Ref sig .tc := ⟨.hbm, 90, rfl⟩
abbrev main_v19 : Ref sig .tc := ⟨.hbm, 91, rfl⟩
abbrev main_v20 : Ref sig .tc := ⟨.hbm, 92, rfl⟩
abbrev main_v21 : Ref sig .tc := ⟨.hbm, 93, rfl⟩
abbrev main_v22 : Ref sig .tc := ⟨.hbm, 94, rfl⟩
abbrev main_v23 : Ref sig .tc := ⟨.hbm, 95, rfl⟩
abbrev main_v24 : Ref sig .tc := ⟨.hbm, 96, rfl⟩
abbrev main_v25 : Ref sig .tc := ⟨.hbm, 97, rfl⟩
abbrev main_v26 : Ref sig .tc := ⟨.hbm, 98, rfl⟩
abbrev main_v27 : Ref sig .tc := ⟨.hbm, 99, rfl⟩
abbrev main_v28 : Ref sig .tc := ⟨.hbm, 100, rfl⟩
abbrev main_call3_cst : Ref sig .tc := ⟨.hbm, 101, rfl⟩
abbrev main_call3_v0 : Ref sig .tc := ⟨.hbm, 102, rfl⟩
abbrev main_v29 : Ref sig .tc := ⟨.hbm, 103, rfl⟩
abbrev main_cst_2 : Ref sig .tc := ⟨.hbm, 104, rfl⟩
abbrev main_v30 : Ref sig .tc := ⟨.hbm, 105, rfl⟩

abbrev nD : Nat := 1
abbrev τ : Topo := Topo.v7x

variable {F : FTy → Type} [FloatOps F]

abbrev main_while0_count : Scf.Loop 32 := ⟨0#32, 128#32, 1#32⟩
-- ==== Gru2.lean ====
abbrev S128x128x256 : Shape := ⟨3, ![128, 128, 256]⟩
abbrev S128x256 : Shape := ⟨2, ![128, 256]⟩
abbrev S128x128 : Shape := ⟨2, ![128, 128]⟩
abbrev S768x256 : Shape := ⟨2, ![768, 256]⟩
abbrev S768 : Shape := ⟨1, ![768]⟩
abbrev S256x256 : Shape := ⟨2, ![256, 256]⟩
abbrev S256 : Shape := ⟨1, ![256]⟩
abbrev S_ : Shape := ⟨0, ![]⟩
abbrev S1x256 : Shape := ⟨2, ![1, 256]⟩
abbrev S256x768 : Shape := ⟨2, ![256, 768]⟩
abbrev S1x768 : Shape := ⟨2, ![1, 768]⟩
abbrev S128x8x256 : Shape := ⟨3, ![128, 8, 256]⟩
abbrev S128x768 : Shape := ⟨2, ![128, 768]⟩
abbrev S128 : Shape := ⟨1, ![128]⟩
abbrev S128x1 : Shape := ⟨2, ![128, 1]⟩
abbrev S128x1x256 : Shape := ⟨3, ![128, 1, 256]⟩

abbrev nBuf : Space → Nat
  | .hbm => 31
  | .vmem => 14
  | .smem => 0
  | _ => 0

abbrev bufTy : (tb : Table) → Fin (tcTables nBuf tb) → BufTy
  | .hbm, ⟨0, _⟩ => ⟨S128x128x256, .f32⟩
  | .hbm, ⟨1, _⟩ => ⟨S128x256, .f32⟩
  | .hbm, ⟨2, _⟩ => ⟨S128x128, .f32⟩
  | .hbm, ⟨3, _⟩ => ⟨S768x256, .f32⟩
  | .hbm, ⟨4, _⟩ => ⟨S768x256, .f32⟩
  | .hbm, ⟨5, _⟩ => ⟨S768, .f32⟩
  | .hbm, ⟨6, _⟩ => ⟨S768, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256x256, .f32⟩
  | .hbm, ⟨19, _⟩ => ⟨S1x256, .f32⟩
  | .hbm, ⟨20, _⟩ => ⟨S256x256, .f32⟩
  | .hbm, ⟨21, _⟩ => ⟨S256x256, .f32⟩
  | .hbm, ⟨22, _⟩ => ⟨S256, .f32⟩
  | .hbm, ⟨23, _⟩ => ⟨S256, .f32⟩
  | .hbm, ⟨24, _⟩ => ⟨S256, .f32⟩
  | .hbm, ⟨25, _⟩ => ⟨S1x256, .f32⟩
  | .hbm, ⟨26, _⟩ => ⟨S256x768, .f32⟩
  | .hbm, ⟨27, _⟩ => ⟨S256x768, .f32⟩
  | .hbm, ⟨28, _⟩ => ⟨S1x768, .f32⟩
  | .hbm, ⟨29, _⟩ => ⟨S1x768, .f32⟩
  | .hbm, ⟨30, _⟩ => ⟨S128x128x256, .f32⟩
  | .local _ .vmem, ⟨0, _⟩ => ⟨S128x8x256, .f32⟩
  | .local _ .vmem, ⟨1, _⟩ => ⟨S128x8x256, .f32⟩
  | .local _ .vmem, ⟨2, _⟩ => ⟨S128x256, .f32⟩
  | .local _ .vmem, ⟨3, _⟩ => ⟨S128x128, .f32⟩
  | .local _ .vmem, ⟨4, _⟩ => ⟨S256x768, .f32⟩
  | .local _ .vmem, ⟨5, _⟩ => ⟨S1x768, .f32⟩
  | .local _ .vmem, ⟨6, _⟩ => ⟨S256x768, .f32⟩
  | .local _ .vmem, ⟨7, _⟩ => ⟨S1x768, .f32⟩
  | .local _ .vmem, ⟨8, _⟩ => ⟨S256x256, .f32⟩
  | .local _ .vmem, ⟨9, _⟩ => ⟨S1x256, .f32⟩
  | .local _ .vmem, ⟨10, _⟩ => ⟨S128x8x256, .f32⟩
  | .local _ .vmem, ⟨11, _⟩ => ⟨S128x8x256, .f32⟩
  | .local _ .vmem, ⟨12, _⟩ => ⟨S128x256, .f32⟩
  | .local _ .vmem, ⟨13, _⟩ => ⟨S128x768, .f32⟩
  | _, _ => ⟨S128x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_v0 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ContrastRefIdeal.lean ====
abbrev S128x128x256 : Shape := ⟨3, ![128, 128, 256]⟩
abbrev S128x256 : Shape := ⟨2, ![128, 256]⟩
abbrev S128x128 : Shape := ⟨2, ![128, 128]⟩
abbrev S768x256 : Shape := ⟨2, ![768, 256]⟩
abbrev S768 : Shape := ⟨1, ![768]⟩
abbrev S256x256 : Shape := ⟨2, ![256, 256]⟩
abbrev S256 : Shape := ⟨1, ![256]⟩
abbrev S_ : Shape := ⟨0, ![]⟩
abbrev S128 : Shape := ⟨1, ![128]⟩
abbrev S128x1 : Shape := ⟨2, ![128, 1]⟩
abbrev S128x1x256 : Shape := ⟨3, ![128, 1, 256]⟩
abbrev S256x768 : Shape := ⟨2, ![256, 768]⟩
abbrev S128x128x768 : Shape := ⟨3, ![128, 128, 768]⟩
abbrev S1x1x768 : Shape := ⟨3, ![1, 1, 768]⟩
abbrev S1x128x768 : Shape := ⟨3, ![1, 128, 768]⟩
abbrev S128x768 : Shape := ⟨2, ![128, 768]⟩
abbrev S1x768 : Shape := ⟨2, ![1, 768]⟩
abbrev S1x128x256 : Shape := ⟨3, ![1, 128, 256]⟩
abbrev S1x1x256 : Shape := ⟨3, ![1, 1, 256]⟩

abbrev nBuf : Space → Nat
  | .hbm => 114
  | .vmem => 0
  | .smem => 0
  | _ => 0

abbrev bufTy : (tb : Table) → Fin (tcTables nBuf tb) → BufTy
  | .hbm, ⟨0, _⟩ => ⟨S128x128x256, .f32⟩
  | .hbm, ⟨1, _⟩ => ⟨S128x256, .f32⟩
  | .hbm, ⟨2, _⟩ => ⟨S128x128, .f32⟩
  | .hbm, ⟨3, _⟩ => ⟨S768x256, .f32⟩
  | .hbm, ⟨4, _⟩ => ⟨S768x256, .f32⟩
  | .hbm, ⟨5, _⟩ => ⟨S768, .f32⟩
  | .hbm, ⟨6, _⟩ => ⟨S768, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S_, .f32⟩
  | .hbm, ⟨14, _⟩ => ⟨S128, .f32⟩
  | .hbm, ⟨15, _⟩ => ⟨S128x1, .f32⟩
  | .hbm, ⟨16, _⟩ => ⟨S128x256, .f32⟩
  | .hbm, ⟨17, _⟩ => ⟨S128x256, .f32⟩
  | .hbm, ⟨18, _⟩ => ⟨S128x1x256, .f32⟩
  | .hbm, ⟨19, _⟩ => ⟨S128x128x256, .f32⟩
  | .hbm, ⟨20, _⟩ => ⟨S128x128x256, .f32⟩
  | .hbm, ⟨21, _⟩ => ⟨S256x768, .f32⟩
  | .hbm, ⟨22, _⟩ => ⟨S128x128x768, .f32⟩
  | .hbm, ⟨23, _⟩ => ⟨S1x1x768, .f32⟩
  | .hbm, ⟨24, _⟩ => ⟨S128x128x768, .f32⟩
  | .hbm, ⟨25, _⟩ => ⟨S128x128x768, .f32⟩
  | .hbm, ⟨26, _⟩ => ⟨S_, .f32⟩
  | .hbm, ⟨27, _⟩ => ⟨S128x256, .f32⟩
  | .hbm, ⟨28, _⟩ => ⟨S128x128x768, .f32⟩
  | .hbm, ⟨29, _⟩ => ⟨S_, .f32⟩
  | .hbm, ⟨30, _⟩ => ⟨S128x128x256, .f32⟩
  | .hbm, ⟨31, _⟩ => ⟨S_, .i32⟩
  | .hbm, ⟨32, _⟩ => ⟨S128x128x768, .f32⟩
  | .hbm, ⟨33, _⟩ => ⟨S768x256, .f32⟩
  | .hbm, ⟨34, _⟩ => ⟨S768, .f32⟩
  | .hbm, ⟨35, _⟩ => ⟨S_, .i32⟩
  | .hbm, ⟨36, _⟩ => ⟨S128x256, .f32⟩
  | .hbm, ⟨37, _⟩ => ⟨S128x128x256, .f32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S1x128x768, .f32⟩
  | .hbm, ⟨43, _⟩ => ⟨S128x768, .f32⟩
  | .hbm, ⟨44, _⟩ => ⟨S256x768, .f32⟩
  | .hbm, ⟨45, _⟩ => ⟨S128x768, .f32⟩
  | .hbm, ⟨46, _⟩ => ⟨S1x768, .f32⟩
  | .hbm, ⟨47, _⟩ => ⟨S128x768, .f32⟩
  | .hbm, ⟨48, _⟩ => ⟨S128x768, .f32⟩
  | .hbm, ⟨49, _⟩ => ⟨S128x256, .f32⟩
  | .hbm, ⟨50, _⟩ => ⟨S128x256, .f32⟩
  | .hbm, ⟨51, _⟩ => ⟨S128x256, .f32⟩
  | .hbm, ⟨52, _⟩ => ⟨S128x256, .f32⟩
  | .hbm, ⟨53, _⟩ => ⟨S128x256, .f32⟩
  | .hbm, ⟨54, _⟩ => ⟨S128x256, .f32⟩
  | .hbm, ⟨55, _⟩ => ⟨S128x256, .f32⟩
  | .hbm, ⟨56, _⟩ => ⟨S128x256, .f32⟩
  | .hbm, ⟨57, _⟩ => ⟨S128x256, .f32⟩
  | .hbm, ⟨58, _⟩ => ⟨S_, .f32⟩
  | .hbm, ⟨59, _⟩ => ⟨S128x256, .f32⟩
  | .hbm, ⟨60, _⟩ => ⟨S128x256, .f32⟩
  | .hbm, ⟨61, _⟩ => ⟨S_, .f32⟩
  | .hbm, ⟨62, _⟩ => ⟨S128x256, .f32⟩
  | .hbm, ⟨63, _⟩ => ⟨S128x256, .f32⟩
  | .hbm, ⟨64, _⟩ => ⟨S128x256, .f32⟩
  | .hbm, ⟨65, _⟩ => ⟨S128x256, .f32⟩
  | .hbm, ⟨66, _⟩ => ⟨S128x256, .f32⟩
  | .hbm, ⟨67, _⟩ => ⟨S_, .f32⟩
  | .hbm, ⟨68, _⟩ => ⟨S128x256, .f32⟩
  | .hbm, ⟨69, _⟩ => ⟨S128x256, .f32⟩
  | .hbm, ⟨70, _⟩ => ⟨S_, .f32⟩
  | .hbm, ⟨71, _⟩ => ⟨S128x256, .f32⟩
  | .hbm, ⟨72, _⟩ => ⟨S128x256, .f32⟩
  | .hbm, ⟨73, _⟩ => ⟨S128x256, .f32⟩
  | .hbm, ⟨74, _⟩ => ⟨S128x256, .f32⟩
  | .hbm, ⟨75, _⟩ => ⟨S128x256, .f32⟩
  | .hbm, ⟨76, _⟩ => ⟨S_, .f32⟩
  | .hbm, ⟨77, _⟩ => ⟨S128x256, .f32⟩
  | .hbm, ⟨78, _⟩ => ⟨S128x256, .f32⟩
  | .hbm, ⟨79, _⟩ => ⟨S128x256, .f32⟩
  | .hbm, ⟨80, _⟩ => ⟨S128x256, .f32⟩
  | .hbm, ⟨81, _⟩ => ⟨S128x256, .f32⟩
  | .hbm, ⟨82, _⟩ => ⟨S1x128x256, .f32⟩
  | .hbm, ⟨83, _⟩ => ⟨S_, .i32⟩
  | .hbm, ⟨84, _⟩ => ⟨S_, .i32⟩
  | .hbm, ⟨85, _⟩ => ⟨S128x128x256, .f32⟩
  | .hbm, ⟨86, _⟩ => ⟨S_, .i32⟩
  | .hbm, ⟨87, _⟩ => ⟨S_, .i32⟩
  | .hbm, ⟨88, _⟩ => ⟨S128x128x256, .f32⟩
  | .hbm, ⟨89, _⟩ => ⟨S_, .f32⟩
  | .hbm, ⟨90, _⟩ => ⟨S128x128x256, .f32⟩
  | .hbm, ⟨91, _⟩ => ⟨S128x128x256, .f32⟩
  | .hbm, ⟨92, _⟩ => ⟨S256x256, .f32⟩
  | .hbm, ⟨93, _⟩ => ⟨S128x128x256, .f32⟩
  | .hbm, ⟨94, _⟩ => ⟨S1x1x256, .f32⟩
  | .hbm, ⟨95, _⟩ => ⟨S128x128x256, .f32⟩
  | .hbm, ⟨96, _⟩ => ⟨S128x128x256, .f32⟩
  | .hbm, ⟨97, _⟩ => ⟨S1x1x256, .f32⟩
  | .hbm, ⟨98, _⟩ => ⟨S128x128x256, .f32⟩
  | .hbm, ⟨99, _⟩ => ⟨S128x128x256, .f32⟩
  | .hbm, ⟨100, _⟩ => ⟨S_, .f32⟩
  | .hbm, ⟨101, _⟩ => ⟨S256, .f32⟩
  | .hbm, ⟨102, _⟩ => ⟨S256, .f32⟩
  | .hbm, ⟨103, _⟩ => ⟨S256, .f32⟩
  | .hbm, ⟨104, _⟩ => ⟨S256, .f32⟩
  | .hbm, ⟨105, _⟩ => ⟨S1x1x256, .f32⟩
  | .hbm, ⟨106, _⟩ => ⟨S128x128x256, .f32⟩
  | .hbm, ⟨107, _⟩ => ⟨S128x128x256, .f32⟩
  | .hbm, ⟨108, _⟩ => ⟨S1x1x256, .f32⟩
  | .hbm, ⟨109, _⟩ => ⟨S128x128x256, .f32⟩
  | .hbm, ⟨110, _⟩ => ⟨S128x128x256, .f32⟩
  | .hbm, ⟨111, _⟩ => ⟨S_, .f32⟩
  | .hbm, ⟨112, _⟩ => ⟨S128x128x256, .f32⟩
  | .hbm, ⟨113, _⟩ => ⟨S128x128x256, .f32⟩
  | _, _ => ⟨S128x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_c : Ref sig .tc := ⟨.hbm, 31, rfl⟩
abbrev main_v15_0 : Ref sig .tc := ⟨.hbm, 32, rfl⟩
abbrev main_v15_1 : Ref sig .tc := ⟨.hbm, 33, rfl⟩
abbrev main_v15_2 : Ref sig .tc := ⟨.hbm, 34, rfl⟩
abbrev main_v15_3 : Ref sig .tc := ⟨.hbm, 35, rfl⟩
abbrev main_v15_4 : Ref sig .tc := ⟨.hbm, 36, rfl⟩
abbrev main_v15_5 : Ref sig .tc := ⟨.hbm, 37, rfl⟩
abbrev main_while0c_c_8 : Ref sig .tc := ⟨.hbm, 38, rfl⟩
abbrev main_while0c_v37 : Ref sig .tc := ⟨.hbm, 39, rfl⟩
abbrev main_while0b_call0_c : Ref sig .tc := ⟨.hbm, 40, rfl⟩
abbrev main_while0b_call0_c_0 : Ref sig .tc := ⟨.hbm, 41, rfl⟩
abbrev main_while0b_call0_v0 : Ref sig .tc := ⟨.hbm, 42, rfl⟩
abbrev main_while0b_v37 : Ref sig .tc := ⟨.hbm, 43, rfl⟩
abbrev main_while0b_v38 : Ref sig .tc := ⟨.hbm, 44, rfl⟩
abbrev main_while0b_v39 : Ref sig .tc := ⟨.hbm, 45, rfl⟩
abbrev main_while0b_v40 : Ref sig .tc := ⟨.hbm, 46, rfl⟩
abbrev main_while0b_v41 : Ref sig .tc := ⟨.hbm, 47, rfl⟩
abbrev main_while0b_v42 : Ref sig .tc := ⟨.hbm, 48, rfl⟩
abbrev main_while0b_v43 : Ref sig .tc := ⟨.hbm, 49, rfl⟩
abbrev main_while0b_v44 : Ref sig .tc := ⟨.hbm, 50, rfl⟩
abbrev main_while0b_v45 : Ref sig .tc := ⟨.hbm, 51, rfl⟩
abbrev main_while0b_v46 : Ref sig .tc := ⟨.hbm, 52, rfl⟩
abbrev main_while0b_v47 : Ref sig .tc := ⟨.hbm, 53, rfl⟩
abbrev main_while0b_v48 : Ref sig .tc := ⟨.hbm, 54, rfl⟩
abbrev main_while0b_v49 : Ref sig .tc := ⟨.hbm, 55, rfl⟩
abbrev main_while0b_v50 : Ref sig .tc := ⟨.hbm, 56, rfl⟩
abbrev main_while0b_v51 : Ref sig .tc := ⟨.hbm, 57, rfl⟩
abbrev main_while0b_cst_8 : Ref sig .tc := ⟨.hbm, 58, rfl⟩
abbrev main_while0b_v52 : Ref sig .tc := ⟨.hbm, 59, rfl⟩
abbrev main_while0b_v53 : Ref sig .tc := ⟨.hbm, 60, rfl⟩
abbrev main_while0b_cst_9 : Ref sig .tc := ⟨.hbm, 61, rfl⟩
abbrev main_while0b_v54 : Ref sig .tc := ⟨.hbm, 62, rfl⟩
abbrev main_while0b_v55 : Ref sig .tc := ⟨.hbm, 63, rfl⟩
abbrev main_while0b_v56 : Ref sig .tc := ⟨.hbm, 64, rfl⟩
abbrev main_while0b_v57 : Ref sig .tc := ⟨.hbm, 65, rfl⟩
abbrev main_while0b_v58 : Ref sig .tc := ⟨.hbm, 66, rfl⟩
abbrev main_while0b_cst_10 : Ref sig .tc := ⟨.hbm, 67, rfl⟩
abbrev main_while0b_v59 : Ref sig .tc := ⟨.hbm, 68, rfl⟩
abbrev main_while0b_v60 : Ref sig .tc := ⟨.hbm, 69, rfl⟩
abbrev main_while0b_cst_11 : Ref sig .tc := ⟨.hbm, 70, rfl⟩
abbrev main_while0b_v61 : Ref sig .tc := ⟨.hbm, 71, rfl⟩
abbrev main_while0b_v62 : Ref sig .tc := ⟨.hbm, 72, rfl⟩
abbrev main_while0b_v63 : Ref sig .tc := ⟨.hbm, 73, rfl⟩
abbrev main_while0b_v64 : Ref sig .tc := ⟨.hbm, 74, rfl⟩
abbrev main_while0b_v65 : Ref sig .tc := ⟨.hbm, 75, rfl⟩
abbrev main_while0b_cst_12 : Ref sig .tc := ⟨.hbm, 76, rfl⟩
abbrev main_while0b_v66 : Ref sig .tc := ⟨.hbm, 77, rfl⟩
abbrev main_while0b_v67 : Ref sig .tc := ⟨.hbm, 78, rfl⟩
abbrev main_while0b_v68 : Ref sig .tc := ⟨.hbm, 79, rfl⟩
abbrev main_while0b_v69 : Ref sig .tc := ⟨.hbm, 80, rfl⟩
abbrev main_while0b_v70 : Ref sig .tc := ⟨.hbm, 81, rfl⟩
abbrev main_while0b_call1_v0 : Ref sig .tc := ⟨.hbm, 82, rfl⟩
abbrev main_while0b_call1_c : Ref sig .tc := ⟨.hbm, 83, rfl⟩
abbrev main_while0b_call1_c_0 : Ref sig .tc := ⟨.hbm, 84, rfl⟩
abbrev main_while0b_v71 : Ref sig .tc := ⟨.hbm, 85, rfl⟩
abbrev main_while0b_c_13 : Ref sig .tc := ⟨.hbm, 86, rfl⟩
abbrev main_while0b_v72 : Ref sig .tc := ⟨.hbm, 87, rfl⟩
abbrev main_v16 : Ref sig .tc := ⟨.hbm, 88, rfl⟩
abbrev main_call2_cst : Ref sig .tc := ⟨.hbm, 89, rfl⟩
abbrev main_call2_v0 : Ref sig .tc := ⟨.hbm, 90, rfl⟩
abbrev main_v17 : Ref sig .tc := ⟨.hbm, 91, rfl⟩
abbrev main_v18 : Ref sig .tc := ⟨.hbm, 92, rfl⟩
abbrev main_v19 : Ref sig .tc := ⟨.hbm, 93, rfl⟩
abbrev main_v20 : Ref sig .tc := ⟨.hbm, 94, rfl⟩
abbrev main_v21 : Ref sig .tc := ⟨.hbm, 95, rfl⟩
abbrev main_v22 : Ref sig .tc := ⟨.hbm, 96, rfl⟩
abbrev main_v23 : Ref sig .tc := ⟨.hbm, 97, rfl⟩
abbrev main_v24 : Ref sig .tc := ⟨.hbm, 98, rfl⟩
abbrev main_v25 : Ref sig .tc := ⟨.hbm, 99, rfl⟩
abbrev main_cst_2 : Ref sig .tc := ⟨.hbm, 100, rfl⟩
abbrev main_v26 : Ref sig .tc := ⟨.hbm, 101, rfl⟩
abbrev main_v27 : Ref sig .tc := ⟨.hbm, 102, rfl⟩
abbrev main_v28 : Ref sig .tc := ⟨.hbm, 103, rfl⟩
abbrev main_v29 : Ref sig .tc := ⟨.hbm, 104, rfl⟩
abbrev main_v30 : Ref sig .tc := ⟨.hbm, 105, rfl⟩
abbrev main_v31 : Ref sig .tc := ⟨.hbm, 106, rfl⟩
abbrev main_v32 : Ref sig .tc := ⟨.hbm, 107, rfl⟩
abbrev main_v33 : Ref sig .tc := ⟨.hbm, 108, rfl⟩
abbrev main_v34 : Ref sig .tc := ⟨.hbm, 109, rfl⟩
abbrev main_v35 : Ref sig .tc := ⟨.hbm, 110, rfl⟩
abbrev main_call3_cst : Ref sig .tc := ⟨.hbm, 111, rfl⟩
abbrev main_call3_v0 : Ref sig .tc := ⟨.hbm, 112, rfl⟩
abbrev main_v36 : Ref sig .tc := ⟨.hbm, 113, rfl⟩

abbrev nD : Nat := 1
abbrev τ : Topo := Topo.v7x

variable {F : FTy → Type} [FloatOps F]

abbrev main_while0_count : Scf.Loop 32 := ⟨0#32, 128#32, 1#32⟩
-- ==== Attn.lean ====
abbrev S128x128x256 : Shape := ⟨3, ![128, 128, 256]⟩
abbrev S128x256 : Shape := ⟨2, ![128, 256]⟩
abbrev S128x128 : Shape := ⟨2, ![128, 128]⟩
abbrev S768x256 : Shape := ⟨2, ![768, 256]⟩
abbrev S768 : Shape := ⟨1, ![768]⟩
abbrev S256x256 : Shape := ⟨2, ![256, 256]⟩
abbrev S256 : Shape := ⟨1, ![256]⟩
abbrev S190x256 : Shape := ⟨2, ![190, 256]⟩
abbrev S190 : Shape := ⟨1, ![190]⟩
abbrev S_ : Shape := ⟨0, ![]⟩
abbrev S1x256 : Shape := ⟨2, ![1, 256]⟩
abbrev S256x190 : Shape := ⟨2, ![256, 190]⟩
abbrev S1 : Shape := ⟨1, ![1]⟩
abbrev S2 : Shape := ⟨1, ![2]⟩
abbrev S128x1x256 : Shape := ⟨3, ![128, 1, 256]⟩
abbrev S128x128x1 : Shape := ⟨3, ![128, 128, 1]⟩
abbrev S1x16x1x1 : Shape := ⟨4, ![1, 16, 1, 1]⟩
abbrev S8x128x256 : Shape := ⟨3, ![8, 128, 256]⟩
abbrev S8x1x256 : Shape := ⟨3, ![8, 1, 256]⟩
abbrev S8x128x1 : Shape := ⟨3, ![8, 128, 1]⟩
abbrev S1x1x1x1 : Shape := ⟨4, ![1, 1, 1, 1]⟩
abbrev S1x1x1 : Shape := ⟨3, ![1, 1, 1]⟩
abbrev S8x1 : Shape := ⟨2, ![8, 1]⟩
abbrev S8x1x1 : Shape := ⟨3, ![8, 1, 1]⟩
abbrev S2x128x256 : Shape := ⟨3, ![2, 128, 256]⟩
abbrev S2x1x256 : Shape := ⟨3, ![2, 1, 256]⟩
abbrev S2x1x128 : Shape := ⟨3, ![2, 1, 128]⟩
abbrev S2x1 : Shape := ⟨2, ![2, 1]⟩
abbrev S2x1x1 : Shape := ⟨3, ![2, 1, 1]⟩
abbrev S2x128x128 : Shape := ⟨3, ![2, 128, 128]⟩
abbrev S2x128 : Shape := ⟨2, ![2, 128]⟩
abbrev S2x128x1 : Shape := ⟨3, ![2, 128, 1]⟩

abbrev nBuf : Space → Nat
  | .hbm => 57
  | .vmem => 26
  | .smem => 0
  | _ => 0

abbrev bufTy : (tb : Table) → Fin (tcTables nBuf tb) → BufTy
  | .hbm, ⟨0, _⟩ => ⟨S128x128x256, .f32⟩
  | .hbm, ⟨1, _⟩ => ⟨S128x128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x128, .f32⟩
  | .hbm, ⟨6, _⟩ => ⟨S128x128, .i32⟩
  | .hbm, ⟨7, _⟩ => ⟨S768x256, .f32⟩
  | .hbm, ⟨8, _⟩ => ⟨S768, .f32⟩
  | .hbm, ⟨9, _⟩ => ⟨S256x256, .f32⟩
  | .hbm, ⟨10, _⟩ => ⟨S256, .f32⟩
  | .hbm, ⟨11, _⟩ => ⟨S190x256, .f32⟩
  | .hbm, ⟨12, _⟩ => ⟨S190, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S256, .f32⟩
  | .hbm, ⟨21, _⟩ => ⟨S256, .f32⟩
  | .hbm, ⟨22, _⟩ => ⟨S256, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S256x256, .f32⟩
  | .hbm, ⟨30, _⟩ => ⟨S1x256, .f32⟩
  | .hbm, ⟨31, _⟩ => ⟨S256x256, .f32⟩
  | .hbm, ⟨32, _⟩ => ⟨S1x256, .f32⟩
  | .hbm, ⟨33, _⟩ => ⟨S256x256, .f32⟩
  | .hbm, ⟨34, _⟩ => ⟨S1x256, .f32⟩
  | .hbm, ⟨35, _⟩ => ⟨S_, .f32⟩
  | .hbm, ⟨36, _⟩ => ⟨S256x256, .f32⟩
  | .hbm, ⟨37, _⟩ => ⟨S256x190, .f32⟩
  | .hbm, ⟨38, _⟩ => ⟨S_, .i32⟩
  | .hbm, ⟨39, _⟩ => ⟨S1, .i32⟩
  | .hbm, ⟨40, _⟩ => ⟨S256x256, .f32⟩
  | .hbm, ⟨41, _⟩ => ⟨S_, .f32⟩
  | .hbm, ⟨42, _⟩ => ⟨S1x256, .f32⟩
  | .hbm, ⟨43, _⟩ => ⟨S_, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S2, .i32⟩
  | .hbm, ⟨48, _⟩ => ⟨S1x256, .f32⟩
  | .hbm, ⟨49, _⟩ => ⟨S128x1x256, .f32⟩
  | .hbm, ⟨50, _⟩ => ⟨S128x1x256, .f32⟩
  | .hbm, ⟨51, _⟩ => ⟨S128x1x256, .f32⟩
  | .hbm, ⟨52, _⟩ => ⟨S128x128x1, .f32⟩
  | .hbm, ⟨53, _⟩ => ⟨S128x128x1, .i32⟩
  | .hbm, ⟨54, _⟩ => ⟨S1x16x1x1, .f32⟩
  | .hbm, ⟨55, _⟩ => ⟨S_, .f32⟩
  | .hbm, ⟨56, _⟩ => ⟨S_, .f32⟩
  | .local _ .vmem, ⟨0, _⟩ => ⟨S8x128x256, .f32⟩
  | .local _ .vmem, ⟨1, _⟩ => ⟨S8x128x256, .f32⟩
  | .local _ .vmem, ⟨2, _⟩ => ⟨S8x128x256, .f32⟩
  | .local _ .vmem, ⟨3, _⟩ => ⟨S8x128x256, .f32⟩
  | .local _ .vmem, ⟨4, _⟩ => ⟨S8x1x256, .f32⟩
  | .local _ .vmem, ⟨5, _⟩ => ⟨S8x1x256, .f32⟩
  | .local _ .vmem, ⟨6, _⟩ => ⟨S8x1x256, .f32⟩
  | .local _ .vmem, ⟨7, _⟩ => ⟨S8x1x256, .f32⟩
  | .local _ .vmem, ⟨8, _⟩ => ⟨S8x1x256, .f32⟩
  | .local _ .vmem, ⟨9, _⟩ => ⟨S8x1x256, .f32⟩
  | .local _ .vmem, ⟨10, _⟩ => ⟨S8x128x1, .f32⟩
  | .local _ .vmem, ⟨11, _⟩ => ⟨S8x128x1, .f32⟩
  | .local _ .vmem, ⟨12, _⟩ => ⟨S8x128x1, .i32⟩
  | .local _ .vmem, ⟨13, _⟩ => ⟨S8x128x1, .i32⟩
  | .local _ .vmem, ⟨14, _⟩ => ⟨S256x256, .f32⟩
  | .local _ .vmem, ⟨15, _⟩ => ⟨S1x256, .f32⟩
  | .local _ .vmem, ⟨16, _⟩ => ⟨S256x256, .f32⟩
  | .local _ .vmem, ⟨17, _⟩ => ⟨S1x256, .f32⟩
  | .local _ .vmem, ⟨18, _⟩ => ⟨S256x256, .f32⟩
  | .local _ .vmem, ⟨19, _⟩ => ⟨S1x256, .f32⟩
  | .local _ .vmem, ⟨20, _⟩ => ⟨S256x256, .f32⟩
  | .local _ .vmem, ⟨21, _⟩ => ⟨S1x256, .f32⟩
  | .local _ .vmem, ⟨22, _⟩ => ⟨S256x256, .f32⟩
  | .local _ .vmem, ⟨23, _⟩ => ⟨S1x256, .f32⟩
  | .local _ .vmem, ⟨24, _⟩ => ⟨S1x1x1x1, .f32⟩
  | .local _ .vmem, ⟨25, _⟩ => ⟨S1x1x1x1, .f32⟩
  | _, _ => ⟨S128x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_cst : Ref sig .tc := ⟨.hbm, 13, rfl⟩
abbrev main_call0_v0 : Ref sig .tc := ⟨.hbm, 14, rfl⟩
abbrev main_call0_cst_0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_call0_v17 : Ref sig .tc := ⟨.hbm, 32, rfl⟩
abbrev main_call0_v18 : Ref sig .tc := ⟨.hbm, 33, rfl⟩
abbrev main_call0_v19 : Ref sig .tc := ⟨.hbm, 34, rfl⟩
abbrev main_call0_cst_1 : Ref sig .tc := ⟨.hbm, 35, rfl⟩
abbrev main_call0_v20 : Ref sig .tc := ⟨.hbm, 36, rfl⟩
abbrev main_call0_v21 : Ref sig .tc := ⟨.hbm, 37, rfl⟩
abbrev main_call0_c : Ref sig .tc := ⟨.hbm, 38, rfl⟩
abbrev main_call0_v22 : Ref sig .tc := ⟨.hbm, 39, rfl⟩
abbrev main_call0_v23 : Ref sig .tc := ⟨.hbm, 40, rfl⟩
abbrev main_call0_cst_2 : Ref sig .tc := ⟨.hbm, 41, rfl⟩
abbrev main_call0_v24 : Ref sig .tc := ⟨.hbm, 42, rfl⟩
abbrev main_call0_c_3 : Ref sig .tc := ⟨.hbm, 43, rfl⟩
abbrev main_call0_v25 : Ref sig .tc := ⟨.hbm, 44, rfl⟩
abbrev main_call0_c_4 : Ref sig .tc := ⟨.hbm, 45, rfl⟩
abbrev main_call0_v26 : Ref sig .tc := ⟨.hbm, 46, rfl⟩
abbrev main_call0_v27 : Ref sig .tc := ⟨.hbm, 47, rfl⟩
abbrev main_call0_v28 : Ref sig .tc := ⟨.hbm, 48, rfl⟩
abbrev main_call0_v29 : Ref sig .tc := ⟨.hbm, 49, rfl⟩
abbrev main_call0_v30 : Ref sig .tc := ⟨.hbm, 50, rfl⟩
abbrev main_call0_v31 : Ref sig .tc := ⟨.hbm, 51, rfl⟩
abbrev main_call0_v32 : Ref sig .tc := ⟨.hbm, 52, rfl⟩
abbrev main_call0_v33 : Ref sig .tc := ⟨.hbm, 53, rfl⟩
abbrev main_call0_v34 : Ref sig .tc := ⟨.hbm, 54, rfl⟩
abbrev main_call0_cst_5 : Ref sig .tc := ⟨.hbm, 55, rfl⟩
abbrev main_v0 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg17_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S256x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x1x1x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== AttnIdeal.lean ====
variable {F : FTy → Type} [FloatOps F] [Named F]
def κ : String → Option EReal := fun
  | "mask" => some ⊥
  | "third" => some ((1 / 3 : ℝ) : EReal)
  | _ => none
-- ==== LossRefIdeal.lean ====
abbrev S128x128x256 : Shape := ⟨3, ![128, 128, 256]⟩
abbrev S128x256 : Shape := ⟨2, ![128, 256]⟩
abbrev S128x128 : Shape := ⟨2, ![128, 128]⟩
abbrev S768x256 : Shape := ⟨2, ![768, 256]⟩
abbrev S768 : Shape := ⟨1, ![768]⟩
abbrev S256x256 : Shape := ⟨2, ![256, 256]⟩
abbrev S256 : Shape := ⟨1, ![256]⟩
abbrev S190x256 : Shape := ⟨2, ![190, 256]⟩
abbrev S190 : Shape := ⟨1, ![190]⟩
abbrev S_ : Shape := ⟨0, ![]⟩
abbrev S128 : Shape := ⟨1, ![128]⟩
abbrev S1x128x128x256 : Shape := ⟨4, ![1, 128, 128, 256]⟩
abbrev S2x128x128x256 : Shape := ⟨4, ![2, 128, 128, 256]⟩
abbrev S2x16384x256 : Shape := ⟨3, ![2, 16384, 256]⟩
abbrev S1x1x256 : Shape := ⟨3, ![1, 1, 256]⟩
abbrev S128x1x256 : Shape := ⟨3, ![128, 1, 256]⟩
abbrev S1x16384x256 : Shape := ⟨3, ![1, 16384, 256]⟩
abbrev S3x16384x256 : Shape := ⟨3, ![3, 16384, 256]⟩
abbrev S3x16384x2x128 : Shape := ⟨4, ![3, 16384, 2, 128]⟩
abbrev S16384x2x3x3 : Shape := ⟨4, ![16384, 2, 3, 3]⟩
abbrev S16384x2x3 : Shape := ⟨3, ![16384, 2, 3]⟩
abbrev S16384x2x3x1 : Shape := ⟨4, ![16384, 2, 3, 1]⟩
abbrev S16384x2x128x3 : Shape := ⟨4, ![16384, 2, 128, 3]⟩
abbrev S16384x256 : Shape := ⟨2, ![16384, 256]⟩
abbrev S256x190 : Shape := ⟨2, ![256, 190]⟩
abbrev S128x128x190 : Shape := ⟨3, ![128, 128, 190]⟩
abbrev S1x1x190 : Shape := ⟨3, ![1, 1, 190]⟩
abbrev S128x128x1 : Shape := ⟨3, ![128, 128, 1]⟩

abbrev nBuf : Space → Nat
  | .hbm => 128
  | .vmem => 0
  | .smem => 0
  | _ => 0

abbrev bufTy : (tb : Table) → Fin (tcTables nBuf tb) → BufTy
  | .hbm, ⟨0, _⟩ => ⟨S128x128x256, .f32⟩
  | .hbm, ⟨1, _⟩ => ⟨S128x128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x128, .f32⟩
  | .hbm, ⟨6, _⟩ => ⟨S128x128, .i32⟩
  | .hbm, ⟨7, _⟩ => ⟨S768x256, .f32⟩
  | .hbm, ⟨8, _⟩ => ⟨S768, .f32⟩
  | .hbm, ⟨9, _⟩ => ⟨S256x256, .f32⟩
  | .hbm, ⟨10, _⟩ => ⟨S256, .f32⟩
  | .hbm, ⟨11, _⟩ => ⟨S190x256, .f32⟩
  | .hbm, ⟨12, _⟩ => ⟨S190, .f32⟩
  | .hbm, ⟨13, _⟩ => ⟨S_, .f32⟩
  | .hbm, ⟨14, _⟩ => ⟨S128, .f32⟩
  | .hbm, ⟨15, _⟩ => ⟨S1x128x128x256, .f32⟩
  | .hbm, ⟨16, _⟩ => ⟨S1x128x128x256, .f32⟩
  | .hbm, ⟨17, _⟩ => ⟨S2x128x128x256, .f32⟩
  | .hbm, ⟨18, _⟩ => ⟨S2x16384x256, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S256, .f32⟩
  | .hbm, ⟨23, _⟩ => ⟨S256, .f32⟩
  | .hbm, ⟨24, _⟩ => ⟨S256, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S256x256, .f32⟩
  | .hbm, ⟨30, _⟩ => ⟨S2x16384x256, .f32⟩
  | .hbm, ⟨31, _⟩ => ⟨S1x1x256, .f32⟩
  | .hbm, ⟨32, _⟩ => ⟨S2x16384x256, .f32⟩
  | .hbm, ⟨33, _⟩ => ⟨S2x16384x256, .f32⟩
  | .hbm, ⟨34, _⟩ => ⟨S2x16384x256, .f32⟩
  | .hbm, ⟨35, _⟩ => ⟨S2x16384x256, .f32⟩
  | .hbm, ⟨36, _⟩ => ⟨S128x1x256, .f32⟩
  | .hbm, ⟨37, _⟩ => ⟨S128x128x256, .f32⟩
  | .hbm, ⟨38, _⟩ => ⟨S1x16384x256, .f32⟩
  | .hbm, ⟨39, _⟩ => ⟨S3x16384x256, .f32⟩
  | .hbm, ⟨40, _⟩ => ⟨S3x16384x2x128, .f32⟩
  | .hbm, ⟨41, _⟩ => ⟨S256x256, .f32⟩
  | .hbm, ⟨42, _⟩ => ⟨S2x16384x256, .f32⟩
  | .hbm, ⟨43, _⟩ => ⟨S1x1x256, .f32⟩
  | .hbm, ⟨44, _⟩ => ⟨S2x16384x256, .f32⟩
  | .hbm, ⟨45, _⟩ => ⟨S2x16384x256, .f32⟩
  | .hbm, ⟨46, _⟩ => ⟨S128x1x256, .f32⟩
  | .hbm, ⟨47, _⟩ => ⟨S128x128x256, .f32⟩
  | .hbm, ⟨48, _⟩ => ⟨S1x16384x256, .f32⟩
  | .hbm, ⟨49, _⟩ => ⟨S3x16384x256, .f32⟩
  | .hbm, ⟨50, _⟩ => ⟨S3x16384x2x128, .f32⟩
  | .hbm, ⟨51, _⟩ => ⟨S256x256, .f32⟩
  | .hbm, ⟨52, _⟩ => ⟨S2x16384x256, .f32⟩
  | .hbm, ⟨53, _⟩ => ⟨S1x1x256, .f32⟩
  | .hbm, ⟨54, _⟩ => ⟨S2x16384x256, .f32⟩
  | .hbm, ⟨55, _⟩ => ⟨S2x16384x256, .f32⟩
  | .hbm, ⟨56, _⟩ => ⟨S128x1x256, .f32⟩
  | .hbm, ⟨57, _⟩ => ⟨S128x128x256, .f32⟩
  | .hbm, ⟨58, _⟩ => ⟨S1x16384x256, .f32⟩
  | .hbm, ⟨59, _⟩ => ⟨S3x16384x256, .f32⟩
  | .hbm, ⟨60, _⟩ => ⟨S3x16384x2x128, .f32⟩
  | .hbm, ⟨61, _⟩ => ⟨S16384x2x3x3, .f32⟩
  | .hbm, ⟨62, _⟩ => ⟨S_, .f32⟩
  | .hbm, ⟨63, _⟩ => ⟨S16384x2x3, .f32⟩
  | .hbm, ⟨64, _⟩ => ⟨S_, .f32⟩
  | .hbm, ⟨65, _⟩ => ⟨S16384x2x3, .f32⟩
  | .hbm, ⟨66, _⟩ => ⟨S16384x2x3, .f32⟩
  | .hbm, ⟨67, _⟩ => ⟨S16384x2x3x1, .f32⟩
  | .hbm, ⟨68, _⟩ => ⟨S16384x2x3x3, .f32⟩
  | .hbm, ⟨69, _⟩ => ⟨S16384x2x3x3, .f32⟩
  | .hbm, ⟨70, _⟩ => ⟨S16384x2x3x3, .f32⟩
  | .hbm, ⟨71, _⟩ => ⟨S_, .f32⟩
  | .hbm, ⟨72, _⟩ => ⟨S16384x2x3, .f32⟩
  | .hbm, ⟨73, _⟩ => ⟨S16384x2x3x1, .f32⟩
  | .hbm, ⟨74, _⟩ => ⟨S16384x2x3x3, .f32⟩
  | .hbm, ⟨75, _⟩ => ⟨S16384x2x3x3, .f32⟩
  | .hbm, ⟨76, _⟩ => ⟨S16384x2x128x3, .f32⟩
  | .hbm, ⟨77, _⟩ => ⟨S3x16384x2x128, .f32⟩
  | .hbm, ⟨78, _⟩ => ⟨S3x16384x256, .f32⟩
  | .hbm, ⟨79, _⟩ => ⟨S256x256, .f32⟩
  | .hbm, ⟨80, _⟩ => ⟨S3x16384x256, .f32⟩
  | .hbm, ⟨81, _⟩ => ⟨S1x1x256, .f32⟩
  | .hbm, ⟨82, _⟩ => ⟨S3x16384x256, .f32⟩
  | .hbm, ⟨83, _⟩ => ⟨S3x16384x256, .f32⟩
  | .hbm, ⟨84, _⟩ => ⟨S_, .f32⟩
  | .hbm, ⟨85, _⟩ => ⟨S16384x256, .f32⟩
  | .hbm, ⟨86, _⟩ => ⟨S_, .f32⟩
  | .hbm, ⟨87, _⟩ => ⟨S16384x256, .f32⟩
  | .hbm, ⟨88, _⟩ => ⟨S16384x256, .f32⟩
  | .hbm, ⟨89, _⟩ => ⟨S128x128x256, .f32⟩
  | .hbm, ⟨90, _⟩ => ⟨S256x190, .f32⟩
  | .hbm, ⟨91, _⟩ => ⟨S128x128x190, .f32⟩
  | .hbm, ⟨92, _⟩ => ⟨S1x1x190, .f32⟩
  | .hbm, ⟨93, _⟩ => ⟨S128x128x190, .f32⟩
  | .hbm, ⟨94, _⟩ => ⟨S128x128x190, .f32⟩
  | .hbm, ⟨95, _⟩ => ⟨S_, .f32⟩
  | .hbm, ⟨96, _⟩ => ⟨S128x128, .f32⟩
  | .hbm, ⟨97, _⟩ => ⟨S_, .f32⟩
  | .hbm, ⟨98, _⟩ => ⟨S128x128, .f32⟩
  | .hbm, ⟨99, _⟩ => ⟨S128x128, .f32⟩
  | .hbm, ⟨100, _⟩ => ⟨S128x128x1, .f32⟩
  | .hbm, ⟨101, _⟩ => ⟨S128x128x190, .f32⟩
  | .hbm, ⟨102, _⟩ => ⟨S128x128x190, .f32⟩
  | .hbm, ⟨103, _⟩ => ⟨S128x128x190, .f32⟩
  | .hbm, ⟨104, _⟩ => ⟨S_, .f32⟩
  | .hbm, ⟨105, _⟩ => ⟨S128x128, .f32⟩
  | .hbm, ⟨106, _⟩ => ⟨S128x128x1, .f32⟩
  | .hbm, ⟨107, _⟩ => ⟨S128x128x190, .f32⟩
  | .hbm, ⟨108, _⟩ => ⟨S128x128x190, .f32⟩
  | .hbm, ⟨109, _⟩ => ⟨S128x128x1, .i32⟩
  | .hbm, ⟨110, _⟩ => ⟨S1x1x190, .i32⟩
  | .hbm, ⟨111, _⟩ => ⟨S128x128x190, .i32⟩
  | .hbm, ⟨112, _⟩ => ⟨S128x128x190, .i32⟩
  | .hbm, ⟨113, _⟩ => ⟨S128x128x190, .i1⟩
  | .hbm, ⟨114, _⟩ => ⟨S128x128x190, .f32⟩
  | .hbm, ⟨115, _⟩ => ⟨S128x128x190, .f32⟩
  | .hbm, ⟨116, _⟩ => ⟨S128x128x190, .f32⟩
  | .hbm, ⟨117, _⟩ => ⟨S_, .f32⟩
  | .hbm, ⟨118, _⟩ => ⟨S128x128, .f32⟩
  | .hbm, ⟨119, _⟩ => ⟨S128x128, .f32⟩
  | .hbm, ⟨120, _⟩ => ⟨S128x128, .f32⟩
  | .hbm, ⟨121, _⟩ => ⟨S_, .f32⟩
  | .hbm, ⟨122, _⟩ => ⟨S128, .f32⟩
  | .hbm, ⟨123, _⟩ => ⟨S128, .f32⟩
  | .hbm, ⟨124, _⟩ => ⟨S_, .f32⟩
  | .hbm, ⟨125, _⟩ => ⟨S_, .f32⟩
  | .hbm, ⟨126, _⟩ => ⟨S_, .f32⟩
  | .hbm, ⟨127, _⟩ => ⟨S_, .f32⟩
  | _, _ => ⟨S128x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_2 : Ref sig .tc := ⟨.hbm, 62, rfl⟩
abbrev main_v46 : Ref sig .tc := ⟨.hbm, 63, rfl⟩
abbrev main_cst_3 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_4 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_5 : Ref sig .tc := ⟨.hbm, 84, rfl⟩
abbrev main_v65 : Ref sig .tc := ⟨.hbm, 85, rfl⟩
abbrev main_cst_6 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_7 : Ref sig .tc := ⟨.hbm, 95, rfl⟩
abbrev main_v74 : Ref sig .tc := ⟨.hbm, 96, rfl⟩
abbrev main_cst_8 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_9 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_call0_v0 : Ref sig .tc := ⟨.hbm, 109, rfl⟩
abbrev main_call0_v1 : Ref sig .tc := ⟨.hbm, 110, rfl⟩
abbrev main_call0_v2 : Ref sig .tc := ⟨.hbm, 111, rfl⟩
abbrev main_call0_v3 : Ref sig .tc := ⟨.hbm, 112, rfl⟩
abbrev main_call0_v4 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_10 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_11 : Ref sig .tc := ⟨.hbm, 121, rfl⟩
abbrev main_v91 : Ref sig .tc := ⟨.hbm, 122, rfl⟩
abbrev main_v92 : Ref sig .tc := ⟨.hbm, 123, rfl⟩
abbrev main_cst_12 : Ref sig .tc := ⟨.hbm, 124, rfl⟩
abbrev main_v93 : Ref sig .tc := ⟨.hbm, 125, rfl⟩
abbrev main_cst_13 : Ref sig .tc := ⟨.hbm, 126, rfl⟩
abbrev main_v94 : Ref sig .tc := ⟨.hbm, 127, rfl⟩

abbrev nD : Nat := 1
abbrev τ : Topo := Topo.v7x

variable {F : FTy → Type} [FloatOps F]
-- ==== Img.lean ====
abbrev S128x2048 : Shape := ⟨2, ![128, 2048]⟩
abbrev S256x2048 : Shape := ⟨2, ![256, 2048]⟩
abbrev S256 : Shape := ⟨1, ![256]⟩
abbrev S768x256 : Shape := ⟨2, ![768, 256]⟩
abbrev S768 : Shape := ⟨1, ![768]⟩
abbrev S_ : Shape := ⟨0, ![]⟩
abbrev S2048x256 : Shape := ⟨2, ![2048, 256]⟩
abbrev S1x256 : Shape := ⟨2, ![1, 256]⟩
abbrev S256x256 : Shape := ⟨2, ![256, 256]⟩
abbrev S128x256 : Shape := ⟨2, ![128, 256]⟩

abbrev nBuf : Space → Nat
  | .hbm => 45
  | .vmem => 12
  | .smem => 0
  | _ => 0

abbrev bufTy : (tb : Table) → Fin (tcTables nBuf tb) → BufTy
  | .hbm, ⟨0, _⟩ => ⟨S128x2048, .f32⟩
  | .hbm, ⟨1, _⟩ => ⟨S256x2048, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S768x256, .f32⟩
  | .hbm, ⟨8, _⟩ => ⟨S768, .f32⟩
  | .hbm, ⟨9, _⟩ => ⟨S_, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S2048x256, .f32⟩
  | .hbm, ⟨15, _⟩ => ⟨S1x256, .f32⟩
  | .hbm, ⟨16, _⟩ => ⟨S2048x256, .f32⟩
  | .hbm, ⟨17, _⟩ => ⟨S2048x256, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S1x256, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S256x256, .f32⟩
  | .hbm, ⟨29, _⟩ => ⟨S256, .f32⟩
  | .hbm, ⟨30, _⟩ => ⟨S256, .f32⟩
  | .hbm, ⟨31, _⟩ => ⟨S256, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S256x256, .f32⟩
  | .hbm, ⟨39, _⟩ => ⟨S1x256, .f32⟩
  | .hbm, ⟨40, _⟩ => ⟨S256x256, .f32⟩
  | .hbm, ⟨41, _⟩ => ⟨S1x256, .f32⟩
  | .hbm, ⟨42, _⟩ => ⟨S128x256, .f32⟩
  | .hbm, ⟨43, _⟩ => ⟨S128x256, .f32⟩
  | .hbm, ⟨44, _⟩ => ⟨S128x256, .f32⟩
  | .local _ .vmem, ⟨0, _⟩ => ⟨S128x2048, .f32⟩
  | .local _ .vmem, ⟨1, _⟩ => ⟨S2048x256, .f32⟩
  | .local _ .vmem, ⟨2, _⟩ => ⟨S1x256, .f32⟩
  | .local _ .vmem, ⟨3, _⟩ => ⟨S256x256, .f32⟩
  | .local _ .vmem, ⟨4, _⟩ => ⟨S1x256, .f32⟩
  | .local _ .vmem, ⟨5, _⟩ => ⟨S256x256, .f32⟩
  | .local _ .vmem, ⟨6, _⟩ => ⟨S1x256, .f32⟩
  | .local _ .vmem, ⟨7, _⟩ => ⟨S256x256, .f32⟩
  | .local _ .vmem, ⟨8, _⟩ => ⟨S1x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_cst_0 : Ref sig .tc := ⟨.hbm, 22, rfl⟩
abbrev main_call0_v12 : Ref sig .tc := ⟨.hbm, 23, rfl⟩
abbrev main_call0_cst_1 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_call0_v17 : Ref sig .tc := ⟨.hbm, 29, rfl⟩
abbrev main_call0_v18 : Ref sig .tc := ⟨.hbm, 30, rfl⟩
abbrev main_call0_v19 : Ref sig .tc := ⟨.hbm, 31, rfl⟩
abbrev main_call0_v20 : Ref sig .tc := ⟨.hbm, 32, rfl⟩
abbrev main_call0_v21 : Ref sig .tc := ⟨.hbm, 33, rfl⟩
abbrev main_call0_v22 : Ref sig .tc := ⟨.hbm, 34, rfl⟩
abbrev main_call0_v23 : Ref sig .tc := ⟨.hbm, 35, rfl⟩
abbrev main_call0_v24 : Ref sig .tc := ⟨.hbm, 36, rfl⟩
abbrev main_call0_v25 : Ref sig .tc := ⟨.hbm, 37, rfl⟩
abbrev main_call0_v26 : Ref sig .tc := ⟨.hbm, 38, rfl⟩
abbrev main_call0_v27 : Ref sig .tc := ⟨.hbm, 39, rfl⟩
abbrev main_call0_v28 : Ref sig .tc := ⟨.hbm, 40, rfl⟩
abbrev main_call0_v29 : Ref sig .tc := ⟨.hbm, 41, rfl⟩
abbrev main_v0_0 : Ref sig .tc := ⟨.hbm, 42, rfl⟩
abbrev main_v0_1 : Ref sig .tc := ⟨.hbm, 43, rfl⟩
abbrev main_v0_2 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]
-- ==== ImgRefIdeal.lean ====
abbrev S128x2048 : Shape := ⟨2, ![128, 2048]⟩
abbrev S256x2048 : Shape := ⟨2, ![256, 2048]⟩
abbrev S256 : Shape := ⟨1, ![256]⟩
abbrev S768x256 : Shape := ⟨2, ![768, 256]⟩
abbrev S768 : Shape := ⟨1, ![768]⟩
abbrev S2048x256 : Shape := ⟨2, ![2048, 256]⟩
abbrev S128x256 : Shape := ⟨2, ![128, 256]⟩
abbrev S1x256 : Shape := ⟨2, ![1, 256]⟩
abbrev S_ : Shape := ⟨0, ![]⟩
abbrev S256x256 : Shape := ⟨2, ![256, 256]⟩

abbrev nBuf : Space → Nat
  | .hbm => 58
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S256x2048, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S768x256, .f32⟩
  | .hbm, ⟨8, _⟩ => ⟨S768, .f32⟩
  | .hbm, ⟨9, _⟩ => ⟨S2048x256, .f32⟩
  | .hbm, ⟨10, _⟩ => ⟨S128x256, .f32⟩
  | .hbm, ⟨11, _⟩ => ⟨S1x256, .f32⟩
  | .hbm, ⟨12, _⟩ => ⟨S128x256, .f32⟩
  | .hbm, ⟨13, _⟩ => ⟨S128x256, .f32⟩
  | .hbm, ⟨14, _⟩ => ⟨S1x256, .f32⟩
  | .hbm, ⟨15, _⟩ => ⟨S128x256, .f32⟩
  | .hbm, ⟨16, _⟩ => ⟨S128x256, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S1x256, .f32⟩
  | .hbm, ⟨23, _⟩ => ⟨S128x256, .f32⟩
  | .hbm, ⟨24, _⟩ => ⟨S128x256, .f32⟩
  | .hbm, ⟨25, _⟩ => ⟨S1x256, .f32⟩
  | .hbm, ⟨26, _⟩ => ⟨S128x256, .f32⟩
  | .hbm, ⟨27, _⟩ => ⟨S128x256, .f32⟩
  | .hbm, ⟨28, _⟩ => ⟨S_, .f32⟩
  | .hbm, ⟨29, _⟩ => ⟨S128x256, .f32⟩
  | .hbm, ⟨30, _⟩ => ⟨S128x256, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S256x256, .f32⟩
  | .hbm, ⟨42, _⟩ => ⟨S128x256, .f32⟩
  | .hbm, ⟨43, _⟩ => ⟨S1x256, .f32⟩
  | .hbm, ⟨44, _⟩ => ⟨S128x256, .f32⟩
  | .hbm, ⟨45, _⟩ => ⟨S128x256, .f32⟩
  | .hbm, ⟨46, _⟩ => ⟨S128x256, .f32⟩
  | .hbm, ⟨47, _⟩ => ⟨S128x256, .f32⟩
  | .hbm, ⟨48, _⟩ => ⟨S256x256, .f32⟩
  | .hbm, ⟨49, _⟩ => ⟨S128x256, .f32⟩
  | .hbm, ⟨50, _⟩ => ⟨S1x256, .f32⟩
  | .hbm, ⟨51, _⟩ => ⟨S128x256, .f32⟩
  | .hbm, ⟨52, _⟩ => ⟨S128x256, .f32⟩
  | .hbm, ⟨53, _⟩ => ⟨S256x256, .f32⟩
  | .hbm, ⟨54, _⟩ => ⟨S128x256, .f32⟩
  | .hbm, ⟨55, _⟩ => ⟨S1x256, .f32⟩
  | .hbm, ⟨56, _⟩ => ⟨S128x256, .f32⟩
  | .hbm, ⟨57, _⟩ => ⟨S128x256, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_0 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Proof.Frames.lean ====
/- The frames of the twelve programs. A kernel's frame is its generated `Gen.frame`; a reference's is its generated run
   read at the arguments, the program declaring no semaphore. -/
module

public import proofs.«01_k».proof.Defs
public import proofs.«01_k».proof.Proof.Gen.Gru1.Frame
public import proofs.«01_k».proof.Proof.Gen.Gru1Ideal.Frame
public import proofs.«01_k».proof.Proof.Gen.TextRefIdeal.Run
public import proofs.«01_k».proof.Proof.Gen.Gru2.Frame
public import proofs.«01_k».proof.Proof.Gen.Gru2Ideal.Frame
public import proofs.«01_k».proof.Proof.Gen.ContrastRefIdeal.Run
public import proofs.«01_k».proof.Proof.Gen.Attn.Frame
public import proofs.«01_k».proof.Proof.Gen.AttnIdeal.Frame
public import proofs.«01_k».proof.Proof.Gen.LossRefIdeal.Run
public import proofs.«01_k».proof.Proof.Gen.Img.Frame
public import proofs.«01_k».proof.Proof.Gen.ImgIdeal.Frame
public import proofs.«01_k».proof.Proof.Gen.ImgRefIdeal.Run
public import Idealize.ShloMosaic.Lib.Quiescent

@[expose] public section

noncomputable section

namespace Cert.Proof

open Idealize.ShloMosaic Idealize.SL.Sem

/-- The first kernel runs, keeps its arguments and leaves every counter at zero. -/
theorem frame_Gru1 : Cert.quiescent_Gru1 := fun m ρ _ => Cert.Gru1.Gen.frame m ρ
/-- The first kernel's idealization runs, keeps its arguments and leaves every counter at zero. -/
theorem frame_Gru1Ideal : Cert.quiescent_Gru1Ideal := fun m ρ _ => Cert.Gru1Ideal.Gen.frame m ρ
/-- The first reference runs and keeps its arguments. -/
theorem frame_TextRefIdeal : Cert.quiescent_TextRefIdeal := fun m ρ _ =>
  (θ_run Cert.TextRefIdeal.defs _ _).mono (fun r h => ⟨fun c => (h c).2.2, sem_eq_zero_of_no_sems (by decide) r.2⟩)
    (Cert.TextRefIdeal.Value.run (F := Ideal) m ρ)
/-- The second kernel runs, keeps its arguments and leaves every counter at zero. -/
theorem frame_Gru2 : Cert.quiescent_Gru2 := fun m ρ _ => Cert.Gru2.Gen.frame m ρ
/-- The second kernel's idealization runs, keeps its arguments and leaves every counter at zero. -/
theorem frame_Gru2Ideal : Cert.quiescent_Gru2Ideal := fun m ρ _ => Cert.Gru2Ideal.Gen.frame m ρ
/-- The second reference runs and keeps its arguments. -/
theorem frame_ContrastRefIdeal : Cert.quiescent_ContrastRefIdeal := fun m ρ _ =>
  (θ_run Cert.ContrastRefIdeal.defs _ _).mono (fun r h => ⟨fun c => (h c).2, sem_eq_zero_of_no_sems (by decide) r.2⟩)
    (Cert.ContrastRefIdeal.Value.run (F := Ideal) m ρ)
/-- The third kernel runs, keeps its arguments and leaves every counter at zero. -/
theorem frame_Attn : Cert.quiescent_Attn := fun m ρ _ => Cert.Attn.Gen.frame m ρ
/-- The third kernel's idealization runs, keeps its arguments and leaves every counter at zero. -/
theorem frame_AttnIdeal : Cert.quiescent_AttnIdeal := fun m ρ _ => Cert.AttnIdeal.Gen.frame m ρ
/-- The third reference runs and keeps its arguments. -/
theorem frame_LossRefIdeal : Cert.quiescent_LossRefIdeal := fun m ρ _ =>
  (θ_run Cert.LossRefIdeal.defs _ _).mono (fun r h => ⟨fun c => (h c).2, sem_eq_zero_of_no_sems (by decide) r.2⟩)
    (Cert.LossRefIdeal.Value.run (F := Ideal) m ρ)
/-- The fourth kernel runs, keeps its arguments and leaves every counter at zero. -/
theorem frame_Img : Cert.quiescent_Img := fun m ρ _ => Cert.Img.Gen.frame m ρ
/-- The fourth kernel's idealization runs, keeps its arguments and leaves every counter at zero. -/
theorem frame_ImgIdeal : Cert.quiescent_ImgIdeal := fun m ρ _ => Cert.ImgIdeal.Gen.frame m ρ
/-- The fourth reference runs and keeps its arguments. -/
theorem frame_ImgRefIdeal : Cert.quiescent_ImgRefIdeal := fun m ρ _ =>
  (θ_run Cert.ImgRefIdeal.defs _ _).mono (fun r h => ⟨fun c => (h c).2.2.2, sem_eq_zero_of_no_sems (by decide) r.2⟩)
    (Cert.ImgRefIdeal.Value.run (F := Ideal) m ρ)

end Cert.Proof

end
-- ==== Proof.Gru1Step.lean ====
module

public import proofs.«01_k».proof.Proof.Gen.Gru1Ideal.Value
public import proofs.«01_k».proof.Defs
public import Idealize.ShloMosaic.PureOps.Ideal
public import Idealize.ShloMosaic.Lib.Pointwise
public import Idealize.ShloMosaic.Lib.Pipeline.Value
public import Idealize.ShloMosaic.Lib.Pipeline.ReadBack

@[expose] public section

set_option maxRecDepth 16384

noncomputable section

open Idealize.ShloMosaic Idealize.SL.Sem Cert.Gru1Ideal Cert.Gru1Ideal.Gen

namespace Cert.Gru1Ideal.Alg

/-! ## One timestep of the text GRU, as the kernel computes it -/

/-- One timestep: the hidden state `h` of every batch row and the timestep's embeddings `x` give the next hidden state. -/
def step (h : Vec Ideal S128x128 .f32) (x : Vec Ideal S128x1x2048 .f32) (w : Vec Ideal S2048x384 .f32) (b : Vec Ideal S1x384 .f32)
    (u : Vec Ideal S128x384 .f32) (d : Vec Ideal S1x384 .f32) : Vec Ideal S128x128 .f32 :=
  k0_pay35 (F := Ideal) h x w b u d

/-- The features of a timestep: the linear layer (batch norm folded in) of the hidden state's positive part, and its positive part. -/
def feat (h : Vec Ideal S128x128 .f32) (tw : Vec Ideal S128x256 .f32) (tb : Vec Ideal S1x256 .f32) : Vec Ideal S128x256 .f32 :=
  k0_pay37 (F := Ideal) (maximumf h (broadcast S128x128 (Scalar.ofBits .f32 0x00000000#32))) tw tb

section cuts
variable (h p q : Vec Ideal S128x128 .f32) (x : Vec Ideal S128x1x2048 .f32) (w : Vec Ideal S2048x384 .f32) (b : Vec Ideal S1x384 .f32)
  (u : Vec Ideal S128x384 .f32) (d : Vec Ideal S1x384 .f32) (tw : Vec Ideal S128x256 .f32) (tb : Vec Ideal S1x256 .f32)
  (X G : Vec Ideal S128x384 .f32) (r z : Vec Ideal S128x128 .f32)

/-! The eight unrolled timesteps are cut into values at different places; each is the same `step`, each row of features the same `feat`. -/

theorem step1 : k0_pay12 (F := Ideal) (k0_pay10 (F := Ideal) h x w b u d) (k0_pay11 (F := Ideal) h x w b u d) = step h x w b u d := rfl
theorem step2 : k0_pay19 (F := Ideal) (k0_pay12 (F := Ideal) p q) (k0_pay16 (F := Ideal) x w b) (k0_pay17 (F := Ideal) p q u d) (k0_pay18 (F := Ideal) p q x w b u d) = step (k0_pay12 (F := Ideal) p q) x w b u d := rfl
theorem step3 : k0_pay24 (F := Ideal) h (k0_pay23 (F := Ideal) x w b) u d = step h x w b u d := rfl
theorem step4 : k0_pay29 (F := Ideal) h (k0_pay28 (F := Ideal) x) w b u d = step h x w b u d := rfl
theorem step5 : k0_pay35 (F := Ideal) h x w b u d = step h x w b u d := rfl
theorem step6 : k0_pay44 (F := Ideal) h (k0_pay40 (F := Ideal) x w b) (k0_pay41 (F := Ideal) h u d) (k0_pay42 (F := Ideal) h x w b u d) (k0_pay43 (F := Ideal) h x w b u d) = step h x w b u d := rfl
theorem step7 : k0_pay50 (F := Ideal) (k0_pay44 (F := Ideal) h X G r z) (k0_pay48 (F := Ideal) x w b) (k0_pay49 (F := Ideal) h X G r z u) d = step (k0_pay44 (F := Ideal) h X G r z) x w b u d := rfl
theorem step8 : k0_pay56 (F := Ideal) h (k0_pay54 (F := Ideal) x) (k0_pay55 (F := Ideal) w) b u d = step h x w b u d := rfl

theorem feat1 : k0_pay13 (F := Ideal) p q tw tb = feat (k0_pay12 (F := Ideal) p q) tw tb := rfl
theorem feat2 : k0_pay20 (F := Ideal) h X G r tw tb = feat (k0_pay19 (F := Ideal) h X G r) tw tb := rfl
theorem feat3 : k0_pay25 (F := Ideal) h X u d tw tb = feat (k0_pay24 (F := Ideal) h X u d) tw tb := rfl
theorem feat4 (x : Vec Ideal S128x2048 .f32) : k0_pay32 (F := Ideal) (k0_pay30 (F := Ideal) h x w b u d tw tb) (k0_pay31 (F := Ideal)) = feat (k0_pay29 (F := Ideal) h x w b u d) tw tb := rfl
theorem feat5 : k0_pay37 (F := Ideal) (k0_pay36 (F := Ideal) h x w b u d) tw tb = feat (k0_pay35 (F := Ideal) h x w b u d) tw tb := rfl
theorem feat6 : k0_pay45 (F := Ideal) h X G r z tw tb = feat (k0_pay44 (F := Ideal) h X G r z) tw tb := rfl
theorem feat7 : k0_pay51 (F := Ideal) h X G d tw tb = feat (k0_pay50 (F := Ideal) h X G d) tw tb := rfl
theorem feat8 (x : Vec Ideal S128x2048 .f32) : k0_pay57 (F := Ideal) h x w b u d tw tb = feat (k0_pay56 (F := Ideal) h x w b u d) tw tb := rfl

end cuts

/-! ## What a point leaves: eight timesteps -/

/-- Row `k` (modulo eight) of a block of eight timesteps. -/
def rowv (x0 : Vec Ideal S128x8x2048 .f32) (k : ℕ) : Vec Ideal S128x1x2048 .f32 :=
  fun j => x0 (ix3 (j 0) ⟨k % 8, Nat.mod_lt _ (by decide)⟩ (j 2))

section rec
variable (x0 : Vec Ideal S128x8x2048 .f32) (w : Vec Ideal S2048x384 .f32) (b : Vec Ideal S1x384 .f32)
  (u : Vec Ideal S128x384 .f32) (d : Vec Ideal S1x384 .f32) (tw : Vec Ideal S128x256 .f32) (tb : Vec Ideal S1x256 .f32)
  (h : Vec Ideal S128x128 .f32)

/-- The hidden state after `k` timesteps of the block, from `h`. -/
def hs : ℕ → Vec Ideal S128x128 .f32
  | 0 => h
  | k + 1 => step (hs k) (rowv x0 k) w b u d

/-- The sum of the features of the block's first `k` timesteps. -/
def acc : ℕ → Vec Ideal S128x256 .f32
  | 0 => k0_pay6 (F := Ideal)
  | k + 1 => addf (F := Ideal) (φ := .f32) (acc k) (feat (hs x0 w b u d h (k + 1)) tw tb)

end rec

theorem hz : (![0, 0] : Fin 2 → Nat) = fun _ => 0 := funext fun a => by fin_cases a <;> rfl

/-- Loading row `k` of a block reads the row. -/
theorem ld_row (x0 : Vec Ideal S128x8x2048 .f32) (k : ℕ) (hk : k < 8) (inb) :
    View.ld x0 (Rect.unit ![0, k, 0] S128x1x2048.size inb) = rowv x0 k := by
  funext j
  unfold rowv
  show x0 _ = x0 _
  congr 1
  funext a
  apply Fin.ext
  match a with
  | ⟨0, _⟩ => show 0 + 1 * (j 0).val = (j 0).val; omega
  | ⟨1, _⟩ =>
    have h1 : (j 1).val < 1 := (j 1).isLt
    show k + 1 * (j 1).val = k % 8; omega
  | ⟨2, _⟩ => show 0 + 1 * (j 2).val = (j 2).val; omega

end Cert.Gru1Ideal.Alg
-- ==== Proof.Shared.lean ====
module

public import Idealize.ShloMosaic.PureOps.Ideal
public import Idealize.ShloMosaic.Lib.Pointwise
public import Idealize.ShloMosaic.Lib.Pipeline.Value
public import Idealize.ShloMosaic.Lib.Pipeline.ReadBack

@[expose] public section

noncomputable section

open Idealize.ShloMosaic Idealize.SL.Sem

namespace Cert.Shared

/-! ## Facts about stores, indices and loop counters that several calls use -/

/-- Stores that are all rows of one block `G`, and cover it, leave `G`. -/
theorem read_of_pieces {sig : RefSig} {κ : Kind} {sp : Space} {s : Shape} {e : EltTy} (v : View sig κ sp s e) (f : _) (L : List (View.Piece (Elt Ideal) s e)) (G : s.Idx → Elt Ideal e)
    (hc : ∀ y, ∃ p ∈ L, y ∈ p.1.set) (h : View.PiecesOf G L) : v.read (Elt Ideal) (v.writes (Elt Ideal) f L) = G := by
  rw [View.read_writes_eq_canon _ _ _ hc]
  exact funext fun y => View.canon_apply_of_pieces G L h.mem y (hc y)

theorem ix3_congr {a b c : ℕ} {i i' : Fin a} {j j' : Fin b} {k k' : Fin c} (hi : i.val = i'.val) (hj : j.val = j'.val) (hk : k.val = k'.val) :
    ix3 i j k = ix3 i' j' k' := by
  rw [Fin.ext hi, Fin.ext hj, Fin.ext hk]

/-- The counter of a loop of 128 trips as an integer. -/
theorem iv_toInt (k : ℕ) (hk : k < 128) : (Scf.iv 0#32 1#32 k).toInt = k := by
  rw [Scf.toInt_iv (lb := 0#32) (ub := 128#32) (st := 1#32) (by decide) (by show k ≤ 128; omega)]
  simp

end Cert.Shared
-- ==== Proof.Gru1Case.lean ====
module

public import proofs.«01_k».proof.Proof.Gru1Step
public import proofs.«01_k».proof.Proof.Shared

@[expose] public section

set_option maxRecDepth 16384

noncomputable section

open Idealize.ShloMosaic Idealize.SL.Sem Cert.Gru1Ideal Cert.Gru1Ideal.Gen

namespace Cert.Gru1Ideal.Alg

/-- One row's store is that row of the block. -/
theorem row_piece (f : ℕ → Vec Ideal S128x256 .f32) (v : Vec Ideal S128x256 .f32) (k : ℕ) (hv : v = f (k + 1)) (inb)
    (x : (Rect.unit (s := S128x8x256) ![0, k, 0] S128x1x256.size inb).shape.Idx) :
    shapeCast S128x1x256 v shapeCasts_S128x256_S128x1x256 x
      = (fun j : S128x8x256.Idx => f ((j 1).val + 1) (ix2 (j 0) (j 2))) ((Rect.unit (s := S128x8x256) ![0, k, 0] S128x1x256.size inb).emb x) := by
  subst hv
  have h1 : (x 1).val < 1 := (x 1).isLt
  have e1 : (((Rect.unit (s := S128x8x256) ![0, k, 0] S128x1x256.size inb).emb x) 1).val = k := by
    show k + 1 * (x 1).val = k; omega
  have e0 : ((Rect.unit (s := S128x8x256) ![0, k, 0] S128x1x256.size inb).emb x) 0 = x 0 := Fin.ext (by show 0 + 1 * (x 0).val = (x 0).val; omega)
  have e2 : ((Rect.unit (s := S128x8x256) ![0, k, 0] S128x1x256.size inb).emb x) 2 = x 2 := Fin.ext (by show 0 + 1 * (x 2).val = (x 2).val; omega)
  dsimp only
  rw [e1, e0, e2]
  generalize f (k + 1) = v
  change S128x1x256.Idx at x
  pointwise

section cases
variable (c : Dev nD) (i : grid0.Coords) (arg2 : Memref sig .tc .vmem S128x8x2048 .f32) (harg2 : arg2.IsWhole) (arg3 : Memref sig .tc .vmem S2048x384 .f32) (harg3 : arg3.IsWhole)
  (arg4 : Memref sig .tc .vmem S1x384 .f32) (harg4 : arg4.IsWhole) (arg5 : Memref sig .tc .vmem S128x384 .f32) (harg5 : arg5.IsWhole) (arg6 : Memref sig .tc .vmem S1x384 .f32) (harg6 : arg6.IsWhole)
  (arg7 : Memref sig .tc .vmem S128x256 .f32) (harg7 : arg7.IsWhole) (arg8 : Memref sig .tc .vmem S1x256 .f32) (harg8 : arg8.IsWhole) (arg9 : Memref sig .tc .vmem S128x8x256 .f32) (harg9 : arg9.IsWhole)
  (arg10 : Memref sig .tc .vmem S128x256 .f32) (harg10 : arg10.IsWhole) (arg11 : Memref sig .tc .vmem S128x128 .f32) (harg11 : arg11.IsWhole)
  (x0 : Vec Ideal S128x8x2048 .f32) (x1 : Vec Ideal S2048x384 .f32) (x2 : Vec Ideal S1x384 .f32) (x3 : Vec Ideal S128x384 .f32) (x4 : Vec Ideal S1x384 .f32) (x5 : Vec Ideal S128x256 .f32) (x6 : Vec Ideal S1x256 .f32)

/-- A point after the first leaves the hidden state after its eight timesteps. -/
theorem sout_B_0 (hc0 : ¬cond0_0 i) (xo8 : Vec Ideal S128x256 .f32) (xs0 : Vec Ideal S128x128 .f32) :
    sout0_B_0 c i arg2 harg2 arg3 harg3 arg4 harg4 arg5 harg5 arg6 harg6 arg7 harg7 arg8 harg8 arg9 harg9 arg10 harg10 arg11 harg11 hc0 x0 x1 x2 x3 x4 x5 x6 xo8 xs0 = hs x0 x1 x2 x3 x4 xs0 8 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 x0 x1 x2 x3 x4 x5 x6 xo8 xs0)]
  unfold kernelRun0_B
  dsimp only
  rw [View.canon_unit_zero (S := S128x128) hz]
  sl_unfold_words
  simp only [View.readAt_eq_ld, harg2.read_unread, harg3.read_unread, harg4.read_unread, harg5.read_unread, harg6.read_unread, harg7.read_unread, harg8.read_unread,
    harg10.read_unread, harg11.read_unread, View.ld_unit_zero (S := S2048x384) hz, View.ld_unit_zero (S := S1x384) hz, View.ld_unit_zero (S := S128x384) hz,
    View.ld_unit_zero (S := S128x256) hz, View.ld_unit_zero (S := S1x256) hz, View.ld_unit_zero (S := S128x128) hz, ld_row x0 0 (by decide), ld_row x0 1 (by decide), ld_row x0 2 (by decide),
    ld_row x0 3 (by decide), ld_row x0 4 (by decide), ld_row x0 5 (by decide), ld_row x0 6 (by decide), ld_row x0 7 (by decide)]
  unfold k0_pay2
  rw [shapeCast_self, step8, step7, step6, step5, step4, step3, step2, step1]
  rfl

/-- A point after the first leaves the running sum of the features, its eight timesteps added. -/
theorem out_B_8 (hc0 : ¬cond0_0 i) (xo8 : Vec Ideal S128x256 .f32) (xs0 : Vec Ideal S128x128 .f32) :
    out0_B_8 c i arg2 harg2 arg3 harg3 arg4 harg4 arg5 harg5 arg6 harg6 arg7 harg7 arg8 harg8 arg9 harg9 arg10 harg10 arg11 harg11 hc0 x0 x1 x2 x3 x4 x5 x6 xo8 xs0 = addf (F := Ideal) (φ := .f32) xo8 (acc x0 x1 x2 x3 x4 x5 x6 xs0 8) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 x4 x5 x6 xo8 xs0)]
  unfold kernelRun0_B
  dsimp only
  rw [View.canon_unit_zero (S := S128x256) hz]
  sl_unfold_words
  simp only [View.readAt_eq_ld, harg2.read_unread, harg3.read_unread, harg4.read_unread, harg5.read_unread, harg6.read_unread, harg7.read_unread, harg8.read_unread,
    harg10.read_unread, harg11.read_unread, View.ld_unit_zero (S := S2048x384) hz, View.ld_unit_zero (S := S1x384) hz, View.ld_unit_zero (S := S128x384) hz,
    View.ld_unit_zero (S := S128x256) hz, View.ld_unit_zero (S := S1x256) hz, View.ld_unit_zero (S := S128x128) hz, ld_row x0 0 (by decide), ld_row x0 1 (by decide), ld_row x0 2 (by decide),
    ld_row x0 3 (by decide), ld_row x0 4 (by decide), ld_row x0 5 (by decide), ld_row x0 6 (by decide), ld_row x0 7 (by decide)]
  unfold k0_pay3 k0_pay53 k0_pay47 k0_pay39 k0_pay34 k0_pay27 k0_pay22 k0_pay15
  rw [shapeCast_self, feat8, feat7, feat6, feat5, feat4, feat3, feat2, feat1, step8, step7, step6, step5, step4, step3, step2, step1]
  rfl

/-- A point after the first leaves the features of its eight timesteps, one row each. -/
theorem out_B_7 (hc0 : ¬cond0_0 i) (xo8 : Vec Ideal S128x256 .f32) (xs0 : Vec Ideal S128x128 .f32) :
    out0_B_7 c i arg2 harg2 arg3 harg3 arg4 harg4 arg5 harg5 arg6 harg6 arg7 harg7 arg8 harg8 arg9 harg9 arg10 harg10 arg11 harg11 hc0 x0 x1 x2 x3 x4 x5 x6 xo8 xs0 = fun j => feat (hs x0 x1 x2 x3 x4 xs0 ((j 1).val + 1)) x5 x6 (ix2 (j 0) (j 2)) := by
  unfold out0_B_7
  refine Shared.read_of_pieces _ _ _ _ (cover0_B_7 c i arg2 harg2 arg3 harg3 arg4 harg4 arg5 harg5 arg6 harg6 arg7 harg7 arg8 harg8 arg9 harg9 arg10 harg10 arg11 harg11 hc0 x0 x1 x2 x3 x4 x5 x6 xo8 xs0) ?_
  unfold kernelRun0_B
  dsimp only
  sl_unfold_words
  simp only [View.readAt_eq_ld, harg2.read_unread, harg3.read_unread, harg4.read_unread, harg5.read_unread, harg6.read_unread, harg7.read_unread, harg8.read_unread,
    harg10.read_unread, harg11.read_unread, View.ld_unit_zero (S := S2048x384) hz, View.ld_unit_zero (S := S1x384) hz, View.ld_unit_zero (S := S128x384) hz,
    View.ld_unit_zero (S := S128x256) hz, View.ld_unit_zero (S := S1x256) hz, View.ld_unit_zero (S := S128x128) hz, ld_row x0 0 (by decide), ld_row x0 1 (by decide), ld_row x0 2 (by decide),
    ld_row x0 3 (by decide), ld_row x0 4 (by decide), ld_row x0 5 (by decide), ld_row x0 6 (by decide), ld_row x0 7 (by decide)]
  unfold k0_pay1 k0_pay52 k0_pay46 k0_pay38 k0_pay33 k0_pay26 k0_pay21 k0_pay14
  rw [feat8, feat7, feat6, feat5, feat4, feat3, feat2, feat1, step8, step7, step6, step5, step4, step3, step2, step1]
  have P := row_piece fun k => feat (hs x0 x1 x2 x3 x4 xs0 k) x5 x6
  refine ⟨?_, ?_, ?_, ?_, ?_, ?_, ?_, ?_, trivial⟩
  · exact P _ 7 rfl inb_S128x8x256_S128x1x256_0_7_0
  · exact P _ 6 rfl inb_S128x8x256_S128x1x256_0_6_0
  · exact P _ 5 rfl inb_S128x8x256_S128x1x256_0_5_0
  · exact P _ 4 rfl inb_S128x8x256_S128x1x256_0_4_0
  · exact P _ 3 rfl inb_S128x8x256_S128x1x256_0_3_0
  · exact P _ 2 rfl inb_S128x8x256_S128x1x256_0_2_0
  · exact P _ 1 rfl inb_S128x8x256_S128x1x256_0_1_0
  · exact P _ 0 rfl inb_S128x8x256_S128x1x256_0_0_0

/-- A point that resets (the first) leaves the hidden state after its eight timesteps. -/
theorem sout_A_0 (hc0 : cond0_0 i) :
    sout0_A_0 c i arg2 harg2 arg3 harg3 arg4 harg4 arg5 harg5 arg6 harg6 arg7 harg7 arg8 harg8 arg9 harg9 arg10 harg10 arg11 harg11 hc0 x0 x1 x2 x3 x4 x5 x6  = hs x0 x1 x2 x3 x4 (k0_pay4 (F := Ideal)) 8 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6 )]
  unfold kernelRun0_A
  dsimp only
  rw [View.canon_cons_unit_zero (S := S128x128) hz]
  sl_unfold_words
  simp only [View.readCov_unit_zero (S := S128x128) _ hz, View.readCov_unit_zero (S := S128x256) _ hz]
  simp only [View.readAt_eq_ld, harg2.read_unread, harg3.read_unread, harg4.read_unread, harg5.read_unread, harg6.read_unread, harg7.read_unread, harg8.read_unread,
    View.ld_unit_zero (S := S2048x384) hz, View.ld_unit_zero (S := S1x384) hz, View.ld_unit_zero (S := S128x384) hz,
    View.ld_unit_zero (S := S128x256) hz, View.ld_unit_zero (S := S1x256) hz, View.ld_unit_zero (S := S128x128) hz, ld_row x0 0 (by decide), ld_row x0 1 (by decide), ld_row x0 2 (by decide),
    ld_row x0 3 (by decide), ld_row x0 4 (by decide), ld_row x0 5 (by decide), ld_row x0 6 (by decide), ld_row x0 7 (by decide)]
  unfold k0_pay2
  rw [shapeCast_self, step8, step7, step6, step5, step4, step3, step2, step1]
  rfl

/-- A point that resets (the first) leaves the running sum of the features, its eight timesteps added. -/
theorem out_A_8 (hc0 : cond0_0 i) :
    out0_A_8 c i arg2 harg2 arg3 harg3 arg4 harg4 arg5 harg5 arg6 harg6 arg7 harg7 arg8 harg8 arg9 harg9 arg10 harg10 arg11 harg11 hc0 x0 x1 x2 x3 x4 x5 x6  = addf (F := Ideal) (φ := .f32) (k0_pay5 (F := Ideal)) (acc x0 x1 x2 x3 x4 x5 x6 (k0_pay4 (F := Ideal)) 8) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 x0 x1 x2 x3 x4 x5 x6 )]
  unfold kernelRun0_A
  dsimp only
  rw [View.canon_cons_unit_zero (S := S128x256) hz]
  sl_unfold_words
  simp only [View.readCov_unit_zero (S := S128x128) _ hz, View.readCov_unit_zero (S := S128x256) _ hz]
  simp only [View.readAt_eq_ld, harg2.read_unread, harg3.read_unread, harg4.read_unread, harg5.read_unread, harg6.read_unread, harg7.read_unread, harg8.read_unread,
    View.ld_unit_zero (S := S2048x384) hz, View.ld_unit_zero (S := S1x384) hz, View.ld_unit_zero (S := S128x384) hz,
    View.ld_unit_zero (S := S128x256) hz, View.ld_unit_zero (S := S1x256) hz, View.ld_unit_zero (S := S128x128) hz, ld_row x0 0 (by decide), ld_row x0 1 (by decide), ld_row x0 2 (by decide),
    ld_row x0 3 (by decide), ld_row x0 4 (by decide), ld_row x0 5 (by decide), ld_row x0 6 (by decide), ld_row x0 7 (by decide)]
  unfold k0_pay3 k0_pay53 k0_pay47 k0_pay39 k0_pay34 k0_pay27 k0_pay22 k0_pay15
  rw [shapeCast_self, feat8, feat7, feat6, feat5, feat4, feat3, feat2, feat1, step8, step7, step6, step5, step4, step3, step2, step1]
  rfl

/-- A point that resets (the first) leaves the features of its eight timesteps, one row each. -/
theorem out_A_7 (hc0 : cond0_0 i) :
    out0_A_7 c i arg2 harg2 arg3 harg3 arg4 harg4 arg5 harg5 arg6 harg6 arg7 harg7 arg8 harg8 arg9 harg9 arg10 harg10 arg11 harg11 hc0 x0 x1 x2 x3 x4 x5 x6  = fun j => feat (hs x0 x1 x2 x3 x4 (k0_pay4 (F := Ideal)) ((j 1).val + 1)) x5 x6 (ix2 (j 0) (j 2)) := by
  unfold out0_A_7
  refine Shared.read_of_pieces _ _ _ _ (cover0_A_7 c i arg2 harg2 arg3 harg3 arg4 harg4 arg5 harg5 arg6 harg6 arg7 harg7 arg8 harg8 arg9 harg9 arg10 harg10 arg11 harg11 hc0 x0 x1 x2 x3 x4 x5 x6 ) ?_
  unfold kernelRun0_A
  dsimp only
  sl_unfold_words
  simp only [View.readCov_unit_zero (S := S128x128) _ hz]
  simp only [View.readAt_eq_ld, harg2.read_unread, harg3.read_unread, harg4.read_unread, harg5.read_unread, harg6.read_unread, harg7.read_unread, harg8.read_unread,
    View.ld_unit_zero (S := S2048x384) hz, View.ld_unit_zero (S := S1x384) hz, View.ld_unit_zero (S := S128x384) hz,
    View.ld_unit_zero (S := S128x256) hz, View.ld_unit_zero (S := S1x256) hz, View.ld_unit_zero (S := S128x128) hz, ld_row x0 0 (by decide), ld_row x0 1 (by decide), ld_row x0 2 (by decide),
    ld_row x0 3 (by decide), ld_row x0 4 (by decide), ld_row x0 5 (by decide), ld_row x0 6 (by decide), ld_row x0 7 (by decide)]
  unfold k0_pay1 k0_pay52 k0_pay46 k0_pay38 k0_pay33 k0_pay26 k0_pay21 k0_pay14
  rw [feat8, feat7, feat6, feat5, feat4, feat3, feat2, feat1, step8, step7, step6, step5, step4, step3, step2, step1]
  have P := row_piece fun k => feat (hs x0 x1 x2 x3 x4 (k0_pay4 (F := Ideal)) k) x5 x6
  refine ⟨?_, ?_, ?_, ?_, ?_, ?_, ?_, ?_, trivial⟩
  · exact P _ 7 rfl inb_S128x8x256_S128x1x256_0_7_0
  · exact P _ 6 rfl inb_S128x8x256_S128x1x256_0_6_0
  · exact P _ 5 rfl inb_S128x8x256_S128x1x256_0_5_0
  · exact P _ 4 rfl inb_S128x8x256_S128x1x256_0_4_0
  · exact P _ 3 rfl inb_S128x8x256_S128x1x256_0_3_0
  · exact P _ 2 rfl inb_S128x8x256_S128x1x256_0_2_0
  · exact P _ 1 rfl inb_S128x8x256_S128x1x256_0_1_0
  · exact P _ 0 rfl inb_S128x8x256_S128x1x256_0_0_0

end cases
end Cert.Gru1Ideal.Alg
-- ==== Proof.Gru.lean ====
module

public import Idealize.ShloMosaic.PureOps.Ideal
public import Idealize.ShloMosaic.Lib.Pointwise

@[expose] public section

noncomputable section

open Idealize.ShloMosaic

namespace Cert.Gru

/-! ## A gated recurrent unit over the extended reals -/

/-- One unit of the cell, from the input's and the hidden state's contributions to the reset, update and candidate gates. -/
def cell (xr xz xn gr gz gn h : EReal) : EReal :=
  (1 - Ideal.logistic (xz + gz)) * Ideal.tanh (xn + Ideal.logistic (xr + gr) * gn) + Ideal.logistic (xz + gz) * h

/-- The hidden state's contribution to the gates: its product with the recurrent weights, and their bias. -/
def rec {N M : ℕ} (W : Fin M → Fin N → EReal) (d : Fin M → EReal) (h : Fin N → EReal) (j : Fin M) : EReal :=
  ∑ k, h k * W j k + d j

/-- One timestep over all `N` units: the gates lie at `j`, `N + j` and `2 N + j` of their `M = 3 N` contributions. -/
def next {N M : ℕ} (hM : M = N + N + N) (X : Fin M → EReal) (W : Fin M → Fin N → EReal) (d : Fin M → EReal) (h : Fin N → EReal) (j : Fin N) : EReal :=
  cell (X ⟨j, by omega⟩) (X ⟨N + j, by omega⟩) (X ⟨N + N + j, by omega⟩)
    (rec W d h ⟨j, by omega⟩) (rec W d h ⟨N + j, by omega⟩) (rec W d h ⟨N + N + j, by omega⟩) (h j)

/-- The hidden state after `t` timesteps, from zero. -/
def hid {N M : ℕ} (hM : M = N + N + N) (X : ℕ → Fin M → EReal) (W : Fin M → Fin N → EReal) (d : Fin M → EReal) : ℕ → Fin N → EReal
  | 0 => fun _ => 0
  | t + 1 => next hM (X t) W d (hid hM X W d t)

/-! ## The hidden state is real, whatever the inputs are -/

theorem logistic_real (x : EReal) : ∃ r : ℝ, Ideal.logistic x = r := by
  induction x using EReal.rec with
  | bot => exact ⟨0, by simp⟩
  | top => exact ⟨1, by simp⟩
  | coe r => exact ⟨_, Ideal.logistic_coe r⟩

theorem tanh_real (x : EReal) : ∃ r : ℝ, Ideal.tanh x = r := by
  induction x using EReal.rec with
  | bot => exact ⟨-1, by rw [EReal.coe_neg, EReal.coe_one]; rfl⟩
  | top => exact ⟨1, rfl⟩
  | coe r => exact ⟨Real.tanh r, rfl⟩

theorem cell_real (xr xz xn gr gz gn h : EReal) (hh : ∃ r : ℝ, h = r) : ∃ r : ℝ, cell xr xz xn gr gz gn h = r := by
  obtain ⟨z, hz⟩ := logistic_real (xz + gz)
  obtain ⟨n, hn⟩ := tanh_real (xn + Ideal.logistic (xr + gr) * gn)
  obtain ⟨r, rfl⟩ := hh
  refine ⟨(1 - z) * n + z * r, ?_⟩
  unfold cell
  rw [hz, hn]
  push_cast
  rfl

theorem hid_real {N M : ℕ} (hM : M = N + N + N) (X : ℕ → Fin M → EReal) (W : Fin M → Fin N → EReal) (d : Fin M → EReal) (t : ℕ) (j : Fin N) :
    ∃ r : ℝ, hid hM X W d t j = r := by
  induction t generalizing j with
  | zero => exact ⟨0, rfl⟩
  | succ t ih => exact cell_real _ _ _ _ _ _ _ (ih j)

/-! ## Folding an eval-mode batch norm into the linear layer before it -/

/-- A sum of reals, summed over the extended reals. -/
theorem coe_sum {ι : Type} [Fintype ι] (f : ι → ℝ) : ((∑ k, f k : ℝ) : EReal) = ∑ k, (f k : EReal) :=
  map_sum (⟨⟨Real.toEReal, EReal.coe_zero⟩, EReal.coe_add⟩ : ℝ →+ EReal) f Finset.univ

/-- The layer's product with the scaled weights and the folded bias is the batch norm of the layer, where the layer's numbers are real. -/
theorem fold_bn {N : ℕ} (h w : Fin N → EReal) (s b m β : EReal) (hh : ∀ k, ∃ r : ℝ, h k = r) (hw : ∀ k, ∃ r : ℝ, w k = r)
    (hs : ∃ r : ℝ, s = r) (hb : ∃ r : ℝ, b = r) (hm : ∃ r : ℝ, m = r) :
    ∑ k, h k * (w k * s) + ((b - m) * s + β) = ((∑ k, h k * w k + b) - m) * s + β := by
  choose h' hh' using hh
  choose w' hw' using hw
  obtain ⟨s, rfl⟩ := hs
  obtain ⟨b, rfl⟩ := hb
  obtain ⟨m, rfl⟩ := hm
  have e1 : ∑ k, h k * (w k * (s : EReal)) = ((∑ k, h' k * (w' k * s) : ℝ) : EReal) := by
    rw [coe_sum]; exact Finset.sum_congr rfl fun k _ => by rw [hh', hw']; push_cast; rfl
  have e2 : ∑ k, h k * w k = ((∑ k, h' k * w' k : ℝ) : EReal) := by
    rw [coe_sum]; exact Finset.sum_congr rfl fun k _ => by rw [hh', hw']; push_cast; rfl
  rw [e1, e2, ← add_assoc]
  congr 1
  norm_cast
  rw [add_sub_assoc, add_mul, Finset.sum_mul]
  simp only [mul_assoc]

/-- The positive part of a real number is real. -/
theorem max_zero_real {x : EReal} (hx : ∃ r : ℝ, x = r) : ∃ r : ℝ, max x 0 = r := by
  obtain ⟨r, rfl⟩ := hx
  exact ⟨max r 0, by norm_cast⟩

end Cert.Gru
-- ==== Proof.Text.lean ====
module

public import Idealize.ShloMosaic.PureOps.Ideal
public import Idealize.ShloMosaic.Lib.Pointwise
public import proofs.«01_k».proof.Proof.Gru

@[expose] public section

noncomputable section

open Idealize.ShloMosaic

namespace Cert.Text

/-! ## The text branch over the extended reals, of the call's eleven arguments -/

/-- The arguments: the embeddings, the GRU's input weights, recurrent weights and two biases, the linear layer's weights and bias, and the batch
    norm's scale, shift, mean and variance. -/
structure Args where
  x : Vec Ideal ⟨3, ![128, 128, 2048]⟩ .f32
  wi : Vec Ideal ⟨2, ![384, 2048]⟩ .f32
  wh : Vec Ideal ⟨2, ![384, 128]⟩ .f32
  bi : Vec Ideal ⟨1, ![384]⟩ .f32
  bh : Vec Ideal ⟨1, ![384]⟩ .f32
  w : Vec Ideal ⟨2, ![256, 128]⟩ .f32
  b : Vec Ideal ⟨1, ![256]⟩ .f32
  g : Vec Ideal ⟨1, ![256]⟩ .f32
  β : Vec Ideal ⟨1, ![256]⟩ .f32
  μ : Vec Ideal ⟨1, ![256]⟩ .f32
  v : Vec Ideal ⟨1, ![256]⟩ .f32

variable (A : Args)

/-- The input's contribution to the gates of batch row `i` at timestep `t` (modulo 128). -/
def inp (i : Fin 128) (t : ℕ) (j : Fin 384) : EReal :=
  ∑ k : Fin 2048, A.x (ix3 i ⟨t % 128, Nat.mod_lt _ (by decide)⟩ k) * A.wi (ix2 j k) + A.bi (ix1 j)

/-- The hidden state of batch row `i` after `t` timesteps. -/
def state (i : Fin 128) (t : ℕ) : Fin 128 → EReal :=
  Gru.hid (M := 384) rfl (inp A i) (fun j k => A.wh (ix2 j k)) (fun j => A.bh (ix1 j)) t

/-- The batch norm's factor of channel `j`. -/
def scale (j : Fin 256) : EReal := A.g (ix1 j) * Ideal.rsqrt (A.v (ix1 j) + Ideal.ofBits .f32 0x3727C5AC#32)

/-- The features of batch row `i` at timestep `t`: the batch norm of the linear layer. -/
def fea (i : Fin 128) (t : ℕ) (j : Fin 256) : EReal :=
  max ((∑ k, max (state A i (t + 1) k) 0 * A.w (ix2 j k) + A.b (ix1 j) - A.μ (ix1 j)) * scale A j + A.β (ix1 j)) 0

/-- The same features with the batch norm folded into the linear layer. -/
def feaFolded (i : Fin 128) (t : ℕ) (j : Fin 256) : EReal :=
  max (∑ k, max (state A i (t + 1) k) 0 * (A.w (ix2 j k) * scale A j) + ((A.b (ix1 j) - A.μ (ix1 j)) * scale A j + A.β (ix1 j))) 0

/-- What folding the batch norm asks of the arguments: the layer's weights and bias, and the batch norm's mean and factor, are real numbers. -/
def Finite : Prop := ∀ j, (∀ k, ∃ r : ℝ, A.w (ix2 j k) = r) ∧ (∃ r : ℝ, A.b (ix1 j) = r) ∧ (∃ r : ℝ, A.μ (ix1 j) = r) ∧ ∃ r : ℝ, scale A j = r

theorem feaFolded_eq (h : Finite A) (i : Fin 128) (t : ℕ) (j : Fin 256) : feaFolded A i t j = fea A i t j := by
  obtain ⟨hw, hb, hm, hs⟩ := h j
  unfold feaFolded fea
  exact congrArg (max · 0) (Gru.fold_bn _ _ _ _ _ _ (fun k => Gru.max_zero_real (Gru.hid_real ..)) hw hs hb hm)

end Cert.Text
-- ==== Proof.Gru1Value.lean ====
module

public import proofs.«01_k».proof.Proof.Gru1Case
public import proofs.«01_k».proof.Proof.Text
public import proofs.«01_k».proof.Proof.Gen.Gru1Ideal.Value
public import Idealize.ShloMosaic.Lib.StableHlo.RunClose
public import Idealize.ShloMosaic.Lib.Tactic.CleanTypes

@[expose] public section

set_option maxRecDepth 16384

noncomputable section

open Idealize.ShloMosaic Idealize.SL.Sem Cert.Gru1Ideal Cert.Gru1Ideal.Gen Cert.Gru1Ideal.Value

namespace Cert.Gru1Ideal.Alg

/-! ## The eight timesteps of a point, entry by entry -/

theorem step_apply (h : Vec Ideal S128x128 .f32) (x : Vec Ideal S128x1x2048 .f32) (w : Vec Ideal S2048x384 .f32) (b : Vec Ideal S1x384 .f32)
    (u : Vec Ideal S128x384 .f32) (d : Vec Ideal S1x384 .f32) (i j : Fin 128) :
    step h x w b u d (ix2 i j) = Gru.next (N := 128) (M := 384) rfl (fun j => ∑ k : Fin 2048, x (ix3 i 0 k) * w (ix2 k j) + b (ix2 0 j))
      (fun j k => u (ix2 k j)) (fun j => d (ix2 0 j)) (fun k => h (ix2 i k)) j := by
  unfold step k0_pay35 Gru.next Gru.rec Gru.cell
  pointwise

theorem feat_apply (h : Vec Ideal S128x128 .f32) (tw : Vec Ideal S128x256 .f32) (tb : Vec Ideal S1x256 .f32) (i : Fin 128) (j : Fin 256) :
    feat h tw tb (ix2 i j) = max (∑ k, max (h (ix2 i k)) 0 * tw (ix2 k j) + tb (ix2 0 j)) 0 := by
  unfold feat k0_pay37
  pointwise

/-- The blocks of point `n`: eight timesteps of the embeddings, the weights transposed, the batch norm folded into the linear layer. -/
structure Blocks (A : Text.Args) (n : ℕ) (x0 : Vec Ideal S128x8x2048 .f32) (x1 : Vec Ideal S2048x384 .f32) (x2 : Vec Ideal S1x384 .f32)
    (x3 : Vec Ideal S128x384 .f32) (x4 : Vec Ideal S1x384 .f32) (x5 : Vec Ideal S128x256 .f32) (x6 : Vec Ideal S1x256 .f32) : Prop where
  h0 : ∀ i (k : Fin 8) q, x0 (ix3 i k q) = A.x (ix3 i ⟨(8 * n + k.val) % 128, Nat.mod_lt _ (by decide)⟩ q)
  h1 : ∀ k j, x1 (ix2 k j) = A.wi (ix2 j k)
  h2 : ∀ j, x2 (ix2 0 j) = A.bi (ix1 j)
  h3 : ∀ k j, x3 (ix2 k j) = A.wh (ix2 j k)
  h4 : ∀ j, x4 (ix2 0 j) = A.bh (ix1 j)
  h5 : ∀ k j, x5 (ix2 k j) = A.w (ix2 j k) * Text.scale A j
  h6 : ∀ j, x6 (ix2 0 j) = (A.b (ix1 j) - A.μ (ix1 j)) * Text.scale A j + A.β (ix1 j)

section point
variable {A : Text.Args} {n : ℕ} {x0 : Vec Ideal S128x8x2048 .f32} {x1 : Vec Ideal S2048x384 .f32} {x2 : Vec Ideal S1x384 .f32}
  {x3 : Vec Ideal S128x384 .f32} {x4 : Vec Ideal S1x384 .f32} {x5 : Vec Ideal S128x256 .f32} {x6 : Vec Ideal S1x256 .f32}
  (B : Blocks A n x0 x1 x2 x3 x4 x5 x6) {h : Vec Ideal S128x128 .f32} (hh : ∀ i j, h (ix2 i j) = Text.state A i (8 * n) j)
include B hh

/-- From the state after the points before, `k` timesteps on. -/
theorem hs_apply (k : ℕ) (hk : k ≤ 8) (i j : Fin 128) : hs x0 x1 x2 x3 x4 h k (ix2 i j) = Text.state A i (8 * n + k) j := by
  induction k generalizing j with
  | zero => exact hh i j
  | succ k ih =>
    have e : k % 8 = k := Nat.mod_eq_of_lt hk
    refine (step_apply _ _ _ _ _ _ i j).trans ?_
    have eX : (fun j => ∑ q : Fin 2048, rowv x0 k (ix3 i 0 q) * x1 (ix2 q j) + x2 (ix2 0 j)) = Text.inp A i (8 * n + k) := by
      funext a
      unfold Text.inp
      rw [B.h2]
      congr 1
      refine Finset.sum_congr rfl fun q _ => ?_
      rw [B.h1]
      show x0 (ix3 i ⟨k % 8, _⟩ q) * _ = _
      rw [B.h0]
      simp only [e]
    have eW : (fun (a : Fin 384) (b : Fin 128) => x3 (ix2 b a)) = fun a b => A.wh (ix2 a b) := funext fun a => funext fun b => B.h3 b a
    have ed : (fun (a : Fin 384) => x4 (ix2 0 a)) = fun a => A.bh (ix1 a) := funext fun a => B.h4 a
    have eh : (fun b => hs x0 x1 x2 x3 x4 h k (ix2 i b)) = Text.state A i (8 * n + k) := funext fun b => ih (by omega) b
    rw [eX, eW, ed, eh]
    rfl

/-- The features of the point's timestep `k`. -/
theorem feat_hs (k : ℕ) (hk : k < 8) (i : Fin 128) (j : Fin 256) :
    feat (hs x0 x1 x2 x3 x4 h (k + 1)) x5 x6 (ix2 i j) = Text.feaFolded A i (8 * n + k) j := by
  rw [feat_apply, B.h6]
  unfold Text.feaFolded
  congr 2
  refine Finset.sum_congr rfl fun q _ => ?_
  rw [B.h5, hs_apply B hh (k + 1) hk]
  rfl

/-- The sum of the features of the point's first `k` timesteps. -/
theorem acc_apply (k : ℕ) (hk : k ≤ 8) (i : Fin 128) (j : Fin 256) :
    acc x0 x1 x2 x3 x4 x5 x6 h k (ix2 i j) = ∑ t ∈ Finset.range k, Text.feaFolded A i (8 * n + t) j := by
  induction k with
  | zero => unfold acc k0_pay6; rw [Finset.sum_range_zero]; pointwise
  | succ k ih =>
    rw [Finset.sum_range_succ, ← ih (by omega), ← feat_hs B hh k hk]
    rfl

end point

/-! ## The blocks the windows stage -/

variable (m : (ℓ : Loc nD τ sig) → Buf (Elt Ideal) ℓ) (c : Dev nD)

/-- The call's arguments. -/
def args : Text.Args where
  x := m ((c.tc : Thread nD τ).loc main_arg0)
  wi := m ((c.tc : Thread nD τ).loc main_arg1)
  wh := m ((c.tc : Thread nD τ).loc main_arg2)
  bi := m ((c.tc : Thread nD τ).loc main_arg3)
  bh := m ((c.tc : Thread nD τ).loc main_arg4)
  w := m ((c.tc : Thread nD τ).loc main_arg5)
  b := m ((c.tc : Thread nD τ).loc main_arg6)
  g := m ((c.tc : Thread nD τ).loc main_arg7)
  β := m ((c.tc : Thread nD τ).loc main_arg8)
  μ := m ((c.tc : Thread nD τ).loc main_arg9)
  v := m ((c.tc : Thread nD τ).loc main_arg10)

/-- The batch norm's factor, as the host computes it. -/
def hscale : FVec Ideal S256 .f32 :=
  mulf (F := Ideal) (φ := .f32) (args m c).g (Host.rsqrt (F := Ideal) (φ := .f32) (addf (F := Ideal) (φ := .f32) (args m c).v
    (broadcastInDim S256 ![] bcast_S_S256 (constant (F := Ideal) S_ .f32 0x3727C5AC#32))))

theorem hscale_apply (j : Fin 256) : hscale m c (ix1 j) = Text.scale (args m c) j := by
  unfold hscale Text.scale
  pointwise

/-- What the host hands to the region: the weights transposed, the biases as rows, the batch norm folded into the linear layer. -/
theorem V_host : V m c main_call0_v12 = transpose S2048x384 [1, 0] (args m c).wi transposes_S384x2048_S2048x384_1_0
    ∧ V m c main_call0_v14 = shapeCast S1x384 (args m c).bi shapeCasts_S384_S1x384
    ∧ V m c main_call0_v13 = transpose S128x384 [1, 0] (args m c).wh transposes_S384x128_S128x384_1_0
    ∧ V m c main_call0_v15 = shapeCast S1x384 (args m c).bh shapeCasts_S384_S1x384
    ∧ V m c main_call0_v7 = mulf (F := Ideal) (φ := .f32) (transpose S128x256 [1, 0] (args m c).w transposes_S256x128_S128x256_1_0)
      (broadcastInDim S128x256 ![0, 1] bcast_S1x256_S128x256_0_1 (broadcastInDim S1x256 ![1] bcast_S256_S1x256_1 (hscale m c)))
    ∧ V m c main_call0_v11 = shapeCast S1x256 (addf (F := Ideal) (φ := .f32) (mulf (F := Ideal) (φ := .f32)
      (subf (F := Ideal) (φ := .f32) (args m c).b (args m c).μ) (hscale m c)) (args m c).β) shapeCasts_S256_S1x256 := by
  refine ⟨?_, ?_, ?_, ?_, ?_, ?_⟩ <;>
  · unfold V
    simp only [hostOps0]
    after_results_entrywise []

/-- The windows of the weights and biases stage their whole arrays at every point. -/
theorem iblk_whole (t : Fin cfg0.N) :
    (iblk m c 1 t : Vec Ideal S2048x384 .f32) = V m c main_call0_v12 ∧ (iblk m c 2 t : Vec Ideal S1x384 .f32) = V m c main_call0_v14
    ∧ (iblk m c 3 t : Vec Ideal S128x384 .f32) = V m c main_call0_v13 ∧ (iblk m c 4 t : Vec Ideal S1x384 .f32) = V m c main_call0_v15
    ∧ (iblk m c 5 t : Vec Ideal S128x256 .f32) = V m c main_call0_v7 ∧ (iblk m c 6 t : Vec Ideal S1x256 .f32) = V m c main_call0_v11 := by
  refine ⟨?_, ?_, ?_, ?_, ?_, ?_⟩ <;>
  · funext y
    unfold iblk
    rw [View.read_apply]
    show V m c _ _ = V m c _ _
    congr 1
    funext a
    apply Fin.ext
    match a with
    | ⟨0, _⟩ => show 0 * _ + 1 * (y 0).val = (y 0).val; omega
    | ⟨1, _⟩ => show 0 * _ + 1 * (y 1).val = (y 1).val; omega

theorem iblk0 (t : Fin cfg0.N) (i : Fin 128) (k : Fin 8) (q : Fin 2048) :
    (iblk m c 0 t : Vec Ideal S128x8x2048 .f32) (ix3 i k q) = (args m c).x (ix3 i ⟨(8 * t.val + k.val) % 128, Nat.mod_lt _ (by decide)⟩ q) := by
  have hN : cfg0.N = 16 := N_0
  have ht := t.isLt
  have hi : win0_0.index t 0 = 0 ∧ win0_0.index t 1 = t.val ∧ win0_0.index t 2 = 0 := by
    revert t; decide +kernel
  unfold iblk
  rw [View.read_apply]
  show V m c main_arg0 _ = (args m c).x _
  rw [V_main_arg0]
  show (args m c).x _ = (args m c).x _
  congr 1
  funext a
  apply Fin.ext
  match a with
  | ⟨0, _⟩ => show win0_0.index t 0 * 128 + 1 * i.val = i.val; rw [hi.1]; omega
  | ⟨1, _⟩ => show win0_0.index t 1 * 8 + 1 * k.val = (8 * t.val + k.val) % 128; rw [hi.2.1]; omega
  | ⟨2, _⟩ => show win0_0.index t 2 * 2048 + 1 * q.val = q.val; rw [hi.2.2]; omega

theorem blocks (t : Fin cfg0.N) : Blocks (args m c) t.val (iblk m c 0 t) (iblk m c 1 t) (iblk m c 2 t) (iblk m c 3 t) (iblk m c 4 t) (iblk m c 5 t) (iblk m c 6 t) := by
  obtain ⟨e1, e2, e3, e4, e5, e6⟩ := iblk_whole m c t
  obtain ⟨v1, v2, v3, v4, v5, v6⟩ := V_host m c
  have hs := hscale_apply m c
  refine ⟨iblk0 m c t, fun k j => ?_, fun j => ?_, fun k j => ?_, fun j => ?_, fun k j => ?_, fun j => ?_⟩
  · rw [e1, v1]; pointwise
  · rw [e2, v2]; pointwise
  · rw [e3, v3]; pointwise
  · rw [e4, v4]; pointwise
  · rw [e5, v5, ← hs]; generalize hscale m c = s; pointwise
  · rw [e6, v6, ← hs]; generalize hscale m c = s; pointwise

/-! ## The sixteen points -/

theorem sum_block (f : ℕ → EReal) (n : ℕ) :
    ∑ t ∈ Finset.range (8 * n), f t + ∑ t ∈ Finset.range 8, f (8 * n + t) = ∑ t ∈ Finset.range (8 * (n + 1)), f t := by
  rw [Nat.mul_succ, Finset.sum_range_add]

/-- After point `n`: the eight rows of features, the sum of the features so far, the hidden state. -/
theorem outs_apply (n : ℕ) (hn : n < cfg0.N) :
    (∀ (i : Fin 128) (k : Fin 8) (j : Fin 256), (outsAt0 m c n hn).1 (ix3 i k j) = Text.feaFolded (args m c) i (8 * n + k.val) j)
    ∧ (∀ (i : Fin 128) (j : Fin 256), (outsAt0 m c n hn).2.1 (ix2 i j) = ∑ t ∈ Finset.range (8 * (n + 1)), Text.feaFolded (args m c) i t j)
    ∧ ∀ i j : Fin 128, (outsAt0 m c n hn).2.2 (ix2 i j) = Text.state (args m c) i (8 * (n + 1)) j := by
  have hN : cfg0.N = 16 := N_0
  induction n with
  | zero =>
    have B := blocks m c ⟨0, hn⟩
    have hh : ∀ i j : Fin 128, k0_pay4 (F := Ideal) (ix2 i j) = Text.state (args m c) i (8 * 0) j := by
      intro i j; unfold k0_pay4 Text.state Gru.hid; pointwise
    rw [outsAt0_zero, stAt0_A m c ⟨0, hn⟩ _ rfl, out_A_7, out_A_8, sout_A_0]
    refine ⟨fun i k j => ?_, fun i j => ?_, fun i j => ?_⟩
    · exact feat_hs B hh k.val k.isLt i j
    · refine Eq.trans ?_ (sum_block (fun t => Text.feaFolded (args m c) i t j) 0)
      rw [Finset.sum_range_zero]
      refine congrArg₂ (· + ·) ?_ (acc_apply B hh 8 (Nat.le_refl _) i j)
      unfold k0_pay5; pointwise
    · exact hs_apply B hh 8 (Nat.le_refl _) i j
  | succ n ih =>
    obtain ⟨-, ih8, ihs⟩ := ih (Nat.lt_of_succ_lt hn)
    have B := blocks m c ⟨n + 1, hn⟩
    have hm : ¬(⟨n + 1, hn⟩ : Fin cfg0.N).val % 16 = 0 := by dsimp only; omega
    rw [outsAt0_succ, stAt0_B m c ⟨n + 1, hn⟩ _ hm, out_B_7, out_B_8, sout_B_0]
    refine ⟨fun i k j => ?_, fun i j => ?_, fun i j => ?_⟩
    · exact feat_hs B ihs k.val k.isLt i j
    · refine Eq.trans ?_ (sum_block (fun t => Text.feaFolded (args m c) i t j) (n + 1))
      exact congrArg₂ (· + ·) (ih8 i j) (acc_apply B ihs 8 (Nat.le_refl _) i j)
    · exact hs_apply B ihs 8 (Nat.le_refl _) i j

/-- The features the kernel returns. -/
theorem G7_apply (i t : Fin 128) (j : Fin 256) : (G7 m c : Vec Ideal S128x128x256 .f32) (ix3 i t j) = Text.feaFolded (args m c) i t.val j := by
  have hN : cfg0.N = 16 := N_0
  have hp : pt7Of (ix3 i t j) = t.val / 8 := by
    show 16 * (i.val / 128 - 0) + 1 * (t.val / 8 - 0) + 1 * (j.val / 256 - 0) = _
    omega
  have hl : loc7Of (ix3 i t j) = ix3 i ⟨t.val % 8, Nat.mod_lt _ (by decide)⟩ j := by
    funext a
    apply Fin.ext
    match a with
    | ⟨0, _⟩ => show i.val % 128 = i.val; omega
    | ⟨1, _⟩ => rfl
    | ⟨2, _⟩ => show j.val % 256 = j.val; omega
  have hlt : t.val / 8 < cfg0.N := by omega
  have e := (outs_apply m c (t.val / 8) hlt).1 i ⟨t.val % 8, Nat.mod_lt _ (by decide)⟩ j
  rw [outsAt0_sweep] at e
  unfold G7
  rw [dif_pos (by rw [hp]; exact hlt), hl, fold0_congr m c _ _ _ (by omega) hp]
  refine e.trans ?_
  congr 1
  show 8 * (t.val / 8) + t.val % 8 = t.val
  omega

/-- The second result is the features' sum over the timesteps. -/
theorem G8_apply (i : Fin 128) (j : Fin 256) : (G8 m c : Vec Ideal S128x256 .f32) (ix2 i j) = ∑ t : Fin 128, Text.feaFolded (args m c) i t.val j := by
  have h15 : 15 < cfg0.N := lt_of_lt_of_eq (by decide) N_0.symm
  rw [G8_last, ← outsAt0_sweep m c 15 h15]
  refine ((outs_apply m c 15 h15).2.1 i j).trans ?_
  exact Finset.sum_range (fun t => Text.feaFolded (args m c) i t j)

end Cert.Gru1Ideal.Alg
-- ==== Proof.Gru1Ref.lean ====
module

public import proofs.«01_k».proof.Proof.Gen.TextRefIdeal
public import proofs.«01_k».proof.Proof.Gen.TextRefIdeal.Run
public import proofs.«01_k».proof.Proof.Text
public import proofs.«01_k».proof.Proof.Shared
public import Idealize.ShloMosaic.Lib.Pointwise
public import Idealize.ShloMosaic.Lib.Tactic.CleanTypes

@[expose] public section

set_option maxRecDepth 16384

noncomputable section

open Idealize.ShloMosaic Idealize.ShloMosaic.StableHlo Idealize.SL.Sem Cert.TextRefIdeal Cert.TextRefIdeal.Gen Cert.TextRefIdeal.Value

namespace Cert.TextRefIdeal.Alg

variable (m : (ℓ : Loc nD τ sig) → Buf (Elt Ideal) ℓ) (c : Dev nD)

/-- The reference's arguments. -/
def args : Text.Args where
  x := m ((c.tc : Thread nD τ).loc main_arg0)
  wi := m ((c.tc : Thread nD τ).loc main_arg1)
  wh := m ((c.tc : Thread nD τ).loc main_arg2)
  bi := m ((c.tc : Thread nD τ).loc main_arg3)
  bh := m ((c.tc : Thread nD τ).loc main_arg4)
  w := m ((c.tc : Thread nD τ).loc main_arg5)
  b := m ((c.tc : Thread nD τ).loc main_arg6)
  g := m ((c.tc : Thread nD τ).loc main_arg7)
  β := m ((c.tc : Thread nD τ).loc main_arg8)
  μ := m ((c.tc : Thread nD τ).loc main_arg9)
  v := m ((c.tc : Thread nD τ).loc main_arg10)

/-- What the loop carries before its `k`-th trip. -/
abbrev it (k : ℕ) : Valuation τ sig (Elt Ideal) := STEP^[k] (entryContents preI m c)

theorem it_ctr (k : ℕ) : it m c k (Proc.devRef .tc main_v8_3) = fun _ => Scf.iv 0#32 1#32 k :=
  (atK_agree m c k main_v8_3 (by decide)).symm.trans (atK_ctr m c k)

theorem it_wh (k : ℕ) : it m c k (Proc.devRef .tc main_v8_1) = (args m c).wh := by
  induction k with
  | zero =>
    show entryContents preI m c (Proc.devRef .tc main_v8_1) = _
    simp only [entryContents, preI, afterL_cons, afterL_nil, hostOps0]
    after_results_entrywise []
  | succ k ih => unfold it at ih ⊢; rw [Function.iterate_succ_apply', STEP_main_v8_1]; exact ih

theorem it_bh (k : ℕ) : it m c k (Proc.devRef .tc main_v8_2) = (args m c).bh := by
  induction k with
  | zero =>
    show entryContents preI m c (Proc.devRef .tc main_v8_2) = _
    simp only [entryContents, preI, afterL_cons, afterL_nil, hostOps0]
    after_results_entrywise []
  | succ k ih => unfold it at ih ⊢; rw [Function.iterate_succ_apply', STEP_main_v8_2]; exact ih

theorem it_x (k : ℕ) : it m c k (Proc.devRef .tc main_v8_0) = it m c 0 (Proc.devRef .tc main_v8_0) := by
  induction k with
  | zero => rfl
  | succ k ih => unfold it at ih ⊢; rw [Function.iterate_succ_apply', STEP_main_v8_0]; exact ih

theorem it_x_zero : it m c 0 (Proc.devRef .tc main_v8_0)
    = transpose S128x128x384 [1, 0, 2] (addf (F := Ideal) (φ := .f32)
        (Host.dotGeneral (F := Ideal) (φ₁ := .f32) (φ₂ := .f32) dot_S128x128x2048_S2048x384_S128x128x384_2_0_01_1_n_n none (args m c).x
          (transpose S2048x384 [1, 0] (args m c).wi transposes_S384x2048_S2048x384_1_0))
        (broadcastInDim S128x128x384 ![0, 1, 2] bcast_S1x1x384_S128x128x384_0_1_2 (broadcastInDim S1x1x384 ![2] bcast_S384_S1x1x384_2 (args m c).bi)))
      transposes_S128x128x384_S128x128x384_1_0_2 := by
  show entryContents preI m c (Proc.devRef .tc main_v8_0) = _
  simp only [entryContents, preI, afterL_cons, afterL_nil, hostOps0]
  after_results_entrywise []

theorem it_x_apply (t i : Fin 128) (j : Fin 384) :
    (it m c 0 (Proc.devRef .tc main_v8_0) : Vec Ideal S128x128x384 .f32) (ix3 t i j) = Text.inp (args m c) i t.val j := by
  have et : t.val % 128 = t.val := Nat.mod_eq_of_lt t.isLt
  rw [it_x_zero]
  unfold Text.inp
  simp only [et]
  pointwise

theorem it_h_zero : it m c 0 (Proc.devRef .tc main_v8_4)
    = broadcastInDim S128x128 ![] bcast_S_S128x128 (constant (F := Ideal) S_ .f32 0x00000000#32) := by
  show entryContents preI m c (Proc.devRef .tc main_v8_4) = _
  simp only [entryContents, preI, afterL_cons, afterL_nil, hostOps0]
  after_results_entrywise []

theorem slice_apply (X : Vec Ideal S128x128x384 .f32) (st : Fin 3 → ℤ) (k : ℕ) (hk : k < 128) (h0 : st 0 = k) (h1 : st 1 = 0) (h2 : st 2 = 0)
    (h : S128x128x384.Slices (fun _ => 0) S1x128x384) (i : Fin 128) (j : Fin 384) :
    Host.dynamicSlice S1x128x384 X st h (ix3 0 i j) = X (ix3 ⟨k, hk⟩ i j) := by
  have e0 : Host.clampedStart S128x128x384 S1x128x384 h.1 st 0 = k := Host.clampedStart_of_le _ _ 0 k h0 (by show k + 1 ≤ 128; omega)
  have e1 : Host.clampedStart S128x128x384 S1x128x384 h.1 st 1 = 0 := Host.clampedStart_of_le _ _ 1 0 h1 (Nat.le_refl _)
  have e2 : Host.clampedStart S128x128x384 S1x128x384 h.1 st 2 = 0 := Host.clampedStart_of_le _ _ 2 0 h2 (Nat.le_refl _)
  pointwise
  refine congrArg X (Shared.ix3_congr ?_ ?_ ?_)
  · exact e0
  · exact (congrArg (· + i.val) e1).trans (Nat.zero_add _)
  · exact (congrArg (· + j.val) e2).trans (Nat.zero_add _)

/-- The row the loop reads: the input's contribution at the trip's timestep. -/
theorem row_apply (V : Valuation τ sig (Elt Ideal)) (k : ℕ) (hk : k < 128) (h3 : V (Proc.devRef .tc main_v8_3) = fun _ => Scf.iv 0#32 1#32 k)
    (X : Vec Ideal S128x128x384 .f32) (hX : V (Proc.devRef .tc main_v8_0) = X) (i : Fin 128) (j : Fin 384) :
    (res_main_while0b_v31 V : Vec Ideal S128x384 .f32) (ix2 i j) = X (ix3 ⟨k, hk⟩ i j) := by
  unfold res_main_while0b_v31
  rw [hX, h3]
  have e := slice_apply X (fun a => ((![fun _ => Scf.iv 0#32 1#32 k, constantI S_ 32 0#32, constantI S_ 32 0#32] : Fin 3 → S_.Idx → BitVec 32) a
    (Shape.Idx.first h_S_)).toInt) k hk (Shared.iv_toInt k hk) rfl rfl sliceFits_S128x128x384_S1x128x384 i j
  generalize Host.dynamicSlice S1x128x384 X _ _ = D at e
  pointwise
  exact e

/-- The recurrent contribution of one trip. -/
theorem rec_apply (V : Valuation τ sig (Elt Ideal)) (H : Vec Ideal S128x128 .f32) (W : Vec Ideal S384x128 .f32) (d : Vec Ideal S384 .f32)
    (hH : V (Proc.devRef .tc main_v8_4) = H) (hW : V (Proc.devRef .tc main_v8_1) = W) (hd : V (Proc.devRef .tc main_v8_2) = d)
    (i : Fin 128) (j : Fin 384) :
    (res_main_while0b_v36 V : Vec Ideal S128x384 .f32) (ix2 i j) = ∑ k, H (ix2 i k) * W (ix2 j k) + d (ix1 j) := by
  unfold res_main_while0b_v36
  rw [hH, hW, hd]
  pointwise

/-- One trip's new hidden state. -/
theorem new_apply (V : Valuation τ sig (Elt Ideal)) (k : ℕ) (hk : k < 128) (h3 : V (Proc.devRef .tc main_v8_3) = fun _ => Scf.iv 0#32 1#32 k)
    (X : Vec Ideal S128x128x384 .f32) (H : Vec Ideal S128x128 .f32) (W : Vec Ideal S384x128 .f32) (d : Vec Ideal S384 .f32)
    (hX : V (Proc.devRef .tc main_v8_0) = X) (hH : V (Proc.devRef .tc main_v8_4) = H) (hW : V (Proc.devRef .tc main_v8_1) = W)
    (hd : V (Proc.devRef .tc main_v8_2) = d) (i j : Fin 128) :
    (res_main_while0b_v64 V : Vec Ideal S128x128 .f32) (ix2 i j)
      = Gru.next (N := 128) (M := 384) rfl (fun j => X (ix3 ⟨k, hk⟩ i j)) (fun j k => W (ix2 j k)) (fun j => d (ix1 j)) (fun k => H (ix2 i k)) j := by
  have e1 := row_apply V k hk h3 X hX
  have e2 := rec_apply V H W d hH hW hd
  unfold res_main_while0b_v64 res_main_while0b_v56
  rw [hH]
  generalize res_main_while0b_v31 V = r at e1 ⊢
  generalize res_main_while0b_v36 V = q at e2 ⊢
  unfold Gru.next Gru.rec Gru.cell Ideal.logistic
  clean_types
  pointwise
  simp only [e1, e2]

theorem it_h (k : ℕ) (hk : k ≤ 128) (i j : Fin 128) :
    (it m c k (Proc.devRef .tc main_v8_4) : Vec Ideal S128x128 .f32) (ix2 i j) = Text.state (args m c) i k j := by
  induction k generalizing j with
  | zero => rw [it_h_zero]; unfold Text.state Gru.hid; pointwise
  | succ k ih =>
    have e : it m c (k + 1) = STEP (it m c k) := Function.iterate_succ_apply' ..
    rw [e, STEP_main_v8_4]
    unfold step_main_v8_4
    refine (new_apply (it m c k) k hk (it_ctr m c k) _ _ _ _ (it_x m c k) rfl (it_wh m c k) (it_bh m c k) i j).trans ?_
    exact congrArg₂ (fun X h => Gru.next (N := 128) (M := 384) rfl X _ _ h j)
      (funext fun a => it_x_apply m c ⟨k, hk⟩ i a) (funext fun b => ih (Nat.le_of_succ_le hk) b)

theorem update_apply (X : Vec Ideal S128x128x128 .f32) (U : Vec Ideal S1x128x128 .f32) (st : Fin 3 → ℤ) (k : ℕ) (hk : k < 128) (h0 : st 0 = k)
    (h1 : st 1 = 0) (h2 : st 2 = 0) (h : S128x128x128.Slices (fun _ => 0) S1x128x128) (t i j : Fin 128) :
    Host.dynamicUpdateSlice X U st h (ix3 t i j) = if t.val = k then U (ix3 0 i j) else X (ix3 t i j) := by
  have e0 : Host.clampedStart S128x128x128 S1x128x128 h.1 st 0 = k := Host.clampedStart_of_le _ _ 0 k h0 (by show k + 1 ≤ 128; omega)
  have e1 : Host.clampedStart S128x128x128 S1x128x128 h.1 st 1 = 0 := Host.clampedStart_of_le _ _ 1 0 h1 (Nat.le_refl _)
  have e2 : Host.clampedStart S128x128x128 S1x128x128 h.1 st 2 = 0 := Host.clampedStart_of_le _ _ 2 0 h2 (Nat.le_refl _)
  rw [Host.dynamicUpdateSlice_eq_updateSlice X U st h ![k, 0, 0] (fun a => match a with | 0 => e0 | 1 => e1 | 2 => e2)
    ⟨h.1, fun a => match a with | 0 => (by show k + 1 ≤ 128; omega) | 1 => Nat.le_refl _ | 2 => Nat.le_refl _⟩]
  pointwise
  by_cases ht : t.val = k
  · rw [dif_pos (by omega), if_pos ht]
    exact congrArg U (Shared.ix3_congr (by show t.val - k = 0; omega) rfl rfl)
  · rw [dif_neg (by omega), if_neg ht]

/-- The stored hidden states after `k` trips: timestep `t < k` holds the state after it. -/
theorem it_hs (k : ℕ) (hk : k ≤ 128) (t i j : Fin 128) (ht : t.val < k) :
    (it m c k (Proc.devRef .tc main_v8_5) : Vec Ideal S128x128x128 .f32) (ix3 t i j) = Text.state (args m c) i (t.val + 1) j := by
  induction k with
  | zero => exact absurd ht (Nat.not_lt_zero _)
  | succ k ih =>
    have e : it m c (k + 1) = STEP (it m c k) := Function.iterate_succ_apply' ..
    have hn := it_h m c (k + 1) hk i j
    rw [e, STEP_main_v8_4] at hn
    unfold step_main_v8_4 at hn
    rw [e, STEP_main_v8_5]
    unfold step_main_v8_5
    rw [it_ctr]
    refine (update_apply _ _ _ k hk (Shared.iv_toInt k hk) rfl rfl _ t i j).trans ?_
    by_cases h : t.val = k
    · rw [if_pos h, h]
      refine Eq.trans ?_ hn
      clean_types
      pointwise
      rfl
    · rw [if_neg h]
      exact ih (by omega) (by omega)

/-- The features the reference returns. -/
theorem out29_apply (i t : Fin 128) (j : Fin 256) :
    (out_main_v29 (it m c 128) : Vec Ideal S128x128x256 .f32) (ix3 i t j) = Text.fea (args m c) i t.val j := by
  have e := fun k => it_hs m c 128 (Nat.le_refl _) t i k t.isLt
  have e5 : it m c 128 (Proc.devRef .tc main_arg5) = (args m c).w := iter_main_arg5 m c 128
  have e6 : it m c 128 (Proc.devRef .tc main_arg6) = (args m c).b := iter_main_arg6 m c 128
  have e7 : it m c 128 (Proc.devRef .tc main_arg7) = (args m c).g := iter_main_arg7 m c 128
  have e8 : it m c 128 (Proc.devRef .tc main_arg8) = (args m c).β := iter_main_arg8 m c 128
  have e9 : it m c 128 (Proc.devRef .tc main_arg9) = (args m c).μ := iter_main_arg9 m c 128
  have e10 : it m c 128 (Proc.devRef .tc main_arg10) = (args m c).v := iter_main_arg10 m c 128
  unfold out_main_v29
  rw [e5, e6, e7, e8, e9, e10]
  generalize it m c 128 (Proc.devRef .tc main_v8_5) = D at e
  unfold Text.fea Text.scale
  clean_types
  pointwise
  simp only [e]

/-- The second result is the first summed over the timesteps. -/
theorem out30_apply (i : Fin 128) (j : Fin 256) :
    (out_main_v30 (it m c 128) : Vec Ideal S128x256 .f32) (ix2 i j) = ∑ t : Fin 128, Text.fea (args m c) i t.val j := by
  have e : out_main_v30 (it m c 128) = Host.reduceAdd (F := Ideal) (φ := .f32) (out_main_v29 (it m c 128)) (constant (F := Ideal) S_ .f32 0x00000000#32)
    reducesTo_S128x128x256_S128x256_d1 h_S_ := rfl
  have f := fun t => out29_apply m c i t j
  rw [e]
  generalize out_main_v29 (it m c 128) = D at f
  clean_types
  pointwise
  simp only [f]

end Cert.TextRefIdeal.Alg
-- ==== Proof.Finite.lean ====
module

public import Idealize.ShloMosaic.PureOps.Ideal
public import Idealize.ShloMosaic.Lib.Pointwise

@[expose] public section

noncomputable section

open Idealize.ShloMosaic

namespace Cert.Finite

/-! ## Reading a printed finiteness test over the extended reals -/

/-- The word of positive infinity is `⊤`. -/
theorem inf_word : Ideal.ofBits .f32 0x7F800000#32 = ⊤ := by simp [Ideal.ofBits, Ideal.ieee]

/-- A value whose absolute value is below infinity is a real number. -/
theorem real_of_test {x : Ideal .f32} (h : BitVec.ofBool (decide (FloatOps.absf x < Ideal.ofBits .f32 0x7F800000#32)) = 1#1) :
    ∃ r : ℝ, (x : EReal) = r := by
  have h' : max (x : EReal) (-x) < ⊤ := by
    rw [← inf_word]
    by_contra hc
    have hc' : ¬ FloatOps.absf x < Ideal.ofBits .f32 0x7F800000#32 := hc
    rw [decide_eq_false hc'] at h
    exact absurd h (by decide)
  change EReal at x
  induction x using EReal.rec with
  | bot => simp at h'
  | top => simp at h'
  | coe r => exact ⟨r, rfl⟩

/-- An array whose entries pass the test of a precondition holds real numbers. -/
theorem real_of_flag {s : Shape} (x : FVec Ideal s .f32) {hb : _} {t : IVec s 1}
    (h : cmpf (F := Ideal) (φ := .f32) .olt (Host.absf (F := Ideal) (φ := .f32) x)
      (broadcastInDim s ![] hb (constant (F := Ideal) ⟨0, ![]⟩ .f32 0x7F800000#32)) = t) (ht : t = fun _ => 1#1) (i : s.Idx) :
    ∃ r : ℝ, (x i : EReal) = r :=
  real_of_test (congrFun (h.trans ht) i)

/-- A conjunction of two truth bits is one exactly when both are. -/
theorem and_one {a b : BitVec 1} (h : IntOp.andi a b = 1#1) : a = 1#1 ∧ b = 1#1 := by
  unfold IntOp.andi at h
  revert a b; decide

end Cert.Finite
-- ==== Proof.Gru1Alg.lean ====
module

public import proofs.«01_k».proof.Defs
public import proofs.«01_k».proof.Proof.Frames
public import proofs.«01_k».proof.Proof.Gru1Value
public import proofs.«01_k».proof.Proof.Gru1Ref
public import proofs.«01_k».proof.Proof.Finite
public import proofs.«01_k».proof.Proof.Gen.Pre_text_bn_finite

@[expose] public section

set_option maxRecDepth 16384

noncomputable section

open Idealize.ShloMosaic Idealize.SL.Sem

namespace Cert.Proof

/-- The first kernel's idealization under the precondition: its frame needs none. -/
theorem frame_Gru1Ideal_pre : Cert.quiescent_Gru1Ideal_pre_text_bn_finite := fun m ρ _ => Cert.Gru1Ideal.Gen.frame m ρ

/-- The first reference under the precondition: its frame needs none. -/
theorem frame_TextRefIdeal_pre : Cert.quiescent_TextRefIdeal_pre_text_bn_finite := fun m ρ _ => frame_TextRefIdeal m ρ trivial

/-- What the precondition says of the arguments. -/
theorem text_finite (m : (ℓ : Loc Cert.Gru1Ideal.nD Cert.Gru1Ideal.τ Cert.Gru1Ideal.sig) → Buf (Elt Ideal) ℓ) (h : Cert.Pre_Gru1Ideal_text_bn_finite m)
    (c : Dev Cert.Gru1Ideal.nD) : Text.Finite (Cert.Gru1Ideal.Alg.args m c) := by
  intro j
  have key : ∀ k : Fin 128, (∃ r : ℝ, (Cert.Gru1Ideal.Alg.args m c).w (ix2 j k) = r) ∧ (∃ r : ℝ, (Cert.Gru1Ideal.Alg.args m c).b (ix1 j) = r)
      ∧ (∃ r : ℝ, (Cert.Gru1Ideal.Alg.args m c).μ (ix1 j) = r) ∧ ∃ r : ℝ, Text.scale (Cert.Gru1Ideal.Alg.args m c) j = r := by
    intro k
    have e := congrFun (h c) (ix2 j k)
    generalize hA : Cert.Gru1Ideal.Alg.args m c = A
    have e' : Cert.Pre_text_bn_finite.fn (F := Ideal) A.x A.wi A.wh A.bi A.bh A.w A.b A.g A.β A.μ A.v (ix2 j k) = 1#1 := by
      rw [← hA]; exact e
    clear e
    unfold Cert.Pre_text_bn_finite.fn Cert.Pre_text_bn_finite.fn_part1 at e'
    unfold Text.scale
    simp only [pointwise, Nat.reduceEqDiff, reduceDIte] at e'
    obtain ⟨hw, e'⟩ := Finite.and_one e'
    obtain ⟨e', hs⟩ := Finite.and_one e'
    obtain ⟨hb, hm⟩ := Finite.and_one e'
    exact ⟨Finite.real_of_test hw, Finite.real_of_test hb, Finite.real_of_test hm, Finite.real_of_test hs⟩
  exact ⟨fun k => (key k).1, (key 0).2⟩

/-- The text call computes the text reference's features and their sum over the timesteps. -/
theorem alg_Gru1 : Cert.algebraic_Gru1Ideal_TextRefIdeal_pre_text_bn_finite := by
  intro m g m' g' hpre hargs
  have hA : ∀ c, Cert.TextRefIdeal.Alg.args m' c = Cert.Gru1Ideal.Alg.args m c := by
    intro c
    obtain ⟨h0, h1, h2, h3, h4, h5, h6, h7, h8, h9, h10⟩ := hargs c
    unfold Cert.TextRefIdeal.Alg.args Cert.Gru1Ideal.Alg.args
    rw [h0, h1, h2, h3, h4, h5, h6, h7, h8, h9, h10]
  refine ⟨fun c => Cert.Gru1Ideal.Value.G7 m c, fun c => Cert.Gru1Ideal.Value.G8 m c, Cert.Gru1Ideal.Value.run m g, ?_⟩
  refine (θ_run Cert.TextRefIdeal.defs _ _).mono (fun r h c => ?_) (Cert.TextRefIdeal.Value.run (F := Ideal) m' g')
  obtain ⟨h29, h30, hk⟩ := h c
  have hf := text_finite m hpre c
  refine ⟨h29.trans ?_, h30.trans ?_, hk⟩
  · funext y
    obtain ⟨i, t, j, rfl⟩ : ∃ (i t : Fin 128) (j : Fin 256), y = ix3 i t j := ⟨y 0, y 1, y 2, by funext a; match a with | 0 => rfl | 1 => rfl | 2 => rfl⟩
    refine (Cert.TextRefIdeal.Alg.out29_apply m' c i t j).trans (Eq.trans ?_ (Cert.Gru1Ideal.Alg.G7_apply m c i t j).symm)
    rw [hA c, Text.feaFolded_eq _ hf]
  · funext y
    obtain ⟨i, j, rfl⟩ : ∃ (i : Fin 128) (j : Fin 256), y = ix2 i j := ⟨y 0, y 1, by funext a; match a with | 0 => rfl | 1 => rfl⟩
    refine (Cert.TextRefIdeal.Alg.out30_apply m' c i j).trans (Eq.trans ?_ (Cert.Gru1Ideal.Alg.G8_apply m c i j).symm)
    rw [hA c]
    show (∑ t : Fin 128, Text.fea (Cert.Gru1Ideal.Alg.args m c) i t.val j : EReal) = ∑ t : Fin 128, Text.feaFolded (Cert.Gru1Ideal.Alg.args m c) i t.val j
    exact Finset.sum_congr rfl fun t _ => (Text.feaFolded_eq _ hf i t.val j).symm

end Cert.Proof
-- ==== Proof.Gru2Step.lean ====
module

public import proofs.«01_k».proof.Proof.Gen.Gru2Ideal.Value
public import proofs.«01_k».proof.Defs
public import Idealize.ShloMosaic.PureOps.Ideal
public import Idealize.ShloMosaic.Lib.Pointwise
public import Idealize.ShloMosaic.Lib.Pipeline.Value
public import Idealize.ShloMosaic.Lib.Pipeline.ReadBack

@[expose] public section

set_option maxRecDepth 16384

noncomputable section

open Idealize.ShloMosaic Idealize.SL.Sem Cert.Gru2Ideal Cert.Gru2Ideal.Gen

namespace Cert.Gru2Ideal.Alg

/-! ## One timestep of the contrast GRU, as the kernel computes it -/

/-- One timestep: the hidden state `h` of every batch row, the constant part `e` of the input's contribution and the timestep's text features `x`
    give the next hidden state. -/
def step (h : Vec Ideal S128x256 .f32) (e : Vec Ideal S128x768 .f32) (x : Vec Ideal S128x1x256 .f32) (w u : Vec Ideal S256x768 .f32)
    (d : Vec Ideal S1x768 .f32) : Vec Ideal S128x256 .f32 :=
  k0_pay5 (F := Ideal) h e x w u d

/-- The features of a timestep, as a row of a block: the linear layer (batch norm folded in) of the hidden state's positive part, and its positive
    part. -/
def feat (h : Vec Ideal S128x256 .f32) (cw : Vec Ideal S256x256 .f32) (cb : Vec Ideal S1x256 .f32) : Vec Ideal S128x1x256 .f32 :=
  k0_pay7 (F := Ideal) (maximumf h (broadcast S128x256 (Scalar.ofBits .f32 0x00000000#32))) cw cb

section cuts
variable (h p q r s t : Vec Ideal S128x256 .f32) (e X G : Vec Ideal S128x768 .f32) (x : Vec Ideal S128x1x256 .f32) (w u : Vec Ideal S256x768 .f32)
  (d : Vec Ideal S1x768 .f32) (cw : Vec Ideal S256x256 .f32) (cb : Vec Ideal S1x256 .f32) (κ : Ideal .f32)

/-! The eight unrolled timesteps are cut into values at different places; each is the same `step`, each row of features the same `feat`. -/

theorem step1 : k0_pay5 (F := Ideal) h e x w u d = step h e x w u d := rfl
theorem step2 : k0_pay12 (F := Ideal) h (k0_pay10 (F := Ideal) e h x w u d) (k0_pay11 (F := Ideal) e h x w u d) (Scalar.ofBits .f32 0x3F800000#32)
    = step h e x w u d := rfl
theorem step3 : k0_pay19 (F := Ideal) (k0_pay12 (F := Ideal) p q r κ) (k0_pay14 (F := Ideal) e x w) (k0_pay15 (F := Ideal) p q r κ u d)
    (k0_pay16 (F := Ideal) e p q r κ x w u d) (k0_pay17 (F := Ideal) e x w) (k0_pay18 (F := Ideal) p q r κ u d)
    = step (k0_pay12 (F := Ideal) p q r κ) e x w u d := rfl
theorem step4 : k0_pay24 (F := Ideal) (k0_pay19 (F := Ideal) p X G q r s) (k0_pay21 (F := Ideal) e x w) (k0_pay22 (F := Ideal) p X G q r s u)
    (k0_pay23 (F := Ideal) d) = step (k0_pay19 (F := Ideal) p X G q r s) e x w u d := rfl
theorem step5 : k0_pay27 (F := Ideal) h (k0_pay26 (F := Ideal) e x w) u d = step h e x w u d := rfl
theorem step6 : k0_pay30 (F := Ideal) e h (k0_pay29 (F := Ideal) x) w u d = step h e x w u d := rfl
theorem step7 : k0_pay33 (F := Ideal) e h x w u d = step h e x w u d := rfl
theorem step8 : k0_pay36 (F := Ideal) e h x w u d = step h e x w u d := rfl

theorem feat1 : k0_pay7 (F := Ideal) (k0_pay6 (F := Ideal) h e x w u d) cw cb = feat (k0_pay5 (F := Ideal) h e x w u d) cw cb := rfl
theorem feat2 : k0_pay13 (F := Ideal) p q r κ cw cb = feat (k0_pay12 (F := Ideal) p q r κ) cw cb := rfl
theorem feat3 : k0_pay20 (F := Ideal) p X G q r s cw cb = feat (k0_pay19 (F := Ideal) p X G q r s) cw cb := rfl
theorem feat4 : k0_pay25 (F := Ideal) h X G d cw cb = feat (k0_pay24 (F := Ideal) h X G d) cw cb := rfl
theorem feat5 : k0_pay28 (F := Ideal) h X u d cw cb = feat (k0_pay27 (F := Ideal) h X u d) cw cb := rfl
theorem feat6 : k0_pay32 (F := Ideal) (k0_pay31 (F := Ideal) e h p w u d cw cb) = feat (k0_pay30 (F := Ideal) e h p w u d) cw cb := rfl
theorem feat7 : k0_pay35 (F := Ideal) (k0_pay34 (F := Ideal) e h x w u d cw cb) = feat (k0_pay33 (F := Ideal) e h x w u d) cw cb := rfl
theorem feat8 : k0_pay1 (F := Ideal) (k0_pay37 (F := Ideal) e h x w u d) (k0_pay38 (F := Ideal) cw) cb = feat (k0_pay36 (F := Ideal) e h x w u d) cw cb := rfl

end cuts

/-! ## What a point leaves: eight timesteps -/

/-- Row `k` (modulo eight) of a block of eight timesteps. -/
def rowv (x0 : Vec Ideal S128x8x256 .f32) (k : ℕ) : Vec Ideal S128x1x256 .f32 :=
  fun j => x0 (ix3 (j 0) ⟨k % 8, Nat.mod_lt _ (by decide)⟩ (j 2))

/-- The hidden state after `k` timesteps of the block, from `h`. -/
def hs (x0 : Vec Ideal S128x8x256 .f32) (w u : Vec Ideal S256x768 .f32) (d : Vec Ideal S1x768 .f32) (e : Vec Ideal S128x768 .f32)
    (h : Vec Ideal S128x256 .f32) : ℕ → Vec Ideal S128x256 .f32
  | 0 => h
  | k + 1 => step (hs x0 w u d e h k) e (rowv x0 k) w u d

theorem hz : (![0, 0] : Fin 2 → Nat) = fun _ => 0 := funext fun a => by fin_cases a <;> rfl

/-- Loading row `k` of a block reads the row. -/
theorem ld_row (x0 : Vec Ideal S128x8x256 .f32) (k : ℕ) (hk : k < 8) (inb) :
    View.ld x0 (Rect.unit ![0, k, 0] S128x1x256.size inb) = rowv x0 k := by
  funext j
  unfold rowv
  show x0 _ = x0 _
  congr 1
  funext a
  apply Fin.ext
  match a with
  | ⟨0, _⟩ => show 0 + 1 * (j 0).val = (j 0).val; omega
  | ⟨1, _⟩ =>
    have h1 : (j 1).val < 1 := (j 1).isLt
    show k + 1 * (j 1).val = k % 8; omega
  | ⟨2, _⟩ => show 0 + 1 * (j 2).val = (j 2).val; omega

end Cert.Gru2Ideal.Alg
-- ==== Proof.Gru2Case.lean ====
module

public import proofs.«01_k».proof.Proof.Gru2Step
public import proofs.«01_k».proof.Proof.Shared

@[expose] public section

set_option maxRecDepth 16384

noncomputable section

open Idealize.ShloMosaic Idealize.SL.Sem Cert.Gru2Ideal Cert.Gru2Ideal.Gen

namespace Cert.Gru2Ideal.Alg

/-- One row's store is that row of the block. -/
theorem row_piece (f : ℕ → Vec Ideal S128x1x256 .f32) (v : Vec Ideal S128x1x256 .f32) (k : ℕ) (hv : v = f (k + 1)) (inb)
    (x : (Rect.unit (s := S128x8x256) ![0, k, 0] S128x1x256.size inb).shape.Idx) :
    v x = (fun j : S128x8x256.Idx => f ((j 1).val + 1) (ix3 (j 0) 0 (j 2))) ((Rect.unit (s := S128x8x256) ![0, k, 0] S128x1x256.size inb).emb x) := by
  subst hv
  have h1 : (x 1).val < 1 := (x 1).isLt
  have e1 : (((Rect.unit (s := S128x8x256) ![0, k, 0] S128x1x256.size inb).emb x) 1).val = k := by
    show k + 1 * (x 1).val = k; omega
  dsimp only
  rw [e1]
  congr 1
  funext a
  apply Fin.ext
  match a with
  | ⟨0, _⟩ => show (x 0).val = 0 + 1 * (x 0).val; omega
  | ⟨1, _⟩ => show (x 1).val = 0; omega
  | ⟨2, _⟩ => show (x 2).val = 0 + 1 * (x 2).val; omega

section cases
variable (c : Dev nD) (i : grid0.Coords)
  (arg2 : Memref sig .tc .vmem S128x8x256 .f32) (harg2 : arg2.IsWhole)
  (arg3 : Memref sig .tc .vmem S128x256 .f32) (harg3 : arg3.IsWhole)
  (arg4 : Memref sig .tc .vmem S128x128 .f32) (harg4 : arg4.IsWhole)
  (arg5 : Memref sig .tc .vmem S256x768 .f32) (harg5 : arg5.IsWhole)
  (arg6 : Memref sig .tc .vmem S1x768 .f32) (harg6 : arg6.IsWhole)
  (arg7 : Memref sig .tc .vmem S256x768 .f32) (harg7 : arg7.IsWhole)
  (arg8 : Memref sig .tc .vmem S1x768 .f32) (harg8 : arg8.IsWhole)
  (arg9 : Memref sig .tc .vmem S256x256 .f32) (harg9 : arg9.IsWhole)
  (arg10 : Memref sig .tc .vmem S1x256 .f32) (harg10 : arg10.IsWhole)
  (arg11 : Memref sig .tc .vmem S128x8x256 .f32) (harg11 : arg11.IsWhole)
  (arg12 : Memref sig .tc .vmem S128x256 .f32) (harg12 : arg12.IsWhole)
  (arg13 : Memref sig .tc .vmem S128x768 .f32) (harg13 : arg13.IsWhole)
  (x0 : Vec Ideal S128x8x256 .f32) (x1 : Vec Ideal S128x256 .f32) (x2 : Vec Ideal S128x128 .f32) (x3 : Vec Ideal S256x768 .f32) (x4 : Vec Ideal S1x768 .f32) (x5 : Vec Ideal S256x768 .f32) (x6 : Vec Ideal S1x768 .f32) (x7 : Vec Ideal S256x256 .f32) (x8 : Vec Ideal S1x256 .f32)

/-- A point after the first leaves the hidden state after its eight timesteps. -/
theorem sout_B_0 (hc0 : ¬cond0_0 i) (xs0 : Vec Ideal S128x256 .f32) (xs1 : Vec Ideal S128x768 .f32) :
    sout0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1
      = hs x0 x3 x5 x6 xs1 xs0 8 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1)]
  unfold kernelRun0_B
  dsimp only
  rw [View.canon_unit_zero (S := S128x256) hz]
  sl_unfold_words
  simp only [View.readAt_eq_ld, harg2.read_unread, harg3.read_unread, harg4.read_unread, harg5.read_unread, harg6.read_unread, harg7.read_unread, harg8.read_unread, harg9.read_unread, harg10.read_unread, harg12.read_unread, harg13.read_unread,
    View.ld_unit_zero (S := S128x256) hz, View.ld_unit_zero (S := S128x128) hz, View.ld_unit_zero (S := S256x768) hz, View.ld_unit_zero (S := S1x768) hz, View.ld_unit_zero (S := S256x256) hz, View.ld_unit_zero (S := S1x256) hz, View.ld_unit_zero (S := S128x768) hz,
    ld_row x0 0 (by decide), ld_row x0 1 (by decide), ld_row x0 2 (by decide), ld_row x0 3 (by decide), ld_row x0 4 (by decide), ld_row x0 5 (by decide), ld_row x0 6 (by decide), ld_row x0 7 (by decide)]
  unfold k0_pay2
  rw [shapeCast_self, step8, step7, step6, step5, step4, step3, step2, step1]
  rfl

/-- A point after the first leaves the features of its eight timesteps, one row each. -/
theorem out_B_9 (hc0 : ¬cond0_0 i) (xs0 : Vec Ideal S128x256 .f32) (xs1 : Vec Ideal S128x768 .f32) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1
      = fun j => feat (hs x0 x3 x5 x6 xs1 xs0 ((j 1).val + 1)) x7 x8 (ix3 (j 0) 0 (j 2)) := by
  unfold out0_B_9
  refine Shared.read_of_pieces _ _ _ _ (cover0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1) ?_
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg12.read_unread, harg13.read_unread,
    View.ld_unit_zero (S := S128x256) hz, View.ld_unit_zero (S := S128x128) hz, View.ld_unit_zero (S := S256x768) hz, View.ld_unit_zero (S := S1x768) hz, View.ld_unit_zero (S := S256x256) hz, View.ld_unit_zero (S := S1x256) hz, View.ld_unit_zero (S := S128x768) hz,
    ld_row x0 0 (by decide), ld_row x0 1 (by decide), ld_row x0 2 (by decide), ld_row x0 3 (by decide), ld_row x0 4 (by decide), ld_row x0 5 (by decide), ld_row x0 6 (by decide), ld_row x0 7 (by decide)]
  rw [feat8, feat7, feat6, feat5, feat4, feat3, feat2, feat1, step8, step7, step6, step5, step4, step3, step2, step1]
  have P := row_piece fun k => feat (hs x0 x3 x5 x6 xs1 xs0 k) x7 x8
  refine ⟨?_, ?_, ?_, ?_, ?_, ?_, ?_, ?_, trivial⟩
  · exact P _ 7 rfl inb_S128x8x256_S128x1x256_0_7_0
  · exact P _ 6 rfl inb_S128x8x256_S128x1x256_0_6_0
  · exact P _ 5 rfl inb_S128x8x256_S128x1x256_0_5_0
  · exact P _ 4 rfl inb_S128x8x256_S128x1x256_0_4_0
  · exact P _ 3 rfl inb_S128x8x256_S128x1x256_0_3_0
  · exact P _ 2 rfl inb_S128x8x256_S128x1x256_0_2_0
  · exact P _ 1 rfl inb_S128x8x256_S128x1x256_0_1_0
  · exact P _ 0 rfl inb_S128x8x256_S128x1x256_0_0_0

/-- The first point, which resets the state and computes the constant part, leaves the hidden state after its eight timesteps. -/
theorem sout_A_0 (hc0 : cond0_0 i) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8
      = hs x0 x3 x5 x6 (k0_pay4 (F := Ideal) x2 x1 x4 x3) (k0_pay3 (F := Ideal)) 8 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  rw [View.canon_cons_unit_zero (S := S128x256) hz]
  sl_unfold_words
  simp only [View.readCov_unit_zero (S := S128x256) _ hz, View.readCov_unit_zero (S := S128x768) _ hz]
  simp only [View.readAt_eq_ld, harg2.read_unread, harg3.read_unread, harg4.read_unread, harg5.read_unread, harg6.read_unread, harg7.read_unread, harg8.read_unread, harg9.read_unread, harg10.read_unread,
    View.ld_unit_zero (S := S128x256) hz, View.ld_unit_zero (S := S128x128) hz, View.ld_unit_zero (S := S256x768) hz, View.ld_unit_zero (S := S1x768) hz, View.ld_unit_zero (S := S256x256) hz, View.ld_unit_zero (S := S1x256) hz, View.ld_unit_zero (S := S128x768) hz,
    ld_row x0 0 (by decide), ld_row x0 1 (by decide), ld_row x0 2 (by decide), ld_row x0 3 (by decide), ld_row x0 4 (by decide), ld_row x0 5 (by decide), ld_row x0 6 (by decide), ld_row x0 7 (by decide)]
  unfold k0_pay2
  rw [shapeCast_self, step8, step7, step6, step5, step4, step3, step2, step1]
  rfl

/-- The first point, which resets the state and computes the constant part, leaves the features of its eight timesteps, one row each. -/
theorem out_A_9 (hc0 : cond0_0 i) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8
      = fun j => feat (hs x0 x3 x5 x6 (k0_pay4 (F := Ideal) x2 x1 x4 x3) (k0_pay3 (F := Ideal)) ((j 1).val + 1)) x7 x8 (ix3 (j 0) 0 (j 2)) := by
  unfold out0_A_9
  refine Shared.read_of_pieces _ _ _ _ (cover0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8) ?_
  unfold kernelRun0_A
  dsimp only
  sl_unfold_words
  simp only [View.readCov_unit_zero (S := S128x256) _ hz, View.readCov_unit_zero (S := S128x768) _ hz]
  simp only [View.readAt_eq_ld, harg2.read_unread, harg3.read_unread, harg4.read_unread, harg5.read_unread, harg6.read_unread, harg7.read_unread, harg8.read_unread, harg9.read_unread, harg10.read_unread,
    View.ld_unit_zero (S := S128x256) hz, View.ld_unit_zero (S := S128x128) hz, View.ld_unit_zero (S := S256x768) hz, View.ld_unit_zero (S := S1x768) hz, View.ld_unit_zero (S := S256x256) hz, View.ld_unit_zero (S := S1x256) hz, View.ld_unit_zero (S := S128x768) hz,
    ld_row x0 0 (by decide), ld_row x0 1 (by decide), ld_row x0 2 (by decide), ld_row x0 3 (by decide), ld_row x0 4 (by decide), ld_row x0 5 (by decide), ld_row x0 6 (by decide), ld_row x0 7 (by decide)]
  rw [feat8, feat7, feat6, feat5, feat4, feat3, feat2, feat1, step8, step7, step6, step5, step4, step3, step2, step1]
  have P := row_piece fun k => feat (hs x0 x3 x5 x6 (k0_pay4 (F := Ideal) x2 x1 x4 x3) (k0_pay3 (F := Ideal)) k) x7 x8
  refine ⟨?_, ?_, ?_, ?_, ?_, ?_, ?_, ?_, trivial⟩
  · exact P _ 7 rfl inb_S128x8x256_S128x1x256_0_7_0
  · exact P _ 6 rfl inb_S128x8x256_S128x1x256_0_6_0
  · exact P _ 5 rfl inb_S128x8x256_S128x1x256_0_5_0
  · exact P _ 4 rfl inb_S128x8x256_S128x1x256_0_4_0
  · exact P _ 3 rfl inb_S128x8x256_S128x1x256_0_3_0
  · exact P _ 2 rfl inb_S128x8x256_S128x1x256_0_2_0
  · exact P _ 1 rfl inb_S128x8x256_S128x1x256_0_1_0
  · exact P _ 0 rfl inb_S128x8x256_S128x1x256_0_0_0

/-- The first point leaves the constant part of the input's contribution. -/
theorem sout_A_1 (hc0 : cond0_0 i) :
    sout0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay4 (F := Ideal) x2 x1 x4 x3 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_unit_zero (S := S128x768) hz]
  simp only [View.readAt_eq_ld, harg2.read_unread, harg3.read_unread, harg4.read_unread, harg5.read_unread, harg6.read_unread, harg7.read_unread, harg8.read_unread, harg9.read_unread, harg10.read_unread,
    View.ld_unit_zero (S := S128x256) hz, View.ld_unit_zero (S := S128x128) hz, View.ld_unit_zero (S := S256x768) hz, View.ld_unit_zero (S := S1x768) hz, View.ld_unit_zero (S := S256x256) hz, View.ld_unit_zero (S := S1x256) hz, View.ld_unit_zero (S := S128x768) hz]

end cases
end Cert.Gru2Ideal.Alg
-- ==== Proof.Contrast.lean ====
module

public import Idealize.ShloMosaic.PureOps.Ideal
public import Idealize.ShloMosaic.Lib.Pointwise
public import proofs.«01_k».proof.Proof.Gru

@[expose] public section

noncomputable section

open Idealize.ShloMosaic

namespace Cert.Contrast

/-! ## Subtracting a mean before or after a linear map -/

/-- Subtracting a real number inside a product with a real factor, whatever the minuend is. -/
theorem sub_mul_real (x : EReal) (r w : ℝ) : (x - r) * (w : EReal) = x * w + -((r : EReal) * w) := by
  induction x using EReal.rec with
  | coe x => norm_cast; rw [sub_mul, sub_eq_add_neg]
  | bot =>
    rcases lt_trichotomy w 0 with h | h | h
    · rw [EReal.bot_sub, EReal.bot_mul_coe_of_neg h]; norm_cast
    · subst h; simp
    · rw [EReal.bot_sub, EReal.bot_mul_coe_of_pos h]; norm_cast
  | top =>
    rcases lt_trichotomy w 0 with h | h | h
    · rw [EReal.top_sub_coe, EReal.top_mul_coe_of_neg h]; norm_cast
    · subst h; simp
    · rw [EReal.top_sub_coe, EReal.top_mul_coe_of_pos h]; norm_cast

/-- The linear map of the differences is the linear map of the minuends plus what the bias and the linear map of the means leave. -/
theorem sum_sub {N : ℕ} (x m w : Fin N → EReal) (b : EReal) (hm : ∀ k, ∃ r : ℝ, m k = r) (hw : ∀ k, ∃ r : ℝ, w k = r) :
    ∑ k, x k * w k + (b - ∑ k, m k * w k) = ∑ k, (x k - m k) * w k + b := by
  choose m' hm' using hm
  choose w' hw' using hw
  have e1 : ∑ k, m k * w k = ((∑ k, m' k * w' k : ℝ) : EReal) := by
    rw [Gru.coe_sum]; exact Finset.sum_congr rfl fun k _ => by rw [hm', hw']; push_cast; rfl
  have e2 : ∑ k, (x k - m k) * w k = ∑ k, x k * w k + ((-∑ k, m' k * w' k : ℝ) : EReal) := by
    rw [← Finset.sum_neg_distrib, Gru.coe_sum, ← Finset.sum_add_distrib]
    refine Finset.sum_congr rfl fun k _ => ?_
    rw [hm', hw', sub_mul_real]
    push_cast
    rfl
  rw [e1, e2, sub_eq_add_neg, ← EReal.coe_neg, add_assoc, add_comm b]

/-! ## The contrast branch over the extended reals, of the call's thirteen arguments -/

/-- The arguments: the text features, their sum over the timesteps, the length mask, the GRU's input weights, recurrent weights and two biases, the
    linear layer's weights and bias, and the batch norm's scale, shift, mean and variance. -/
structure Args where
  x : Vec Ideal ⟨3, ![128, 128, 256]⟩ .f32
  s : Vec Ideal ⟨2, ![128, 256]⟩ .f32
  l : Vec Ideal ⟨2, ![128, 128]⟩ .f32
  wi : Vec Ideal ⟨2, ![768, 256]⟩ .f32
  wh : Vec Ideal ⟨2, ![768, 256]⟩ .f32
  bi : Vec Ideal ⟨1, ![768]⟩ .f32
  bh : Vec Ideal ⟨1, ![768]⟩ .f32
  w : Vec Ideal ⟨2, ![256, 256]⟩ .f32
  b : Vec Ideal ⟨1, ![256]⟩ .f32
  g : Vec Ideal ⟨1, ![256]⟩ .f32
  β : Vec Ideal ⟨1, ![256]⟩ .f32
  μ : Vec Ideal ⟨1, ![256]⟩ .f32
  v : Vec Ideal ⟨1, ![256]⟩ .f32

variable (A : Args)

/-- The length of batch row `i`: the sum of its mask. -/
def len (i : Fin 128) : EReal := ∑ k : Fin 128, A.l (ix2 i k)

/-- The mean over the timesteps, of batch row `i`. -/
def mean (i : Fin 128) (k : Fin 256) : EReal := Ideal.div (A.s (ix2 i k)) (len A i)

/-- The contribution of the text features minus their mean to the gates of batch row `i` at timestep `t` (modulo 128). -/
def inp (i : Fin 128) (t : ℕ) (j : Fin 768) : EReal :=
  ∑ k : Fin 256, (A.x (ix3 i ⟨t % 128, Nat.mod_lt _ (by decide)⟩ k) - mean A i k) * A.wi (ix2 j k) + A.bi (ix1 j)

/-- The same contribution with the mean's part taken out of the sum, the mean as a product with the reciprocal of the length. -/
def inpSplit (i : Fin 128) (t : ℕ) (j : Fin 768) : EReal :=
  ∑ k : Fin 256, A.x (ix3 i ⟨t % 128, Nat.mod_lt _ (by decide)⟩ k) * A.wi (ix2 j k)
    + (A.bi (ix1 j) - ∑ k : Fin 256, A.s (ix2 i k) * Ideal.div 1 (len A i) * A.wi (ix2 j k))

/-- The batch norm's factor of channel `j`. -/
def scale (j : Fin 256) : EReal := A.g (ix1 j) * Ideal.rsqrt (A.v (ix1 j) + Ideal.ofBits .f32 0x3727C5AC#32)

section state
variable (X : Fin 128 → ℕ → Fin 768 → EReal)

/-- The hidden state of batch row `i` after `t` timesteps, of the inputs' contributions `X`. -/
def state (i : Fin 128) (t : ℕ) : Fin 256 → EReal :=
  Gru.hid (M := 768) rfl (X i) (fun j k => A.wh (ix2 j k)) (fun j => A.bh (ix1 j)) t

/-- The features of batch row `i` at timestep `t`: the batch norm of the linear layer. -/
def fea (i : Fin 128) (t : ℕ) (j : Fin 256) : EReal :=
  max ((∑ k, max (state A X i (t + 1) k) 0 * A.w (ix2 j k) + A.b (ix1 j) - A.μ (ix1 j)) * scale A j + A.β (ix1 j)) 0

/-- The same features with the batch norm folded into the linear layer. -/
def feaFolded (i : Fin 128) (t : ℕ) (j : Fin 256) : EReal :=
  max (∑ k, max (state A X i (t + 1) k) 0 * (A.w (ix2 j k) * scale A j) + ((A.b (ix1 j) - A.μ (ix1 j)) * scale A j + A.β (ix1 j))) 0

end state

/-- What folding the batch norm asks of the arguments: the layer's weights and bias, and the batch norm's mean and factor, are real numbers. -/
def Finite : Prop := ∀ j, (∀ k, ∃ r : ℝ, A.w (ix2 j k) = r) ∧ (∃ r : ℝ, A.b (ix1 j) = r) ∧ (∃ r : ℝ, A.μ (ix1 j) = r) ∧ ∃ r : ℝ, scale A j = r

/-- What splitting the mean off asks: the input weights, the timestep sums and the reciprocals of the lengths are real numbers. -/
def FiniteMean : Prop := (∀ j k, ∃ r : ℝ, A.wi (ix2 j k) = r) ∧ ∀ i k, (∃ r : ℝ, A.s (ix2 i k) = r) ∧ ∃ r : ℝ, Ideal.div 1 (len A i) = r

/-- Where the reciprocal of the length is real, the mean is the product with it. -/
theorem mul_recip (s l : EReal) (h : ∃ r : ℝ, Ideal.div 1 l = r) : s * Ideal.div 1 l = Ideal.div s l := by
  obtain ⟨r, hr⟩ := h
  unfold Ideal.div at hr ⊢
  by_cases h0 : l = 0
  · simp [h0] at hr
  · simp [h0]

theorem inpSplit_eq (h : FiniteMean A) (i : Fin 128) (t : ℕ) (j : Fin 768) : inpSplit A i t j = inp A i t j := by
  obtain ⟨hw, hs⟩ := h
  unfold inpSplit inp
  rw [sum_sub _ (fun k => A.s (ix2 i k) * Ideal.div 1 (len A i)) _ _ (fun k => ?_) (hw j)]
  · congr 1
    refine Finset.sum_congr rfl fun k _ => ?_
    rw [mul_recip _ _ (hs i k).2]
    rfl
  · obtain ⟨⟨a, ha⟩, b, hb⟩ := hs i k
    exact ⟨a * b, by rw [ha, hb]; norm_cast⟩

theorem feaFolded_eq (h : Finite A) (hs : FiniteMean A) (i : Fin 128) (t : ℕ) (j : Fin 256) :
    feaFolded A (inpSplit A) i t j = fea A (inp A) i t j := by
  obtain ⟨hw, hb, hm, hs'⟩ := h j
  have e : inpSplit A = inp A := funext fun i => funext fun t => funext fun j => inpSplit_eq A hs i t j
  rw [e]
  unfold feaFolded fea
  exact congrArg (max · 0) (Gru.fold_bn _ _ _ _ _ _ (fun k => Gru.max_zero_real (Gru.hid_real ..)) hw hs' hb hm)

end Cert.Contrast
-- ==== Proof.Gru2Value.lean ====
module

public import proofs.«01_k».proof.Proof.Gru2Case
public import proofs.«01_k».proof.Proof.Contrast
public import proofs.«01_k».proof.Proof.Gen.Gru2Ideal.Value
public import Idealize.ShloMosaic.Lib.StableHlo.RunClose
public import Idealize.ShloMosaic.Lib.Tactic.CleanTypes

@[expose] public section

set_option maxRecDepth 16384

noncomputable section

open Idealize.ShloMosaic Idealize.SL.Sem Cert.Gru2Ideal Cert.Gru2Ideal.Gen Cert.Gru2Ideal.Value

namespace Cert.Gru2Ideal.Alg

/-! ## The eight timesteps of a point, entry by entry -/

theorem step_apply (h : Vec Ideal S128x256 .f32) (e : Vec Ideal S128x768 .f32) (x : Vec Ideal S128x1x256 .f32) (w u : Vec Ideal S256x768 .f32)
    (d : Vec Ideal S1x768 .f32) (i : Fin 128) (j : Fin 256) :
    step h e x w u d (ix2 i j) = Gru.next (N := 256) (M := 768) rfl (fun j => ∑ k : Fin 256, x (ix3 i 0 k) * w (ix2 k j) + e (ix2 i j))
      (fun j k => u (ix2 k j)) (fun j => d (ix2 0 j)) (fun k => h (ix2 i k)) j := by
  unfold step k0_pay5 Gru.next Gru.rec Gru.cell
  pointwise

theorem feat_apply (h : Vec Ideal S128x256 .f32) (cw : Vec Ideal S256x256 .f32) (cb : Vec Ideal S1x256 .f32) (i : Fin 128) (j : Fin 256) :
    feat h cw cb (ix3 i 0 j) = max (∑ k, max (h (ix2 i k)) 0 * cw (ix2 k j) + cb (ix2 0 j)) 0 := by
  unfold feat k0_pay7
  pointwise

/-- The constant part of the input's contribution: the bias minus the linear map of the mean. -/
theorem const_apply (l : Vec Ideal S128x128 .f32) (s : Vec Ideal S128x256 .f32) (b : Vec Ideal S1x768 .f32) (w : Vec Ideal S256x768 .f32) (i : Fin 128) (j : Fin 768) :
    k0_pay4 (F := Ideal) l s b w (ix2 i j)
      = b (ix2 0 j) - ∑ k : Fin 256, s (ix2 i k) * Ideal.div 1 (∑ q : Fin 128, l (ix2 i q)) * w (ix2 k j) := by
  unfold k0_pay4
  pointwise

/-- The blocks of point `n`: eight timesteps of the text features, the weights transposed, the batch norm folded into the linear layer. -/
structure Blocks (A : Contrast.Args) (n : ℕ) (x0 : Vec Ideal S128x8x256 .f32) (x3 : Vec Ideal S256x768 .f32)
    (x5 : Vec Ideal S256x768 .f32) (x6 : Vec Ideal S1x768 .f32) (x7 : Vec Ideal S256x256 .f32) (x8 : Vec Ideal S1x256 .f32) : Prop where
  h0 : ∀ i (k : Fin 8) q, x0 (ix3 i k q) = A.x (ix3 i ⟨(8 * n + k.val) % 128, Nat.mod_lt _ (by decide)⟩ q)
  h3 : ∀ k j, x3 (ix2 k j) = A.wi (ix2 j k)
  h5 : ∀ k j, x5 (ix2 k j) = A.wh (ix2 j k)
  h6 : ∀ j, x6 (ix2 0 j) = A.bh (ix1 j)
  h7 : ∀ k j, x7 (ix2 k j) = A.w (ix2 j k) * Contrast.scale A j
  h8 : ∀ j, x8 (ix2 0 j) = (A.b (ix1 j) - A.μ (ix1 j)) * Contrast.scale A j + A.β (ix1 j)

/-- The constant part of the input's contribution, of the arguments. -/
def const (A : Contrast.Args) (i : Fin 128) (j : Fin 768) : EReal :=
  A.bi (ix1 j) - ∑ k : Fin 256, A.s (ix2 i k) * Ideal.div 1 (Contrast.len A i) * A.wi (ix2 j k)

/-- The hidden state after `t` timesteps, as the kernel computes it. -/
abbrev st (A : Contrast.Args) (i : Fin 128) (t : ℕ) : Fin 256 → EReal := Contrast.state A (Contrast.inpSplit A) i t

/-- The features of timestep `t`, as the kernel computes them. -/
abbrev ft (A : Contrast.Args) (i : Fin 128) (t : ℕ) (j : Fin 256) : EReal := Contrast.feaFolded A (Contrast.inpSplit A) i t j

section point
variable {A : Contrast.Args} {n : ℕ} {x0 : Vec Ideal S128x8x256 .f32} {x3 : Vec Ideal S256x768 .f32}
    {x5 : Vec Ideal S256x768 .f32} {x6 : Vec Ideal S1x768 .f32} {x7 : Vec Ideal S256x256 .f32} {x8 : Vec Ideal S1x256 .f32}
  (B : Blocks A n x0 x3 x5 x6 x7 x8) {e : Vec Ideal S128x768 .f32} (he : ∀ i j, e (ix2 i j) = const A i j)
  {h : Vec Ideal S128x256 .f32} (hh : ∀ i j, h (ix2 i j) = st A i (8 * n) j)
include B he hh

/-- From the state after the points before, `k` timesteps on. -/
theorem hs_apply (k : ℕ) (hk : k ≤ 8) (i : Fin 128) (j : Fin 256) : hs x0 x3 x5 x6 e h k (ix2 i j) = st A i (8 * n + k) j := by
  induction k generalizing j with
  | zero => exact hh i j
  | succ k ih =>
    have em : k % 8 = k := Nat.mod_eq_of_lt hk
    refine (step_apply _ _ _ _ _ _ i j).trans ?_
    have eX : (fun j => ∑ q : Fin 256, rowv x0 k (ix3 i 0 q) * x3 (ix2 q j) + e (ix2 i j)) = Contrast.inpSplit A i (8 * n + k) := by
      funext a
      unfold Contrast.inpSplit
      rw [he]
      unfold const
      congr 1
      refine Finset.sum_congr rfl fun q _ => ?_
      rw [B.h3]
      show x0 (ix3 i ⟨k % 8, _⟩ q) * _ = _
      rw [B.h0]
      simp only [em]
    have eW : (fun (a : Fin 768) (b : Fin 256) => x5 (ix2 b a)) = fun a b => A.wh (ix2 a b) := funext fun a => funext fun b => B.h5 b a
    have ed : (fun (a : Fin 768) => x6 (ix2 0 a)) = fun a => A.bh (ix1 a) := funext fun a => B.h6 a
    have eh : (fun b => hs x0 x3 x5 x6 e h k (ix2 i b)) = st A i (8 * n + k) := funext fun b => ih (by omega) b
    rw [eX, eW, ed, eh]
    rfl

/-- The features of the point's timestep `k`. -/
theorem feat_hs (k : ℕ) (hk : k < 8) (i : Fin 128) (j : Fin 256) :
    feat (hs x0 x3 x5 x6 e h (k + 1)) x7 x8 (ix3 i 0 j) = ft A i (8 * n + k) j := by
  rw [feat_apply, B.h8]
  unfold ft Contrast.feaFolded
  congr 2
  refine Finset.sum_congr rfl fun q _ => ?_
  rw [B.h7, hs_apply B he hh (k + 1) hk]
  rfl

end point

/-! ## The blocks the windows stage -/

variable (m : (ℓ : Loc nD τ sig) → Buf (Elt Ideal) ℓ) (c : Dev nD)

/-- The call's arguments. -/
def args : Contrast.Args where
  x := m ((c.tc : Thread nD τ).loc main_arg0)
  s := m ((c.tc : Thread nD τ).loc main_arg1)
  l := m ((c.tc : Thread nD τ).loc main_arg2)
  wi := m ((c.tc : Thread nD τ).loc main_arg3)
  wh := m ((c.tc : Thread nD τ).loc main_arg4)
  bi := m ((c.tc : Thread nD τ).loc main_arg5)
  bh := m ((c.tc : Thread nD τ).loc main_arg6)
  w := m ((c.tc : Thread nD τ).loc main_arg7)
  b := m ((c.tc : Thread nD τ).loc main_arg8)
  g := m ((c.tc : Thread nD τ).loc main_arg9)
  β := m ((c.tc : Thread nD τ).loc main_arg10)
  μ := m ((c.tc : Thread nD τ).loc main_arg11)
  v := m ((c.tc : Thread nD τ).loc main_arg12)

/-- The batch norm's factor, as the host computes it. -/
def hscale : FVec Ideal S256 .f32 :=
  mulf (F := Ideal) (φ := .f32) (args m c).g (Host.rsqrt (F := Ideal) (φ := .f32) (addf (F := Ideal) (φ := .f32) (args m c).v
    (broadcastInDim S256 ![] bcast_S_S256 (constant (F := Ideal) S_ .f32 0x3727C5AC#32))))

theorem hscale_apply (j : Fin 256) : hscale m c (ix1 j) = Contrast.scale (args m c) j := by
  unfold hscale Contrast.scale
  pointwise

/-- What the host hands to the region: the weights transposed, the biases as rows, the batch norm folded into the linear layer. -/
theorem V_host : V m c main_call0_v12 = transpose S256x768 [1, 0] (args m c).wi transposes_S768x256_S256x768_1_0
    ∧ V m c main_call0_v14 = shapeCast S1x768 (args m c).bi shapeCasts_S768_S1x768
    ∧ V m c main_call0_v13 = transpose S256x768 [1, 0] (args m c).wh transposes_S768x256_S256x768_1_0
    ∧ V m c main_call0_v15 = shapeCast S1x768 (args m c).bh shapeCasts_S768_S1x768
    ∧ V m c main_call0_v7 = mulf (F := Ideal) (φ := .f32) (transpose S256x256 [1, 0] (args m c).w transposes_S256x256_S256x256_1_0)
      (broadcastInDim S256x256 ![0, 1] bcast_S1x256_S256x256_0_1 (broadcastInDim S1x256 ![1] bcast_S256_S1x256_1 (hscale m c)))
    ∧ V m c main_call0_v11 = shapeCast S1x256 (addf (F := Ideal) (φ := .f32) (mulf (F := Ideal) (φ := .f32)
      (subf (F := Ideal) (φ := .f32) (args m c).b (args m c).μ) (hscale m c)) (args m c).β) shapeCasts_S256_S1x256 := by
  refine ⟨?_, ?_, ?_, ?_, ?_, ?_⟩ <;>
  · unfold V
    simp only [hostOps0]
    after_results_entrywise []

/-- The windows after the first stage their whole arrays at every point. -/
theorem iblk_whole (t : Fin cfg0.N) :
    (iblk m c 1 t : Vec Ideal S128x256 .f32) = V m c main_arg1 ∧ (iblk m c 2 t : Vec Ideal S128x128 .f32) = V m c main_arg2
    ∧ (iblk m c 3 t : Vec Ideal S256x768 .f32) = V m c main_call0_v12 ∧ (iblk m c 4 t : Vec Ideal S1x768 .f32) = V m c main_call0_v14
    ∧ (iblk m c 5 t : Vec Ideal S256x768 .f32) = V m c main_call0_v13 ∧ (iblk m c 6 t : Vec Ideal S1x768 .f32) = V m c main_call0_v15
    ∧ (iblk m c 7 t : Vec Ideal S256x256 .f32) = V m c main_call0_v7 ∧ (iblk m c 8 t : Vec Ideal S1x256 .f32) = V m c main_call0_v11 := by
  have h1 : win0_1.index t 0 = 0 ∧ win0_1.index t 1 = 0 ∧ win0_2.index t 0 = 0 ∧ win0_2.index t 1 = 0 := by
    revert t; decide +kernel
  refine ⟨?_, ?_, ?_, ?_, ?_, ?_, ?_, ?_⟩
  · funext y
    unfold iblk
    rw [View.read_apply]
    show V m c _ _ = V m c _ _
    congr 1
    funext a
    apply Fin.ext
    match a with
    | ⟨0, _⟩ => show win0_1.index t 0 * 128 + 1 * (y 0).val = (y 0).val; rw [h1.1]; omega
    | ⟨1, _⟩ => show win0_1.index t 1 * 256 + 1 * (y 1).val = (y 1).val; rw [h1.2.1]; omega
  · funext y
    unfold iblk
    rw [View.read_apply]
    show V m c _ _ = V m c _ _
    congr 1
    funext a
    apply Fin.ext
    match a with
    | ⟨0, _⟩ => show win0_2.index t 0 * 128 + 1 * (y 0).val = (y 0).val; rw [h1.2.2.1]; omega
    | ⟨1, _⟩ => show win0_2.index t 1 * 128 + 1 * (y 1).val = (y 1).val; rw [h1.2.2.2]; omega
  all_goals
  · funext y
    unfold iblk
    rw [View.read_apply]
    show V m c _ _ = V m c _ _
    congr 1
    funext a
    apply Fin.ext
    match a with
    | ⟨0, _⟩ => show 0 * _ + 1 * (y 0).val = (y 0).val; omega
    | ⟨1, _⟩ => show 0 * _ + 1 * (y 1).val = (y 1).val; omega

theorem iblk0 (t : Fin cfg0.N) (i : Fin 128) (k : Fin 8) (q : Fin 256) :
    (iblk m c 0 t : Vec Ideal S128x8x256 .f32) (ix3 i k q) = (args m c).x (ix3 i ⟨(8 * t.val + k.val) % 128, Nat.mod_lt _ (by decide)⟩ q) := by
  have hN : cfg0.N = 16 := N_0
  have ht := t.isLt
  have hi : win0_0.index t 0 = 0 ∧ win0_0.index t 1 = t.val ∧ win0_0.index t 2 = 0 := by
    revert t; decide +kernel
  unfold iblk
  rw [View.read_apply]
  show V m c main_arg0 _ = (args m c).x _
  rw [V_main_arg0]
  show (args m c).x _ = (args m c).x _
  congr 1
  funext a
  apply Fin.ext
  match a with
  | ⟨0, _⟩ => show win0_0.index t 0 * 128 + 1 * i.val = i.val; rw [hi.1]; omega
  | ⟨1, _⟩ => show win0_0.index t 1 * 8 + 1 * k.val = (8 * t.val + k.val) % 128; rw [hi.2.1]; omega
  | ⟨2, _⟩ => show win0_0.index t 2 * 256 + 1 * q.val = q.val; rw [hi.2.2]; omega

theorem blocks (t : Fin cfg0.N) : Blocks (args m c) t.val (iblk m c 0 t) (iblk m c 3 t) (iblk m c 5 t) (iblk m c 6 t) (iblk m c 7 t) (iblk m c 8 t) := by
  obtain ⟨-, -, e3, -, e5, e6, e7, e8⟩ := iblk_whole m c t
  obtain ⟨v12, -, v13, v15, v7, v11⟩ := V_host m c
  have hs := hscale_apply m c
  refine ⟨iblk0 m c t, fun k j => ?_, fun k j => ?_, fun j => ?_, fun k j => ?_, fun j => ?_⟩
  · rw [e3, v12]; pointwise
  · rw [e5, v13]; pointwise
  · rw [e6, v15]; pointwise
  · rw [e7, v7, ← hs]; generalize hscale m c = s; pointwise
  · rw [e8, v11, ← hs]; generalize hscale m c = s; pointwise

/-- The constant part the first point computes. -/
theorem const_blocks (t : Fin cfg0.N) (i : Fin 128) (j : Fin 768) :
    k0_pay4 (F := Ideal) (iblk m c 2 t) (iblk m c 1 t) (iblk m c 4 t) (iblk m c 3 t) (ix2 i j) = const (args m c) i j := by
  obtain ⟨e1, e2, -, e4, -⟩ := iblk_whole m c t
  obtain ⟨-, v14, -⟩ := V_host m c
  have B := blocks m c t
  refine (const_apply _ _ _ _ i j).trans ?_
  unfold const Contrast.len
  simp only [B.h3]
  rw [e1, e2, e4, v14, V_main_arg1, V_main_arg2]
  refine congrArg (· - _) ?_
  pointwise

/-! ## The sixteen points -/

/-- After point `n`: the eight rows of features, the hidden state, the constant part of the input's contribution. -/
theorem outs_apply (n : ℕ) (hn : n < cfg0.N) :
    (∀ (i : Fin 128) (k : Fin 8) (j : Fin 256), (outsAt0 m c n hn).1 (ix3 i k j) = ft (args m c) i (8 * n + k.val) j)
    ∧ (∀ (i : Fin 128) (j : Fin 256), (outsAt0 m c n hn).2.1 (ix2 i j) = st (args m c) i (8 * (n + 1)) j)
    ∧ ∀ (i : Fin 128) (j : Fin 768), (outsAt0 m c n hn).2.2 (ix2 i j) = const (args m c) i j := by
  have hN : cfg0.N = 16 := N_0
  induction n with
  | zero =>
    have B := blocks m c ⟨0, hn⟩
    have he := const_blocks m c ⟨0, hn⟩
    have hh : ∀ (i : Fin 128) (j : Fin 256), k0_pay3 (F := Ideal) (ix2 i j) = st (args m c) i (8 * 0) j := by
      intro i j; unfold k0_pay3 st Contrast.state Gru.hid; pointwise
    rw [outsAt0_zero, stAt0_A m c ⟨0, hn⟩ _ rfl, out_A_9, sout_A_0, sout_A_1]
    exact ⟨fun i k j => feat_hs B he hh k.val k.isLt i j, fun i j => hs_apply B he hh 8 (Nat.le_refl _) i j, he⟩
  | succ n ih =>
    obtain ⟨-, ihs, ihe⟩ := ih (Nat.lt_of_succ_lt hn)
    have B := blocks m c ⟨n + 1, hn⟩
    have hm : ¬(⟨n + 1, hn⟩ : Fin cfg0.N).val % 16 = 0 := by dsimp only; omega
    rw [outsAt0_succ, stAt0_B m c ⟨n + 1, hn⟩ _ hm, out_B_9, sout_B_0]
    exact ⟨fun i k j => feat_hs B ihe ihs k.val k.isLt i j, fun i j => hs_apply B ihe ihs 8 (Nat.le_refl _) i j, ihe⟩

/-- The features the kernel returns. -/
theorem G9_apply (i t : Fin 128) (j : Fin 256) : (G9 m c : Vec Ideal S128x128x256 .f32) (ix3 i t j) = ft (args m c) i t.val j := by
  have hN : cfg0.N = 16 := N_0
  have hp : pt9Of (ix3 i t j) = t.val / 8 := by
    show 16 * (i.val / 128 - 0) + 1 * (t.val / 8 - 0) + 1 * (j.val / 256 - 0) = _
    omega
  have hl : loc9Of (ix3 i t j) = ix3 i ⟨t.val % 8, Nat.mod_lt _ (by decide)⟩ j := by
    funext a
    apply Fin.ext
    match a with
    | ⟨0, _⟩ => show i.val % 128 = i.val; omega
    | ⟨1, _⟩ => rfl
    | ⟨2, _⟩ => show j.val % 256 = j.val; omega
  have hlt : t.val / 8 < cfg0.N := by omega
  have e := (outs_apply m c (t.val / 8) hlt).1 i ⟨t.val % 8, Nat.mod_lt _ (by decide)⟩ j
  rw [outsAt0_sweep] at e
  unfold G9
  rw [dif_pos (by rw [hp]; exact hlt), hl, fold0_congr m c _ _ _ (by omega) hp]
  refine e.trans ?_
  congr 1
  show 8 * (t.val / 8) + t.val % 8 = t.val
  omega

end Cert.Gru2Ideal.Alg
-- ==== Proof.Gru2Ref.lean ====
module

public import proofs.«01_k».proof.Proof.Gen.ContrastRefIdeal
public import proofs.«01_k».proof.Proof.Gen.ContrastRefIdeal.Run
public import proofs.«01_k».proof.Proof.Contrast
public import proofs.«01_k».proof.Proof.Shared
public import Idealize.ShloMosaic.Lib.Pointwise
public import Idealize.ShloMosaic.Lib.Tactic.CleanTypes

@[expose] public section

set_option maxRecDepth 16384

noncomputable section

open Idealize.ShloMosaic Idealize.ShloMosaic.StableHlo Idealize.SL.Sem Cert.ContrastRefIdeal Cert.ContrastRefIdeal.Gen Cert.ContrastRefIdeal.Value

namespace Cert.ContrastRefIdeal.Alg

variable (m : (ℓ : Loc nD τ sig) → Buf (Elt Ideal) ℓ) (c : Dev nD)

/-- The reference's arguments. -/
def args : Contrast.Args where
  x := m ((c.tc : Thread nD τ).loc main_arg0)
  s := m ((c.tc : Thread nD τ).loc main_arg1)
  l := m ((c.tc : Thread nD τ).loc main_arg2)
  wi := m ((c.tc : Thread nD τ).loc main_arg3)
  wh := m ((c.tc : Thread nD τ).loc main_arg4)
  bi := m ((c.tc : Thread nD τ).loc main_arg5)
  bh := m ((c.tc : Thread nD τ).loc main_arg6)
  w := m ((c.tc : Thread nD τ).loc main_arg7)
  b := m ((c.tc : Thread nD τ).loc main_arg8)
  g := m ((c.tc : Thread nD τ).loc main_arg9)
  β := m ((c.tc : Thread nD τ).loc main_arg10)
  μ := m ((c.tc : Thread nD τ).loc main_arg11)
  v := m ((c.tc : Thread nD τ).loc main_arg12)

/-- What the loop carries before its `k`-th trip. -/
abbrev it (k : ℕ) : Valuation τ sig (Elt Ideal) := STEP^[k] (entryContents preI m c)

theorem it_ctr (k : ℕ) : it m c k (Proc.devRef .tc main_v15_3) = fun _ => Scf.iv 0#32 1#32 k :=
  (atK_agree m c k main_v15_3 (by decide)).symm.trans (atK_ctr m c k)

theorem it_wh (k : ℕ) : it m c k (Proc.devRef .tc main_v15_1) = (args m c).wh := by
  induction k with
  | zero =>
    show entryContents preI m c (Proc.devRef .tc main_v15_1) = _
    simp only [entryContents, preI, afterL_cons, afterL_nil, hostOps0]
    after_results_entrywise []
  | succ k ih => unfold it at ih ⊢; rw [Function.iterate_succ_apply', STEP_main_v15_1]; exact ih

theorem it_bh (k : ℕ) : it m c k (Proc.devRef .tc main_v15_2) = (args m c).bh := by
  induction k with
  | zero =>
    show entryContents preI m c (Proc.devRef .tc main_v15_2) = _
    simp only [entryContents, preI, afterL_cons, afterL_nil, hostOps0]
    after_results_entrywise []
  | succ k ih => unfold it at ih ⊢; rw [Function.iterate_succ_apply', STEP_main_v15_2]; exact ih

theorem it_x (k : ℕ) : it m c k (Proc.devRef .tc main_v15_0) = it m c 0 (Proc.devRef .tc main_v15_0) := by
  induction k with
  | zero => rfl
  | succ k ih => unfold it at ih ⊢; rw [Function.iterate_succ_apply', STEP_main_v15_0]; exact ih

/-- The mean over the timesteps, as the reference computes it. -/
def hmean : FVec Ideal S128x256 .f32 :=
  Host.divf (F := Ideal) (φ := .f32) (args m c).s (broadcastInDim S128x256 ![0, 1] bcast_S128x1_S128x256_0_1 (broadcastInDim S128x1 ![0] bcast_S128_S128x1_0
    (Host.reduceAdd (F := Ideal) (φ := .f32) (args m c).l (constant (F := Ideal) S_ .f32 0x00000000#32) reducesTo_S128x128_S128_d1 h_S_)))

theorem hmean_apply (i : Fin 128) (k : Fin 256) : hmean m c (ix2 i k) = Contrast.mean (args m c) i k := by
  unfold hmean Contrast.mean Contrast.len
  pointwise

theorem it_x_zero : it m c 0 (Proc.devRef .tc main_v15_0)
    = transpose S128x128x768 [1, 0, 2] (addf (F := Ideal) (φ := .f32)
        (Host.dotGeneral (F := Ideal) (φ₁ := .f32) (φ₂ := .f32) dot_S128x128x256_S256x768_S128x128x768_2_0_01_1_n_n none
          (subf (F := Ideal) (φ := .f32) (args m c).x (broadcastInDim S128x128x256 ![0, 1, 2] bcast_S128x1x256_S128x128x256_0_1_2
            (broadcastInDim S128x1x256 ![0, 2] bcast_S128x256_S128x1x256_0_2 (hmean m c))))
          (transpose S256x768 [1, 0] (args m c).wi transposes_S768x256_S256x768_1_0))
        (broadcastInDim S128x128x768 ![0, 1, 2] bcast_S1x1x768_S128x128x768_0_1_2 (broadcastInDim S1x1x768 ![2] bcast_S768_S1x1x768_2 (args m c).bi)))
      transposes_S128x128x768_S128x128x768_1_0_2 := by
  show entryContents preI m c (Proc.devRef .tc main_v15_0) = _
  simp only [entryContents, preI, afterL_cons, afterL_nil, hostOps0]
  after_results_entrywise []

theorem it_x_apply (t i : Fin 128) (j : Fin 768) :
    (it m c 0 (Proc.devRef .tc main_v15_0) : Vec Ideal S128x128x768 .f32) (ix3 t i j) = Contrast.inp (args m c) i t.val j := by
  have et : t.val % 128 = t.val := Nat.mod_eq_of_lt t.isLt
  have em := hmean_apply m c
  rw [it_x_zero]
  unfold Contrast.inp
  simp only [et, ← em]
  generalize hmean m c = μ
  pointwise

theorem it_h_zero : it m c 0 (Proc.devRef .tc main_v15_4)
    = broadcastInDim S128x256 ![] bcast_S_S128x256 (constant (F := Ideal) S_ .f32 0x00000000#32) := by
  show entryContents preI m c (Proc.devRef .tc main_v15_4) = _
  simp only [entryContents, preI, afterL_cons, afterL_nil, hostOps0]
  after_results_entrywise []

theorem slice_apply (X : Vec Ideal S128x128x768 .f32) (st : Fin 3 → ℤ) (k : ℕ) (hk : k < 128) (h0 : st 0 = k) (h1 : st 1 = 0) (h2 : st 2 = 0)
    (h : S128x128x768.Slices (fun _ => 0) S1x128x768) (i : Fin 128) (j : Fin 768) :
    Host.dynamicSlice S1x128x768 X st h (ix3 0 i j) = X (ix3 ⟨k, hk⟩ i j) := by
  have e0 : Host.clampedStart S128x128x768 S1x128x768 h.1 st 0 = k := Host.clampedStart_of_le _ _ 0 k h0 (by show k + 1 ≤ 128; omega)
  have e1 : Host.clampedStart S128x128x768 S1x128x768 h.1 st 1 = 0 := Host.clampedStart_of_le _ _ 1 0 h1 (Nat.le_refl _)
  have e2 : Host.clampedStart S128x128x768 S1x128x768 h.1 st 2 = 0 := Host.clampedStart_of_le _ _ 2 0 h2 (Nat.le_refl _)
  pointwise
  refine congrArg X (Shared.ix3_congr ?_ ?_ ?_)
  · exact e0
  · exact (congrArg (· + i.val) e1).trans (Nat.zero_add _)
  · exact (congrArg (· + j.val) e2).trans (Nat.zero_add _)

/-- The row the loop reads: the input's contribution at the trip's timestep. -/
theorem row_apply (V : Valuation τ sig (Elt Ideal)) (k : ℕ) (hk : k < 128) (h3 : V (Proc.devRef .tc main_v15_3) = fun _ => Scf.iv 0#32 1#32 k)
    (X : Vec Ideal S128x128x768 .f32) (hX : V (Proc.devRef .tc main_v15_0) = X) (i : Fin 128) (j : Fin 768) :
    (res_main_while0b_v37 V : Vec Ideal S128x768 .f32) (ix2 i j) = X (ix3 ⟨k, hk⟩ i j) := by
  unfold res_main_while0b_v37
  rw [hX, h3]
  have e := slice_apply X (fun a => ((![fun _ => Scf.iv 0#32 1#32 k, constantI S_ 32 0#32, constantI S_ 32 0#32] : Fin 3 → S_.Idx → BitVec 32) a
    (Shape.Idx.first h_S_)).toInt) k hk (Shared.iv_toInt k hk) rfl rfl sliceFits_S128x128x768_S1x128x768 i j
  generalize Host.dynamicSlice S1x128x768 X _ _ = D at e
  pointwise
  exact e

/-- The recurrent contribution of one trip. -/
theorem rec_apply (V : Valuation τ sig (Elt Ideal)) (H : Vec Ideal S128x256 .f32) (W : Vec Ideal S768x256 .f32) (d : Vec Ideal S768 .f32)
    (hH : V (Proc.devRef .tc main_v15_4) = H) (hW : V (Proc.devRef .tc main_v15_1) = W) (hd : V (Proc.devRef .tc main_v15_2) = d)
    (i : Fin 128) (j : Fin 768) :
    (res_main_while0b_v42 V : Vec Ideal S128x768 .f32) (ix2 i j) = ∑ k, H (ix2 i k) * W (ix2 j k) + d (ix1 j) := by
  unfold res_main_while0b_v42
  rw [hH, hW, hd]
  pointwise

/-- One trip's new hidden state. -/
theorem new_apply (V : Valuation τ sig (Elt Ideal)) (k : ℕ) (hk : k < 128) (h3 : V (Proc.devRef .tc main_v15_3) = fun _ => Scf.iv 0#32 1#32 k)
    (X : Vec Ideal S128x128x768 .f32) (H : Vec Ideal S128x256 .f32) (W : Vec Ideal S768x256 .f32) (d : Vec Ideal S768 .f32)
    (hX : V (Proc.devRef .tc main_v15_0) = X) (hH : V (Proc.devRef .tc main_v15_4) = H) (hW : V (Proc.devRef .tc main_v15_1) = W)
    (hd : V (Proc.devRef .tc main_v15_2) = d) (i : Fin 128) (j : Fin 256) :
    (res_main_while0b_v70 V : Vec Ideal S128x256 .f32) (ix2 i j)
      = Gru.next (N := 256) (M := 768) rfl (fun j => X (ix3 ⟨k, hk⟩ i j)) (fun j k => W (ix2 j k)) (fun j => d (ix1 j)) (fun k => H (ix2 i k)) j := by
  have e1 := row_apply V k hk h3 X hX
  have e2 := rec_apply V H W d hH hW hd
  unfold res_main_while0b_v70 res_main_while0b_v62
  rw [hH]
  generalize res_main_while0b_v37 V = r at e1 ⊢
  generalize res_main_while0b_v42 V = q at e2 ⊢
  unfold Gru.next Gru.rec Gru.cell Ideal.logistic
  clean_types
  pointwise
  simp only [e1, e2]

theorem it_h (k : ℕ) (hk : k ≤ 128) (i : Fin 128) (j : Fin 256) :
    (it m c k (Proc.devRef .tc main_v15_4) : Vec Ideal S128x256 .f32) (ix2 i j) = Contrast.state (args m c) (Contrast.inp (args m c)) i k j := by
  induction k generalizing j with
  | zero => rw [it_h_zero]; unfold Contrast.state Gru.hid; pointwise
  | succ k ih =>
    have e : it m c (k + 1) = STEP (it m c k) := Function.iterate_succ_apply' ..
    rw [e, STEP_main_v15_4]
    unfold step_main_v15_4
    refine (new_apply (it m c k) k hk (it_ctr m c k) _ _ _ _ (it_x m c k) rfl (it_wh m c k) (it_bh m c k) i j).trans ?_
    exact congrArg₂ (fun X h => Gru.next (N := 256) (M := 768) rfl X _ _ h j)
      (funext fun a => it_x_apply m c ⟨k, hk⟩ i a) (funext fun b => ih (Nat.le_of_succ_le hk) b)

theorem update_apply (X : Vec Ideal S128x128x256 .f32) (U : Vec Ideal S1x128x256 .f32) (st : Fin 3 → ℤ) (k : ℕ) (hk : k < 128) (h0 : st 0 = k)
    (h1 : st 1 = 0) (h2 : st 2 = 0) (h : S128x128x256.Slices (fun _ => 0) S1x128x256) (t i : Fin 128) (j : Fin 256) :
    Host.dynamicUpdateSlice X U st h (ix3 t i j) = if t.val = k then U (ix3 0 i j) else X (ix3 t i j) := by
  have e0 : Host.clampedStart S128x128x256 S1x128x256 h.1 st 0 = k := Host.clampedStart_of_le _ _ 0 k h0 (by show k + 1 ≤ 128; omega)
  have e1 : Host.clampedStart S128x128x256 S1x128x256 h.1 st 1 = 0 := Host.clampedStart_of_le _ _ 1 0 h1 (Nat.le_refl _)
  have e2 : Host.clampedStart S128x128x256 S1x128x256 h.1 st 2 = 0 := Host.clampedStart_of_le _ _ 2 0 h2 (Nat.le_refl _)
  rw [Host.dynamicUpdateSlice_eq_updateSlice X U st h ![k, 0, 0] (fun a => match a with | 0 => e0 | 1 => e1 | 2 => e2)
    ⟨h.1, fun a => match a with | 0 => (by show k + 1 ≤ 128; omega) | 1 => Nat.le_refl _ | 2 => Nat.le_refl _⟩]
  pointwise
  by_cases ht : t.val = k
  · rw [dif_pos (by omega), if_pos ht]
    exact congrArg U (Shared.ix3_congr (by show t.val - k = 0; omega) rfl rfl)
  · rw [dif_neg (by omega), if_neg ht]

/-- The stored hidden states after `k` trips: timestep `t < k` holds the state after it. -/
theorem it_hs (k : ℕ) (hk : k ≤ 128) (t i : Fin 128) (j : Fin 256) (ht : t.val < k) :
    (it m c k (Proc.devRef .tc main_v15_5) : Vec Ideal S128x128x256 .f32) (ix3 t i j) = Contrast.state (args m c) (Contrast.inp (args m c)) i (t.val + 1) j := by
  induction k with
  | zero => exact absurd ht (Nat.not_lt_zero _)
  | succ k ih =>
    have e : it m c (k + 1) = STEP (it m c k) := Function.iterate_succ_apply' ..
    have hn := it_h m c (k + 1) hk i j
    rw [e, STEP_main_v15_4] at hn
    unfold step_main_v15_4 at hn
    rw [e, STEP_main_v15_5]
    unfold step_main_v15_5
    rw [it_ctr]
    refine (update_apply _ _ _ k hk (Shared.iv_toInt k hk) rfl rfl _ t i j).trans ?_
    by_cases h : t.val = k
    · rw [if_pos h, h]
      refine Eq.trans ?_ hn
      clean_types
      pointwise
      rfl
    · rw [if_neg h]
      exact ih (by omega) (by omega)

/-- The features the reference returns. -/
theorem out_apply (i t : Fin 128) (j : Fin 256) :
    (out_main_v36 (it m c 128) : Vec Ideal S128x128x256 .f32) (ix3 i t j) = Contrast.fea (args m c) (Contrast.inp (args m c)) i t.val j := by
  have e := fun k => it_hs m c 128 (Nat.le_refl _) t i k t.isLt
  have e7 : it m c 128 (Proc.devRef .tc main_arg7) = (args m c).w := iter_main_arg7 m c 128
  have e8 : it m c 128 (Proc.devRef .tc main_arg8) = (args m c).b := iter_main_arg8 m c 128
  have e9 : it m c 128 (Proc.devRef .tc main_arg9) = (args m c).g := iter_main_arg9 m c 128
  have e10 : it m c 128 (Proc.devRef .tc main_arg10) = (args m c).β := iter_main_arg10 m c 128
  have e11 : it m c 128 (Proc.devRef .tc main_arg11) = (args m c).μ := iter_main_arg11 m c 128
  have e12 : it m c 128 (Proc.devRef .tc main_arg12) = (args m c).v := iter_main_arg12 m c 128
  unfold out_main_v36
  rw [e7, e8, e9, e10, e11, e12]
  generalize it m c 128 (Proc.devRef .tc main_v15_5) = D at e
  unfold Contrast.fea Contrast.scale
  clean_types
  pointwise
  simp only [e]

end Cert.ContrastRefIdeal.Alg
-- ==== Proof.Gru2Alg.lean ====
module

public import proofs.«01_k».proof.Defs
public import proofs.«01_k».proof.Proof.Frames
public import proofs.«01_k».proof.Proof.Gru2Value
public import proofs.«01_k».proof.Proof.Gru2Ref
public import proofs.«01_k».proof.Proof.Finite
public import proofs.«01_k».proof.Proof.Gen.Pre_contrast_finite

@[expose] public section

set_option maxRecDepth 16384

noncomputable section

open Idealize.ShloMosaic Idealize.SL.Sem

namespace Cert.Proof

/-- The second kernel's idealization under the precondition: its frame needs none. -/
theorem frame_Gru2Ideal_pre : Cert.quiescent_Gru2Ideal_pre_contrast_finite := fun m ρ _ => Cert.Gru2Ideal.Gen.frame m ρ

/-- The second reference under the precondition: its frame needs none. -/
theorem frame_ContrastRefIdeal_pre : Cert.quiescent_ContrastRefIdeal_pre_contrast_finite := fun m ρ _ => frame_ContrastRefIdeal m ρ trivial

/-- What the precondition says of the arguments. -/
theorem contrast_finite (m : (ℓ : Loc Cert.Gru2Ideal.nD Cert.Gru2Ideal.τ Cert.Gru2Ideal.sig) → Buf (Elt Ideal) ℓ) (h : Cert.Pre_Gru2Ideal_contrast_finite m)
    (c : Dev Cert.Gru2Ideal.nD) : Contrast.Finite (Cert.Gru2Ideal.Alg.args m c) ∧ Contrast.FiniteMean (Cert.Gru2Ideal.Alg.args m c) := by
  obtain ⟨h1, h2, h3⟩ := h c
  generalize hA : Cert.Gru2Ideal.Alg.args m c = A
  have f1 : ∀ j k, (Cert.Pre_contrast_finite.fn (F := Ideal) A.x A.s A.l A.wi A.wh A.bi A.bh A.w A.b A.g A.β A.μ A.v).1 (ix2 j k) = 1#1 := by
    intro j k; rw [← hA]; exact congrFun h1 (ix2 j k)
  have f2 : ∀ j k, (Cert.Pre_contrast_finite.fn (F := Ideal) A.x A.s A.l A.wi A.wh A.bi A.bh A.w A.b A.g A.β A.μ A.v).2.1 (ix2 j k) = 1#1 := by
    intro j k; rw [← hA]; exact congrFun h2 (ix2 j k)
  have f3 : ∀ i k, (Cert.Pre_contrast_finite.fn (F := Ideal) A.x A.s A.l A.wi A.wh A.bi A.bh A.w A.b A.g A.β A.μ A.v).2.2 (ix2 i k) = 1#1 := by
    intro i k; rw [← hA]; exact congrFun h3 (ix2 i k)
  clear h1 h2 h3 hA
  unfold Cert.Pre_contrast_finite.fn Cert.Pre_contrast_finite.fn_part1 at f1 f2 f3
  dsimp only at f1 f2 f3
  simp only [pointwise, Nat.reduceEqDiff, reduceDIte] at f1 f2 f3
  have key : ∀ j k : Fin 256, (∃ r : ℝ, A.w (ix2 j k) = r) ∧ (∃ r : ℝ, A.b (ix1 j) = r) ∧ (∃ r : ℝ, A.μ (ix1 j) = r) ∧ ∃ r : ℝ, Contrast.scale A j = r := by
    intro j k
    obtain ⟨hw, e⟩ := Finite.and_one (f1 j k)
    obtain ⟨e, hs⟩ := Finite.and_one e
    obtain ⟨hb, hm⟩ := Finite.and_one e
    exact ⟨Finite.real_of_test hw, Finite.real_of_test hb, Finite.real_of_test hm, Finite.real_of_test hs⟩
  refine ⟨fun j => ⟨fun k => (key j k).1, (key j 0).2⟩, fun j k => Finite.real_of_test (f2 j k), fun i k => ?_⟩
  obtain ⟨hs, hl⟩ := Finite.and_one (f3 i k)
  rw [zero_add] at hl
  exact ⟨Finite.real_of_test hs, Finite.real_of_test hl⟩

/-- The contrast call computes the contrast reference's features. -/
theorem alg_Gru2 : Cert.algebraic_Gru2Ideal_ContrastRefIdeal_pre_contrast_finite := by
  intro m g m' g' hpre hargs
  have hA : ∀ c, Cert.ContrastRefIdeal.Alg.args m' c = Cert.Gru2Ideal.Alg.args m c := by
    intro c
    obtain ⟨h0, h1, h2, h3, h4, h5, h6, h7, h8, h9, h10, h11, h12⟩ := hargs c
    unfold Cert.ContrastRefIdeal.Alg.args Cert.Gru2Ideal.Alg.args
    rw [h0, h1, h2, h3, h4, h5, h6, h7, h8, h9, h10, h11, h12]
  refine ⟨fun c => Cert.Gru2Ideal.Value.G9 m c, Cert.Gru2Ideal.Value.run m g, ?_⟩
  refine (θ_run Cert.ContrastRefIdeal.defs _ _).mono (fun r h c => ?_) (Cert.ContrastRefIdeal.Value.run (F := Ideal) m' g')
  obtain ⟨h36, hk⟩ := h c
  obtain ⟨hf, hs⟩ := contrast_finite m hpre c
  refine ⟨h36.trans ?_, hk⟩
  funext y
  obtain ⟨i, t, j, rfl⟩ : ∃ (i t : Fin 128) (j : Fin 256), y = ix3 i t j := ⟨y 0, y 1, y 2, by funext a; match a with | 0 => rfl | 1 => rfl | 2 => rfl⟩
  refine (Cert.ContrastRefIdeal.Alg.out_apply m' c i t j).trans (Eq.trans ?_ (Cert.Gru2Ideal.Alg.G9_apply m c i t j).symm)
  rw [hA c, ← Contrast.feaFolded_eq _ hf hs]

end Cert.Proof
-- ==== Proof.AttnBody.lean ====
/- The body of the attention kernel: one pair of batch rows as a function of what it reads, and the block's sum as the
   four pairs in turn. -/
module

public import proofs.«01_k».proof.Proof.Gen.AttnIdeal.Frame

@[expose] public section

noncomputable section

namespace Cert.AttnIdeal.Body

open Cert.AttnIdeal Cert.AttnIdeal.Gen Idealize.ShloMosaic

/-- Rows of a matrix through a linear map with a bias row. -/
def lin (x : FVec Ideal S256x256 .f32) (w : Vec Ideal S256x256 .f32) (b : FVec Ideal S1x256 .f32) :
    FVec Ideal S256x256 .f32 :=
  addf (matmul dot_S256x256_S256x256_S256x256_1_0_0_1_n_n none x (shapeCast S256x256 w shapeCasts_S256x256_S256x256 : FVec Ideal S256x256 .f32)
    (constant S256x256 .f32 0x00000000#32)) (broadcastTo S256x256 b broadcasts_S1x256_S256x256)

/-- A bias row as read. -/
def row (b : Vec Ideal S1x256 .f32) : FVec Ideal S1x256 .f32 := shapeCast S1x256 b shapeCasts_S1x256_S1x256

/-- A pair's rows through a linear map. -/
def proj (x : Vec Ideal S2x128x256 .f32) (w : Vec Ideal S256x256 .f32) (b : Vec Ideal S1x256 .f32) :
    FVec Ideal S2x128x256 .f32 :=
  shapeCast S2x128x256 (lin (shapeCast S256x256 x shapeCasts_S2x128x256_S256x256) w (row b)) shapeCasts_S256x256_S2x128x256

/-- The image row of each of the two batch entries, as read. -/
def one (x : Vec Ideal S2x1x256 .f32) : FVec Ideal S2x1x256 .f32 := shapeCast S2x1x256 x shapeCasts_S2x1x256_S2x1x256

/-- The image rows at every step. -/
def every (x : Vec Ideal S2x1x256 .f32) : FVec Ideal S2x128x256 .f32 :=
  broadcastTo S2x128x256 (one x) broadcasts_S2x1x256_S2x128x256

/-- The first head's sum over its 128 columns. -/
def headA (p : FVec Ideal S2x128x256 .f32) : FVec Ideal S2x128x1 .f32 :=
  shapeCast S2x128x1 (multiReduction .add [2] S2x128
    (extractStridedSlice S2x128x128 ![0, 0, 0] p slices_S2x128x256_o0_0_0_S2x128x128) 0x00000000#32
    reduces_S2x128x128_S2x128 (.inl rfl) rfl) shapeCasts_S2x128_S2x128x1

/-- The second head's. -/
def headB (p : FVec Ideal S2x128x256 .f32) : FVec Ideal S2x128x1 .f32 :=
  shapeCast S2x128x1 (multiReduction .add [2] S2x128
    (extractStridedSlice S2x128x128 ![0, 0, 128] p slices_S2x128x256_o0_0_128_S2x128x128) 0x00000000#32
    reduces_S2x128x128_S2x128 (.inl rfl) rfl) shapeCasts_S2x128_S2x128x1

/-- The image token's score with itself, first head, at every step. -/
def selfA (q k : Vec Ideal S2x1x256 .f32) : FVec Ideal S2x128x1 .f32 :=
  broadcastTo S2x128x1 (shapeCast S2x1x1 (multiReduction .add [2] S2x1
    (extractStridedSlice S2x1x128 ![0, 0, 0] (mulf (one q) (one k)) slices_S2x1x256_o0_0_0_S2x1x128) 0x00000000#32
    reduces_S2x1x128_S2x1 (.inl rfl) rfl) shapeCasts_S2x1_S2x1x1) broadcasts_S2x1x1_S2x128x1

/-- Second head. -/
def selfB (q k : Vec Ideal S2x1x256 .f32) : FVec Ideal S2x128x1 .f32 :=
  broadcastTo S2x128x1 (shapeCast S2x1x1 (multiReduction .add [2] S2x1
    (extractStridedSlice S2x1x128 ![0, 0, 128] (mulf (one q) (one k)) slices_S2x1x256_o0_0_128_S2x1x128) 0x00000000#32
    reduces_S2x1x128_S2x1 (.inl rfl) rfl) shapeCasts_S2x1_S2x1x1) broadcasts_S2x1x1_S2x128x1

/-- The weight a query row gives the token of score `s`, among the scores `a`, `b`, `d`, over three. -/
def weight (s a b d : FVec Ideal S2x128x1 .f32) : FVec Ideal S2x128x1 .f32 :=
  mulf (exp (subf s (maximumf (maximumf a b) d)))
    (divf (broadcast S2x128x1 (Named.named κ "third" 0x3EAAAAAB#32 : Ideal .f32))
      (addf (addf (exp (subf a (maximumf (maximumf a b) d))) (exp (subf b (maximumf (maximumf a b) d))))
        (exp (subf d (maximumf (maximumf a b) d)))))

/-- The three query rows' weights added up, from zero. -/
def mean3 (a b d : FVec Ideal S2x128x1 .f32) : FVec Ideal S2x128x1 .f32 :=
  addf (addf (addf (broadcast S2x128x1 (Scalar.ofBits .f32 0x00000000#32)) a) b) d

/-- The weighted sum of the three value rows, first head's columns. -/
def outA (w0 w1 w2 : FVec Ideal S2x128x1 .f32) (v0 : FVec Ideal S2x1x256 .f32) (v1 v2 : FVec Ideal S2x128x256 .f32) :
    FVec Ideal S2x128x128 .f32 :=
  addf (addf (mulf (broadcastTo S2x128x128 w0 broadcasts_S2x128x1_S2x128x128)
      (broadcastTo S2x128x128 (extractStridedSlice S2x1x128 ![0, 0, 0] v0 slices_S2x1x256_o0_0_0_S2x1x128)
        broadcasts_S2x1x128_S2x128x128))
    (mulf (broadcastTo S2x128x128 w1 broadcasts_S2x128x1_S2x128x128)
      (extractStridedSlice S2x128x128 ![0, 0, 0] v1 slices_S2x128x256_o0_0_0_S2x128x128)))
    (mulf (broadcastTo S2x128x128 w2 broadcasts_S2x128x1_S2x128x128)
      (extractStridedSlice S2x128x128 ![0, 0, 0] v2 slices_S2x128x256_o0_0_0_S2x128x128))

/-- Second head's columns. -/
def outB (w0 w1 w2 : FVec Ideal S2x128x1 .f32) (v0 : FVec Ideal S2x1x256 .f32) (v1 v2 : FVec Ideal S2x128x256 .f32) :
    FVec Ideal S2x128x128 .f32 :=
  addf (addf (mulf (broadcastTo S2x128x128 w0 broadcasts_S2x128x1_S2x128x128)
      (broadcastTo S2x128x128 (extractStridedSlice S2x1x128 ![0, 0, 128] v0 slices_S2x1x256_o0_0_128_S2x1x128)
        broadcasts_S2x1x128_S2x128x128))
    (mulf (broadcastTo S2x128x128 w1 broadcasts_S2x128x1_S2x128x128)
      (extractStridedSlice S2x128x128 ![0, 0, 128] v1 slices_S2x128x256_o0_0_128_S2x128x128)))
    (mulf (broadcastTo S2x128x128 w2 broadcasts_S2x128x1_S2x128x128)
      (extractStridedSlice S2x128x128 ![0, 0, 128] v2 slices_S2x128x256_o0_0_128_S2x128x128))

/-- One head's averaged weight of the token with scores `a`, `b`, `d` under the three queries. -/
def weight3 (a a0 a1 a2 b b0 b1 b2 d d0 d1 d2 : FVec Ideal S2x128x1 .f32) : FVec Ideal S2x128x1 .f32 :=
  mean3 (weight a a0 a1 a2) (weight b b0 b1 b2) (weight d d0 d1 d2)

/-- The attention output averaged over the three tokens. -/
def attended (q0 k0 v0 : Vec Ideal S2x1x256 .f32) (q1 k1 v1 q2 k2 v2 : FVec Ideal S2x128x256 .f32) :
    FVec Ideal S2x128x256 .f32 :=
  concatenate S2x128x256 2
    [⟨S2x128x128, outA
      (weight3 (selfA q0 k0) (selfA q0 k0) (headA (mulf (every q0) k1)) (headA (mulf (every q0) k2))
        (headA (mulf q1 (every k0))) (headA (mulf q1 (every k0))) (headA (mulf q1 k1)) (headA (mulf q1 k2))
        (headA (mulf q2 (every k0))) (headA (mulf q2 (every k0))) (headA (mulf q2 k1)) (headA (mulf q2 k2)))
      (weight3 (headA (mulf (every q0) k1)) (selfA q0 k0) (headA (mulf (every q0) k1)) (headA (mulf (every q0) k2))
        (headA (mulf q1 k1)) (headA (mulf q1 (every k0))) (headA (mulf q1 k1)) (headA (mulf q1 k2))
        (headA (mulf q2 k1)) (headA (mulf q2 (every k0))) (headA (mulf q2 k1)) (headA (mulf q2 k2)))
      (weight3 (headA (mulf (every q0) k2)) (selfA q0 k0) (headA (mulf (every q0) k1)) (headA (mulf (every q0) k2))
        (headA (mulf q1 k2)) (headA (mulf q1 (every k0))) (headA (mulf q1 k1)) (headA (mulf q1 k2))
        (headA (mulf q2 k2)) (headA (mulf q2 (every k0))) (headA (mulf q2 k1)) (headA (mulf q2 k2)))
      (one v0) v1 v2⟩,
    ⟨S2x128x128, outB
      (weight3 (selfB q0 k0) (selfB q0 k0) (headB (mulf (every q0) k1)) (headB (mulf (every q0) k2))
        (headB (mulf q1 (every k0))) (headB (mulf q1 (every k0))) (headB (mulf q1 k1)) (headB (mulf q1 k2))
        (headB (mulf q2 (every k0))) (headB (mulf q2 (every k0))) (headB (mulf q2 k1)) (headB (mulf q2 k2)))
      (weight3 (headB (mulf (every q0) k1)) (selfB q0 k0) (headB (mulf (every q0) k1)) (headB (mulf (every q0) k2))
        (headB (mulf q1 k1)) (headB (mulf q1 (every k0))) (headB (mulf q1 k1)) (headB (mulf q1 k2))
        (headB (mulf q2 k1)) (headB (mulf q2 (every k0))) (headB (mulf q2 k1)) (headB (mulf q2 k2)))
      (weight3 (headB (mulf (every q0) k2)) (selfB q0 k0) (headB (mulf (every q0) k1)) (headB (mulf (every q0) k2))
        (headB (mulf q1 k2)) (headB (mulf q1 (every k0))) (headB (mulf q1 k1)) (headB (mulf q1 k2))
        (headB (mulf q2 k2)) (headB (mulf q2 (every k0))) (headB (mulf q2 k1)) (headB (mulf q2 k2)))
      (one v0) v1 v2⟩]
    concatenates_S2x128x128_S2x128x128_S2x128x256_d2

/-- The logits, the columns past the classes included. -/
def logits (o : FVec Ideal S2x128x256 .f32) (wo : Vec Ideal S256x256 .f32) (bo : Vec Ideal S1x256 .f32)
    (wp : Vec Ideal S256x256 .f32) (bp : FVec Ideal S1x256 .f32) : FVec Ideal S2x128x256 .f32 :=
  shapeCast S2x128x256 (lin (lin (shapeCast S256x256 o shapeCasts_S2x128x256_S256x256) wo (row bo)) wp bp)
    shapeCasts_S256x256_S2x128x256

/-- The largest logit of every row. -/
def top (l : FVec Ideal S2x128x256 .f32) : FVec Ideal S2x128x1 .f32 :=
  shapeCast S2x128x1 (multiReduction .maximumf [2] S2x128 l 0xFF800000#32 reduces_S2x128x256_S2x128 (.inl rfl) rfl)
    shapeCasts_S2x128_S2x128x1

/-- The logarithm of the sum of the logits' exponentials. -/
def lse (l : FVec Ideal S2x128x256 .f32) : FVec Ideal S2x128x1 .f32 :=
  addf (top l) (log (shapeCast S2x128x1 (multiReduction .add [2] S2x128
    (exp (subf l (broadcastTo S2x128x256 (top l) broadcasts_S2x128x1_S2x128x256))) 0x00000000#32
    reduces_S2x128x256_S2x128 (.inl rfl) rfl) shapeCasts_S2x128_S2x128x1))

/-- The logit of the label. -/
def picked (l : FVec Ideal S2x128x256 .f32) (lab : Vec Ideal S2x128x1 .i32) : FVec Ideal S2x128x1 .f32 :=
  shapeCast S2x128x1 (multiReduction .add [2] S2x128
    (select (cmpi .eq (iota .tc S2x128x256 32 [2] iota_S2x128x256_d2_w32)
      (broadcastTo S2x128x256 (shapeCast S2x128x1 lab shapeCasts_S2x128x1_S2x128x1) broadcasts_S2x128x1_S2x128x256)) l
      (broadcast S2x128x256 (Scalar.ofBits .f32 0x00000000#32))) 0x00000000#32
    reduces_S2x128x256_S2x128 (.inl rfl) rfl) shapeCasts_S2x128_S2x128x1

/-- A pair's weighted cross entropies added to the sum so far. -/
def addPair (acc : FVec Ideal S1x1x1 .f32) (l : FVec Ideal S2x128x256 .f32) (lab : Vec Ideal S2x128x1 .i32)
    (lw : FVec Ideal S2x128x1 .f32) : FVec Ideal S1x1x1 .f32 :=
  addf acc (shapeCast S1x1x1 (multiReduction .add [0, 1] S1 (mulf (subf (lse l) (picked l lab)) lw) 0x00000000#32
    reduces_S2x128x1_S1 (.inl rfl) rfl) shapeCasts_S1_S1x1x1)

/-- The logits of a pair of batch entries, from what the body reads of them. -/
def pairLogits (tf cf : Vec Ideal S2x128x256 .f32) (q0 k0 v0 : Vec Ideal S2x1x256 .f32)
    (x7 : Vec Ideal S256x256 .f32) (x8 : Vec Ideal S1x256 .f32) (x9 : Vec Ideal S256x256 .f32) (x10 : Vec Ideal S1x256 .f32)
    (x11 : Vec Ideal S256x256 .f32) (x12 : Vec Ideal S1x256 .f32) (x13 : Vec Ideal S256x256 .f32) (x14 : Vec Ideal S1x256 .f32)
    (x15 : Vec Ideal S256x256 .f32) (bp : FVec Ideal S1x256 .f32) : FVec Ideal S2x128x256 .f32 :=
  logits (attended q0 k0 v0 (proj tf x7 x8) (proj tf x9 x10) (proj tf x11 x12) (proj cf x7 x8) (proj cf x9 x10)
    (proj cf x11 x12)) x13 x14 x15 bp

/-- The predictor's bias row with the columns past the classes at the mask. -/
abbrev bias (b : Vec Ideal S1x256 .f32) : FVec Ideal S1x256 .f32 := k0_pay3 (F := Ideal) b

/-- The weight of every step: its mask over the row's mask sum, over the batch. -/
abbrev stepWeight (lm : Vec Ideal S8x128x1 .f32) : FVec Ideal S8x128x1 .f32 := k0_pay2 (F := Ideal) lm

variable (x0 x1 : Vec Ideal S8x128x256 .f32) (x2 x3 x4 : Vec Ideal S8x1x256 .f32) (x5 : Vec Ideal S8x128x1 .f32)
  (x6 : Vec Ideal S8x128x1 .i32) (x7 : Vec Ideal S256x256 .f32) (x8 : Vec Ideal S1x256 .f32) (x9 : Vec Ideal S256x256 .f32)
  (x10 : Vec Ideal S1x256 .f32) (x11 : Vec Ideal S256x256 .f32) (x12 : Vec Ideal S1x256 .f32) (x13 : Vec Ideal S256x256 .f32)
  (x14 : Vec Ideal S1x256 .f32) (x15 : Vec Ideal S256x256 .f32) (x16 : Vec Ideal S1x256 .f32)

/-- The pair read through the given windows, added to the sum so far. -/
abbrev step (acc : FVec Ideal S1x1x1 .f32) (tf cf : Vec Ideal S2x128x256 .f32) (q0 k0 v0 : Vec Ideal S2x1x256 .f32)
    (lab : Vec Ideal S2x128x1 .i32) (lw : FVec Ideal S2x128x1 .f32) : FVec Ideal S1x1x1 .f32 :=
  addPair acc (pairLogits tf cf q0 k0 v0 (View.ld x7 r0_3) (View.ld x8 r0_1) (View.ld x9 r0_3) (View.ld x10 r0_1)
    (View.ld x11 r0_3) (View.ld x12 r0_1) (View.ld x13 r0_3) (View.ld x14 r0_1) (View.ld x15 r0_3) (bias (View.ld x16 r0_1)))
    lab lw

set_option maxRecDepth 100000 in
set_option maxHeartbeats 2000000 in
/-- What the body leaves in the result's block: the four pairs' sums in turn, from zero. -/
theorem out_eq : out0_17 x0 x1 x2 x3 x4 x5 x6 x7 x8 x9 x10 x11 x12 x13 x14 x15 x16 =
    View.canon [⟨r0_15, shapeCast S1x1x1x1
      (step x7 x8 x9 x10 x11 x12 x13 x14 x15 x16
        (step x7 x8 x9 x10 x11 x12 x13 x14 x15 x16
          (step x7 x8 x9 x10 x11 x12 x13 x14 x15 x16
            (step x7 x8 x9 x10 x11 x12 x13 x14 x15 x16
              (broadcast S1x1x1 (Scalar.ofBits .f32 0x00000000#32))
              (View.ld x0 r0_2) (View.ld x1 r0_2) (View.ld x2 r0_4) (View.ld x3 r0_4) (View.ld x4 r0_4) (View.ld x6 r0_5)
              (extractStridedSlice S2x128x1 ![0, 0, 0] (stepWeight (View.ld x5 r0_0)) slices_S8x128x1_o0_0_0_S2x128x1))
            (View.ld x0 r0_6) (View.ld x1 r0_6) (View.ld x2 r0_7) (View.ld x3 r0_7) (View.ld x4 r0_7) (View.ld x6 r0_8)
            (extractStridedSlice S2x128x1 ![2, 0, 0] (stepWeight (View.ld x5 r0_0)) slices_S8x128x1_o2_0_0_S2x128x1))
          (View.ld x0 r0_9) (View.ld x1 r0_9) (View.ld x2 r0_10) (View.ld x3 r0_10) (View.ld x4 r0_10) (View.ld x6 r0_11)
          (extractStridedSlice S2x128x1 ![4, 0, 0] (stepWeight (View.ld x5 r0_0)) slices_S8x128x1_o4_0_0_S2x128x1))
        (View.ld x0 r0_12) (View.ld x1 r0_12) (View.ld x2 r0_13) (View.ld x3 r0_13) (View.ld x4 r0_13) (View.ld x6 r0_14)
        (extractStridedSlice S2x128x1 ![6, 0, 0] (stepWeight (View.ld x5 r0_0)) slices_S8x128x1_o6_0_0_S2x128x1))
      shapeCasts_S1x1x1_S1x1x1x1⟩] := by
  rfl

end Cert.AttnIdeal.Body

end
-- ==== Proof.Loss.lean ====
module

public import Idealize.ShloMosaic.PureOps.Ideal
public import Idealize.ShloMosaic.Lib.Pointwise
public import proofs.«01_k».proof.Proof.Gru

@[expose] public section

noncomputable section

open Idealize.ShloMosaic

namespace Cert.Loss

/-! ## One step's cross entropy over the real numbers -/

/-- The queries, keys and values of a step's three tokens. -/
structure Row where
  q : Fin 3 → Fin 256 → ℝ
  k : Fin 3 → Fin 256 → ℝ
  v : Fin 3 → Fin 256 → ℝ

/-- The attention's output layer and the predictor. -/
structure Net where
  wo : Fin 256 → Fin 256 → ℝ
  bo : Fin 256 → ℝ
  wp : Fin 190 → Fin 256 → ℝ
  bp : Fin 190 → ℝ

/-- Column `d` of head `h`. -/
def col (h : Fin 2) (d : Fin 128) : Fin 256 := ⟨h.val * 128 + d.val, by omega⟩

/-- The head of a column. -/
def head (j : Fin 256) : Fin 2 := ⟨j.val / 128, by omega⟩

theorem head_col (h : Fin 2) (d : Fin 128) : head (col h d) = h := by
  apply Fin.ext
  show (h.val * 128 + d.val) / 128 = h.val
  omega

theorem exists_col (j : Fin 256) : ∃ h d, j = col h d :=
  ⟨head j, ⟨j.val % 128, by omega⟩, Fin.ext (by show j.val = j.val / 128 * 128 + j.val % 128; omega)⟩

section row
variable (N : Net) (r : Row)

/-- The score of query `t` against key `s`. -/
def score (h : Fin 2) (t s : Fin 3) : ℝ := ∑ d, r.q t (col h d) * r.k s (col h d)

/-- The largest score of a query. -/
def most (h : Fin 2) (t : Fin 3) : ℝ := max (max (score r h t 0) (score r h t 1)) (score r h t 2)

/-- The exponential of a score's distance to it. -/
def ex (h : Fin 2) (t s : Fin 3) : ℝ := Real.exp (score r h t s - most r h t)

/-- Their sum. -/
def den (h : Fin 2) (t : Fin 3) : ℝ := ex r h t 0 + ex r h t 1 + ex r h t 2

/-- The attention's output of token `t`. -/
def out (t : Fin 3) (j : Fin 256) : ℝ := ∑ s, r.v s j * (ex r (head j) t s / den r (head j) t)

/-- The output averaged over the tokens. -/
def avg (j : Fin 256) : ℝ := (out r 0 j + out r 1 j + out r 2 j) / 3

/-- It through the output layer. -/
def last (j : Fin 256) : ℝ := ∑ i, avg r i * N.wo j i + N.bo j

/-- The logit of a class. -/
def logit (l : Fin 190) : ℝ := ∑ i, last N r i * N.wp l i + N.bp l

/-- The largest logit. -/
def top : ℝ := Finset.univ.sup' ⟨0, Finset.mem_univ _⟩ (logit N r)

/-- The sum of the exponentials of the logits' distance to it. -/
def total : ℝ := ∑ l, Real.exp (logit N r l - top N r)

/-- The cross entropy at class `l`. -/
def ce (l : Fin 190) : ℝ := top N r + Real.log (total N r) - logit N r l

theorem den_pos (h : Fin 2) (t : Fin 3) : 0 < den r h t := by
  unfold den ex
  positivity

theorem total_pos : 0 < total N r := Finset.sum_pos (fun _ _ => Real.exp_pos _) ⟨0, Finset.mem_univ _⟩

theorem logit_le (l : Fin 190) : logit N r l ≤ top N r := Finset.le_sup' (logit N r) (Finset.mem_univ l)

theorem exists_top : ∃ l, logit N r l = top N r := by
  obtain ⟨l, -, e⟩ := Finset.exists_mem_eq_sup' (s := Finset.univ) ⟨0, Finset.mem_univ _⟩ (logit N r)
  exact ⟨l, e.symm⟩

/-- The output layer of the tokens averaged afterwards. -/
theorem last_eq (j : Fin 256) :
    (∑ t : Fin 3, (∑ i, out r t i * N.wo j i + N.bo j)) * (1 / 3) = last N r j := by
  unfold last avg
  rw [Fin.sum_univ_three]
  have e : ∑ i, (out r 0 i + out r 1 i + out r 2 i) / 3 * N.wo j i
      = (∑ i, out r 0 i * N.wo j i + ∑ i, out r 1 i * N.wo j i + ∑ i, out r 2 i * N.wo j i) * (1 / 3) := by
    rw [← Finset.sum_add_distrib, ← Finset.sum_add_distrib, Finset.sum_mul]
    exact Finset.sum_congr rfl fun _ _ => by ring
  rw [e]
  ring

/-- The token weights averaged before the values are mixed. -/
theorem avg_eq (j : Fin 256) (w : Fin 3 → ℝ)
    (hw : ∀ s, w s = ex r (head j) 0 s * (1 / 3 / den r (head j) 0) + ex r (head j) 1 s * (1 / 3 / den r (head j) 1)
      + ex r (head j) 2 s * (1 / 3 / den r (head j) 2)) :
    w 0 * r.v 0 j + w 1 * r.v 1 j + w 2 * r.v 2 j = avg r j := by
  unfold avg out
  rw [hw, hw, hw]
  simp only [Fin.sum_univ_three]
  ring

/-- The logarithm of a class probability is minus its cross entropy. -/
theorem log_prob (l : Fin 190) : Real.log (Real.exp (logit N r l - top N r) * (1 / total N r)) = -ce N r l := by
  have h := total_pos N r
  rw [Real.log_mul (Real.exp_pos _).ne' (by positivity), Real.log_exp, one_div, Real.log_inv]
  unfold ce
  ring

end row

/-! ## The same quantities as extended reals -/

theorem coe_max (a b : ℝ) : max (a : EReal) b = ((max a b : ℝ) : EReal) :=
  (EReal.coe_strictMono.monotone.map_max).symm

/-- A linear map with a bias, of real numbers. -/
theorem lin_coe {n : ℕ} {x w : Fin n → EReal} {b : EReal} {x' w' : Fin n → ℝ} {b' : ℝ} (hx : ∀ k, x k = x' k) (hw : ∀ k, w k = w' k)
    (hb : b = b') : ∑ k, x k * w k + b = ((∑ k, x' k * w' k + b' : ℝ) : EReal) := by
  rw [EReal.coe_add, Gru.coe_sum, hb]
  refine congrArg (· + _) (Finset.sum_congr rfl fun k _ => ?_)
  rw [hx, hw, EReal.coe_mul]

/-- A sum of products of real numbers. -/
theorem dot_coe {n : ℕ} {x w : Fin n → EReal} {x' w' : Fin n → ℝ} (hx : ∀ k, x k = x' k) (hw : ∀ k, w k = w' k) :
    ∑ k, x k * w k = ((∑ k, x' k * w' k : ℝ) : EReal) := by
  rw [Gru.coe_sum]
  refine Finset.sum_congr rfl fun k _ => ?_
  rw [hx, hw, EReal.coe_mul]

theorem exp_sub_coe (a b : ℝ) : Ideal.exp ((a : EReal) - b) = (Real.exp (a - b) : ℝ) := by
  rw [← EReal.coe_sub, Ideal.exp_coe]

theorem div_coe_coe (a : ℝ) {b : ℝ} (hb : b ≠ 0) : Ideal.div (a : EReal) b = ((a * (1 / b) : ℝ) : EReal) := by
  rw [Ideal.div_coe hb, EReal.coe_mul]

/-- A fold of maxima from below everything, by an upper bound that is reached. -/
theorem fold_max_eq {n : ℕ} (f : Fin n → EReal) (y : EReal) (h1 : ∀ x, f x ≤ y) (h2 : ∃ x, f x = y) :
    Finset.univ.fold max ⊥ f = y := by
  apply le_antisymm
  · exact (Finset.fold_max_le y).2 ⟨bot_le, fun x _ => h1 x⟩
  · obtain ⟨x, hx⟩ := h2
    exact (Finset.le_fold_max y).2 (Or.inr ⟨x, Finset.mem_univ x, hx.ge⟩)

/-- A sum over the columns whose terms past the classes vanish. -/
theorem sum_pad (f : Fin 256 → EReal) (g : Fin 190 → EReal) (h1 : ∀ l : Fin 190, f ⟨l.val, by omega⟩ = g l)
    (h2 : ∀ j : Fin 256, 190 ≤ j.val → f j = 0) : ∑ j, f j = ∑ l, g l := by
  have e := Fin.sum_univ_add (M := EReal) (a := 190) (b := 66) f
  refine e.trans ?_
  rw [Finset.sum_eq_zero (s := Finset.univ) (f := fun i : Fin 66 => f (Fin.natAdd 190 i)) fun i _ => h2 _ (by show 190 ≤ 190 + i.val; omega),
    add_zero]
  exact Finset.sum_congr rfl fun l _ => h1 l

section row
variable (N : Net) (r : Row)

/-- The logits with the columns past the classes at minus infinity. -/
def padded (j : Fin 256) : EReal := if h : j.val < 190 then (logit N r ⟨j.val, h⟩ : EReal) else ⊥

theorem padded_lt (l : Fin 190) : padded N r ⟨l.val, by omega⟩ = logit N r l := dif_pos l.isLt

theorem padded_ge (j : Fin 256) (h : 190 ≤ j.val) : padded N r j = ⊥ := dif_neg (by omega)

theorem fold_padded : Finset.univ.fold max ⊥ (padded N r) = (top N r : EReal) := by
  refine fold_max_eq _ _ (fun j => ?_) ?_
  · by_cases h : j.val < 190
    · rw [padded, dif_pos h]; exact EReal.coe_le_coe_iff.2 (logit_le N r _)
    · rw [padded_ge N r j (by omega)]; exact bot_le
  · obtain ⟨l, e⟩ := exists_top N r
    exact ⟨⟨l.val, by omega⟩, by rw [padded_lt, e]⟩

theorem fold_logit : Finset.univ.fold max ⊥ (fun l => (logit N r l : EReal)) = (top N r : EReal) := by
  refine fold_max_eq _ _ (fun l => EReal.coe_le_coe_iff.2 (logit_le N r l)) ?_
  obtain ⟨l, e⟩ := exists_top N r
  exact ⟨l, by rw [e]⟩

theorem sum_exp_coe : ∑ l, Ideal.exp ((logit N r l : EReal) - top N r) = (total N r : EReal) := by
  unfold total
  rw [Gru.coe_sum]
  exact Finset.sum_congr rfl fun l _ => exp_sub_coe _ _

theorem sum_exp_padded : ∑ j, Ideal.exp (padded N r j - top N r) = (total N r : EReal) := by
  rw [← sum_exp_coe]
  refine sum_pad _ _ (fun l => by rw [padded_lt]) fun j h => ?_
  rw [padded_ge N r j h, EReal.bot_sub, Ideal.exp_bot]

theorem log_total : Ideal.log (total N r : EReal) = (Real.log (total N r) : EReal) := by
  rw [Ideal.log_coe, if_neg (not_le.2 (total_pos N r))]

/-- The largest score as an extended real. -/
theorem most_coe (h : Fin 2) (t : Fin 3) :
    max (max (score r h t 0 : EReal) (score r h t 1)) (score r h t 2) = (most r h t : EReal) := by
  rw [coe_max, coe_max]
  rfl

theorem fold_score (h : Fin 2) (t : Fin 3) :
    Finset.univ.fold max ⊥ (fun s => (score r h t s : EReal)) = (most r h t : EReal) := by
  have hle : ∀ s : Fin 3, score r h t s ≤ most r h t := by
    intro s
    unfold most
    fin_cases s
    · exact (le_max_left _ _).trans (le_max_left _ _)
    · exact (le_max_right _ _).trans (le_max_left _ _)
    · exact le_max_right _ _
  refine fold_max_eq _ _ (fun s => EReal.coe_le_coe_iff.2 (hle s)) ?_
  unfold most
  rcases max_choice (max (score r h t 0) (score r h t 1)) (score r h t 2) with e | e
  · rcases max_choice (score r h t 0) (score r h t 1) with e' | e'
    · exact ⟨0, by rw [e, e']⟩
    · exact ⟨1, by rw [e, e']⟩
  · exact ⟨2, by rw [e]⟩

theorem ex_coe (h : Fin 2) (t s : Fin 3) : Ideal.exp ((score r h t s : EReal) - most r h t) = (ex r h t s : EReal) := exp_sub_coe _ _

theorem den_coe (h : Fin 2) (t : Fin 3) : (ex r h t 0 : EReal) + ex r h t 1 + ex r h t 2 = (den r h t : EReal) := by
  unfold den; push_cast; rfl

end row

/-- The word of minus infinity. -/
theorem bot_word : Ideal.ofBits .f32 0xFF800000#32 = ⊥ := by simp [Ideal.ofBits, Ideal.ieee]

/-- A label as a word. -/
theorem ofNat_inj {a b : ℕ} (ha : a < 256) (hb : b < 256) (h : BitVec.ofNat 32 a = BitVec.ofNat 32 b) : a = b := by
  have e := congrArg BitVec.toNat h
  simp only [BitVec.toNat_ofNat] at e
  omega

/-! ## The loss of the call's thirteen arguments -/

/-- One over the square root of a head's width. -/
def headScale : ℝ := 1 / √128

theorem word_128 : Ideal.ofBits .f32 0x43000000#32 = ((128 : ℝ) : EReal) := by
  simp only [Ideal.ofBits, Ideal.ieee]
  simp
  rw [← EReal.coe_mul]
  exact congrArg _ (by norm_num)

theorem word_3 : Ideal.ofBits .f32 0x40400000#32 = ((3 : ℝ) : EReal) := by
  simp only [Ideal.ofBits, Ideal.ieee]
  simp
  rw [← EReal.coe_mul]
  exact congrArg _ (by norm_num)

/-- The host's factor of the queries. -/
theorem headScale_coe : Ideal.div 1 (Ideal.sqrt (Ideal.ofBits .f32 0x43000000#32)) = (headScale : EReal) := by
  rw [word_128, Ideal.sqrt_coe, if_neg (by norm_num), ← EReal.coe_one, div_coe_coe _ (by positivity), one_mul]
  rfl

/-- The arguments: text and contrast features, the image token's query, key and value, the mask, the labels, the attention's input layer,
    its output layer and the predictor. -/
structure Args where
  x : FVec Ideal ⟨3, ![128, 128, 256]⟩ .f32
  y : FVec Ideal ⟨3, ![128, 128, 256]⟩ .f32
  q : FVec Ideal ⟨2, ![128, 256]⟩ .f32
  k : FVec Ideal ⟨2, ![128, 256]⟩ .f32
  v : FVec Ideal ⟨2, ![128, 256]⟩ .f32
  lm : FVec Ideal ⟨2, ![128, 128]⟩ .f32
  lab : IVec ⟨2, ![128, 128]⟩ 32
  wi : FVec Ideal ⟨2, ![768, 256]⟩ .f32
  bi : FVec Ideal ⟨1, ![768]⟩ .f32
  wo : FVec Ideal ⟨2, ![256, 256]⟩ .f32
  bo : FVec Ideal ⟨1, ![256]⟩ .f32
  wp : FVec Ideal ⟨2, ![190, 256]⟩ .f32
  bp : FVec Ideal ⟨1, ![190]⟩ .f32

/-- The same as real numbers, the labels as classes. -/
structure Reals where
  x : Fin 128 → Fin 128 → Fin 256 → ℝ
  y : Fin 128 → Fin 128 → Fin 256 → ℝ
  q : Fin 128 → Fin 256 → ℝ
  k : Fin 128 → Fin 256 → ℝ
  v : Fin 128 → Fin 256 → ℝ
  lm : Fin 128 → Fin 128 → ℝ
  lab : Fin 128 → Fin 128 → Fin 190
  wi : Fin 768 → Fin 256 → ℝ
  bi : Fin 768 → ℝ
  net : Net

/-- Row `j` of part `p` of the attention's input layer. -/
def inRow (p : Fin 3) (j : Fin 256) : Fin 768 := ⟨p.val * 256 + j.val, by omega⟩

namespace Reals
variable (R : Reals)

/-- Part `p` of the attention's input layer: queries, keys, values. -/
def lin (p : Fin 3) (z : Fin 256 → ℝ) (j : Fin 256) : ℝ := ∑ k, z k * R.wi (inRow p j) k + R.bi (inRow p j)

/-- The queries, keys and values of step `s` of example `b`. -/
def row (b s : Fin 128) : Row where
  q := ![R.q b, fun j => R.lin 0 (R.x b s) j * headScale, fun j => R.lin 0 (R.y b s) j * headScale]
  k := ![R.k b, R.lin 1 (R.x b s), R.lin 1 (R.y b s)]
  v := ![R.v b, R.lin 2 (R.x b s), R.lin 2 (R.y b s)]

/-- An example's number of steps. -/
def len (b : Fin 128) : ℝ := ∑ s, R.lm b s

/-- The masked cross entropies of an example, summed. -/
def sum (b : Fin 128) : ℝ := ∑ s, ce R.net (R.row b s) (R.lab b s) * R.lm b s

/-- The loss: their masked means, averaged over the examples. -/
def value : ℝ := (∑ b, R.sum b * (1 / R.len b)) * (1 / 128)

end Reals

/-- The arguments are these real numbers, every example has some step and every label is a class. -/
structure IsReal (A : Args) (R : Reals) : Prop where
  x : ∀ b s j, A.x (ix3 b s j) = (R.x b s j : EReal)
  y : ∀ b s j, A.y (ix3 b s j) = (R.y b s j : EReal)
  q : ∀ b j, A.q (ix2 b j) = (R.q b j : EReal)
  k : ∀ b j, A.k (ix2 b j) = (R.k b j : EReal)
  v : ∀ b j, A.v (ix2 b j) = (R.v b j : EReal)
  lm : ∀ b s, A.lm (ix2 b s) = (R.lm b s : EReal)
  len : ∀ b, R.len b ≠ 0
  lab : ∀ b s, A.lab (ix2 b s) = BitVec.ofNat 32 (R.lab b s).val
  wi : ∀ j k, A.wi (ix2 j k) = (R.wi j k : EReal)
  bi : ∀ j, A.bi (ix1 j) = (R.bi j : EReal)
  wo : ∀ j k, A.wo (ix2 j k) = (R.net.wo j k : EReal)
  bo : ∀ j, A.bo (ix1 j) = (R.net.bo j : EReal)
  wp : ∀ l k, A.wp (ix2 l k) = (R.net.wp l k : EReal)
  bp : ∀ l, A.bp (ix1 l) = (R.net.bp l : EReal)

end Cert.Loss

end
-- ==== Proof.AttnRow.lean ====
module

public import proofs.«01_k».proof.Proof.AttnBody
public import proofs.«01_k».proof.Proof.Loss
public import Idealize.ShloMosaic.Lib.Pointwise
public import Idealize.ShloMosaic.Lib.Tactic.CleanTypes

@[expose] public section

set_option maxRecDepth 16384

noncomputable section

open Cert.AttnIdeal Cert.AttnIdeal.Gen Idealize.ShloMosaic

namespace Cert.AttnIdeal.Body

/-! ## The body's pieces, entry by entry -/

theorem proj_apply (x : Vec Ideal S2x128x256 .f32) (w : Vec Ideal S256x256 .f32) (b : Vec Ideal S1x256 .f32) (i : Fin 2) (t : Fin 128) (j : Fin 256) :
    proj x w b (ix3 i t j) = ∑ k : Fin 256, x (ix3 i t k) * w (ix2 k j) + b (ix2 0 j) := by
  unfold proj lin row
  pointwise

theorem headA_apply (p : FVec Ideal S2x128x256 .f32) (i : Fin 2) (t : Fin 128) :
    headA p (ix3 i t 0) = ∑ d : Fin 128, p (ix3 i t ⟨d.val, by omega⟩) := by
  unfold headA
  pointwise

theorem headB_apply (p : FVec Ideal S2x128x256 .f32) (i : Fin 2) (t : Fin 128) :
    headB p (ix3 i t 0) = ∑ d : Fin 128, p (ix3 i t ⟨128 + d.val, by omega⟩) := by
  unfold headB
  pointwise

theorem every_apply (x : Vec Ideal S2x1x256 .f32) (i : Fin 2) (t : Fin 128) (j : Fin 256) :
    every x (ix3 i t j) = x (ix3 i 0 j) := by
  unfold every one
  pointwise

theorem selfA_eq (q k : Vec Ideal S2x1x256 .f32) (i : Fin 2) (t : Fin 128) : selfA q k (ix3 i t 0) = headA (mulf (every q) (every k)) (ix3 i t 0) := by
  unfold selfA headA every one
  pointwise

theorem selfB_eq (q k : Vec Ideal S2x1x256 .f32) (i : Fin 2) (t : Fin 128) : selfB q k (ix3 i t 0) = headB (mulf (every q) (every k)) (ix3 i t 0) := by
  unfold selfB headB every one
  pointwise

theorem weight_apply (s a b d : FVec Ideal S2x128x1 .f32) (y : S2x128x1.Idx) :
    weight s a b d y = Ideal.exp (s y - max (max (a y) (b y)) (d y)) * Ideal.div ((1 / 3 : ℝ) : EReal)
      (Ideal.exp (a y - max (max (a y) (b y)) (d y)) + Ideal.exp (b y - max (max (a y) (b y)) (d y))
        + Ideal.exp (d y - max (max (a y) (b y)) (d y))) := by
  have e : (Named.named κ "third" 0x3EAAAAAB#32 : Ideal .f32) = ((1 / 3 : ℝ) : EReal) := rfl
  rw [← e]
  unfold weight
  pointwise

theorem mean3_apply (a b d : FVec Ideal S2x128x1 .f32) (y : S2x128x1.Idx) :
    mean3 a b d y = a y + b y + d y := by
  unfold mean3
  pointwise

theorem outA_apply (w0 w1 w2 : FVec Ideal S2x128x1 .f32) (v0 : Vec Ideal S2x1x256 .f32) (v1 v2 : FVec Ideal S2x128x256 .f32) (i : Fin 2) (t d : Fin 128) :
    outA w0 w1 w2 (one v0) v1 v2 (ix3 i t d) = w0 (ix3 i t 0) * v0 (ix3 i 0 ⟨d.val, by omega⟩) + w1 (ix3 i t 0) * v1 (ix3 i t ⟨d.val, by omega⟩)
     + w2 (ix3 i t 0) * v2 (ix3 i t ⟨d.val, by omega⟩) := by
  unfold outA one
  pointwise

theorem outB_apply (w0 w1 w2 : FVec Ideal S2x128x1 .f32) (v0 : Vec Ideal S2x1x256 .f32) (v1 v2 : FVec Ideal S2x128x256 .f32) (i : Fin 2) (t d : Fin 128) :
    outB w0 w1 w2 (one v0) v1 v2 (ix3 i t d) = w0 (ix3 i t 0) * v0 (ix3 i 0 ⟨128 + d.val, by omega⟩) + w1 (ix3 i t 0) * v1 (ix3 i t ⟨128 + d.val, by omega⟩)
     + w2 (ix3 i t 0) * v2 (ix3 i t ⟨128 + d.val, by omega⟩) := by
  unfold outB one
  pointwise

theorem logits_apply (o : FVec Ideal S2x128x256 .f32) (wo : Vec Ideal S256x256 .f32) (bo : Vec Ideal S1x256 .f32)
    (wp : Vec Ideal S256x256 .f32) (bp : FVec Ideal S1x256 .f32) (i : Fin 2) (t : Fin 128) (j : Fin 256) :
    logits o wo bo wp bp (ix3 i t j) = ∑ k : Fin 256, (∑ l : Fin 256, o (ix3 i t l) * wo (ix2 l k) + bo (ix2 0 k)) * wp (ix2 k j) + bp (ix2 0 j) := by
  unfold logits lin row
  pointwise

theorem top_apply (l : FVec Ideal S2x128x256 .f32) (i : Fin 2) (t : Fin 128) :
    top l (ix3 i t 0) = Finset.univ.fold max ⊥ fun x => l (ix3 i t x) := by
  rw [← Loss.bot_word]
  unfold top
  pointwise

theorem lse_apply (l : FVec Ideal S2x128x256 .f32) (i : Fin 2) (t : Fin 128) :
    lse l (ix3 i t 0) = top l (ix3 i t 0) + Ideal.log (∑ x, Ideal.exp (l (ix3 i t x) - top l (ix3 i t 0))) := by
  unfold lse
  generalize top l = m
  pointwise

theorem picked_apply (l : FVec Ideal S2x128x256 .f32) (lab : Vec Ideal S2x128x1 .i32) (i : Fin 2) (t : Fin 128) :
    picked l lab (ix3 i t 0) = ∑ x : Fin 256, Scalar.select (IntOp.cmpi .eq (BitVec.ofNat 32 x.val) (lab (ix3 i t 0))) (l (ix3 i t x)) 0 := by
  unfold picked
  pointwise

theorem bias_apply (b : Vec Ideal S1x256 .f32) (j : Fin 256) :
    bias b (ix2 0 j) = if j.val < 190 then b (ix2 0 j) else ⊥ := by
  have e : (Named.named κ "mask" 0xF149F2CA#32 : Ideal .f32) = (⊥ : EReal) := rfl
  have h : IntOp.cmpi .slt (BitVec.ofNat 32 j.val) 190#32 = BitVec.ofBool (decide (j.val < 190)) := by
    revert j; decide +kernel
  unfold bias k0_pay3
  pointwise
  rw [e, h]
  by_cases hj : j.val < 190
  · rw [decide_eq_true hj, if_pos hj]; rfl
  · rw [decide_eq_false hj, if_neg hj]; rfl

theorem stepWeight_apply (b : Vec Ideal S8x128x1 .f32) (i : Fin 8) (t : Fin 128) :
    stepWeight b (ix3 i t 0) = b (ix3 i t 0) * Ideal.div 1 (∑ x : Fin 128, b (ix3 i x 0)) * ((1 / 128 : ℝ) : EReal) := by
  have e : Ideal.ofBits .f32 0x3C000000#32 = ((1 / 128 : ℝ) : EReal) := by
    simp only [Ideal.ofBits, Ideal.ieee]
    simp
    rw [← EReal.coe_mul]
    exact congrArg _ (by norm_num)
  rw [← e]
  unfold stepWeight k0_pay2
  pointwise

theorem addPair_apply (acc : FVec Ideal S1x1x1 .f32) (l : FVec Ideal S2x128x256 .f32) (lab : Vec Ideal S2x128x1 .i32)
    (lw : FVec Ideal S2x128x1 .f32) :
    addPair acc l lab lw (ix3 0 0 0) = acc (ix3 0 0 0)
      + ∑ i : Fin 2, ∑ t : Fin 128, (lse l (ix3 i t 0) - picked l lab (ix3 i t 0)) * lw (ix3 i t 0) := by
  unfold addPair
  generalize lse l = m
  generalize picked l lab = p
  pointwise
  rw [Ideal.reduceAdd_total _ (by decide), sum_idx3]
  simp only [Fin.sum_univ_one]
  rfl

/-! ## One row: the attention and the cross entropy over the reals -/

/-- What the body reads of row `t` of entry `i`, as real numbers. -/
structure Reads (r : Loss.Row) (i : Fin 2) (t : Fin 128) (q0 k0 v0 : Vec Ideal S2x1x256 .f32) (q1 k1 v1 q2 k2 v2 : FVec Ideal S2x128x256 .f32) : Prop where
  q0 : ∀ j, q0 (ix3 i 0 j) = (r.q 0 j : EReal)
  k0 : ∀ j, k0 (ix3 i 0 j) = (r.k 0 j : EReal)
  v0 : ∀ j, v0 (ix3 i 0 j) = (r.v 0 j : EReal)
  q1 : ∀ j, q1 (ix3 i t j) = (r.q 1 j : EReal)
  k1 : ∀ j, k1 (ix3 i t j) = (r.k 1 j : EReal)
  v1 : ∀ j, v1 (ix3 i t j) = (r.v 1 j : EReal)
  q2 : ∀ j, q2 (ix3 i t j) = (r.q 2 j : EReal)
  k2 : ∀ j, k2 (ix3 i t j) = (r.k 2 j : EReal)
  v2 : ∀ j, v2 (ix3 i t j) = (r.v 2 j : EReal)

theorem colA (d : Fin 128) : (⟨d.val, by omega⟩ : Fin 256) = Loss.col 0 d := Fin.ext (by show d.val = 0 * 128 + d.val; omega)

theorem colB (d : Fin 128) : (⟨128 + d.val, by omega⟩ : Fin 256) = Loss.col 1 d := Fin.ext (by show 128 + d.val = 1 * 128 + d.val; omega)

section row
variable {r : Loss.Row} {i : Fin 2} {t : Fin 128}

theorem headA_score {a b : FVec Ideal S2x128x256 .f32} (x y : Fin 3) (ha : ∀ j, a (ix3 i t j) = (r.q x j : EReal)) (hb : ∀ j, b (ix3 i t j) = (r.k y j : EReal)) :
    headA (mulf a b) (ix3 i t 0) = (Loss.score r 0 x y : EReal) := by
  rw [headA_apply]
  refine Loss.dot_coe (fun d => ?_) fun d => ?_
  · rw [colA]; exact ha _
  · rw [colA]; exact hb _

theorem headB_score {a b : FVec Ideal S2x128x256 .f32} (x y : Fin 3) (ha : ∀ j, a (ix3 i t j) = (r.q x j : EReal)) (hb : ∀ j, b (ix3 i t j) = (r.k y j : EReal)) :
    headB (mulf a b) (ix3 i t 0) = (Loss.score r 1 x y : EReal) := by
  rw [headB_apply]
  refine Loss.dot_coe (fun d => ?_) fun d => ?_
  · rw [colB]; exact ha _
  · rw [colB]; exact hb _

/-- The weight of token `s` under query `u`. -/
theorem weight_score (h : Fin 2) (u s : Fin 3) {y : S2x128x1.Idx} {a0 a1 a2 a : FVec Ideal S2x128x1 .f32} (e0 : a0 y = (Loss.score r h u 0 : EReal))
    (e1 : a1 y = (Loss.score r h u 1 : EReal)) (e2 : a2 y = (Loss.score r h u 2 : EReal)) (e : a y = (Loss.score r h u s : EReal)) :
    weight a a0 a1 a2 y = ((Loss.ex r h u s * (1 / 3 / Loss.den r h u) : ℝ) : EReal) := by
  rw [weight_apply, e, e0, e1, e2, Loss.most_coe]
  simp only [Loss.ex_coe]
  rw [Loss.den_coe, Ideal.div_coe (Loss.den_pos r h u).ne', ← EReal.coe_mul, ← EReal.coe_mul]
  congr 2
  ring

/-- The token's weight over the three queries. -/
def tokenWeight (r : Loss.Row) (h : Fin 2) (s : Fin 3) : ℝ :=
  Loss.ex r h 0 s * (1 / 3 / Loss.den r h 0) + Loss.ex r h 1 s * (1 / 3 / Loss.den r h 1) + Loss.ex r h 2 s * (1 / 3 / Loss.den r h 2)

/-- The first head's nine scores, by query and key. -/
def matA (q0 k0 : Vec Ideal S2x1x256 .f32) (q1 k1 q2 k2 : FVec Ideal S2x128x256 .f32) : Fin 3 → Fin 3 → FVec Ideal S2x128x1 .f32 :=
  ![![selfA q0 k0, headA (mulf (every q0) k1), headA (mulf (every q0) k2)],
    ![headA (mulf q1 (every k0)), headA (mulf q1 k1), headA (mulf q1 k2)], ![headA (mulf q2 (every k0)), headA (mulf q2 k1), headA (mulf q2 k2)]]

/-- The second head's. -/
def matB (q0 k0 : Vec Ideal S2x1x256 .f32) (q1 k1 q2 k2 : FVec Ideal S2x128x256 .f32) : Fin 3 → Fin 3 → FVec Ideal S2x128x1 .f32 :=
  ![![selfB q0 k0, headB (mulf (every q0) k1), headB (mulf (every q0) k2)],
    ![headB (mulf q1 (every k0)), headB (mulf q1 k1), headB (mulf q1 k2)], ![headB (mulf q2 (every k0)), headB (mulf q2 k1), headB (mulf q2 k2)]]

/-- A head's scores at a row. -/
structure Scores (r : Loss.Row) (h : Fin 2) (y : S2x128x1.Idx) (S : Fin 3 → Fin 3 → FVec Ideal S2x128x1 .f32) : Prop where
  eq : ∀ u s, S u s y = (Loss.score r h u s : EReal)

/-- Token `s`'s averaged weight, from a head's scores. -/
def weightOf (S : Fin 3 → Fin 3 → FVec Ideal S2x128x1 .f32) (s : Fin 3) : FVec Ideal S2x128x1 .f32 :=
  weight3 (S 0 s) (S 0 0) (S 0 1) (S 0 2) (S 1 s) (S 1 0) (S 1 1) (S 1 2) (S 2 s) (S 2 0) (S 2 1) (S 2 2)

theorem weightOf_apply {h : Fin 2} {y : S2x128x1.Idx} {S : Fin 3 → Fin 3 → FVec Ideal S2x128x1 .f32} (H : Scores r h y S) (s : Fin 3) :
    weightOf S s y = (tokenWeight r h s : EReal) := by
  unfold weightOf weight3 tokenWeight
  rw [mean3_apply, weight_score h 0 s (H.eq _ _) (H.eq _ _) (H.eq _ _) (H.eq _ _), weight_score h 1 s (H.eq _ _) (H.eq _ _) (H.eq _ _) (H.eq _ _),
    weight_score h 2 s (H.eq _ _) (H.eq _ _) (H.eq _ _) (H.eq _ _)]
  push_cast
  rfl

/-- The mixed values of a column. -/
theorem mix_coe (h : Fin 2) (d : Fin 128) :
    (tokenWeight r h 0 : EReal) * (r.v 0 (Loss.col h d) : EReal) + (tokenWeight r h 1 : EReal) * (r.v 1 (Loss.col h d) : EReal)
      + (tokenWeight r h 2 : EReal) * (r.v 2 (Loss.col h d) : EReal) = (Loss.avg r (Loss.col h d) : EReal) := by
  rw [← Loss.avg_eq r (Loss.col h d) (tokenWeight r h) fun s => by rw [Loss.head_col]; rfl]
  push_cast
  rfl

variable {q0 k0 v0 : Vec Ideal S2x1x256 .f32} {q1 k1 v1 q2 k2 v2 : FVec Ideal S2x128x256 .f32}
  (R : Reads r i t q0 k0 v0 q1 k1 v1 q2 k2 v2)
include R

theorem scoresA : Scores r 0 (ix3 i t 0) (matA q0 k0 q1 k1 q2 k2) := by
  have eq : ∀ j, every q0 (ix3 i t j) = (r.q 0 j : EReal) := fun j => (every_apply q0 i t j).trans (R.q0 j)
  have ek : ∀ j, every k0 (ix3 i t j) = (r.k 0 j : EReal) := fun j => (every_apply k0 i t j).trans (R.k0 j)
  refine ⟨fun u s => ?_⟩
  fin_cases u <;> fin_cases s
  · exact (selfA_eq q0 k0 i t).trans (headA_score 0 0 eq ek)
  · exact headA_score 0 1 eq R.k1
  · exact headA_score 0 2 eq R.k2
  · exact headA_score 1 0 R.q1 ek
  · exact headA_score 1 1 R.q1 R.k1
  · exact headA_score 1 2 R.q1 R.k2
  · exact headA_score 2 0 R.q2 ek
  · exact headA_score 2 1 R.q2 R.k1
  · exact headA_score 2 2 R.q2 R.k2

theorem scoresB : Scores r 1 (ix3 i t 0) (matB q0 k0 q1 k1 q2 k2) := by
  have eq : ∀ j, every q0 (ix3 i t j) = (r.q 0 j : EReal) := fun j => (every_apply q0 i t j).trans (R.q0 j)
  have ek : ∀ j, every k0 (ix3 i t j) = (r.k 0 j : EReal) := fun j => (every_apply k0 i t j).trans (R.k0 j)
  refine ⟨fun u s => ?_⟩
  fin_cases u <;> fin_cases s
  · exact (selfB_eq q0 k0 i t).trans (headB_score 0 0 eq ek)
  · exact headB_score 0 1 eq R.k1
  · exact headB_score 0 2 eq R.k2
  · exact headB_score 1 0 R.q1 ek
  · exact headB_score 1 1 R.q1 R.k1
  · exact headB_score 1 2 R.q1 R.k2
  · exact headB_score 2 0 R.q2 ek
  · exact headB_score 2 1 R.q2 R.k1
  · exact headB_score 2 2 R.q2 R.k2

theorem outA_mix {S : Fin 3 → Fin 3 → FVec Ideal S2x128x1 .f32} (H : Scores r 0 (ix3 i t 0) S) (d : Fin 128) :
    outA (weightOf S 0) (weightOf S 1) (weightOf S 2) (one v0) v1 v2 (ix3 i t d) = (Loss.avg r (Loss.col 0 d) : EReal) := by
  rw [outA_apply, weightOf_apply H, weightOf_apply H, weightOf_apply H, colA, R.v0, R.v1, R.v2, mix_coe]

theorem outB_mix {S : Fin 3 → Fin 3 → FVec Ideal S2x128x1 .f32} (H : Scores r 1 (ix3 i t 0) S) (d : Fin 128) :
    outB (weightOf S 0) (weightOf S 1) (weightOf S 2) (one v0) v1 v2 (ix3 i t d) = (Loss.avg r (Loss.col 1 d) : EReal) := by
  rw [outB_apply, weightOf_apply H, weightOf_apply H, weightOf_apply H, colB, R.v0, R.v1, R.v2, mix_coe]

/-- The attention's output averaged over the tokens. -/
theorem attended_apply (j : Fin 256) : attended q0 k0 v0 q1 k1 v1 q2 k2 v2 (ix3 i t j) = (Loss.avg r j : EReal) := by
  have eA := outA_mix R (scoresA R)
  have eB := outB_mix R (scoresB R)
  have e : attended q0 k0 v0 q1 k1 v1 q2 k2 v2 = concatenate S2x128x256 2
    [⟨S2x128x128, outA (weightOf (matA q0 k0 q1 k1 q2 k2) 0) (weightOf (matA q0 k0 q1 k1 q2 k2) 1) (weightOf (matA q0 k0 q1 k1 q2 k2) 2) (one v0) v1 v2⟩,
      ⟨S2x128x128, outB (weightOf (matB q0 k0 q1 k1 q2 k2) 0) (weightOf (matB q0 k0 q1 k1 q2 k2) 1) (weightOf (matB q0 k0 q1 k1 q2 k2) 2) (one v0) v1 v2⟩]
    concatenates_S2x128x128_S2x128x128_S2x128x256_d2 := rfl
  rw [e]
  generalize outA (weightOf _ 0) _ _ _ _ _ = a at eA ⊢
  generalize outB (weightOf _ 0) _ _ _ _ _ = b at eB ⊢
  by_cases hj : j.val < 128
  · have e := eA ⟨j.val, hj⟩
    rw [← colA] at e
    refine Eq.trans ?_ e
    pointwise [hj]
  · have e := eB ⟨j.val - 128, by omega⟩
    have ec : Loss.col 1 ⟨j.val - 128, by omega⟩ = j := Fin.ext (by show 1 * 128 + (j.val - 128) = j.val; omega)
    rw [ec] at e
    refine Eq.trans ?_ e
    pointwise [hj]

end row

/-- The output layer, the predictor and its bias row, as the body reads them. -/
structure Layers (N : Loss.Net) (wo : Vec Ideal S256x256 .f32) (bo : Vec Ideal S1x256 .f32) (wp : Vec Ideal S256x256 .f32) (bp : Vec Ideal S1x256 .f32) : Prop where
  wo : ∀ k j, wo (ix2 k j) = (N.wo j k : EReal)
  bo : ∀ j, bo (ix2 0 j) = (N.bo j : EReal)
  wp : ∀ k j, wp (ix2 k j) = (if h : j.val < 190 then N.wp ⟨j.val, h⟩ k else 0 : ℝ)
  bp : ∀ l : Fin 190, bp (ix2 0 ⟨l.val, by omega⟩) = (N.bp l : EReal)

section logits
variable {N : Loss.Net} {r : Loss.Row} {i : Fin 2} {t : Fin 128} {wo : Vec Ideal S256x256 .f32} {bo : Vec Ideal S1x256 .f32} {wp : Vec Ideal S256x256 .f32}
  {bp : Vec Ideal S1x256 .f32} (L : Layers N wo bo wp bp)
include L

theorem logits_padded {o : FVec Ideal S2x128x256 .f32} (ho : ∀ j, o (ix3 i t j) = (Loss.avg r j : EReal)) (j : Fin 256) :
    logits o wo bo wp (bias bp) (ix3 i t j) = Loss.padded N r j := by
  have el : ∀ k, (∑ l : Fin 256, o (ix3 i t l) * wo (ix2 l k) + bo (ix2 0 k)) = (Loss.last N r k : EReal) :=
    fun k => Loss.lin_coe ho (fun l => L.wo l k) (L.bo k)
  rw [logits_apply, bias_apply]
  simp only [el]
  unfold Loss.padded
  by_cases h : j.val < 190
  · rw [if_pos h, dif_pos h]
    refine Loss.lin_coe (fun _ => rfl) (fun k => ?_) (L.bp ⟨j.val, h⟩)
    rw [L.wp, dif_pos h]
  · rw [if_neg h, dif_neg h, EReal.add_bot]

variable {l : FVec Ideal S2x128x256 .f32} (hl : ∀ j, l (ix3 i t j) = Loss.padded N r j)
include hl

omit L in
theorem lse_coe : lse l (ix3 i t 0) = ((Loss.top N r + Real.log (Loss.total N r) : ℝ) : EReal) := by
  have et : top l (ix3 i t 0) = (Loss.top N r : EReal) := by
    rw [top_apply, funext hl]; exact Loss.fold_padded N r
  rw [lse_apply, et]
  simp only [hl]
  rw [Loss.sum_exp_padded, Loss.log_total, EReal.coe_add]

omit L in
theorem picked_coe {lab : Vec Ideal S2x128x1 .i32} (c : Fin 190) (hc : lab (ix3 i t 0) = BitVec.ofNat 32 c.val) :
    picked l lab (ix3 i t 0) = (Loss.logit N r c : EReal) := by
  rw [picked_apply, hc, Finset.sum_eq_single (⟨c.val, by omega⟩ : Fin 256)]
  · rw [hl, Loss.padded_lt]
    unfold IntOp.cmpi Scalar.select
    simp
  · intro x _ hx
    have e : BitVec.ofNat 32 x.val ≠ BitVec.ofNat 32 c.val := fun e => hx (Fin.ext (Loss.ofNat_inj x.isLt (by omega) e))
    have e' : (BitVec.ofNat 32 x.val == BitVec.ofNat 32 c.val) = false := beq_eq_false_iff_ne.2 e
    unfold IntOp.cmpi Scalar.select
    simp only [e']
    rfl
  · intro h; exact absurd (Finset.mem_univ _) h

end logits

end Cert.AttnIdeal.Body

end
-- ==== Proof.AttnPoint.lean ====
module

public import proofs.«01_k».proof.Proof.AttnRow
public import Idealize.ShloMosaic.Lib.Pipeline.ValueKit
public import Idealize.ShloMosaic.Lib.Pointwise
public import Idealize.ShloMosaic.Lib.Tactic.CleanTypes

@[expose] public section

set_option maxRecDepth 16384

noncomputable section

open Cert.AttnIdeal Cert.AttnIdeal.Gen Idealize.ShloMosaic

namespace Cert.AttnIdeal.Body

/-! ## A pair's cross entropies, and the four pairs of a point -/

/-- An example's part of the loss. -/
def share (R : Loss.Reals) (b : Fin 128) : ℝ := R.sum b * (1 / R.len b) * (1 / 128)

/-- What the body reads of a pair of examples. -/
structure Pair (R : Loss.Reals) (b : Fin 2 → Fin 128) (tf cf : Vec Ideal S2x128x256 .f32) (q0 k0 v0 : Vec Ideal S2x1x256 .f32)
    (lab : Vec Ideal S2x128x1 .i32) (lw : FVec Ideal S2x128x1 .f32) : Prop where
  tf : ∀ i s k, tf (ix3 i s k) = (R.x (b i) s k : EReal)
  cf : ∀ i s k, cf (ix3 i s k) = (R.y (b i) s k : EReal)
  q0 : ∀ i j, q0 (ix3 i 0 j) = (R.q (b i) j : EReal)
  k0 : ∀ i j, k0 (ix3 i 0 j) = (R.k (b i) j : EReal)
  v0 : ∀ i j, v0 (ix3 i 0 j) = (R.v (b i) j : EReal)
  lab : ∀ i s, lab (ix3 i s 0) = BitVec.ofNat 32 (R.lab (b i) s).val
  lw : ∀ i s, lw (ix3 i s 0) = ((R.lm (b i) s * (1 / R.len (b i)) * (1 / 128) : ℝ) : EReal)

/-- The attention's input layer as the host hands it over: transposed, the queries' part scaled. -/
structure Inputs (R : Loss.Reals) (wq : Vec Ideal S256x256 .f32) (bq : Vec Ideal S1x256 .f32) (wk : Vec Ideal S256x256 .f32) (bk : Vec Ideal S1x256 .f32)
    (wv : Vec Ideal S256x256 .f32) (bv : Vec Ideal S1x256 .f32) : Prop where
  wq : ∀ k j, wq (ix2 k j) = ((R.wi (Loss.inRow 0 j) k * Loss.headScale : ℝ) : EReal)
  bq : ∀ j, bq (ix2 0 j) = ((R.bi (Loss.inRow 0 j) * Loss.headScale : ℝ) : EReal)
  wk : ∀ k j, wk (ix2 k j) = (R.wi (Loss.inRow 1 j) k : EReal)
  bk : ∀ j, bk (ix2 0 j) = (R.bi (Loss.inRow 1 j) : EReal)
  wv : ∀ k j, wv (ix2 k j) = (R.wi (Loss.inRow 2 j) k : EReal)
  bv : ∀ j, bv (ix2 0 j) = (R.bi (Loss.inRow 2 j) : EReal)

section pair
variable {R : Loss.Reals} {wq wk wv wo wp : Vec Ideal S256x256 .f32} {bq bk bv bo bp : Vec Ideal S1x256 .f32}
  (I : Inputs R wq bq wk bk wv bv) (L : Layers R.net wo bo wp bp)
include I

theorem query_coe {x : Vec Ideal S2x128x256 .f32} {i : Fin 2} {s : Fin 128} {z : Fin 256 → ℝ} (hx : ∀ k, x (ix3 i s k) = (z k : EReal)) (j : Fin 256) :
    proj x wq bq (ix3 i s j) = ((R.lin 0 z j * Loss.headScale : ℝ) : EReal) := by
  rw [proj_apply, Loss.lin_coe hx (fun k => I.wq k j) (I.bq j)]
  unfold Loss.Reals.lin
  rw [add_mul, Finset.sum_mul]
  simp only [mul_assoc]

theorem key_coe {x : Vec Ideal S2x128x256 .f32} {i : Fin 2} {s : Fin 128} {z : Fin 256 → ℝ} (hx : ∀ k, x (ix3 i s k) = (z k : EReal)) (j : Fin 256) :
    proj x wk bk (ix3 i s j) = (R.lin 1 z j : EReal) := by
  rw [proj_apply, Loss.lin_coe hx (fun k => I.wk k j) (I.bk j)]
  rfl

theorem value_coe {x : Vec Ideal S2x128x256 .f32} {i : Fin 2} {s : Fin 128} {z : Fin 256 → ℝ} (hx : ∀ k, x (ix3 i s k) = (z k : EReal)) (j : Fin 256) :
    proj x wv bv (ix3 i s j) = (R.lin 2 z j : EReal) := by
  rw [proj_apply, Loss.lin_coe hx (fun k => I.wv k j) (I.bv j)]
  rfl

include L in
/-- A pair's weighted cross entropies, added to a real sum. -/
theorem pair_coe {b : Fin 2 → Fin 128} {tf cf : Vec Ideal S2x128x256 .f32} {q0 k0 v0 : Vec Ideal S2x1x256 .f32}
    {lab : Vec Ideal S2x128x1 .i32} {lw : FVec Ideal S2x128x1 .f32} (P : Pair R b tf cf q0 k0 v0 lab lw) {acc : FVec Ideal S1x1x1 .f32} {a : ℝ}
    (ha : acc (ix3 0 0 0) = (a : EReal)) :
    addPair acc (pairLogits tf cf q0 k0 v0 wq bq wk bk wv bv wo bo wp (bias bp)) lab lw (ix3 0 0 0)
      = ((a + (share R (b 0) + share R (b 1)) : ℝ) : EReal) := by
  have hl : ∀ i s j, pairLogits tf cf q0 k0 v0 wq bq wk bk wv bv wo bo wp (bias bp) (ix3 i s j) = Loss.padded R.net (R.row (b i) s) j := by
    intro i s j
    have rd : Reads (R.row (b i) s) i s q0 k0 v0 (proj tf wq bq) (proj tf wk bk) (proj tf wv bv) (proj cf wq bq) (proj cf wk bk) (proj cf wv bv) :=
      ⟨P.q0 i, P.k0 i, P.v0 i, query_coe I (P.tf i s), key_coe I (P.tf i s), value_coe I (P.tf i s), query_coe I (P.cf i s), key_coe I (P.cf i s),
        value_coe I (P.cf i s)⟩
    exact logits_padded L (attended_apply rd) j
  have ht : ∀ i s, (lse (pairLogits tf cf q0 k0 v0 wq bq wk bk wv bv wo bo wp (bias bp)) (ix3 i s 0)
      - picked (pairLogits tf cf q0 k0 v0 wq bq wk bk wv bv wo bo wp (bias bp)) lab (ix3 i s 0)) * lw (ix3 i s 0)
      = ((Loss.ce R.net (R.row (b i) s) (R.lab (b i) s) * (R.lm (b i) s * (1 / R.len (b i)) * (1 / 128)) : ℝ) : EReal) := by
    intro i s
    rw [lse_coe (hl i s), picked_coe (hl i s) _ (P.lab i s), P.lw, ← EReal.coe_sub, ← EReal.coe_mul]
    rfl
  have es : ∀ i, ∑ s, Loss.ce R.net (R.row (b i) s) (R.lab (b i) s) * (R.lm (b i) s * (1 / R.len (b i)) * (1 / 128)) = share R (b i) := by
    intro i
    unfold share Loss.Reals.sum
    rw [Finset.sum_mul, Finset.sum_mul]
    exact Finset.sum_congr rfl fun s _ => by ring
  rw [addPair_apply, ha, Fin.sum_univ_two]
  simp only [ht]
  rw [← Gru.coe_sum, ← Gru.coe_sum, es, es, ← EReal.coe_add, ← EReal.coe_add]

end pair

/-- Two rows of a block from row `a` on. -/
theorem ld_rows {e : EltTy} {T N : ℕ} (x : Vec Ideal ⟨3, ![8, T, N]⟩ e) (a : ℕ) (ha : a + 2 ≤ 8)
    (inb : ∀ k, (![a, 0, 0] : Fin 3 → ℕ) k + (⟨3, ![2, T, N]⟩ : Shape).size k ≤ (⟨3, ![8, T, N]⟩ : Shape).size k) (i : Fin 2) (s : Fin T) (k : Fin N) :
    View.ld x (Rect.unit (s := ⟨3, ![8, T, N]⟩) ![a, 0, 0] (⟨3, ![2, T, N]⟩ : Shape).size inb) (ix3 i s k) = x (ix3 ⟨a + i.val, by omega⟩ s k) := by
  refine View.ld_unit_apply_of _ _ _ _ _ _ fun q => ?_
  match q with
  | 0 => rfl
  | 1 => exact (Nat.zero_add _).symm
  | 2 => exact (Nat.zero_add _).symm

/-- Example `i` of point `n`. -/
def exampleOf (n : Fin 16) (i : Fin 8) : Fin 128 := ⟨i.val + 8 * n.val, by omega⟩

/-- The blocks of point `n`: eight examples, the weights whole. -/
structure Blocks (R : Loss.Reals) (n : Fin 16) (x0 x1 : Vec Ideal S8x128x256 .f32) (x2 x3 x4 : Vec Ideal S8x1x256 .f32) (x5 : Vec Ideal S8x128x1 .f32)
    (x6 : Vec Ideal S8x128x1 .i32) : Prop where
  h0 : ∀ i s k, x0 (ix3 i s k) = (R.x (exampleOf n i) s k : EReal)
  h1 : ∀ i s k, x1 (ix3 i s k) = (R.y (exampleOf n i) s k : EReal)
  h2 : ∀ i k, x2 (ix3 i 0 k) = (R.q (exampleOf n i) k : EReal)
  h3 : ∀ i k, x3 (ix3 i 0 k) = (R.k (exampleOf n i) k : EReal)
  h4 : ∀ i k, x4 (ix3 i 0 k) = (R.v (exampleOf n i) k : EReal)
  h5 : ∀ i s, x5 (ix3 i s 0) = (R.lm (exampleOf n i) s : EReal)
  h6 : ∀ i s, x6 (ix3 i s 0) = BitVec.ofNat 32 (R.lab (exampleOf n i) s).val

/-- The two rows of the step weights from row `a` on. -/
theorem slice_rows (x : FVec Ideal S8x128x1 .f32) (a : ℕ) (ha : a + 2 ≤ 8) (h : _) (i : Fin 2) (s : Fin 128) :
    extractStridedSlice S2x128x1 ![a, 0, 0] x h (ix3 i s 0) = x (ix3 ⟨a + i.val, by omega⟩ s 0) := by
  pointwise

section point
variable {R : Loss.Reals} {n : Fin 16} {x0 x1 : Vec Ideal S8x128x256 .f32} {x2 x3 x4 : Vec Ideal S8x1x256 .f32} {x5 : Vec Ideal S8x128x1 .f32}
  {x6 : Vec Ideal S8x128x1 .i32} (hR : ∀ b, R.len b ≠ 0) (B : Blocks R n x0 x1 x2 x3 x4 x5 x6)
include hR B

/-- The weight of a step. -/
theorem stepWeight_coe (i : Fin 8) (s : Fin 128) :
    stepWeight x5 (ix3 i s 0) = ((R.lm (exampleOf n i) s * (1 / R.len (exampleOf n i)) * (1 / 128) : ℝ) : EReal) := by
  rw [stepWeight_apply, B.h5]
  simp only [B.h5]
  rw [← Gru.coe_sum]
  show _ * Ideal.div 1 (R.len (exampleOf n i) : EReal) * _ = _
  rw [← EReal.coe_one, Loss.div_coe_coe _ (hR _), one_mul, ← EReal.coe_mul, ← EReal.coe_mul]

/-- The pair of examples from row `a` on. -/
theorem pair_of (a : ℕ) (ha : a + 2 ≤ 8) (b0 : ∀ k, (![a, 0, 0] : Fin 3 → ℕ) k + S2x128x256.size k ≤ S8x128x256.size k)
    (b1 : ∀ k, (![a, 0, 0] : Fin 3 → ℕ) k + S2x1x256.size k ≤ S8x1x256.size k) (b2 : ∀ k, (![a, 0, 0] : Fin 3 → ℕ) k + S2x128x1.size k ≤ S8x128x1.size k)
    (h : S8x128x1.Slices ![a, 0, 0] S2x128x1) :
    Pair R (fun i => exampleOf n ⟨a + i.val, by omega⟩) (View.ld x0 (Rect.unit (s := S8x128x256) ![a, 0, 0] S2x128x256.size b0))
      (View.ld x1 (Rect.unit (s := S8x128x256) ![a, 0, 0] S2x128x256.size b0)) (View.ld x2 (Rect.unit (s := S8x1x256) ![a, 0, 0] S2x1x256.size b1))
      (View.ld x3 (Rect.unit (s := S8x1x256) ![a, 0, 0] S2x1x256.size b1)) (View.ld x4 (Rect.unit (s := S8x1x256) ![a, 0, 0] S2x1x256.size b1))
      (View.ld x6 (Rect.unit (s := S8x128x1) ![a, 0, 0] S2x128x1.size b2)) (extractStridedSlice S2x128x1 ![a, 0, 0] (stepWeight x5) h) where
  tf := fun i s k => (ld_rows x0 a ha b0 i s k).trans (B.h0 _ s k)
  cf := fun i s k => (ld_rows x1 a ha b0 i s k).trans (B.h1 _ s k)
  q0 := fun i k => (ld_rows x2 a ha b1 i 0 k).trans (B.h2 _ k)
  k0 := fun i k => (ld_rows x3 a ha b1 i 0 k).trans (B.h3 _ k)
  v0 := fun i k => (ld_rows x4 a ha b1 i 0 k).trans (B.h4 _ k)
  lab := fun i s => (ld_rows x6 a ha b2 i s 0).trans (B.h6 _ s)
  lw := fun i s => (slice_rows (stepWeight x5) a ha h i s).trans (stepWeight_coe hR B _ s)

end point

theorem whole_mat (x : Vec Ideal S256x256 .f32) : View.ld x r0_3 = x := View.ld_unit_zero (by funext a; fin_cases a <;> rfl) _ _
theorem whole_row (x : Vec Ideal S1x256 .f32) : View.ld x r0_1 = x := View.ld_unit_zero (by funext a; fin_cases a <;> rfl) _ _
theorem whole_mask (x : Vec Ideal S8x128x1 .f32) : View.ld x r0_0 = x := View.ld_unit_zero (by funext a; fin_cases a <;> rfl) _ _

/-- What the body leaves in the result's block: the examples' parts of the loss, summed. -/
theorem out_apply {R : Loss.Reals} {n : Fin 16} {x0 x1 : Vec Ideal S8x128x256 .f32} {x2 x3 x4 : Vec Ideal S8x1x256 .f32} {x5 : Vec Ideal S8x128x1 .f32}
    {x6 : Vec Ideal S8x128x1 .i32} {x7 x9 x11 x13 x15 : Vec Ideal S256x256 .f32} {x8 x10 x12 x14 x16 : Vec Ideal S1x256 .f32}
    (hR : ∀ b, R.len b ≠ 0) (B : Blocks R n x0 x1 x2 x3 x4 x5 x6) (I : Inputs R x7 x8 x9 x10 x11 x12) (L : Layers R.net x13 x14 x15 x16) (y : S1x1x1x1.Idx) :
    out0_17 x0 x1 x2 x3 x4 x5 x6 x7 x8 x9 x10 x11 x12 x13 x14 x15 x16 y = ((∑ i, share R (exampleOf n i) : ℝ) : EReal) := by
  rw [out_eq, View.canon_cons_unit_lit _ _ _ (by intro a; fin_cases a <;> rfl)]
  simp only [step, whole_mat, whole_row, whole_mask]
  have p0 := pair_coe I L (pair_of hR B 0 (by omega) inb_S8x128x256_S2x128x256_0_0_0 inb_S8x1x256_S2x1x256_0_0_0 inb_S8x128x1_S2x128x1_0_0_0
    slices_S8x128x1_o0_0_0_S2x128x1) (acc := broadcast S1x1x1 (Scalar.ofBits .f32 0x00000000#32)) (a := 0) (by pointwise; exact EReal.coe_zero.symm)
  have p1 := pair_coe I L (pair_of hR B 2 (by omega) inb_S8x128x256_S2x128x256_2_0_0 inb_S8x1x256_S2x1x256_2_0_0 inb_S8x128x1_S2x128x1_2_0_0
    slices_S8x128x1_o2_0_0_S2x128x1) p0
  have p2 := pair_coe I L (pair_of hR B 4 (by omega) inb_S8x128x256_S2x128x256_4_0_0 inb_S8x1x256_S2x1x256_4_0_0 inb_S8x128x1_S2x128x1_4_0_0
    slices_S8x128x1_o4_0_0_S2x128x1) p1
  have p3 := pair_coe I L (pair_of hR B 6 (by omega) inb_S8x128x256_S2x128x256_6_0_0 inb_S8x1x256_S2x1x256_6_0_0 inb_S8x128x1_S2x128x1_6_0_0
    slices_S8x128x1_o6_0_0_S2x128x1) p2
  have ey : ∀ x : FVec Ideal S1x1x1 .f32, shapeCast S1x1x1x1 x shapeCasts_S1x1x1_S1x1x1x1 y = x (ix3 0 0 0) := by
    intro x
    obtain ⟨a, b, c, d, rfl⟩ : ∃ a b c d : Fin 1, y = ix4 a b c d := ⟨y 0, y 1, y 2, y 3, by funext q; match q with | 0 => rfl | 1 => rfl | 2 => rfl | 3 => rfl⟩
    obtain rfl : a = 0 := Subsingleton.elim _ _
    obtain rfl : b = 0 := Subsingleton.elim _ _
    obtain rfl : c = 0 := Subsingleton.elim _ _
    obtain rfl : d = 0 := Subsingleton.elim _ _
    pointwise
  rw [ey]
  refine p3.trans (congrArg _ ?_)
  rw [Fin.sum_univ_eight]
  show 0 + (share R (exampleOf n 0) + share R (exampleOf n 1)) + (share R (exampleOf n 2) + share R (exampleOf n 3))
    + (share R (exampleOf n 4) + share R (exampleOf n 5)) + (share R (exampleOf n 6) + share R (exampleOf n 7)) = _
  ring

end Cert.AttnIdeal.Body

end
-- ==== Proof.AttnHost.lean ====
module

public import proofs.«01_k».proof.Proof.AttnPoint
public import proofs.«01_k».proof.Proof.Gen.AttnIdeal.Frame
public import Idealize.ShloMosaic.Lib.StableHlo.RunClose
public import Idealize.ShloMosaic.Lib.Routing.OpsSet
public import Idealize.ShloMosaic.Lib.Routing.OpsOne
public import Idealize.ShloMosaic.Lib.Tactic.CleanTypes

@[expose] public section

set_option maxRecDepth 16384

noncomputable section

open Idealize.ShloMosaic Idealize.ShloMosaic.Routing Idealize.SL.Sem Cert.AttnIdeal Cert.AttnIdeal.Gen Cert.AttnIdeal.Body

namespace Cert.AttnIdeal.Alg

/-! ## The padded prediction layer -/

/-- The prediction matrix transposed and set into the left columns of a zero matrix. -/
def padW (w : FVec Ideal S190x256 .f32) : FVec Ideal S256x256 .f32 :=
  Host.scatter scatter_S256x256_S1_S256x190_01_n_1_0 (fun _ b => b)
    (broadcastInDim S256x256 ![] bcast_S_S256x256 (constant (F := Ideal) S_ .f32 0x00000000#32))
    (broadcastInDim S1 ![] bcast_S_S1 (constantI S_ 32 0#32)) (transpose S256x190 [1, 0] w transposes_S190x256_S256x190_1_0)

/-- The prediction bias set into the left entries of a row. -/
def padB (b : FVec Ideal S190 .f32) : FVec Ideal S1x256 .f32 :=
  Host.scatter scatter_S1x256_S2_S190_0_0_01_0 (fun _ b => b)
    (broadcastInDim S1x256 ![] bcast_S_S1x256 (constant (F := Ideal) S_ .f32 0xF149F2CA#32))
    (concatenate S2 0 [⟨S1, broadcastInDim S1 ![] bcast_S_S1 (constantI S_ 32 0#32)⟩, ⟨S1, broadcastInDim S1 ![] bcast_S_S1 (constantI S_ 32 0#32)⟩]
      concatenates_S1_S1_S2_d0) b

/-- Entry `(p, q)` of the prediction matrix lands at entry `(p, q)`. -/
theorem lands_padW (idx : IVec S1 32) (h0 : idx (ix1 0) = 0#32) (p : Fin 256) (q : Fin 190) (k j : Fin 256) :
    scatter_S256x256_S1_S256x190_01_n_1_0.resultIdx? (ix2 p q) idx = some (ix2 k j) ↔ p = k ∧ q.val = j.val := by
  have hw0 : scatter_S256x256_S1_S256x190_01_n_1_0.window (ix2 p q) 0 = p.val := by
    unfold ScatterDims.window
    rw [dif_pos (by decide)]
    rfl
  have hw1 : scatter_S256x256_S1_S256x190_01_n_1_0.window (ix2 p q) 1 = q.val := by
    unfold ScatterDims.window
    rw [dif_pos (by decide)]
    rfl
  have hs0 : scatter_S256x256_S1_S256x190_01_n_1_0.start (ix2 p q) idx 0 = 0 := by
    unfold ScatterDims.start
    rw [dif_neg (by decide)]
  have hs1 : scatter_S256x256_S1_S256x190_01_n_1_0.start (ix2 p q) idx 1 = 0 := by
    unfold ScatterDims.start
    rw [dif_pos (by decide)]
    have hsi : ∀ i, scatter_S256x256_S1_S256x190_01_n_1_0.siIdx (ix2 p q) i = ix1 (0 : Fin 1) := fun i => by
      funext b
      match b with
      | ⟨0, _⟩ => exact Subsingleton.elim (α := Fin 1) _ _
    rw [hsi, h0]
    rfl
  rw [Fin.ext_iff]
  refine (resultIdx?_ix2 _ _ _ _ _).trans ?_
  rw [hs0, hw0, hs1, hw1]
  omega

/-- Entry `q` of the prediction bias lands at entry `(0, q)`. -/
theorem lands_padB (idx : IVec S2 32) (h0 : ∀ a, idx (ix1 a) = 0#32) (q : Fin 190) (j : Fin 256) :
    scatter_S1x256_S2_S190_0_0_01_0.resultIdx? (ix1 q) idx = some (ix2 0 j) ↔ q.val = j.val := by
  have hw0 : scatter_S1x256_S2_S190_0_0_01_0.window (ix1 q) 0 = 0 := by
    unfold ScatterDims.window
    rw [dif_neg (by decide)]
  have hw1 : scatter_S1x256_S2_S190_0_0_01_0.window (ix1 q) 1 = q.val := by
    unfold ScatterDims.window
    rw [dif_pos (by decide)]
    rfl
  have hs : ∀ a, scatter_S1x256_S2_S190_0_0_01_0.start (ix1 q) idx a = 0 := fun a => by
    refine (start_pair _ rfl rfl idx (ix1 q) a).trans ?_
    exact congrArg BitVec.toInt (h0 a)
  refine (resultIdx?_ix2 _ _ _ _ _).trans ?_
  rw [hs, hw0, hs, hw1]
  simp

theorem padW_apply {N : Loss.Net} {w : FVec Ideal S190x256 .f32} (hw : ∀ l k, w (ix2 l k) = (N.wp l k : EReal)) (k j : Fin 256) :
    padW w (ix2 k j) = ((if h : j.val < 190 then N.wp ⟨j.val, h⟩ k else 0 : ℝ) : EReal) := by
  have h0 : (broadcastInDim S1 ![] bcast_S_S1 (constantI S_ 32 0#32) : IVec S1 32) (ix1 0) = 0#32 := rfl
  have two : ∀ y : S256x190.Idx, ∃ (p : Fin 256) (q : Fin 190), y = ix2 p q := fun y => ⟨y 0, y 1, by funext a; match a with | 0 => rfl | 1 => rfl⟩
  unfold padW
  by_cases h : j.val < 190
  · rw [dif_pos h]
    refine scatter_set_hit _ _ _ _ _ _ (fun y hy => ?_) (ix2 k ⟨j.val, h⟩) ((lands_padW _ h0 _ _ _ _).2 ⟨rfl, rfl⟩)
    obtain ⟨p, q, rfl⟩ := two y
    obtain ⟨rfl, hq⟩ := (lands_padW _ h0 _ _ _ _).1 hy
    obtain rfl : q = ⟨j.val, h⟩ := Fin.ext hq
    rw [← hw]
    pointwise
  · rw [dif_neg h]
    refine (scatter_set_miss _ _ _ _ _ fun y hy => ?_).trans ?_
    · obtain ⟨p, q, rfl⟩ := two y
      have := ((lands_padW _ h0 _ _ _ _).1 hy).2
      omega
    · pointwise
      exact EReal.coe_zero.symm

theorem padB_apply {N : Loss.Net} {b : FVec Ideal S190 .f32} (hb : ∀ l, b (ix1 l) = (N.bp l : EReal)) (l : Fin 190) :
    padB b (ix2 0 ⟨l.val, by omega⟩) = (N.bp l : EReal) := by
  have h0 : ∀ a, (concatenate S2 0 [⟨S1, broadcastInDim S1 ![] bcast_S_S1 (constantI S_ 32 0#32)⟩, ⟨S1, broadcastInDim S1 ![] bcast_S_S1 (constantI S_ 32 0#32)⟩]
      concatenates_S1_S1_S2_d0 : IVec S2 32) (ix1 a) = 0#32 := fun a => by
    fin_cases a <;> rfl
  unfold padB
  refine scatter_set_hit _ _ _ _ _ _ (fun y hy => ?_) (ix1 l) ((lands_padB _ h0 _ _).2 rfl)
  obtain ⟨q, rfl⟩ : ∃ q : Fin 190, y = ix1 q := ⟨y 0, by funext a; match a with | 0 => rfl⟩
  obtain rfl : q = l := Fin.ext ((lands_padB _ h0 _ _).1 hy)
  exact hb q

/-! ## The arrays the host hands to the region -/

variable (m : (ℓ : Loc nD τ sig) → Buf (Elt Ideal) ℓ) (c : Dev nD)

/-- The call's arguments. -/
def args : Loss.Args where
  x := m ((c.tc : Thread nD τ).loc main_arg0)
  y := m ((c.tc : Thread nD τ).loc main_arg1)
  q := m ((c.tc : Thread nD τ).loc main_arg2)
  k := m ((c.tc : Thread nD τ).loc main_arg3)
  v := m ((c.tc : Thread nD τ).loc main_arg4)
  lm := m ((c.tc : Thread nD τ).loc main_arg5)
  lab := m ((c.tc : Thread nD τ).loc main_arg6)
  wi := m ((c.tc : Thread nD τ).loc main_arg7)
  bi := m ((c.tc : Thread nD τ).loc main_arg8)
  wo := m ((c.tc : Thread nD τ).loc main_arg9)
  bo := m ((c.tc : Thread nD τ).loc main_arg10)
  wp := m ((c.tc : Thread nD τ).loc main_arg11)
  bp := m ((c.tc : Thread nD τ).loc main_arg12)

/-- One over the square root of a head's width, as the host computes it. -/
def hscale : FVec Ideal S_ .f32 :=
  Host.divf (F := Ideal) (φ := .f32) (constant (F := Ideal) S_ .f32 0x3F800000#32) (Host.sqrt (F := Ideal) (φ := .f32) (constant (F := Ideal) S_ .f32 0x43000000#32))

theorem hscale_apply (y : S_.Idx) : hscale y = (Loss.headScale : EReal) := by
  rw [← Loss.headScale_coe]
  unfold hscale
  obtain rfl : y = ix0 := Subsingleton.elim _ _
  pointwise

set_option maxHeartbeats 2000000 in
/-- The attention's input layers the host hands to the region. -/
theorem V_inputs : V m c main_call0_v10 = mulf (F := Ideal) (φ := .f32)
      (transpose S256x256 [1, 0] (extractStridedSlice S256x256 ![0, 0] (args m c).wi slices_S768x256_S256x256_0_0) transposes_S256x256_S256x256_1_0)
      (broadcastInDim S256x256 ![] bcast_S_S256x256 hscale)
    ∧ V m c main_call0_v13 = mulf (F := Ideal) (φ := .f32)
      (shapeCast S1x256 (extractStridedSlice S256 ![0] (args m c).bi slices_S768_S256_0) shapeCasts_S256_S1x256)
      (broadcastInDim S1x256 ![] bcast_S_S1x256 hscale)
    ∧ V m c main_call0_v14
      = transpose S256x256 [1, 0] (extractStridedSlice S256x256 ![256, 0] (args m c).wi slices_S768x256_S256x256_256_0) transposes_S256x256_S256x256_1_0
    ∧ V m c main_call0_v15 = shapeCast S1x256 (extractStridedSlice S256 ![256] (args m c).bi slices_S768_S256_256) shapeCasts_S256_S1x256
    ∧ V m c main_call0_v16
      = transpose S256x256 [1, 0] (extractStridedSlice S256x256 ![512, 0] (args m c).wi slices_S768x256_S256x256_512_0) transposes_S256x256_S256x256_1_0
    ∧ V m c main_call0_v17 = shapeCast S1x256 (extractStridedSlice S256 ![512] (args m c).bi slices_S768_S256_512) shapeCasts_S256_S1x256 := by
  refine ⟨?_, ?_, ?_, ?_, ?_, ?_⟩ <;>
  · unfold V V0
    simp only [hostOps0, List.flatten_cons, List.flatten_nil, List.append_nil, List.cons_append, List.nil_append]
    after_results_entrywise []

set_option maxHeartbeats 2000000 in
/-- The output layer the host hands to the region. -/
theorem V_out : V m c main_call0_v18 = transpose S256x256 [1, 0] (args m c).wo transposes_S256x256_S256x256_1_0
    ∧ V m c main_call0_v19 = shapeCast S1x256 (args m c).bo shapeCasts_S256_S1x256 := by
  refine ⟨?_, ?_⟩ <;>
  · unfold V V0
    simp only [hostOps0, List.flatten_cons, List.flatten_nil, List.append_nil, List.cons_append, List.nil_append]
    after_results_entrywise []

/-! The scatters are read from what the host holds just before: of a scatter only its operands are compared. -/

/-- What the host holds after its first `n` operations. -/
abbrev hostAt (n : ℕ) : Valuation τ sig (Elt Ideal) := StableHlo.after (hostOps0.take n) (fun b => m (c, b))

theorem hostAt_27 : hostAt m c 27 (Proc.devRef .tc main_call0_v20) = broadcastInDim S256x256 ![] bcast_S_S256x256 (constant (F := Ideal) S_ .f32 0x00000000#32)
    ∧ hostAt m c 27 (Proc.devRef .tc main_call0_v22) = broadcastInDim S1 ![] bcast_S_S1 (constantI S_ 32 0#32)
    ∧ hostAt m c 27 (Proc.devRef .tc main_call0_v21) = transpose S256x190 [1, 0] (args m c).wp transposes_S190x256_S256x190_1_0 := by
  refine ⟨?_, ?_, ?_⟩ <;>
  · unfold hostAt
    simp only [hostOps0, List.take_succ_cons, List.take_zero]
    after_results_entrywise []

theorem hostAt_34 : hostAt m c 34 (Proc.devRef .tc main_call0_v24) = broadcastInDim S1x256 ![] bcast_S_S1x256 (constant (F := Ideal) S_ .f32 0xF149F2CA#32)
    ∧ hostAt m c 34 (Proc.devRef .tc main_call0_v25) = broadcastInDim S1 ![] bcast_S_S1 (constantI S_ 32 0#32)
    ∧ hostAt m c 34 (Proc.devRef .tc main_call0_v26) = broadcastInDim S1 ![] bcast_S_S1 (constantI S_ 32 0#32)
    ∧ hostAt m c 34 (Proc.devRef .tc main_arg12) = (args m c).bp := by
  refine ⟨?_, ?_, ?_, ?_⟩ <;>
  · unfold hostAt
    simp only [hostOps0, List.take_succ_cons, List.take_zero]
    after_results_entrywise []

/-- What the host's operation of three operands on the prediction matrix leaves, whatever it computes. -/
theorem read_23 (f : FVec Ideal S256x256 .f32 → IVec S1 32 → FVec Ideal S256x190 .f32 → FVec Ideal S256x256 .f32) (W : Valuation τ sig (Elt Ideal)) :
    StableHlo.after (StableHlo.TRef.ternary (.of main_call0_v20 : StableHlo.TRef sig ⟨S256x256, .f32⟩) (.of main_call0_v22 : StableHlo.TRef sig ⟨S1, .i32⟩)
        (.of main_call0_v21 : StableHlo.TRef sig ⟨S256x190, .f32⟩) (.of main_call0_v23 : StableHlo.TRef sig ⟨S256x256, .f32⟩) f :: hostOps0.drop 28) W
        (Proc.devRef .tc main_call0_v23)
      = f (W (Proc.devRef .tc main_call0_v20)) (W (Proc.devRef .tc main_call0_v22)) (W (Proc.devRef .tc main_call0_v21)) := by
  simp only [hostOps0, List.drop_succ_cons, List.drop_zero]
  after_results_simp_entrywise
  rfl

/-- The padded prediction matrix, of what the host holds before its scatter. -/
theorem padW_of (W : Valuation τ sig (Elt Ideal)) (wp : FVec Ideal S190x256 .f32)
    (h20 : W (Proc.devRef .tc main_call0_v20) = broadcastInDim S256x256 ![] bcast_S_S256x256 (constant (F := Ideal) S_ .f32 0x00000000#32))
    (h22 : W (Proc.devRef .tc main_call0_v22) = broadcastInDim S1 ![] bcast_S_S1 (constantI S_ 32 0#32))
    (h21 : W (Proc.devRef .tc main_call0_v21) = transpose S256x190 [1, 0] wp transposes_S190x256_S256x190_1_0) :
    StableHlo.after (hostOps0.drop 27) W (Proc.devRef .tc main_call0_v23) = padW wp := by
  have e : (hostOps0 : List (HloOp τ sig (Elt Ideal))).drop 27 = _ :: hostOps0.drop 28 := List.drop_eq_getElem_cons (by decide)
  rw [e]
  refine (read_23 (fun x i u => Host.scatter scatter_S256x256_S1_S256x190_01_n_1_0 (fun _ b => b) x i u) W).trans ?_
  unfold padW
  rw [h20, h22, h21]

/-- The padded prediction bias, of what the host holds before it pairs the index words. -/
theorem padB_of (W : Valuation τ sig (Elt Ideal))
    (h24 : W (Proc.devRef .tc main_call0_v24) = broadcastInDim S1x256 ![] bcast_S_S1x256 (constant (F := Ideal) S_ .f32 0xF149F2CA#32))
    (h25 : W (Proc.devRef .tc main_call0_v25) = broadcastInDim S1 ![] bcast_S_S1 (constantI S_ 32 0#32))
    (h26 : W (Proc.devRef .tc main_call0_v26) = broadcastInDim S1 ![] bcast_S_S1 (constantI S_ 32 0#32)) :
    StableHlo.after (hostOps0.drop 34) W (Proc.devRef .tc main_call0_v28) = padB (W (Proc.devRef .tc main_arg12)) := by
  have pair : ∀ {p p' q q' : IVec S1 32}, p = p' → q = q' → (concatenate S2 0 [⟨S1, p⟩, ⟨S1, q⟩] concatenates_S1_S1_S2_d0 : IVec S2 32)
      = concatenate S2 0 [⟨S1, p'⟩, ⟨S1, q'⟩] concatenates_S1_S1_S2_d0 := by
    rintro p _ q _ rfl rfl
    rfl
  simp only [hostOps0, List.drop_succ_cons, List.drop_zero]
  after_results_simp_entrywise
  unfold padB
  simp only [StableHlo.TRef.toBuf, StableHlo.TRef.ofBuf, cast_eq]
  rw [h24]
  with_reducible congr 1
  exact pair h25 h26

/-- The host's operations, cut after the first `n`. -/
theorem V_cut (n : ℕ) (b : Ref sig .tc) : V m c b = StableHlo.after (hostOps0.drop n) (hostAt m c n) (Proc.devRef .tc b) := by
  have app : ∀ (k l : List (HloOp τ sig (Elt Ideal))) (W : Valuation τ sig (Elt Ideal)), StableHlo.after (k ++ l) W = StableHlo.after l (StableHlo.after k W) := by
    intro k l
    induction k with
    | nil => exact fun _ => rfl
    | cons op k ih => exact fun W => ih _
  unfold V V0 hostAt
  rw [← app, List.take_append_drop, List.flatten_cons, List.flatten_nil, List.append_nil]

/-- The padded prediction layer the host hands to the region. -/
theorem V_pad : V m c main_call0_v23 = padW (args m c).wp ∧ V m c main_call0_v28 = padB (args m c).bp := by
  obtain ⟨h20, h22, h21⟩ := hostAt_27 m c
  obtain ⟨h24, h25, h26, h12⟩ := hostAt_34 m c
  refine ⟨(V_cut m c 27 _).trans (padW_of _ _ h20 h22 h21), (V_cut m c 34 _).trans ((padB_of _ h24 h25 h26).trans ?_)⟩
  rw [h12]

set_option maxHeartbeats 2000000 in
/-- The arguments the host reshapes for the windows. -/
theorem V_args : V m c main_call0_v29 = shapeCast S128x1x256 (args m c).q shapeCasts_S128x256_S128x1x256
    ∧ V m c main_call0_v30 = shapeCast S128x1x256 (args m c).k shapeCasts_S128x256_S128x1x256
    ∧ V m c main_call0_v31 = shapeCast S128x1x256 (args m c).v shapeCasts_S128x256_S128x1x256
    ∧ V m c main_call0_v32 = shapeCast S128x128x1 (args m c).lm shapeCasts_S128x128_S128x128x1
    ∧ V m c main_call0_v33 = shapeCast S128x128x1 (args m c).lab shapeCasts_S128x128_S128x128x1 := by
  refine ⟨?_, ?_, ?_, ?_, ?_⟩ <;>
  · unfold V V0
    simp only [hostOps0, List.flatten_cons, List.flatten_nil, List.append_nil, List.cons_append, List.nil_append]
    after_results_entrywise []

/-! ## The blocks the windows stage -/

/-- A point of the grid, counted. -/
def pt (t : Fin cfg0.N) : Fin 16 := ⟨t.val, lt_of_lt_of_eq t.isLt N_0⟩

set_option maxHeartbeats 2000000 in
/-- The windows of weights stage their whole arrays at every point. -/
theorem iblk_whole (t : Fin cfg0.N) :
    ((iblk m c 7 t : Vec Ideal S256x256 .f32) = V m c main_call0_v10 ∧ (iblk m c 8 t : Vec Ideal S1x256 .f32) = V m c main_call0_v13
    ∧ (iblk m c 9 t : Vec Ideal S256x256 .f32) = V m c main_call0_v14 ∧ (iblk m c 10 t : Vec Ideal S1x256 .f32) = V m c main_call0_v15
    ∧ (iblk m c 11 t : Vec Ideal S256x256 .f32) = V m c main_call0_v16 ∧ (iblk m c 12 t : Vec Ideal S1x256 .f32) = V m c main_call0_v17)
    ∧ (iblk m c 13 t : Vec Ideal S256x256 .f32) = V m c main_call0_v18 ∧ (iblk m c 14 t : Vec Ideal S1x256 .f32) = V m c main_call0_v19
    ∧ (iblk m c 15 t : Vec Ideal S256x256 .f32) = V m c main_call0_v23 ∧ (iblk m c 16 t : Vec Ideal S1x256 .f32) = V m c main_call0_v28 := by
  refine ⟨⟨?_, ?_, ?_, ?_, ?_, ?_⟩, ?_, ?_, ?_, ?_⟩ <;>
  · funext y
    unfold iblk
    rw [View.read_apply]
    show V m c _ _ = V m c _ _
    congr 1
    funext a
    apply Fin.ext
    match a with
    | ⟨0, _⟩ => show 0 * _ + 1 * (y 0).val = (y 0).val; omega
    | ⟨1, _⟩ => show 0 * _ + 1 * (y 1).val = (y 1).val; omega

set_option maxHeartbeats 2000000 in
/-- The first seven windows stage the eight examples of the point. -/
theorem iblk_point (t : Fin cfg0.N) (i : Fin 8) :
    (∀ s k, (iblk m c 0 t : Vec Ideal S8x128x256 .f32) (ix3 i s k) = (V m c main_arg0 : Vec Ideal S128x128x256 .f32) (ix3 (exampleOf (pt t) i) s k))
    ∧ (∀ s k, (iblk m c 1 t : Vec Ideal S8x128x256 .f32) (ix3 i s k) = (V m c main_arg1 : Vec Ideal S128x128x256 .f32) (ix3 (exampleOf (pt t) i) s k))
    ∧ (∀ k, (iblk m c 2 t : Vec Ideal S8x1x256 .f32) (ix3 i 0 k) = (V m c main_call0_v29 : Vec Ideal S128x1x256 .f32) (ix3 (exampleOf (pt t) i) 0 k))
    ∧ (∀ k, (iblk m c 3 t : Vec Ideal S8x1x256 .f32) (ix3 i 0 k) = (V m c main_call0_v30 : Vec Ideal S128x1x256 .f32) (ix3 (exampleOf (pt t) i) 0 k))
    ∧ (∀ k, (iblk m c 4 t : Vec Ideal S8x1x256 .f32) (ix3 i 0 k) = (V m c main_call0_v31 : Vec Ideal S128x1x256 .f32) (ix3 (exampleOf (pt t) i) 0 k))
    ∧ (∀ s, (iblk m c 5 t : Vec Ideal S8x128x1 .f32) (ix3 i s 0) = (V m c main_call0_v32 : Vec Ideal S128x128x1 .f32) (ix3 (exampleOf (pt t) i) s 0))
    ∧ (∀ s, (iblk m c 6 t : Vec Ideal S8x128x1 .i32) (ix3 i s 0) = (V m c main_call0_v33 : Vec Ideal S128x128x1 .i32) (ix3 (exampleOf (pt t) i) s 0)) := by
  have h : ∀ t : Fin cfg0.N, (win0_0.index t 0 = t.val ∧ win0_1.index t 0 = t.val ∧ win0_2.index t 0 = t.val ∧ win0_3.index t 0 = t.val
      ∧ win0_4.index t 0 = t.val ∧ win0_5.index t 0 = t.val ∧ win0_6.index t 0 = t.val) := by decide +kernel
  obtain ⟨h0, h1, h2, h3, h4, h5, h6⟩ := h t
  refine ⟨fun s k => ?_, fun s k => ?_, fun k => ?_, fun k => ?_, fun k => ?_, fun s => ?_, fun s => ?_⟩
  all_goals
    unfold iblk
    rw [View.read_apply]
    show V m c _ _ = V m c _ _
    congr 1
    funext a
    apply Fin.ext
  · match a with
    | ⟨0, _⟩ => show win0_0.index t 0 * 8 + 1 * i.val = i.val + 8 * t.val; rw [h0]; omega
    | ⟨1, _⟩ => show 0 * _ + 1 * s.val = s.val; omega
    | ⟨2, _⟩ => show 0 * _ + 1 * k.val = k.val; omega
  · match a with
    | ⟨0, _⟩ => show win0_1.index t 0 * 8 + 1 * i.val = i.val + 8 * t.val; rw [h1]; omega
    | ⟨1, _⟩ => show 0 * _ + 1 * s.val = s.val; omega
    | ⟨2, _⟩ => show 0 * _ + 1 * k.val = k.val; omega
  · match a with
    | ⟨0, _⟩ => show win0_2.index t 0 * 8 + 1 * i.val = i.val + 8 * t.val; rw [h2]; omega
    | ⟨1, _⟩ => rfl
    | ⟨2, _⟩ => show 0 * _ + 1 * k.val = k.val; omega
  · match a with
    | ⟨0, _⟩ => show win0_3.index t 0 * 8 + 1 * i.val = i.val + 8 * t.val; rw [h3]; omega
    | ⟨1, _⟩ => rfl
    | ⟨2, _⟩ => show 0 * _ + 1 * k.val = k.val; omega
  · match a with
    | ⟨0, _⟩ => show win0_4.index t 0 * 8 + 1 * i.val = i.val + 8 * t.val; rw [h4]; omega
    | ⟨1, _⟩ => rfl
    | ⟨2, _⟩ => show 0 * _ + 1 * k.val = k.val; omega
  · match a with
    | ⟨0, _⟩ => show win0_5.index t 0 * 8 + 1 * i.val = i.val + 8 * t.val; rw [h5]; omega
    | ⟨1, _⟩ => show 0 * _ + 1 * s.val = s.val; omega
    | ⟨2, _⟩ => rfl
  · match a with
    | ⟨0, _⟩ => show win0_6.index t 0 * 8 + 1 * i.val = i.val + 8 * t.val; rw [h6]; omega
    | ⟨1, _⟩ => show 0 * _ + 1 * s.val = s.val; omega
    | ⟨2, _⟩ => rfl

variable {m c} {R : Loss.Reals} (H : Loss.IsReal (args m c) R)
include H

/-- The blocks of a point over the reals. -/
theorem blocks (t : Fin cfg0.N) : Blocks R (pt t) (iblk m c 0 t) (iblk m c 1 t) (iblk m c 2 t) (iblk m c 3 t) (iblk m c 4 t) (iblk m c 5 t) (iblk m c 6 t) := by
  have v0 := V_main_arg0 m c
  have v1 := V_main_arg1 m c
  obtain ⟨v2, v3, v4, v5, v6⟩ := V_args m c
  refine ⟨fun i s k => ?_, fun i s k => ?_, fun i k => ?_, fun i k => ?_, fun i k => ?_, fun i s => ?_, fun i s => ?_⟩ <;>
    obtain ⟨e0, e1, e2, e3, e4, e5, e6⟩ := iblk_point m c t i
  · rw [e0, v0]; exact H.x _ _ _
  · rw [e1, v1]; exact H.y _ _ _
  · rw [e2, v2, ← H.q]; pointwise
  · rw [e3, v3, ← H.k]; pointwise
  · rw [e4, v4, ← H.v]; pointwise
  · rw [e5, v5, ← H.lm]; pointwise
  · rw [e6, v6, ← H.lab]; pointwise

/-- The attention's input layers over the reals. -/
theorem inputs (t : Fin cfg0.N) : Inputs R (iblk m c 7 t) (iblk m c 8 t) (iblk m c 9 t) (iblk m c 10 t) (iblk m c 11 t) (iblk m c 12 t) := by
  obtain ⟨v7, v8, v9, v10, v11, v12⟩ := V_inputs m c
  obtain ⟨⟨e7, e8, e9, e10, e11, e12⟩, -⟩ := iblk_whole m c t
  have hs := hscale_apply
  have r0 : ∀ j : Fin 256, Loss.inRow 0 j = ⟨j.val, by omega⟩ := fun j => Fin.ext (by simp [Loss.inRow])
  refine ⟨fun k j => ?_, fun j => ?_, fun k j => ?_, fun j => ?_, fun k j => ?_, fun j => ?_⟩
  · rw [e7, v7, EReal.coe_mul, ← hs ix0, ← H.wi, r0]; generalize hscale = s; pointwise
  · rw [e8, v8, EReal.coe_mul, ← hs ix0, ← H.bi, r0]; generalize hscale = s; pointwise
  · rw [e9, v9, ← H.wi]; pointwise; rfl
  · rw [e10, v10, ← H.bi]; pointwise; rfl
  · rw [e11, v11, ← H.wi]; pointwise; rfl
  · rw [e12, v12, ← H.bi]; pointwise; rfl

/-- The output and the prediction layer over the reals. -/
theorem layers (t : Fin cfg0.N) : Layers R.net (iblk m c 13 t) (iblk m c 14 t) (iblk m c 15 t) (iblk m c 16 t) := by
  obtain ⟨v13, v14⟩ := V_out m c
  obtain ⟨v15, v16⟩ := V_pad m c
  obtain ⟨-, e13, e14, e15, e16⟩ := iblk_whole m c t
  refine ⟨fun k j => ?_, fun j => ?_, fun k j => ?_, fun l => ?_⟩
  · rw [e13, v13, ← H.wo]; pointwise
  · rw [e14, v14, ← H.bo]; pointwise
  · rw [e15, v15]; exact padW_apply H.wp k j
  · rw [e16, v16]; exact padB_apply H.bp l

end Cert.AttnIdeal.Alg

end
-- ==== Proof.AttnValue.lean ====
module

public import proofs.«01_k».proof.Proof.AttnHost
public import Idealize.ShloMosaic.Lib.Pipeline.Value
public import Idealize.ShloMosaic.Lib.Pointwise

@[expose] public section

set_option maxRecDepth 16384

noncomputable section

open Idealize.ShloMosaic Idealize.SL.Sem Cert.AttnIdeal Cert.AttnIdeal.Gen Cert.AttnIdeal.Body

namespace Cert.AttnIdeal.Alg

variable (m : (ℓ : Loc nD τ sig) → Buf (Elt Ideal) ℓ) (c : Dev nD)

/-! ## What the region leaves in the array of partial losses -/

/-- What point `t` writes back: its total. -/
theorem flushed_part (t : Fin cfg0.N) : (dats m 0 c).flushed 17 t = (cfg0.win 17).cut (grid0.coords t)
    (out0_17 (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (iblk m c 14 t) (iblk m c 15 t) (iblk m c 16 t)) :=
  congrArg ((cfg0.win 17).cut (grid0.coords t)) (after0_17 m c t)

/-- Two points write back different entries. -/
theorem parts_disjoint (t t' : Fin cfg0.N) (h : t ≠ t') : Disjoint ((cfg0.win 17).blk t).view.set ((cfg0.win 17).blk t').view.set := by
  have inj : ∀ t t' : Fin grid0.N, win0_17.index t = win0_17.index t' → t = t' := by decide +kernel
  exact (cfg0.win 17).disjoint_blk fun e => h (inj t t' e)

variable {m c} {R : Loss.Reals} (H : Loss.IsReal (args m c) R)
include H

/-- After the last point entry `n` holds the shares of the point's eight examples. -/
theorem part_apply (n : Fin 16) : ((dats m 0 c).arrAt 17 cfg0.N : Vec Ideal S1x16x1x1 .f32) (ix4 0 n 0 0)
    = ((∑ i, share R (exampleOf n i) : ℝ) : EReal) := by
  obtain ⟨t, rfl⟩ : ∃ t : Fin cfg0.N, n = pt t := ⟨⟨n.val, lt_of_lt_of_eq n.isLt N_0.symm⟩, rfl⟩
  have hi : ∀ t : Fin cfg0.N, win0_17.index t 0 = 0 ∧ win0_17.index t 1 = t.val := by decide +kernel
  have e := congrFun ((dats m 0 c).read_blk_arrAt_eq_flushed 17 (fun t t' _ _ h => parts_disjoint t t' h) cfg0.N t t.isLt (flush0_17 t)) (ix4 0 0 0 0)
  rw [View.read_apply, flushed_part] at e
  refine Eq.trans ?_ (e.trans ?_)
  · show (dats m 0 c).arrAt 17 cfg0.N _ = (dats m 0 c).arrAt 17 cfg0.N _
    congr 1
    funext a
    apply Fin.ext
    match a with
    | ⟨0, _⟩ => show 0 = win0_17.index t 0 * 1 + 1 * 0; rw [(hi t).1]
    | ⟨1, _⟩ => show t.val = win0_17.index t 1 * 1 + 1 * 0; rw [(hi t).2]; omega
    | ⟨2, _⟩ => rfl
    | ⟨3, _⟩ => rfl
  · exact out_apply H.len (blocks H t) (inputs H t) (layers H t) _

omit H in
/-- The points' totals sum to the loss. -/
theorem sum_share (R : Loss.Reals) : ∑ n : Fin 16, ∑ i : Fin 8, share R (exampleOf n i) = R.value := by
  unfold Loss.Reals.value
  rw [Finset.sum_mul]
  refine Eq.trans ?_ (Equiv.sum_comp (finProdFinEquiv (m := 16) (n := 8)) (share R))
  rw [Fintype.sum_prod_type]
  rfl

/-! ## The host's total -/

omit H in
/-- After the region the host sums the partial losses. -/
theorem tail_read (W : Valuation τ sig (Elt Ideal)) : StableHlo.after (List.flatten [hostOps1]) W (Proc.devRef .tc main_v0)
    = Host.reduceAdd (F := Ideal) (φ := .f32) (W (Proc.devRef .tc main_call0_v34)) (constant (F := Ideal) S_ .f32 0x00000000#32)
      reducesTo_S1x16x1x1_S_d0_1_2_3 h_S_ := by
  simp only [hostOps1, List.flatten_cons, List.flatten_nil, List.append_nil]
  after_results_entrywise []

omit H in
/-- The result buffer after the run, of the array of partial losses. -/
theorem result_read : Pipeline.afterTail₀ cfgs (dats m) 0 (V0 m) [hostOps1] c main_v0
    = Host.reduceAdd (F := Ideal) (φ := .f32) ((dats m 0 c).arrAt 17 cfg0.N) (constant (F := Ideal) S_ .f32 0x00000000#32)
      reducesTo_S1x16x1x1_S_d0_1_2_3 h_S_ := by
  refine (tail_read _).trans ?_
  have e := Pipeline.withArrays_arr spec0 (by decide) c (V0 m c) (fun w => (dats m 0 c).arrAt w cfg0.N) 17
  exact congrArg (fun x => Host.reduceAdd (F := Ideal) (φ := .f32) x (constant (F := Ideal) S_ .f32 0x00000000#32) reducesTo_S1x16x1x1_S_d0_1_2_3 h_S_) e

omit H in
/-- The host's sum of partial losses that are real numbers. -/
theorem total_coe (x : FVec Ideal S1x16x1x1 .f32) (f : Fin 16 → ℝ) (hx : ∀ n, x (ix4 0 n 0 0) = (f n : EReal)) (y : S_.Idx) :
    Host.reduceAdd (F := Ideal) (φ := .f32) x (constant (F := Ideal) S_ .f32 0x00000000#32) reducesTo_S1x16x1x1_S_d0_1_2_3 h_S_ y
      = ((∑ n, f n : ℝ) : EReal) := by
  refine (Ideal.hostReduceAdd_total _ (fun b => b.elim0) _ _ y).trans ?_
  have s : ∑ i, x i = ∑ a : Fin 1, ∑ n : Fin 16, ∑ p : Fin 1, ∑ q : Fin 1, x (ix4 a n p q) := sum_idx4 x
  rw [s, Gru.coe_sum]
  simp only [Fin.sum_univ_one, Fin.isValue, hx]
  pointwise

/-- The result is the loss. -/
theorem result_apply (y : S_.Idx) : (Pipeline.afterTail₀ cfgs (dats m) 0 (V0 m) [hostOps1] c main_v0 : Vec Ideal S_ .f32) y = (R.value : EReal) := by
  rw [result_read]
  exact (total_coe _ _ (part_apply H) y).trans (by rw [sum_share])

end Cert.AttnIdeal.Alg

end
-- ==== Proof.LossRef.lean ====
module

public import proofs.«01_k».proof.Proof.Gen.LossRefIdeal
public import proofs.«01_k».proof.Proof.Gen.LossRefIdeal.Run
public import proofs.«01_k».proof.Proof.Loss
public import Idealize.ShloMosaic.Lib.Pointwise
public import Idealize.ShloMosaic.Lib.Tactic.CleanTypes

@[expose] public section

set_option maxRecDepth 16384

noncomputable section

open Idealize.ShloMosaic Idealize.ShloMosaic.StableHlo Idealize.SL.Sem Cert.LossRefIdeal Cert.LossRefIdeal.Gen Cert.LossRefIdeal.Value

namespace Cert.LossRefIdeal.Alg

/-- The text and the contrast tokens, stacked. -/
def tokens (x y : Vec Ideal S128x128x256 .f32) : FVec Ideal S2x16384x256 .f32 :=
  shapeCast S2x16384x256 (concatenate S2x128x128x256 0
    [⟨S1x128x128x256, broadcastInDim S1x128x128x256 ![1, 2, 3] bcast_S128x128x256_S1x128x128x256_1_2_3 x⟩,
      ⟨S1x128x128x256, broadcastInDim S1x128x128x256 ![1, 2, 3] bcast_S128x128x256_S1x128x128x256_1_2_3 y⟩]
    concatenates_S1x128x128x256_S1x128x128x256_S2x128x128x256_d0) shapeCasts_S2x128x128x256_S2x16384x256

/-- The tokens through a linear map. -/
def proj (x : FVec Ideal S2x16384x256 .f32) (w : Vec Ideal S256x256 .f32) (b : Vec Ideal S256 .f32) : FVec Ideal S2x16384x256 .f32 :=
  addf (F := Ideal) (φ := .f32) (Host.dotGeneral (F := Ideal) (φ₁ := .f32) (φ₂ := .f32) dot_S2x16384x256_S256x256_S2x16384x256_2_0_01_1_n_n none x
      (transpose S256x256 [1, 0] w transposes_S256x256_S256x256_1_0))
    (broadcastInDim S2x16384x256 ![0, 1, 2] bcast_S1x1x256_S2x16384x256_0_1_2 (broadcastInDim S1x1x256 ![2] bcast_S256_S1x1x256_2 b))

/-- One over the square root of the head's width. -/
def scale : FVec Ideal S_ .f32 :=
  Host.divf (F := Ideal) (φ := .f32) (constant (F := Ideal) S_ .f32 0x3F800000#32) (Host.sqrt (F := Ideal) (φ := .f32) (constant (F := Ideal) S_ .f32 0x43000000#32))

/-- The queries' scaling. -/
def scaled (x : FVec Ideal S2x16384x256 .f32) : FVec Ideal S2x16384x256 .f32 :=
  mulf (F := Ideal) (φ := .f32) x (broadcastInDim S2x16384x256 ![] bcast_S_S2x16384x256 scale)

/-- The image token's row in front of the two others, by heads. -/
def three (x0 : Vec Ideal S128x256 .f32) (x : FVec Ideal S2x16384x256 .f32) : FVec Ideal S3x16384x2x128 .f32 :=
  shapeCast S3x16384x2x128 (concatenate S3x16384x256 0
    [⟨S1x16384x256, shapeCast S1x16384x256 (broadcastInDim S128x128x256 ![0, 1, 2] bcast_S128x1x256_S128x128x256_0_1_2
      (broadcastInDim S128x1x256 ![0, 2] bcast_S128x256_S128x1x256_0_2 x0)) shapeCasts_S128x128x256_S1x16384x256⟩, ⟨S2x16384x256, x⟩]
    concatenates_S1x16384x256_S2x16384x256_S3x16384x256_d0) shapeCasts_S3x16384x256_S3x16384x2x128

/-- The scores of the queries against the keys. -/
def scores (q k : FVec Ideal S3x16384x2x128 .f32) : FVec Ideal S16384x2x3x3 .f32 :=
  Host.dotGeneral (F := Ideal) (φ₁ := .f32) (φ₂ := .f32) dot_S3x16384x2x128_S3x16384x2x128_S16384x2x3x3_3_3_0_0_12_12 none q k

/-- The exponentials of the scores' distance to their maximum. -/
def expo (s : FVec Ideal S16384x2x3x3 .f32) : FVec Ideal S16384x2x3x3 .f32 :=
  Host.exp (F := Ideal) (φ := .f32) (subf (F := Ideal) (φ := .f32) s (broadcastInDim S16384x2x3x3 ![0, 1, 2, 3] bcast_S16384x2x3x1_S16384x2x3x3_0_1_2_3
    (broadcastInDim S16384x2x3x1 ![0, 1, 2] bcast_S16384x2x3_S16384x2x3x1_0_1_2
      (maximumf (F := Ideal) (φ := .f32) (broadcastInDim S16384x2x3 ![] bcast_S_S16384x2x3 (constant (F := Ideal) S_ .f32 0xFF800000#32))
        (Host.reduce (FloatOps.maximumf (F := Ideal) (φ := .f32)) s (constant (F := Ideal) S_ .f32 0xFF800000#32) reducesTo_S16384x2x3x3_S16384x2x3_d3 h_S_)))))

/-- Each over their sum. -/
def norm (e : FVec Ideal S16384x2x3x3 .f32) : FVec Ideal S16384x2x3x3 .f32 :=
  Host.divf (F := Ideal) (φ := .f32) e (broadcastInDim S16384x2x3x3 ![0, 1, 2, 3] bcast_S16384x2x3x1_S16384x2x3x3_0_1_2_3
    (broadcastInDim S16384x2x3x1 ![0, 1, 2] bcast_S16384x2x3_S16384x2x3x1_0_1_2
      (Host.reduceAdd (F := Ideal) (φ := .f32) e (constant (F := Ideal) S_ .f32 0x00000000#32) reducesTo_S16384x2x3x3_S16384x2x3_d3 h_S_)))

/-- The values mixed by the attention weights, the heads side by side. -/
def mixed (v : FVec Ideal S3x16384x2x128 .f32) (a : FVec Ideal S16384x2x3x3 .f32) : FVec Ideal S3x16384x256 .f32 :=
  shapeCast S3x16384x256 (transpose S3x16384x2x128 [3, 0, 1, 2]
    (Host.dotGeneral (F := Ideal) (φ₁ := .f32) (φ₂ := .f32) dot_S3x16384x2x128_S16384x2x3x3_S16384x2x128x3_0_3_3_2_12_01 none v a)
    transposes_S16384x2x128x3_S3x16384x2x128_3_0_1_2) shapeCasts_S3x16384x2x128_S3x16384x256

/-- The attention's linear layer, averaged over the tokens. -/
def last (o : FVec Ideal S3x16384x256 .f32) (w : Vec Ideal S256x256 .f32) (b : Vec Ideal S256 .f32) : FVec Ideal S128x128x256 .f32 :=
  shapeCast S128x128x256 (Host.divf (F := Ideal) (φ := .f32) (Host.reduceAdd (F := Ideal) (φ := .f32)
    (addf (F := Ideal) (φ := .f32) (Host.dotGeneral (F := Ideal) (φ₁ := .f32) (φ₂ := .f32) dot_S3x16384x256_S256x256_S3x16384x256_2_0_01_1_n_n none o
      (transpose S256x256 [1, 0] w transposes_S256x256_S256x256_1_0))
    (broadcastInDim S3x16384x256 ![0, 1, 2] bcast_S1x1x256_S3x16384x256_0_1_2 (broadcastInDim S1x1x256 ![2] bcast_S256_S1x1x256_2 b)))
    (constant (F := Ideal) S_ .f32 0x00000000#32) reducesTo_S3x16384x256_S16384x256_d0 h_S_)
    (broadcastInDim S16384x256 ![] bcast_S_S16384x256 (constant (F := Ideal) S_ .f32 0x40400000#32))) shapeCasts_S16384x256_S128x128x256

/-- The class logits. -/
def logits (x : FVec Ideal S128x128x256 .f32) (w : Vec Ideal S190x256 .f32) (b : Vec Ideal S190 .f32) : FVec Ideal S128x128x190 .f32 :=
  addf (F := Ideal) (φ := .f32) (Host.dotGeneral (F := Ideal) (φ₁ := .f32) (φ₂ := .f32) dot_S128x128x256_S256x190_S128x128x190_2_0_01_1_n_n none x
      (transpose S256x190 [1, 0] w transposes_S190x256_S256x190_1_0))
    (broadcastInDim S128x128x190 ![0, 1, 2] bcast_S1x1x190_S128x128x190_0_1_2 (broadcastInDim S1x1x190 ![2] bcast_S190_S1x1x190_2 b))

/-- The largest logit, from below every logit. -/
def mostL (l : FVec Ideal S128x128x190 .f32) : FVec Ideal S128x128 .f32 :=
  Host.reduce (FloatOps.maximumf (F := Ideal) (φ := .f32)) l (constant (F := Ideal) S_ .f32 0xFF800000#32) reducesTo_S128x128x190_S128x128_d2 h_S_

/-- The same, not below minus infinity. -/
def topL (l : FVec Ideal S128x128x190 .f32) : FVec Ideal S128x128 .f32 :=
  maximumf (F := Ideal) (φ := .f32) (broadcastInDim S128x128 ![] bcast_S_S128x128 (constant (F := Ideal) S_ .f32 0xFF800000#32)) (mostL l)

/-- The exponentials of the logits' distance to their maximum. -/
def expoL (l : FVec Ideal S128x128x190 .f32) : FVec Ideal S128x128x190 .f32 :=
  Host.exp (F := Ideal) (φ := .f32) (subf (F := Ideal) (φ := .f32) l (broadcastInDim S128x128x190 ![0, 1, 2] bcast_S128x128x1_S128x128x190_0_1_2
    (broadcastInDim S128x128x1 ![0, 1] bcast_S128x128_S128x128x1_0_1 (topL l))))

/-- The logarithms of the class probabilities. -/
def logp (e : FVec Ideal S128x128x190 .f32) : FVec Ideal S128x128x190 .f32 :=
  Host.log (F := Ideal) (φ := .f32) (Host.divf (F := Ideal) (φ := .f32) e (broadcastInDim S128x128x190 ![0, 1, 2] bcast_S128x128x1_S128x128x190_0_1_2
    (broadcastInDim S128x128x1 ![0, 1] bcast_S128x128_S128x128x1_0_1
      (Host.reduceAdd (F := Ideal) (φ := .f32) e (constant (F := Ideal) S_ .f32 0x00000000#32) reducesTo_S128x128x190_S128x128_d2 h_S_))))

/-- Minus the logarithm at the label. -/
def entropy (p : FVec Ideal S128x128x190 .f32) (lab : Vec Ideal S128x128 .i32) : FVec Ideal S128x128 .f32 :=
  Host.negf (F := Ideal) (φ := .f32) (Host.reduceAdd (F := Ideal) (φ := .f32) (mulf (F := Ideal) (φ := .f32)
    (uitofp (F := Ideal) .f32 (cmpi .eq (broadcastInDim S128x128x190 ![0, 1, 2] bcast_S128x128x1_S128x128x190_0_1_2
      (broadcastInDim S128x128x1 ![0, 1] bcast_S128x128_S128x128x1_0_1 lab))
      (broadcastInDim S128x128x190 ![0, 1, 2] bcast_S1x1x190_S128x128x190_0_1_2 (iotaInDim S1x1x190 32 2)))) p)
    (constant (F := Ideal) S_ .f32 0x00000000#32) reducesTo_S128x128x190_S128x128_d2 h_S_)

/-- The masked mean over the steps, averaged over the batch. -/
def meanLoss (l : FVec Ideal S128x128 .f32) (lm : Vec Ideal S128x128 .f32) : FVec Ideal S_ .f32 :=
  Host.divf (F := Ideal) (φ := .f32) (Host.reduceAdd (F := Ideal) (φ := .f32) (Host.divf (F := Ideal) (φ := .f32)
    (Host.reduceAdd (F := Ideal) (φ := .f32) (mulf (F := Ideal) (φ := .f32) l lm) (constant (F := Ideal) S_ .f32 0x00000000#32) reducesTo_S128x128_S128_d1 h_S_)
    (Host.reduceAdd (F := Ideal) (φ := .f32) lm (constant (F := Ideal) S_ .f32 0x00000000#32) reducesTo_S128x128_S128_d1 h_S_))
    (constant (F := Ideal) S_ .f32 0x00000000#32) reducesTo_S128_S_d0 h_S_) (constant (F := Ideal) S_ .f32 0x43000000#32)

/-- Three blocks of 256 rows of the attention's input weights. -/
def rows (w : Vec Ideal S768x256 .f32) : Fin 3 → Vec Ideal S256x256 .f32 :=
  ![extractStridedSlice S256x256 ![0, 0] w slices_S768x256_S256x256_0_0, extractStridedSlice S256x256 ![256, 0] w slices_S768x256_S256x256_256_0,
    extractStridedSlice S256x256 ![512, 0] w slices_S768x256_S256x256_512_0]

/-- Of its bias. -/
def parts (b : Vec Ideal S768 .f32) : Fin 3 → Vec Ideal S256 .f32 :=
  ![extractStridedSlice S256 ![0] b slices_S768_S256_0, extractStridedSlice S256 ![256] b slices_S768_S256_256,
    extractStridedSlice S256 ![512] b slices_S768_S256_512]

/-- The two tokens, of the arguments. -/
def toks (A : Loss.Args) : FVec Ideal S2x16384x256 .f32 := tokens A.x A.y

/-- The tokens through part `p` of the attention's input layer. -/
def part (A : Loss.Args) (p : Fin 3) : FVec Ideal S2x16384x256 .f32 := proj (toks A) (rows A.wi p) (parts A.bi p)

/-- The attention's output. -/
def att (A : Loss.Args) : FVec Ideal S3x16384x256 .f32 :=
  mixed (three A.v (part A 2)) (norm (expo (scores (three A.q (scaled (part A 0))) (three A.k (part A 1)))))

/-- The logits. -/
def lg (A : Loss.Args) : FVec Ideal S128x128x190 .f32 := logits (last (att A) A.wo A.bo) A.wp A.bp

/-- The loss. -/
def loss (A : Loss.Args) : FVec Ideal S_ .f32 := meanLoss (entropy (logp (expoL (lg A))) A.lab) A.lm

variable (m : (ℓ : Loc nD τ sig) → Buf (Elt Ideal) ℓ) (c : Dev nD)

/-- The call's arguments. -/
def args : Loss.Args where
  x := m ((c.tc : Thread nD τ).loc main_arg0)
  y := m ((c.tc : Thread nD τ).loc main_arg1)
  q := m ((c.tc : Thread nD τ).loc main_arg2)
  k := m ((c.tc : Thread nD τ).loc main_arg3)
  v := m ((c.tc : Thread nD τ).loc main_arg4)
  lm := m ((c.tc : Thread nD τ).loc main_arg5)
  lab := m ((c.tc : Thread nD τ).loc main_arg6)
  wi := m ((c.tc : Thread nD τ).loc main_arg7)
  bi := m ((c.tc : Thread nD τ).loc main_arg8)
  wo := m ((c.tc : Thread nD τ).loc main_arg9)
  bo := m ((c.tc : Thread nD τ).loc main_arg10)
  wp := m ((c.tc : Thread nD τ).loc main_arg11)
  bp := m ((c.tc : Thread nD τ).loc main_arg12)

theorem res_eq : res_main_v94 m c = loss (args m c) := by
  rfl

/-! ## The reference's pieces, entry by entry -/

/-- Step `s` of example `b`. -/
def nn (b s : Fin 128) : Fin 16384 := ⟨b.val * 128 + s.val, by omega⟩

theorem tokens_apply0 (x y : Vec Ideal S128x128x256 .f32) (b s : Fin 128) (j : Fin 256) : tokens x y (ix3 0 (nn b s) j) = x (ix3 b s j) := by
  unfold tokens nn
  pointwise

theorem tokens_apply1 (x y : Vec Ideal S128x128x256 .f32) (b s : Fin 128) (j : Fin 256) : tokens x y (ix3 1 (nn b s) j) = y (ix3 b s j) := by
  unfold tokens nn
  pointwise

theorem rows_apply (w : Vec Ideal S768x256 .f32) (p : Fin 3) (j k : Fin 256) : rows w p (ix2 j k) = w (ix2 (Loss.inRow p j) k) := by
  have e0 : Loss.inRow 0 j = ⟨j.val, by omega⟩ := Fin.ext (by show 0 * 256 + j.val = j.val; omega)
  have e1 : Loss.inRow 1 j = ⟨256 + j.val, by omega⟩ := Fin.ext (by show 1 * 256 + j.val = 256 + j.val; omega)
  have e2 : Loss.inRow 2 j = ⟨512 + j.val, by omega⟩ := Fin.ext (by show 2 * 256 + j.val = 512 + j.val; omega)
  match p with
  | 0 => rw [e0]; show extractStridedSlice S256x256 ![0, 0] w slices_S768x256_S256x256_0_0 (ix2 j k) = _; pointwise
  | 1 => rw [e1]; show extractStridedSlice S256x256 ![256, 0] w slices_S768x256_S256x256_256_0 (ix2 j k) = _; pointwise
  | 2 => rw [e2]; show extractStridedSlice S256x256 ![512, 0] w slices_S768x256_S256x256_512_0 (ix2 j k) = _; pointwise

theorem parts_apply (w : Vec Ideal S768 .f32) (p : Fin 3) (j : Fin 256) : parts w p (ix1 j) = w (ix1 (Loss.inRow p j)) := by
  have e0 : Loss.inRow 0 j = ⟨j.val, by omega⟩ := Fin.ext (by show 0 * 256 + j.val = j.val; omega)
  have e1 : Loss.inRow 1 j = ⟨256 + j.val, by omega⟩ := Fin.ext (by show 1 * 256 + j.val = 256 + j.val; omega)
  have e2 : Loss.inRow 2 j = ⟨512 + j.val, by omega⟩ := Fin.ext (by show 2 * 256 + j.val = 512 + j.val; omega)
  match p with
  | 0 => rw [e0]; show extractStridedSlice S256 ![0] w slices_S768_S256_0 (ix1 j) = _; pointwise
  | 1 => rw [e1]; show extractStridedSlice S256 ![256] w slices_S768_S256_256 (ix1 j) = _; pointwise
  | 2 => rw [e2]; show extractStridedSlice S256 ![512] w slices_S768_S256_512 (ix1 j) = _; pointwise

theorem proj_apply (x : FVec Ideal S2x16384x256 .f32) (w : Vec Ideal S256x256 .f32) (b : Vec Ideal S256 .f32) (a : Fin 2) (n : Fin 16384) (j : Fin 256) :
    proj x w b (ix3 a n j) = ∑ k : Fin 256, x (ix3 a n k) * w (ix2 j k) + b (ix1 j) := by
  unfold proj
  pointwise

theorem scaled_apply (x : FVec Ideal S2x16384x256 .f32) (a : Fin 2) (n : Fin 16384) (j : Fin 256) :
    scaled x (ix3 a n j) = x (ix3 a n j) * (Loss.headScale : EReal) := by
  rw [← Loss.headScale_coe]
  unfold scaled scale
  pointwise

theorem three_apply0 (x0 : Vec Ideal S128x256 .f32) (x : FVec Ideal S2x16384x256 .f32) (b s : Fin 128) (h : Fin 2) (d : Fin 128) :
    three x0 x (ix4 0 (nn b s) h d) = x0 (ix2 b (Loss.col h d)) := by
  unfold three nn Loss.col
  pointwise

theorem three_apply1 (x0 : Vec Ideal S128x256 .f32) (x : FVec Ideal S2x16384x256 .f32) (n : Fin 16384) (h : Fin 2) (d : Fin 128) :
    three x0 x (ix4 1 n h d) = x (ix3 0 n (Loss.col h d)) := by
  unfold three Loss.col
  pointwise

theorem three_apply2 (x0 : Vec Ideal S128x256 .f32) (x : FVec Ideal S2x16384x256 .f32) (n : Fin 16384) (h : Fin 2) (d : Fin 128) :
    three x0 x (ix4 2 n h d) = x (ix3 1 n (Loss.col h d)) := by
  unfold three Loss.col
  pointwise

theorem scores_apply (q k : FVec Ideal S3x16384x2x128 .f32) (n : Fin 16384) (h : Fin 2) (t s : Fin 3) :
    scores q k (ix4 n h t s) = ∑ d : Fin 128, q (ix4 t n h d) * k (ix4 s n h d) := by
  unfold scores
  pointwise

theorem expo_apply (s : FVec Ideal S16384x2x3x3 .f32) (n : Fin 16384) (h : Fin 2) (t r : Fin 3) :
    expo s (ix4 n h t r) = Ideal.exp (s (ix4 n h t r) - max (Ideal.ofBits .f32 0xFF800000#32)
      (Finset.univ.fold max (Ideal.ofBits .f32 0xFF800000#32) fun x => s (ix4 n h t x))) := by
  unfold expo
  pointwise

theorem norm_apply (s : FVec Ideal S16384x2x3x3 .f32) (n : Fin 16384) (h : Fin 2) (t r : Fin 3) :
    norm s (ix4 n h t r) = Ideal.div (s (ix4 n h t r)) (∑ x : Fin 3, s (ix4 n h t x)) := by
  unfold norm
  pointwise

theorem mixed_apply (v : FVec Ideal S3x16384x2x128 .f32) (a : FVec Ideal S16384x2x3x3 .f32) (n : Fin 16384) (t : Fin 3) (h : Fin 2) (d : Fin 128) :
    mixed v a (ix3 t n (Loss.col h d)) = ∑ s : Fin 3, v (ix4 s n h d) * a (ix4 n h t s) := by
  unfold mixed Loss.col
  pointwise

theorem last_apply (o : FVec Ideal S3x16384x256 .f32) (w : Vec Ideal S256x256 .f32) (e : Vec Ideal S256 .f32) (b s : Fin 128) (j : Fin 256) :
    last o w e (ix3 b s j) = Ideal.div (∑ x : Fin 3, (∑ i : Fin 256, o (ix3 x (nn b s) i) * w (ix2 j i) + e (ix1 j))) (Ideal.ofBits .f32 0x40400000#32) := by
  unfold last nn
  pointwise

theorem logits_apply (x : FVec Ideal S128x128x256 .f32) (w : Vec Ideal S190x256 .f32) (e : Vec Ideal S190 .f32) (b s : Fin 128) (j : Fin 190) :
    logits x w e (ix3 b s j) = ∑ k : Fin 256, x (ix3 b s k) * w (ix2 j k) + e (ix1 j) := by
  unfold logits
  pointwise

/-- A maximum over the last of three axes, from a constant. -/
theorem reduce_max {n0 n1 n2 : ℕ} (x : FVec Ideal ⟨3, ![n0, n1, n2]⟩ .f32) (h : (⟨3, ![n0, n1, n2]⟩ : Shape).ReducesTo [2] ⟨2, ![n0, n1]⟩)
    {u : Shape} (hu : 0 < u.numel) (v : u.Idx → EReal) (z : EReal) (hv : ∀ y, v y = z) (i : Fin n0) (j : Fin n1) :
    Host.reduce (FloatOps.maximumf (F := Ideal) (φ := .f32)) x v h hu (ix2 i j) = Finset.univ.fold max z fun k => x (ix3 i j k) := by
  rw [Host.reduce_eq_fold, hv]
  exact h.fold_fiber_r3_a2 (ix2 i j) _ _ x

theorem mostL_apply (l : FVec Ideal S128x128x190 .f32) (b s : Fin 128) :
    mostL l (ix2 b s) = Finset.univ.fold max (Ideal.ofBits .f32 0xFF800000#32) fun x => l (ix3 b s x) :=
  reduce_max l reducesTo_S128x128x190_S128x128_d2 h_S_ (constant (F := Ideal) S_ .f32 0xFF800000#32) _ (fun _ => rfl) b s

/-- A maximum with minus infinity. -/
theorem max_word (t : FVec Ideal S128x128 .f32) (b s : Fin 128) :
    maximumf (F := Ideal) (φ := .f32) (broadcastInDim S128x128 ![] bcast_S_S128x128 (constant (F := Ideal) S_ .f32 0xFF800000#32)) t (ix2 b s)
      = max (Ideal.ofBits .f32 0xFF800000#32) (t (ix2 b s)) := by
  pointwise

theorem topL_apply (l : FVec Ideal S128x128x190 .f32) (b s : Fin 128) :
    topL l (ix2 b s) = max (Ideal.ofBits .f32 0xFF800000#32) (mostL l (ix2 b s)) := max_word (mostL l) b s

theorem expoL_apply (l : FVec Ideal S128x128x190 .f32) (b s : Fin 128) (j : Fin 190) :
    expoL l (ix3 b s j) = Ideal.exp (l (ix3 b s j) - topL l (ix2 b s)) := by
  unfold expoL
  generalize topL l = t
  pointwise

theorem logp_apply (l : FVec Ideal S128x128x190 .f32) (b s : Fin 128) (j : Fin 190) :
    logp l (ix3 b s j) = Ideal.log (Ideal.div (l (ix3 b s j)) (∑ x : Fin 190, l (ix3 b s x))) := by
  unfold logp
  pointwise

theorem entropy_apply (l : FVec Ideal S128x128x190 .f32) (lab : Vec Ideal S128x128 .i32) (b s : Fin 128) :
    entropy l lab (ix2 b s)
      = -∑ x : Fin 190, FloatOps.uitofp (F := Ideal) .f32 (IntOp.cmpi .eq (lab (ix2 b s)) (BitVec.ofNat 32 x.val)) * l (ix3 b s x) := by
  unfold entropy
  pointwise

theorem meanLoss_apply (l lm : FVec Ideal S128x128 .f32) (y : S_.Idx) :
    meanLoss l lm y = Ideal.div (∑ b : Fin 128, Ideal.div (∑ s : Fin 128, l (ix2 b s) * lm (ix2 b s)) (∑ s : Fin 128, lm (ix2 b s)))
      (Ideal.ofBits .f32 0x43000000#32) := by
  unfold meanLoss
  pointwise

/-! ## Of real numbers -/

section real
variable {A : Loss.Args} {R : Loss.Reals} (H : Loss.IsReal A R)
include H

theorem part_apply0 (p : Fin 3) (b s : Fin 128) (j : Fin 256) : part A p (ix3 0 (nn b s) j) = (R.lin p (R.x b s) j : EReal) :=
  (proj_apply _ _ _ 0 (nn b s) j).trans (Loss.lin_coe (fun k => (tokens_apply0 _ _ b s k).trans (H.x b s k))
    (fun k => (rows_apply _ p j k).trans (H.wi _ k)) ((parts_apply _ p j).trans (H.bi _)))

theorem part_apply1 (p : Fin 3) (b s : Fin 128) (j : Fin 256) : part A p (ix3 1 (nn b s) j) = (R.lin p (R.y b s) j : EReal) :=
  (proj_apply _ _ _ 1 (nn b s) j).trans (Loss.lin_coe (fun k => (tokens_apply1 _ _ b s k).trans (H.y b s k))
    (fun k => (rows_apply _ p j k).trans (H.wi _ k)) ((parts_apply _ p j).trans (H.bi _)))

theorem query_apply (b s : Fin 128) (t : Fin 3) (h : Fin 2) (d : Fin 128) :
    three A.q (scaled (part A 0)) (ix4 t (nn b s) h d) = ((R.row b s).q t (Loss.col h d) : EReal) := by
  match t with
  | 0 => exact (three_apply0 _ _ b s h d).trans (H.q b _)
  | 1 => rw [three_apply1, scaled_apply, part_apply0 H, ← EReal.coe_mul]; rfl
  | 2 => rw [three_apply2, scaled_apply, part_apply1 H, ← EReal.coe_mul]; rfl

theorem key_apply (b s : Fin 128) (t : Fin 3) (h : Fin 2) (d : Fin 128) :
    three A.k (part A 1) (ix4 t (nn b s) h d) = ((R.row b s).k t (Loss.col h d) : EReal) := by
  match t with
  | 0 => exact (three_apply0 _ _ b s h d).trans (H.k b _)
  | 1 => rw [three_apply1, part_apply0 H]; rfl
  | 2 => rw [three_apply2, part_apply1 H]; rfl

theorem val_apply (b s : Fin 128) (t : Fin 3) (h : Fin 2) (d : Fin 128) :
    three A.v (part A 2) (ix4 t (nn b s) h d) = ((R.row b s).v t (Loss.col h d) : EReal) := by
  match t with
  | 0 => exact (three_apply0 _ _ b s h d).trans (H.v b _)
  | 1 => rw [three_apply1, part_apply0 H]; rfl
  | 2 => rw [three_apply2, part_apply1 H]; rfl

/-- The attention's output of token `t`. -/
theorem att_apply (b s : Fin 128) (t : Fin 3) (j : Fin 256) : att A (ix3 t (nn b s) j) = (Loss.out (R.row b s) t j : EReal) := by
  obtain ⟨h, d, rfl⟩ := Loss.exists_col j
  have es : ∀ u v, scores (three A.q (scaled (part A 0))) (three A.k (part A 1)) (ix4 (nn b s) h u v) = (Loss.score (R.row b s) h u v : EReal) :=
    fun u v => (scores_apply _ _ _ h u v).trans (Loss.dot_coe (fun d => query_apply H b s u h d) fun d => key_apply H b s v h d)
  have ee : ∀ u v, expo (scores (three A.q (scaled (part A 0))) (three A.k (part A 1))) (ix4 (nn b s) h u v) = (Loss.ex (R.row b s) h u v : EReal) := by
    intro u v
    rw [expo_apply, Loss.bot_word]
    simp only [es]
    rw [Loss.fold_score, max_eq_right bot_le, Loss.ex_coe]
  unfold att Loss.out
  rw [mixed_apply]
  refine Loss.dot_coe (fun u => val_apply H b s u h d) fun u => ?_
  rw [norm_apply, Fin.sum_univ_three, ee, ee, ee, ee, Loss.den_coe, Loss.head_col, Loss.div_coe_coe _ (Loss.den_pos _ _ _).ne', mul_one_div]

theorem lg_apply (b s : Fin 128) (l : Fin 190) : lg A (ix3 b s l) = (Loss.logit R.net (R.row b s) l : EReal) := by
  refine (logits_apply _ _ _ b s l).trans (Loss.lin_coe (fun k => ?_) (fun k => H.wp l k) (H.bp l))
  rw [last_apply, Loss.word_3, ← Loss.last_eq, ← Loss.div_coe_coe _ (by norm_num), Gru.coe_sum]
  refine congrArg (Ideal.div · _) (Finset.sum_congr rfl fun t _ => ?_)
  exact Loss.lin_coe (fun i => att_apply H b s t i) (fun i => H.wo k i) (H.bo k)

/-- The logarithm of a class probability. -/
theorem logp_lg (b s : Fin 128) (l : Fin 190) : logp (expoL (lg A)) (ix3 b s l) = ((-Loss.ce R.net (R.row b s) l : ℝ) : EReal) := by
  have et : topL (lg A) (ix2 b s) = (Loss.top R.net (R.row b s) : EReal) := by
    rw [topL_apply, mostL_apply, Loss.bot_word]
    simp only [lg_apply H]
    rw [Loss.fold_logit, max_eq_right bot_le]
  have ex : ∀ x, expoL (lg A) (ix3 b s x) = ((Real.exp (Loss.logit R.net (R.row b s) x - Loss.top R.net (R.row b s)) : ℝ) : EReal) := by
    intro x
    rw [expoL_apply, et, lg_apply H, Loss.exp_sub_coe]
  have ht := Loss.total_pos R.net (R.row b s)
  rw [logp_apply]
  simp only [ex]
  rw [← Gru.coe_sum]
  show Ideal.log (Ideal.div _ (Loss.total R.net (R.row b s) : EReal)) = _
  rw [Loss.div_coe_coe _ ht.ne', Ideal.log_coe, if_neg (not_le.2 (by positivity)), Loss.log_prob]

theorem entropy_lg (b s : Fin 128) : entropy (logp (expoL (lg A))) A.lab (ix2 b s) = (Loss.ce R.net (R.row b s) (R.lab b s) : EReal) := by
  rw [entropy_apply, H.lab, Finset.sum_eq_single (R.lab b s)]
  · rw [logp_lg H]
    have e : FloatOps.uitofp (F := Ideal) .f32 (IntOp.cmpi .eq (BitVec.ofNat 32 (R.lab b s).val) (BitVec.ofNat 32 (R.lab b s).val)) = (1 : EReal) := by
      unfold IntOp.cmpi
      simp [FloatOps.uitofp]
    rw [e, one_mul, ← EReal.coe_neg, neg_neg]
  · intro x _ hx
    have e : BitVec.ofNat 32 (R.lab b s).val ≠ BitVec.ofNat 32 x.val := fun e => hx (Fin.ext (Loss.ofNat_inj (by omega) (by omega) e).symm)
    have e' : (BitVec.ofNat 32 (R.lab b s).val == BitVec.ofNat 32 x.val) = false := beq_eq_false_iff_ne.2 e
    have e0 : FloatOps.uitofp (F := Ideal) .f32 (IntOp.cmpi .eq (BitVec.ofNat 32 (R.lab b s).val) (BitVec.ofNat 32 x.val)) = (0 : EReal) := by
      unfold IntOp.cmpi
      simp only [e']
      simp [FloatOps.uitofp]
    rw [e0, zero_mul]
  · intro h; exact absurd (Finset.mem_univ _) h

/-- The reference's result is the loss. -/
theorem loss_apply (y : S_.Idx) : loss A y = (R.value : EReal) := by
  unfold loss
  rw [meanLoss_apply, Loss.word_128]
  have e : ∀ b, Ideal.div (∑ s : Fin 128, entropy (logp (expoL (lg A))) A.lab (ix2 b s) * A.lm (ix2 b s)) (∑ s : Fin 128, A.lm (ix2 b s))
      = ((R.sum b * (1 / R.len b) : ℝ) : EReal) := by
    intro b
    rw [← Loss.div_coe_coe _ (H.len b)]
    congr 1
    · exact Loss.dot_coe (fun s => entropy_lg H b s) fun s => H.lm b s
    · unfold Loss.Reals.len
      rw [Gru.coe_sum]
      exact Finset.sum_congr rfl fun s _ => H.lm b s
  simp only [e]
  rw [← Gru.coe_sum, Loss.div_coe_coe _ (by norm_num)]
  rfl

end real

end Cert.LossRefIdeal.Alg

end
-- ==== Proof.AttnAlg.lean ====
module

public import proofs.«01_k».proof.Defs
public import proofs.«01_k».proof.Proof.Frames
public import proofs.«01_k».proof.Proof.AttnValue
public import proofs.«01_k».proof.Proof.LossRef
public import proofs.«01_k».proof.Proof.Finite
public import proofs.«01_k».proof.Proof.Gen.Pre_loss_inputs

@[expose] public section

set_option maxRecDepth 16384

noncomputable section

open Idealize.ShloMosaic Idealize.SL.Sem

namespace Cert.Proof

/-- The third kernel's idealization under the precondition: its frame needs none. -/
theorem frame_AttnIdeal_pre : Cert.quiescent_AttnIdeal_pre_loss_inputs := fun m ρ _ => Cert.AttnIdeal.Gen.frame m ρ

/-- The third reference under the precondition: its frame needs none. -/
theorem frame_LossRefIdeal_pre : Cert.quiescent_LossRefIdeal_pre_loss_inputs := fun m ρ _ => frame_LossRefIdeal m ρ trivial

/-! ## What the precondition says of the arguments -/

/-- A word between 0 and 189 is a class. -/
theorem class_of_flag {w : BitVec 32} (h : IntOp.andi (IntOp.cmpi .sge w 0#32) (IntOp.cmpi .slt w 190#32) = 1#1) :
    ∃ l : Fin 190, w = BitVec.ofNat 32 l.val := by
  obtain ⟨h0, h1⟩ := Finite.and_one h
  simp only [IntOp.cmpi, BitVec.sle, BitVec.slt] at h0 h1
  have t0 : (0 : Int) ≤ w.toInt := by
    by_contra hn
    simp [hn] at h0
  have t1 : w.toInt < 190 := by
    by_contra hn
    simp [hn] at h1
  rw [BitVec.toInt_eq_toNat_cond] at t0 t1
  refine ⟨⟨w.toNat, ?_⟩, ?_⟩
  · have := w.isLt
    split at t0 <;> omega
  · apply BitVec.eq_of_toNat_eq
    rw [BitVec.toNat_ofNat, Nat.mod_eq_of_lt w.isLt]

/-- A sum of steps whose inverse is a real number is not zero. -/
theorem len_ne_zero {a r : ℝ} (h : Ideal.div (1 : EReal) (a : EReal) = r) : a ≠ 0 := by
  rintro rfl
  rw [EReal.coe_zero, Ideal.div, if_pos rfl] at h
  simp at h

/-- The precondition's tests of the arguments. -/
def tests (A : Loss.Args) := Cert.Pre_loss_inputs.fn (F := Ideal) A.x A.y A.q A.k A.v A.lm A.lab A.wi A.bi A.wo A.bo A.wp A.bp

theorem isReal_of_tests (A : Loss.Args) (h0 : (tests A).1 = fun _ => 1#1) (h1 : (tests A).2.1 = fun _ => 1#1) (h2 : (tests A).2.2.1 = fun _ => 1#1)
    (h3 : (tests A).2.2.2.1 = fun _ => 1#1) (h4 : (tests A).2.2.2.2.1 = fun _ => 1#1) (h5 : (tests A).2.2.2.2.2.1 = fun _ => 1#1)
    (h6 : (tests A).2.2.2.2.2.2.1 = fun _ => 1#1) (h7 : (tests A).2.2.2.2.2.2.2.1 = fun _ => 1#1) (h8 : (tests A).2.2.2.2.2.2.2.2.1 = fun _ => 1#1)
    (h9 : (tests A).2.2.2.2.2.2.2.2.2.1 = fun _ => 1#1) (h10 : (tests A).2.2.2.2.2.2.2.2.2.2.1 = fun _ => 1#1)
    (h11 : (tests A).2.2.2.2.2.2.2.2.2.2.2.1 = fun _ => 1#1) (h12 : (tests A).2.2.2.2.2.2.2.2.2.2.2.2.1 = fun _ => 1#1)
    (h13 : (tests A).2.2.2.2.2.2.2.2.2.2.2.2.2 = fun _ => 1#1) : ∃ R, Loss.IsReal A R := by
  choose x hx using fun b s j => Finite.real_of_flag A.x rfl h0 (ix3 b s j)
  choose y hy using fun b s j => Finite.real_of_flag A.y rfl h1 (ix3 b s j)
  choose q hq using fun b j => Finite.real_of_flag A.q rfl h2 (ix2 b j)
  choose k hk using fun b j => Finite.real_of_flag A.k rfl h3 (ix2 b j)
  choose v hv using fun b j => Finite.real_of_flag A.v rfl h4 (ix2 b j)
  choose lm hlm using fun b s => Finite.real_of_flag A.lm rfl h5 (ix2 b s)
  choose len hlen using fun b => Finite.real_of_flag _ rfl h6 (ix1 b)
  choose lab hlab using fun b s => class_of_flag (congrFun h7 (ix2 b s))
  choose wi hwi using fun j k => Finite.real_of_flag A.wi rfl h8 (ix2 j k)
  choose bi hbi using fun j => Finite.real_of_flag A.bi rfl h9 (ix1 j)
  choose wo hwo using fun j k => Finite.real_of_flag A.wo rfl h10 (ix2 j k)
  choose bo hbo using fun j => Finite.real_of_flag A.bo rfl h11 (ix1 j)
  choose wp hwp using fun j k => Finite.real_of_flag A.wp rfl h12 (ix2 j k)
  choose bp hbp using fun j => Finite.real_of_flag A.bp rfl h13 (ix1 j)
  refine ⟨⟨x, y, q, k, v, lm, lab, wi, bi, ⟨wo, bo, wp, bp⟩⟩, hx, hy, hq, hk, hv, hlm, fun b => ?_, hlab, hwi, hbi, hwo, hbo, hwp, hbp⟩
  have e := hlen b
  simp only [pointwise, Nat.reduceEqDiff, reduceDIte] at e
  refine len_ne_zero (r := len b) ?_
  rw [← e]
  unfold Loss.Reals.len
  rw [Gru.coe_sum]
  simp only [hlm, zero_add]

/-- Under the precondition the attention call's arguments are real numbers and classes. -/
theorem loss_inputs (m : (ℓ : Loc Cert.AttnIdeal.nD Cert.AttnIdeal.τ Cert.AttnIdeal.sig) → Buf (Elt Ideal) ℓ) (h : Cert.Pre_AttnIdeal_loss_inputs m)
    (c : Dev Cert.AttnIdeal.nD) : ∃ R, Loss.IsReal (Cert.AttnIdeal.Alg.args m c) R := by
  obtain ⟨h0, h1, h2, h3, h4, h5, h6, h7, h8, h9, h10, h11, h12, h13⟩ := h c
  exact isReal_of_tests _ h0 h1 h2 h3 h4 h5 h6 h7 h8 h9 h10 h11 h12 h13

/-- The attention call computes the reference's loss. -/
theorem alg_Attn : Cert.algebraic_AttnIdeal_LossRefIdeal_pre_loss_inputs := by
  intro m g m' g' hpre hargs
  have hA : ∀ c, Cert.LossRefIdeal.Alg.args m' c = Cert.AttnIdeal.Alg.args m c := by
    intro c
    obtain ⟨h0, h1, h2, h3, h4, h5, h6, h7, h8, h9, h10, h11, h12⟩ := hargs c
    unfold Cert.LossRefIdeal.Alg.args Cert.AttnIdeal.Alg.args
    rw [h0, h1, h2, h3, h4, h5, h6, h7, h8, h9, h10, h11, h12]
  refine ⟨fun c => Pipeline.afterTail₀ Cert.AttnIdeal.cfgs (Cert.AttnIdeal.Gen.dats m) 0 (Cert.AttnIdeal.Gen.V0 m) [Cert.AttnIdeal.Gen.hostOps1] c
    Cert.AttnIdeal.main_v0, ?_, ?_⟩
  · refine (θ_run Cert.AttnIdeal.defs _ _).mono (fun r h c => ⟨?_, h.1 c⟩) (θ_run_and (Cert.AttnIdeal.Gen.unchanged m g) (Cert.AttnIdeal.Gen.run_main m g))
    exact (h.2 c).2 Cert.AttnIdeal.main_v0 (Pipeline.mem_restRefs_of Cert.AttnIdeal.main_v0 (by decide) (by decide))
  · refine (θ_run Cert.LossRefIdeal.defs _ _).mono (fun r h c => ?_) (Cert.LossRefIdeal.Value.run (F := Ideal) m' g')
    obtain ⟨h94, hk⟩ := h c
    obtain ⟨R, H⟩ := loss_inputs m hpre c
    refine ⟨h94.trans ?_, hk⟩
    funext y
    rw [Cert.LossRefIdeal.Alg.res_eq, hA c]
    exact (Cert.LossRefIdeal.Alg.loss_apply H y).trans (Cert.AttnIdeal.Alg.result_apply H y).symm

end Cert.Proof

end
-- ==== Proof.ImgRows.lean ====
module

public import proofs.«01_k».proof.Proof.Gru
public import proofs.«01_k».proof.Proof.Loss

@[expose] public section

noncomputable section

open Idealize.ShloMosaic

namespace Cert.ImgRows

/-! ## The image branch over the extended reals, of the call's nine arguments -/

/-- The arguments: the embeddings, the linear layer's weights and bias, the batch norm's scale, shift, mean and variance, and the attention's
    input weights and biases. -/
structure Args where
  x : FVec Ideal ⟨2, ![128, 2048]⟩ .f32
  w : FVec Ideal ⟨2, ![256, 2048]⟩ .f32
  b : FVec Ideal ⟨1, ![256]⟩ .f32
  g : FVec Ideal ⟨1, ![256]⟩ .f32
  β : FVec Ideal ⟨1, ![256]⟩ .f32
  μ : FVec Ideal ⟨1, ![256]⟩ .f32
  v : FVec Ideal ⟨1, ![256]⟩ .f32
  wi : FVec Ideal ⟨2, ![768, 256]⟩ .f32
  bi : FVec Ideal ⟨1, ![768]⟩ .f32

variable (A : Args)

/-- The batch norm's factor of channel `k`. -/
def factor (k : Fin 256) : EReal := A.g (ix1 k) * Ideal.rsqrt (A.v (ix1 k) + Ideal.ofBits .f32 0x3727C5AC#32)

/-- The features of example `i`: the batch norm of the linear layer, its positive part. -/
def fea (i : Fin 128) (k : Fin 256) : EReal :=
  max ((∑ q, A.x (ix2 i q) * A.w (ix2 k q) + A.b (ix1 k) - A.μ (ix1 k)) * factor A k + A.β (ix1 k)) 0

/-- The same features with the batch norm folded into the linear layer. -/
def feaFolded (i : Fin 128) (k : Fin 256) : EReal :=
  max (∑ q, A.x (ix2 i q) * (A.w (ix2 k q) * factor A k) + ((A.b (ix1 k) - A.μ (ix1 k)) * factor A k + A.β (ix1 k))) 0

/-- What folding the batch norm asks of the arguments. -/
structure Finite : Prop where
  x : ∀ i q, ∃ r : ℝ, A.x (ix2 i q) = r
  w : ∀ k q, ∃ r : ℝ, A.w (ix2 k q) = r
  b : ∀ k, ∃ r : ℝ, A.b (ix1 k) = r
  μ : ∀ k, ∃ r : ℝ, A.μ (ix1 k) = r
  factor : ∀ k, ∃ r : ℝ, factor A k = r

theorem feaFolded_eq (h : Finite A) : feaFolded A = fea A := by
  funext i k
  unfold feaFolded fea
  exact congrArg (max · 0) (Gru.fold_bn _ _ _ _ _ _ (h.x i) (h.w k) (h.factor k) (h.b k) (h.μ k))

/-- Part `p` (queries, keys, values) of the attention's input layer, of features `f`. -/
def part (p : Fin 3) (f : Fin 256 → EReal) (j : Fin 256) : EReal := ∑ k, f k * A.wi (ix2 (Loss.inRow p j) k) + A.bi (ix1 (Loss.inRow p j))

/-- The queries with the head's factor taken into the weights and the bias. -/
def queryFolded (f : Fin 256 → EReal) (j : Fin 256) : EReal :=
  ∑ k, f k * (A.wi (ix2 (Loss.inRow 0 j) k) * (Loss.headScale : EReal)) + A.bi (ix1 (Loss.inRow 0 j)) * (Loss.headScale : EReal)

/-- A nonnegative real factor goes into a sum over the extended reals, infinite terms or not. -/
theorem sum_mul_real {ι : Type} (s : Finset ι) (f : ι → EReal) {r : ℝ} (hr : 0 ≤ r) : (∑ k ∈ s, f k) * (r : EReal) = ∑ k ∈ s, f k * (r : EReal) := by
  classical
  induction s using Finset.induction_on with
  | empty => simp
  | insert a s ha ih => rw [Finset.sum_insert ha, Finset.sum_insert ha, EReal.right_distrib_of_nonneg_of_ne_top (EReal.coe_nonneg.2 hr) (EReal.coe_ne_top r), ih]

/-- The head's factor may be taken into the layer or applied after it. -/
theorem queryFolded_eq (f : Fin 256 → EReal) (j : Fin 256) : queryFolded A f j = part A 0 f j * (Loss.headScale : EReal) := by
  have hr : 0 ≤ Loss.headScale := by unfold Loss.headScale; positivity
  unfold queryFolded part
  rw [EReal.right_distrib_of_nonneg_of_ne_top (EReal.coe_nonneg.2 hr) (EReal.coe_ne_top _), sum_mul_real _ _ hr]
  simp only [mul_assoc]

end Cert.ImgRows

end
-- ==== Proof.ImgValue.lean ====
module

public import proofs.«01_k».proof.Proof.ImgRows
public import proofs.«01_k».proof.Proof.Gen.ImgIdeal.Frame
public import proofs.«01_k».proof.Proof.Gen.ImgIdeal.Value
public import Idealize.ShloMosaic.Lib.Pipeline.ValueKit
public import Idealize.ShloMosaic.Lib.Pointwise
public import Idealize.ShloMosaic.Lib.StableHlo.RunClose
public import Idealize.ShloMosaic.Lib.Tactic.CleanTypes

@[expose] public section

set_option maxRecDepth 16384

noncomputable section

open Idealize.ShloMosaic Idealize.SL.Sem Cert.ImgIdeal Cert.ImgIdeal.Gen Cert.ImgIdeal.Value

namespace Cert.ImgIdeal.Alg

/-! ## The body on its blocks -/

theorem whole_x (x : Vec Ideal S128x2048 .f32) : View.ld x r0_0 = x := View.ld_unit_zero (by funext a; fin_cases a <;> rfl) _ _
theorem whole_w (x : Vec Ideal S2048x256 .f32) : View.ld x r0_1 = x := View.ld_unit_zero (by funext a; fin_cases a <;> rfl) _ _
theorem whole_row (x : Vec Ideal S1x256 .f32) : View.ld x r0_2 = x := View.ld_unit_zero (by funext a; fin_cases a <;> rfl) _ _
theorem whole_mat (x : Vec Ideal S256x256 .f32) : View.ld x r0_3 = x := View.ld_unit_zero (by funext a; fin_cases a <;> rfl) _ _

/-- The features of a block. -/
theorem fea_apply (x : Vec Ideal S128x2048 .f32) (w : Vec Ideal S2048x256 .f32) (b : Vec Ideal S1x256 .f32) (i : Fin 128) (k : Fin 256) :
    k0_pay2 (F := Ideal) x w b (ix2 i k) = max (∑ q, x (ix2 i q) * w (ix2 q k) + b (ix2 0 k)) 0 := by
  unfold k0_pay2
  pointwise

section out
variable (x : Vec Ideal S128x2048 .f32) (w : Vec Ideal S2048x256 .f32) (b b3 b5 b7 : Vec Ideal S1x256 .f32) (w3 w5 w7 : Vec Ideal S256x256 .f32)
  (i : Fin 128) (j : Fin 256)

theorem out9_apply : out0_9 x w b w3 b3 w5 b5 w7 b7 (ix2 i j) = ∑ k, k0_pay2 (F := Ideal) x w b (ix2 i k) * w3 (ix2 k j) + b3 (ix2 0 j) := by
  unfold out0_9
  rw [View.canon_cons_unit_lit _ _ _ (by intro a; fin_cases a <;> rfl), whole_x, whole_w, whole_row, whole_row, whole_mat]
  unfold k0_pay3
  generalize k0_pay2 (F := Ideal) x w b = f
  pointwise

theorem out10_apply : out0_10 x w b w3 b3 w5 b5 w7 b7 (ix2 i j) = ∑ k, k0_pay2 (F := Ideal) x w b (ix2 i k) * w5 (ix2 k j) + b5 (ix2 0 j) := by
  unfold out0_10
  rw [View.canon_cons_unit_lit _ _ _ (by intro a; fin_cases a <;> rfl), whole_x, whole_w, whole_row, whole_row, whole_mat]
  unfold k0_pay4
  generalize k0_pay2 (F := Ideal) x w b = f
  pointwise

theorem out11_apply : out0_11 x w b w3 b3 w5 b5 w7 b7 (ix2 i j) = ∑ k, k0_pay2 (F := Ideal) x w b (ix2 i k) * w7 (ix2 k j) + b7 (ix2 0 j) := by
  unfold out0_11
  rw [View.canon_cons_unit_lit _ _ _ (by intro a; fin_cases a <;> rfl), whole_x, whole_w, whole_row, whole_row, whole_mat]
  unfold k0_pay1 k0_pay5
  generalize k0_pay2 (F := Ideal) x w b = f
  pointwise

end out

/-! ## The arrays the host hands to the region -/

variable (m : (ℓ : Loc nD τ sig) → Buf (Elt Ideal) ℓ) (c : Dev nD)

/-- The call's arguments. -/
def args : ImgRows.Args where
  x := m ((c.tc : Thread nD τ).loc main_arg0)
  w := m ((c.tc : Thread nD τ).loc main_arg1)
  b := m ((c.tc : Thread nD τ).loc main_arg2)
  g := m ((c.tc : Thread nD τ).loc main_arg3)
  β := m ((c.tc : Thread nD τ).loc main_arg4)
  μ := m ((c.tc : Thread nD τ).loc main_arg5)
  v := m ((c.tc : Thread nD τ).loc main_arg6)
  wi := m ((c.tc : Thread nD τ).loc main_arg7)
  bi := m ((c.tc : Thread nD τ).loc main_arg8)

/-- The batch norm's factor, as the host computes it. -/
def hfactor : FVec Ideal S256 .f32 :=
  mulf (F := Ideal) (φ := .f32) (args m c).g (Host.rsqrt (F := Ideal) (φ := .f32) (addf (F := Ideal) (φ := .f32) (args m c).v
    (broadcastInDim S256 ![] bcast_S_S256 (constant (F := Ideal) S_ .f32 0x3727C5AC#32))))

theorem hfactor_apply (k : Fin 256) : hfactor m c (ix1 k) = ImgRows.factor (args m c) k := by
  unfold hfactor ImgRows.factor
  pointwise

/-- One over the square root of a head's width, as the host computes it. -/
def hscale : FVec Ideal S_ .f32 :=
  Host.divf (F := Ideal) (φ := .f32) (constant (F := Ideal) S_ .f32 0x3F800000#32) (Host.sqrt (F := Ideal) (φ := .f32) (constant (F := Ideal) S_ .f32 0x43000000#32))

theorem hscale_apply : hscale ix0 = (Loss.headScale : EReal) := by
  rw [← Loss.headScale_coe]
  unfold hscale
  pointwise

/-- What the host hands to the first layer: the weights transposed with the batch norm's factor, the folded bias as a row. -/
theorem V_first : V m c main_call0_v7 = mulf (F := Ideal) (φ := .f32) (transpose S2048x256 [1, 0] (args m c).w transposes_S256x2048_S2048x256_1_0)
      (broadcastInDim S2048x256 ![0, 1] bcast_S1x256_S2048x256_0_1 (broadcastInDim S1x256 ![1] bcast_S256_S1x256_1 (hfactor m c)))
    ∧ V m c main_call0_v11 = shapeCast S1x256 (addf (F := Ideal) (φ := .f32) (mulf (F := Ideal) (φ := .f32)
      (subf (F := Ideal) (φ := .f32) (args m c).b (args m c).μ) (hfactor m c)) (args m c).β) shapeCasts_S256_S1x256 := by
  refine ⟨?_, ?_⟩ <;>
  · unfold V
    simp only [hostOps0]
    after_results_entrywise []

/-- What the host hands to the three parts of the attention's input layer: a part's rows transposed, its bias as a row, the queries' scaled. -/
theorem V_parts : V m c main_call0_v22 = mulf (F := Ideal) (φ := .f32)
      (transpose S256x256 [1, 0] (extractStridedSlice S256x256 ![0, 0] (args m c).wi slices_S768x256_S256x256_0_0) transposes_S256x256_S256x256_1_0)
      (broadcastInDim S256x256 ![] bcast_S_S256x256 hscale)
    ∧ V m c main_call0_v25 = mulf (F := Ideal) (φ := .f32) (shapeCast S1x256 (extractStridedSlice S256 ![0] (args m c).bi slices_S768_S256_0) shapeCasts_S256_S1x256)
      (broadcastInDim S1x256 ![] bcast_S_S1x256 hscale)
    ∧ V m c main_call0_v26 = transpose S256x256 [1, 0] (extractStridedSlice S256x256 ![256, 0] (args m c).wi slices_S768x256_S256x256_256_0) transposes_S256x256_S256x256_1_0
    ∧ V m c main_call0_v27 = shapeCast S1x256 (extractStridedSlice S256 ![256] (args m c).bi slices_S768_S256_256) shapeCasts_S256_S1x256
    ∧ V m c main_call0_v28 = transpose S256x256 [1, 0] (extractStridedSlice S256x256 ![512, 0] (args m c).wi slices_S768x256_S256x256_512_0) transposes_S256x256_S256x256_1_0
    ∧ V m c main_call0_v29 = shapeCast S1x256 (extractStridedSlice S256 ![512] (args m c).bi slices_S768_S256_512) shapeCasts_S256_S1x256 := by
  refine ⟨?_, ?_, ?_, ?_, ?_, ?_⟩ <;>
  · unfold V
    simp only [hostOps0]
    after_results_entrywise []

set_option maxHeartbeats 2000000 in
/-- Every window stages its whole array. -/
theorem iblk_whole (t : Fin cfg0.N) :
    ((iblk m c 0 t : Vec Ideal S128x2048 .f32) = (args m c).x ∧ (iblk m c 1 t : Vec Ideal S2048x256 .f32) = V m c main_call0_v7
    ∧ (iblk m c 2 t : Vec Ideal S1x256 .f32) = V m c main_call0_v11)
    ∧ (iblk m c 3 t : Vec Ideal S256x256 .f32) = V m c main_call0_v22 ∧ (iblk m c 4 t : Vec Ideal S1x256 .f32) = V m c main_call0_v25
    ∧ (iblk m c 5 t : Vec Ideal S256x256 .f32) = V m c main_call0_v26 ∧ (iblk m c 6 t : Vec Ideal S1x256 .f32) = V m c main_call0_v27
    ∧ (iblk m c 7 t : Vec Ideal S256x256 .f32) = V m c main_call0_v28 ∧ (iblk m c 8 t : Vec Ideal S1x256 .f32) = V m c main_call0_v29 := by
  have hi : ∀ t : Fin cfg0.N, win0_0.index t 0 = 0 := by decide +kernel
  refine ⟨⟨Eq.trans ?_ (V_main_arg0 m c), ?_, ?_⟩, ?_, ?_, ?_, ?_, ?_, ?_⟩
  · funext y
    unfold iblk
    rw [View.read_apply]
    show V m c _ _ = V m c _ _
    congr 1
    funext a
    apply Fin.ext
    match a with
    | ⟨0, _⟩ => show win0_0.index t 0 * 128 + 1 * (y 0).val = (y 0).val; rw [hi]; omega
    | ⟨1, _⟩ => show 0 * _ + 1 * (y 1).val = (y 1).val; omega
  all_goals
    funext y
    unfold iblk
    rw [View.read_apply]
    show V m c _ _ = V m c _ _
    congr 1
    funext a
    apply Fin.ext
    match a with
    | ⟨0, _⟩ => show 0 * _ + 1 * (y 0).val = (y 0).val; omega
    | ⟨1, _⟩ => show 0 * _ + 1 * (y 1).val = (y 1).val; omega

/-- The features of the point's blocks. -/
theorem fea_block (t : Fin cfg0.N) (i : Fin 128) (k : Fin 256) :
    k0_pay2 (F := Ideal) (iblk m c 0 t) (iblk m c 1 t) (iblk m c 2 t) (ix2 i k) = ImgRows.feaFolded (args m c) i k := by
  obtain ⟨⟨e0, e1, e2⟩, -⟩ := iblk_whole m c t
  obtain ⟨v1, v2⟩ := V_first m c
  rw [fea_apply, e0, e1, e2, v1, v2]
  unfold ImgRows.feaFolded
  simp only [← hfactor_apply]
  generalize hfactor m c = s
  pointwise

/-! ## What the region leaves in the three results -/

theorem inPart (j : Fin 256) : Loss.inRow 0 j = ⟨j.val, by omega⟩ := Fin.ext (by simp [Loss.inRow])

/-- The one point. -/
def point : Fin cfg0.N := ⟨0, lt_of_lt_of_eq Nat.zero_lt_one N_0.symm⟩

theorem queries_apply (i : Fin 128) (j : Fin 256) : ((dats m 0 c).arrAt 9 cfg0.N : Vec Ideal S128x256 .f32) (ix2 i j)
    = ImgRows.queryFolded (args m c) (ImgRows.feaFolded (args m c) i) j := by
  have hi : ∀ t : Fin cfg0.N, win0_9.index t 0 = 0 := by decide +kernel
  have e := congrFun (blocks9 m c point (flush0_9 point)) (ix2 i j)
  rw [View.read_apply, flushed9] at e
  refine Eq.trans ?_ (e.trans ((out9_apply ..).trans ?_))
  · show (dats m 0 c).arrAt 9 cfg0.N _ = (dats m 0 c).arrAt 9 cfg0.N _
    congr 1
    funext a
    apply Fin.ext
    match a with
    | ⟨0, _⟩ => show i.val = win0_9.index point 0 * 128 + 1 * i.val; rw [hi]; omega
    | ⟨1, _⟩ => show j.val = 0 * _ + 1 * j.val; omega
  · obtain ⟨-, e3, e4, -⟩ := iblk_whole m c point
    obtain ⟨v3, v4, -⟩ := V_parts m c
    simp only [fea_block]
    rw [e3, e4, v3, v4]
    unfold ImgRows.queryFolded
    rw [← hscale_apply, inPart]
    generalize hscale = s
    generalize ImgRows.feaFolded (args m c) i = f
    pointwise

theorem keys_apply (i : Fin 128) (j : Fin 256) : ((dats m 0 c).arrAt 10 cfg0.N : Vec Ideal S128x256 .f32) (ix2 i j)
    = ImgRows.part (args m c) 1 (ImgRows.feaFolded (args m c) i) j := by
  have hi : ∀ t : Fin cfg0.N, win0_10.index t 0 = 0 := by decide +kernel
  have e := congrFun (blocks10 m c point (flush0_10 point)) (ix2 i j)
  rw [View.read_apply, flushed10] at e
  refine Eq.trans ?_ (e.trans ((out10_apply ..).trans ?_))
  · show (dats m 0 c).arrAt 10 cfg0.N _ = (dats m 0 c).arrAt 10 cfg0.N _
    congr 1
    funext a
    apply Fin.ext
    match a with
    | ⟨0, _⟩ => show i.val = win0_10.index point 0 * 128 + 1 * i.val; rw [hi]; omega
    | ⟨1, _⟩ => show j.val = 0 * _ + 1 * j.val; omega
  · obtain ⟨-, -, -, e5, e6, -⟩ := iblk_whole m c point
    obtain ⟨-, -, v5, v6, -⟩ := V_parts m c
    simp only [fea_block]
    rw [e5, e6, v5, v6]
    unfold ImgRows.part
    generalize ImgRows.feaFolded (args m c) i = f
    pointwise
    rfl

theorem values_apply (i : Fin 128) (j : Fin 256) : ((dats m 0 c).arrAt 11 cfg0.N : Vec Ideal S128x256 .f32) (ix2 i j)
    = ImgRows.part (args m c) 2 (ImgRows.feaFolded (args m c) i) j := by
  have hi : ∀ t : Fin cfg0.N, win0_11.index t 0 = 0 := by decide +kernel
  have e := congrFun (blocks11 m c point (flush0_11 point)) (ix2 i j)
  rw [View.read_apply, flushed11] at e
  refine Eq.trans ?_ (e.trans ((out11_apply ..).trans ?_))
  · show (dats m 0 c).arrAt 11 cfg0.N _ = (dats m 0 c).arrAt 11 cfg0.N _
    congr 1
    funext a
    apply Fin.ext
    match a with
    | ⟨0, _⟩ => show i.val = win0_11.index point 0 * 128 + 1 * i.val; rw [hi]; omega
    | ⟨1, _⟩ => show j.val = 0 * _ + 1 * j.val; omega
  · obtain ⟨-, -, -, -, -, e7, e8⟩ := iblk_whole m c point
    obtain ⟨-, -, -, -, v7, v8⟩ := V_parts m c
    simp only [fea_block]
    rw [e7, e8, v7, v8]
    unfold ImgRows.part
    generalize ImgRows.feaFolded (args m c) i = f
    pointwise
    rfl

end Cert.ImgIdeal.Alg

end
-- ==== Proof.ImgRef.lean ====
module

public import proofs.«01_k».proof.Proof.ImgRows
public import proofs.«01_k».proof.Proof.Gen.ImgRefIdeal
public import proofs.«01_k».proof.Proof.Gen.ImgRefIdeal.Run
public import Idealize.ShloMosaic.Lib.Pointwise
public import Idealize.ShloMosaic.Lib.Tactic.CleanTypes

@[expose] public section

set_option maxRecDepth 16384

noncomputable section

open Idealize.ShloMosaic Idealize.ShloMosaic.StableHlo Idealize.SL.Sem Cert.ImgRefIdeal Cert.ImgRefIdeal.Gen Cert.ImgRefIdeal.Value

namespace Cert.ImgRefIdeal.Alg

/-! ## The reference's three results -/

/-- A vector as every row of a matrix. -/
def row (b : FVec Ideal S256 .f32) : FVec Ideal S128x256 .f32 :=
  broadcastInDim S128x256 ![0, 1] bcast_S1x256_S128x256_0_1 (broadcastInDim S1x256 ![1] bcast_S256_S1x256_1 b)

theorem row_apply (b : FVec Ideal S256 .f32) (i : Fin 128) (j : Fin 256) : row b (ix2 i j) = b (ix1 j) := by
  unfold row
  pointwise

/-- The batch norm's factor. -/
def factor (A : ImgRows.Args) : FVec Ideal S256 .f32 :=
  mulf (F := Ideal) (φ := .f32) A.g (Host.rsqrt (F := Ideal) (φ := .f32) (addf (F := Ideal) (φ := .f32) A.v
    (broadcastInDim S256 ![] bcast_S_S256 (constant (F := Ideal) S_ .f32 0x3727C5AC#32))))

theorem factor_apply (A : ImgRows.Args) (k : Fin 256) : factor A (ix1 k) = ImgRows.factor A k := by
  unfold factor ImgRows.factor
  pointwise

/-- The features: the linear layer, its batch norm, its positive part. -/
def fea (A : ImgRows.Args) : FVec Ideal S128x256 .f32 :=
  maximumf (F := Ideal) (φ := .f32) (addf (F := Ideal) (φ := .f32) (mulf (F := Ideal) (φ := .f32) (subf (F := Ideal) (φ := .f32) (addf (F := Ideal) (φ := .f32)
      (Host.dotGeneral (F := Ideal) (φ₁ := .f32) (φ₂ := .f32) dot_S128x2048_S2048x256_S128x256_1_0_0_1_n_n none A.x
        (transpose S2048x256 [1, 0] A.w transposes_S256x2048_S2048x256_1_0)) (row A.b)) (row A.μ)) (row (factor A))) (row A.β))
    (broadcastInDim S128x256 ![] bcast_S_S128x256 (constant (F := Ideal) S_ .f32 0x00000000#32))

theorem fea_apply (A : ImgRows.Args) (i : Fin 128) (k : Fin 256) : fea A (ix2 i k) = ImgRows.fea A i k := by
  have hb := row_apply A.b i k
  have hm := row_apply A.μ i k
  have hs := (row_apply (factor A) i k).trans (factor_apply A k)
  have ht := row_apply A.β i k
  unfold fea ImgRows.fea
  generalize row A.b = b at hb ⊢
  generalize row A.μ = μ at hm ⊢
  generalize row (factor A) = s at hs ⊢
  generalize row A.β = β at ht ⊢
  pointwise
  rw [hb, hm, hs, ht]

/-- A linear layer after the features. -/
def layer (f : FVec Ideal S128x256 .f32) (w : FVec Ideal S256x256 .f32) (b : FVec Ideal S256 .f32) : FVec Ideal S128x256 .f32 :=
  addf (F := Ideal) (φ := .f32) (Host.dotGeneral (F := Ideal) (φ₁ := .f32) (φ₂ := .f32) dot_S128x256_S256x256_S128x256_1_0_0_1_n_n none f
    (transpose S256x256 [1, 0] w transposes_S256x256_S256x256_1_0)) (row b)

theorem layer_apply (f : FVec Ideal S128x256 .f32) (w : FVec Ideal S256x256 .f32) (b : FVec Ideal S256 .f32) (i : Fin 128) (j : Fin 256) :
    layer f w b (ix2 i j) = ∑ k, f (ix2 i k) * w (ix2 j k) + b (ix1 j) := by
  rw [← row_apply b i]
  unfold layer
  generalize row b = r
  pointwise

/-- One over the square root of a head's width. -/
def scale : FVec Ideal S_ .f32 :=
  Host.divf (F := Ideal) (φ := .f32) (constant (F := Ideal) S_ .f32 0x3F800000#32) (Host.sqrt (F := Ideal) (φ := .f32) (constant (F := Ideal) S_ .f32 0x43000000#32))

theorem scale_apply : scale ix0 = (Loss.headScale : EReal) := by
  rw [← Loss.headScale_coe]
  unfold scale
  pointwise

/-- The keys and the values, and the queries before their scaling. -/
def part (A : ImgRows.Args) : Fin 3 → FVec Ideal S128x256 .f32
  | 0 => layer (fea A) (extractStridedSlice S256x256 ![0, 0] A.wi slices_S768x256_S256x256_0_0) (extractStridedSlice S256 ![0] A.bi slices_S768_S256_0)
  | 1 => layer (fea A) (extractStridedSlice S256x256 ![256, 0] A.wi slices_S768x256_S256x256_256_0) (extractStridedSlice S256 ![256] A.bi slices_S768_S256_256)
  | 2 => layer (fea A) (extractStridedSlice S256x256 ![512, 0] A.wi slices_S768x256_S256x256_512_0) (extractStridedSlice S256 ![512] A.bi slices_S768_S256_512)

theorem part_apply (A : ImgRows.Args) (p : Fin 3) (i : Fin 128) (j : Fin 256) : part A p (ix2 i j) = ImgRows.part A p (ImgRows.fea A i) j := by
  have r0 : Loss.inRow 0 j = ⟨j.val, by omega⟩ := Fin.ext (by simp [Loss.inRow])
  unfold ImgRows.part
  match p with
  | 0 => refine (layer_apply ..).trans ?_; simp only [fea_apply, r0]; generalize ImgRows.fea A i = f; pointwise
  | 1 => refine (layer_apply ..).trans ?_; simp only [fea_apply]; generalize ImgRows.fea A i = f; pointwise; rfl
  | 2 => refine (layer_apply ..).trans ?_; simp only [fea_apply]; generalize ImgRows.fea A i = f; pointwise; rfl

/-- The queries. -/
def query (A : ImgRows.Args) : FVec Ideal S128x256 .f32 := mulf (F := Ideal) (φ := .f32) (part A 0) (broadcastInDim S128x256 ![] bcast_S_S128x256 scale)

theorem query_apply (A : ImgRows.Args) (i : Fin 128) (j : Fin 256) :
    query A (ix2 i j) = ImgRows.part A 0 (ImgRows.fea A i) j * (Loss.headScale : EReal) := by
  rw [← part_apply, ← scale_apply]
  unfold query
  generalize part A 0 = q
  generalize scale = s
  pointwise

variable (m : (ℓ : Loc nD τ sig) → Buf (Elt Ideal) ℓ) (c : Dev nD)

/-- The reference's arguments. -/
def args : ImgRows.Args where
  x := m ((c.tc : Thread nD τ).loc main_arg0)
  w := m ((c.tc : Thread nD τ).loc main_arg1)
  b := m ((c.tc : Thread nD τ).loc main_arg2)
  g := m ((c.tc : Thread nD τ).loc main_arg3)
  β := m ((c.tc : Thread nD τ).loc main_arg4)
  μ := m ((c.tc : Thread nD τ).loc main_arg5)
  v := m ((c.tc : Thread nD τ).loc main_arg6)
  wi := m ((c.tc : Thread nD τ).loc main_arg7)
  bi := m ((c.tc : Thread nD τ).loc main_arg8)

end Cert.ImgRefIdeal.Alg

end
-- ==== Proof.ImgAlg.lean ====
module

public import proofs.«01_k».proof.Defs
public import proofs.«01_k».proof.Proof.Frames
public import proofs.«01_k».proof.Proof.ImgValue
public import proofs.«01_k».proof.Proof.ImgRef
public import proofs.«01_k».proof.Proof.Finite
public import proofs.«01_k».proof.Proof.Gen.Pre_img_bn_finite

@[expose] public section

set_option maxRecDepth 16384

noncomputable section

open Idealize.ShloMosaic Idealize.SL.Sem

namespace Cert.Proof

/-- The fourth kernel's idealization under the precondition: its frame needs none. -/
theorem frame_ImgIdeal_pre : Cert.quiescent_ImgIdeal_pre_img_bn_finite := fun m ρ _ => Cert.ImgIdeal.Gen.frame m ρ

/-- The fourth reference under the precondition: its frame needs none. -/
theorem frame_ImgRefIdeal_pre : Cert.quiescent_ImgRefIdeal_pre_img_bn_finite := fun m ρ _ => frame_ImgRefIdeal m ρ trivial

/-- What the precondition says of the arguments. -/
theorem img_finite (m : (ℓ : Loc Cert.ImgIdeal.nD Cert.ImgIdeal.τ Cert.ImgIdeal.sig) → Buf (Elt Ideal) ℓ) (h : Cert.Pre_ImgIdeal_img_bn_finite m)
    (c : Dev Cert.ImgIdeal.nD) : ImgRows.Finite (Cert.ImgIdeal.Alg.args m c) := by
  obtain ⟨h0, h1, h2, h3, h4⟩ := h c
  refine ⟨fun i q => Finite.real_of_flag (Cert.ImgIdeal.Alg.args m c).x rfl h0 (ix2 i q),
    fun k q => Finite.real_of_flag (Cert.ImgIdeal.Alg.args m c).w rfl h1 (ix2 k q), fun k => Finite.real_of_flag (Cert.ImgIdeal.Alg.args m c).b rfl h2 (ix1 k),
    fun k => Finite.real_of_flag (Cert.ImgIdeal.Alg.args m c).μ rfl h3 (ix1 k), fun k => ?_⟩
  rw [← Cert.ImgIdeal.Alg.hfactor_apply]
  exact Finite.real_of_flag (Cert.ImgIdeal.Alg.hfactor m c) rfl h4 (ix1 k)

/-- The image call computes the reference's query, key and value rows. -/
theorem alg_Img : Cert.algebraic_ImgIdeal_ImgRefIdeal_pre_img_bn_finite := by
  intro m g m' g' hpre hargs
  have hA : ∀ c, Cert.ImgRefIdeal.Alg.args m' c = Cert.ImgIdeal.Alg.args m c := by
    intro c
    obtain ⟨h0, h1, h2, h3, h4, h5, h6, h7, h8⟩ := hargs c
    unfold Cert.ImgRefIdeal.Alg.args Cert.ImgIdeal.Alg.args
    rw [h0, h1, h2, h3, h4, h5, h6, h7, h8]
  refine ⟨fun c => (Cert.ImgIdeal.Gen.dats m 0 c).arrAt 9 Cert.ImgIdeal.cfg0.N, fun c => (Cert.ImgIdeal.Gen.dats m 0 c).arrAt 10 Cert.ImgIdeal.cfg0.N,
    fun c => (Cert.ImgIdeal.Gen.dats m 0 c).arrAt 11 Cert.ImgIdeal.cfg0.N, Cert.ImgIdeal.Value.run_blocks m g, ?_⟩
  refine (θ_run Cert.ImgRefIdeal.defs _ _).mono (fun r h c => ?_) (Cert.ImgRefIdeal.Value.run (F := Ideal) m' g')
  obtain ⟨hq, hk, hv, kept⟩ := h c
  have eq : r.2.mem ((c.tc : Thread Cert.ImgRefIdeal.nD Cert.ImgRefIdeal.τ).loc Cert.ImgRefIdeal.main_v33) = Cert.ImgRefIdeal.Alg.query (Cert.ImgRefIdeal.Alg.args m' c) := hq
  have ek : r.2.mem ((c.tc : Thread Cert.ImgRefIdeal.nD Cert.ImgRefIdeal.τ).loc Cert.ImgRefIdeal.main_v38) = Cert.ImgRefIdeal.Alg.part (Cert.ImgRefIdeal.Alg.args m' c) 1 := hk
  have ev : r.2.mem ((c.tc : Thread Cert.ImgRefIdeal.nD Cert.ImgRefIdeal.τ).loc Cert.ImgRefIdeal.main_v43) = Cert.ImgRefIdeal.Alg.part (Cert.ImgRefIdeal.Alg.args m' c) 2 := hv
  rw [hA c] at eq ek ev
  have hf := ImgRows.feaFolded_eq _ (img_finite m hpre c)
  have two : ∀ y : Cert.ImgIdeal.S128x256.Idx, ∃ (i : Fin 128) (j : Fin 256), y = ix2 i j := fun y => ⟨y 0, y 1, by funext a; match a with | 0 => rfl | 1 => rfl⟩
  refine ⟨eq.trans ?_, ek.trans ?_, ev.trans ?_, kept⟩ <;>
    funext y <;>
    obtain ⟨i, j, rfl⟩ := two y
  · refine (Cert.ImgRefIdeal.Alg.query_apply _ i j).trans (Eq.trans ?_ (Cert.ImgIdeal.Alg.queries_apply m c i j).symm)
    rw [ImgRows.queryFolded_eq, hf]
  · refine (Cert.ImgRefIdeal.Alg.part_apply _ 1 i j).trans (Eq.trans ?_ (Cert.ImgIdeal.Alg.keys_apply m c i j).symm)
    rw [hf]
  · refine (Cert.ImgRefIdeal.Alg.part_apply _ 2 i j).trans (Eq.trans ?_ (Cert.ImgIdeal.Alg.values_apply m c i j).symm)
    rw [hf]

end Cert.Proof

end
-- ==== Proof.lean ====
module

public import proofs.«01_k».proof.Defs
public import proofs.«01_k».proof.Proof.Frames
public import proofs.«01_k».proof.Proof.Gru1Alg
public import proofs.«01_k».proof.Proof.Gru2Alg
public import proofs.«01_k».proof.Proof.AttnAlg
public import proofs.«01_k».proof.Proof.ImgAlg
public import proofs.«01_k».proof.Proof.Gen.Pre_text_bn_finite
public import proofs.«01_k».proof.Proof.Gen.Pre_contrast_finite
public import proofs.«01_k».proof.Proof.Gen.Pre_loss_inputs
public import proofs.«01_k».proof.Proof.Gen.Pre_img_bn_finite
public import proofs.«01_k».proof.Proof.Gen.Gru1
public import proofs.«01_k».proof.Proof.Gen.Gru1Ideal
public import proofs.«01_k».proof.Proof.Gen.TextRefIdeal
public import proofs.«01_k».proof.Proof.Gen.Gru2
public import proofs.«01_k».proof.Proof.Gen.Gru2Ideal
public import proofs.«01_k».proof.Proof.Gen.ContrastRefIdeal
public import proofs.«01_k».proof.Proof.Gen.Attn
public import proofs.«01_k».proof.Proof.Gen.AttnIdeal
public import proofs.«01_k».proof.Proof.Gen.LossRefIdeal
public import proofs.«01_k».proof.Proof.Gen.Img
public import proofs.«01_k».proof.Proof.Gen.ImgIdeal
public import proofs.«01_k».proof.Proof.Gen.ImgRefIdeal
public import proofs.«01_k».proof.Proof.Gen.Gru1Ideal.Value
public import proofs.«01_k».proof.Proof.Gen.Gru2Ideal.Value
public import proofs.«01_k».proof.Proof.Gen.ImgIdeal.Value
public import Idealize.ShloMosaic.Adequacy
public import Idealize.ShloMosaic.Init

@[expose] public section

noncomputable section

namespace Cert.Proof

open Idealize.ShloMosaic Idealize.SL.Sem

/-- Everything the certificate claims. -/
theorem claim : Cert.Claim :=
  ⟨Cert.Gru1.Gen.facts,
    Cert.Gru1Ideal.Gen.facts,
    Cert.TextRefIdeal.Gen.facts,
    Cert.Gru2.Gen.facts,
    Cert.Gru2Ideal.Gen.facts,
    Cert.ContrastRefIdeal.Gen.facts,
    Cert.Attn.Gen.facts,
    Cert.AttnIdeal.Gen.facts,
    Cert.LossRefIdeal.Gen.facts,
    Cert.Img.Gen.facts,
    Cert.ImgIdeal.Gen.facts,
    Cert.ImgRefIdeal.Gen.facts,
    Cert.Pre_text_bn_finite.Gen.facts,
    Cert.Pre_contrast_finite.Gen.facts,
    Cert.Pre_loss_inputs.Gen.facts,
    Cert.Pre_img_bn_finite.Gen.facts,
    frame_Gru1,
    frame_Gru1Ideal,
    frame_Gru1Ideal_pre,
    frame_TextRefIdeal,
    frame_TextRefIdeal_pre,
    frame_Gru2,
    frame_Gru2Ideal,
    frame_Gru2Ideal_pre,
    frame_ContrastRefIdeal,
    frame_ContrastRefIdeal_pre,
    frame_Attn,
    frame_AttnIdeal,
    frame_AttnIdeal_pre,
    frame_LossRefIdeal,
    frame_LossRefIdeal_pre,
    frame_Img,
    frame_ImgIdeal,
    frame_ImgIdeal_pre,
    frame_ImgRefIdeal,
    frame_ImgRefIdeal_pre,
    trivial,
    alg_Gru1,
    trivial,
    alg_Gru2,
    ⟨IdealRules.named_const.statement Cert.AttnIdeal.κ "mask" .f32 0xF149F2CA#32 ⊥ rfl,
      IdealRules.named_const.statement Cert.AttnIdeal.κ "third" .f32 0x3EAAAAAB#32 ((1 / 3 : ℝ) : EReal) rfl⟩,
    alg_Attn,
    trivial,
    alg_Img⟩

end Cert.Proof

end
